-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_keys [hPre_finite_queries_keys : Cert.Pre_finite_queries_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_keys.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_keys [hPre_finite_queries_keys : Cert.Pre_finite_queries_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_keys.fn (F := Ideal) (m ((c.tc : Thread Cert.ReferenceIdeal.nD Cert.ReferenceIdeal.τ).loc Cert.ReferenceIdeal.main_arg0))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesRefIdeal (m : (ℓ : Loc Cert.GatesRefIdeal.nD Cert.GatesRefIdeal.τ Cert.GatesRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_QkvBRefIdeal (m : (ℓ : Loc Cert.QkvBRefIdeal.nD Cert.QkvBRefIdeal.τ Cert.QkvBRefIdeal.sig) → Buf (Elt Ideal) ℓ) : Prop :=
  True

def Pre_QkvC (m : (ℓ : Loc Cert.QkvC.nD Cert.QkvC.τ Cert.QkvC.sig) → Buf (Elt Bits) ℓ) : Prop :=
  True

def Pre_QkvCIdeal (m : (ℓ : Loc Cert.QkvCIdeal.nD Cert.QkvCIdeal.τ Cert.QkvCIdeal.sig) → Buf (Elt Ideal) ℓ) : Prop :=
  True

def Pre_QkvCRefIdeal (m : (ℓ : Loc Cert.QkvCRefIdeal.nD Cert.QkvCRefIdeal.τ Cert.QkvCRefIdeal.sig) → Buf (Elt Ideal) ℓ) : Prop :=
  True

def Pre_Fourier (m : (ℓ : Loc Cert.Fourier.nD Cert.Fourier.τ Cert.Fourier.sig) → Buf (Elt Bits) ℓ) : Prop :=
  True

def Pre_FourierIdeal (m : (ℓ : Loc Cert.FourierIdeal.nD Cert.FourierIdeal.τ Cert.FourierIdeal.sig) → Buf (Elt Ideal) ℓ) : Prop :=
  True

def Pre_FourierRefIdeal (m : (ℓ : Loc Cert.FourierRefIdeal.nD Cert.FourierRefIdeal.τ Cert.FourierRefIdeal.sig) → Buf (Elt Ideal) ℓ) : Prop :=
  True

def Pre_Moe [hPre_moe_tables : Cert.Pre_moe_tables.Facts] (m : (ℓ : Loc Cert.Moe.nD Cert.Moe.τ Cert.Moe.sig) → Buf (Elt Bits) ℓ) : Prop :=
  ∀ c : Dev Cert.Moe.nD,
    (Cert.Pre_moe_tables.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))) = (fun _ => 1#1)

def Pre_MoeIdeal [hPre_moe_tables : Cert.Pre_moe_tables.Facts] (m : (ℓ : Loc Cert.MoeIdeal.nD Cert.MoeIdeal.τ Cert.MoeIdeal.sig) → Buf (Elt Ideal) ℓ) : Prop :=
  ∀ c : Dev Cert.MoeIdeal.nD,
    (Cert.Pre_moe_tables.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_moe_tables [hPre_moe_tables : Cert.Pre_moe_tables.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_moe_tables.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))) = (fun _ => 1#1)

def Pre_AttnB (m : (ℓ : Loc Cert.AttnB.nD Cert.AttnB.τ Cert.AttnB.sig) → Buf (Elt Bits) ℓ) : Prop :=
  True

def Pre_AttnBIdeal (m : (ℓ : Loc Cert.AttnBIdeal.nD Cert.AttnBIdeal.τ Cert.AttnBIdeal.sig) → Buf (Elt Ideal) ℓ) : Prop :=
  True

def Pre_AttnBIdeal_finite_queries_keys [hPre_finite_queries_keys : Cert.Pre_finite_queries_keys.Facts] (m : (ℓ : Loc Cert.AttnBIdeal.nD Cert.AttnBIdeal.τ Cert.AttnBIdeal.sig) → Buf (Elt Ideal) ℓ) : Prop :=
  ∀ c : Dev Cert.AttnBIdeal.nD,
    (Cert.Pre_finite_queries_keys.fn (F := Ideal) (m ((c.tc : Thread Cert.AttnBIdeal.nD Cert.AttnBIdeal.τ).loc Cert.AttnBIdeal.main_arg0))) = (fun _ => 1#1)

def Pre_AttnBRefIdeal (m : (ℓ : Loc Cert.AttnBRefIdeal.nD Cert.AttnBRefIdeal.τ Cert.AttnBRefIdeal.sig) → Buf (Elt Ideal) ℓ) : Prop :=
  True

def Pre_AttnBRefIdeal_finite_queries_keys [hPre_finite_queries_keys : Cert.Pre_finite_queries_keys.Facts] (m : (ℓ : Loc Cert.AttnBRefIdeal.nD Cert.AttnBRefIdeal.τ Cert.AttnBRefIdeal.sig) → Buf (Elt Ideal) ℓ) : Prop :=
  ∀ c : Dev Cert.AttnBRefIdeal.nD,
    (Cert.Pre_finite_queries_keys.fn (F := Ideal) (m ((c.tc : Thread Cert.AttnBRefIdeal.nD Cert.AttnBRefIdeal.τ).loc Cert.AttnBRefIdeal.main_arg0))) = (fun _ => 1#1)

def Pre_AttnC (m : (ℓ : Loc Cert.AttnC.nD Cert.AttnC.τ Cert.AttnC.sig) → Buf (Elt Bits) ℓ) : Prop :=
  True

def Pre_AttnCIdeal (m : (ℓ : Loc Cert.AttnCIdeal.nD Cert.AttnCIdeal.τ Cert.AttnCIdeal.sig) → Buf (Elt Ideal) ℓ) : Prop :=
  True

def Pre_AttnCIdeal_finite_queries_keys [hPre_finite_queries_keys : Cert.Pre_finite_queries_keys.Facts] (m : (ℓ : Loc Cert.AttnCIdeal.nD Cert.AttnCIdeal.τ Cert.AttnCIdeal.sig) → Buf (Elt Ideal) ℓ) : Prop :=
  ∀ c : Dev Cert.AttnCIdeal.nD,
    (Cert.Pre_finite_queries_keys.fn (F := Ideal) (m ((c.tc : Thread Cert.AttnCIdeal.nD Cert.AttnCIdeal.τ).loc Cert.AttnCIdeal.main_arg0))) = (fun _ => 1#1)

def Pre_AttnCRefIdeal (m : (ℓ : Loc Cert.AttnCRefIdeal.nD Cert.AttnCRefIdeal.τ Cert.AttnCRefIdeal.sig) → Buf (Elt Ideal) ℓ) : Prop :=
  True

def Pre_AttnCRefIdeal_finite_queries_keys [hPre_finite_queries_keys : Cert.Pre_finite_queries_keys.Facts] (m : (ℓ : Loc Cert.AttnCRefIdeal.nD Cert.AttnCRefIdeal.τ Cert.AttnCRefIdeal.sig) → Buf (Elt Ideal) ℓ) : Prop :=
  ∀ c : Dev Cert.AttnCRefIdeal.nD,
    (Cert.Pre_finite_queries_keys.fn (F := Ideal) (m ((c.tc : Thread Cert.AttnCRefIdeal.nD Cert.AttnCRefIdeal.τ).loc Cert.AttnCRefIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_queries_keys [hKernelIdeal : Cert.KernelIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_queries_keys [hReferenceIdeal : Cert.ReferenceIdeal.Facts] [hPre_finite_queries_keys : Cert.Pre_finite_queries_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ r.2.sem = fun _ => 0)

def quiescent_QkvBRefIdeal [hQkvBRefIdeal : Cert.QkvBRefIdeal.Facts] : Prop :=
  ∀ (m : (ℓ : Loc Cert.QkvBRefIdeal.nD Cert.QkvBRefIdeal.τ Cert.QkvBRefIdeal.sig) → Buf (Elt Ideal) ℓ) (g : Dev Cert.QkvBRefIdeal.nD → PrngReg), Pre_QkvBRefIdeal m →
    θ_run (Cert.QkvBRefIdeal.defs (F := Ideal)) (onTc (τ := Cert.QkvBRefIdeal.τ) (Cert.QkvBRefIdeal.main (F := Ideal))) ⟨m, fun _ => 0, g⟩ (fun r => (∀ c : Dev Cert.QkvBRefIdeal.nD,
      r.2.mem ((c.tc : Thread Cert.QkvBRefIdeal.nD Cert.QkvBRefIdeal.τ).loc Cert.QkvBRefIdeal.main_arg0) = m ((c.tc : Thread Cert.QkvBRefIdeal.nD Cert.QkvBRefIdeal.τ).loc Cert.QkvBRefIdeal.main_arg0)
      ∧ r.2.mem ((c.tc : Thread Cert.QkvBRefIdeal.nD Cert.QkvBRefIdeal.τ).loc Cert.QkvBRefIdeal.main_arg1) = m ((c.tc : Thread Cert.QkvBRefIdeal.nD Cert.QkvBRefIdeal.τ).loc Cert.QkvBRefIdeal.main_arg1))
      ∧ r.2.sem = fun _ => 0)

def quiescent_QkvC [hQkvC : Cert.QkvC.Facts] : Prop :=
  ∀ (m : (ℓ : Loc Cert.QkvC.nD Cert.QkvC.τ Cert.QkvC.sig) → Buf (Elt Bits) ℓ) (g : Dev Cert.QkvC.nD → PrngReg), Pre_QkvC m →
    θ_run (Cert.QkvC.defs (F := Bits)) (onTc (τ := Cert.QkvC.τ) (Cert.QkvC.main (F := Bits))) ⟨m, fun _ => 0, g⟩ (fun r => (∀ c : Dev Cert.QkvC.nD,
      r.2.mem ((c.tc : Thread Cert.QkvC.nD Cert.QkvC.τ).loc Cert.QkvC.main_arg0) = m ((c.tc : Thread Cert.QkvC.nD Cert.QkvC.τ).loc Cert.QkvC.main_arg0)
      ∧ r.2.mem ((c.tc : Thread Cert.QkvC.nD Cert.QkvC.τ).loc Cert.QkvC.main_arg1) = m ((c.tc : Thread Cert.QkvC.nD Cert.QkvC.τ).loc Cert.QkvC.main_arg1))
      ∧ r.2.sem = fun _ => 0)

def quiescent_QkvCIdeal [hQkvCIdeal : Cert.QkvCIdeal.Facts] : Prop :=
  ∀ (m : (ℓ : Loc Cert.QkvCIdeal.nD Cert.QkvCIdeal.τ Cert.QkvCIdeal.sig) → Buf (Elt Ideal) ℓ) (g : Dev Cert.QkvCIdeal.nD → PrngReg), Pre_QkvCIdeal m →
    θ_run (Cert.QkvCIdeal.defs (F := Ideal)) (onTc (τ := Cert.QkvCIdeal.τ) (Cert.QkvCIdeal.main (F := Ideal))) ⟨m, fun _ => 0, g⟩ (fun r => (∀ c : Dev Cert.QkvCIdeal.nD,
      r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
      ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1))
      ∧ r.2.sem = fun _ => 0)

def quiescent_QkvCRefIdeal [hQkvCRefIdeal : Cert.QkvCRefIdeal.Facts] : Prop :=
  ∀ (m : (ℓ : Loc Cert.QkvCRefIdeal.nD Cert.QkvCRefIdeal.τ Cert.QkvCRefIdeal.sig) → Buf (Elt Ideal) ℓ) (g : Dev Cert.QkvCRefIdeal.nD → PrngReg), Pre_QkvCRefIdeal m →
    θ_run (Cert.QkvCRefIdeal.defs (F := Ideal)) (onTc (τ := Cert.QkvCRefIdeal.τ) (Cert.QkvCRefIdeal.main (F := Ideal))) ⟨m, fun _ => 0, g⟩ (fun r => (∀ c : Dev Cert.QkvCRefIdeal.nD,
      r.2.mem ((c.tc : Thread Cert.QkvCRefIdeal.nD Cert.QkvCRefIdeal.τ).loc Cert.QkvCRefIdeal.main_arg0) = m ((c.tc : Thread Cert.QkvCRefIdeal.nD Cert.QkvCRefIdeal.τ).loc Cert.QkvCRefIdeal.main_arg0)
      ∧ r.2.mem ((c.tc : Thread Cert.QkvCRefIdeal.nD Cert.QkvCRefIdeal.τ).loc Cert.QkvCRefIdeal.main_arg1) = m ((c.tc : Thread Cert.QkvCRefIdeal.nD Cert.QkvCRefIdeal.τ).loc Cert.QkvCRefIdeal.main_arg1))
      ∧ r.2.sem = fun _ => 0)

def quiescent_Fourier [hFourier : Cert.Fourier.Facts] : Prop :=
  ∀ (m : (ℓ : Loc Cert.Fourier.nD Cert.Fourier.τ Cert.Fourier.sig) → Buf (Elt Bits) ℓ) (g : Dev Cert.Fourier.nD → PrngReg), Pre_Fourier m →
    θ_run (Cert.Fourier.defs (F := Bits)) (onTc (τ := Cert.Fourier.τ) (Cert.Fourier.main (F := Bits))) ⟨m, fun _ => 0, g⟩ (fun r => (∀ c : Dev Cert.Fourier.nD,
      r.2.mem ((c.tc : Thread Cert.Fourier.nD Cert.Fourier.τ).loc Cert.Fourier.main_arg0) = m ((c.tc : Thread Cert.Fourier.nD Cert.Fourier.τ).loc Cert.Fourier.main_arg0)
      ∧ r.2.mem ((c.tc : Thread Cert.Fourier.nD Cert.Fourier.τ).loc Cert.Fourier.main_arg1) = m ((c.tc : Thread Cert.Fourier.nD Cert.Fourier.τ).loc Cert.Fourier.main_arg1))
      ∧ r.2.sem = fun _ => 0)

def quiescent_FourierIdeal [hFourierIdeal : Cert.FourierIdeal.Facts] : Prop :=
  ∀ (m : (ℓ : Loc Cert.FourierIdeal.nD Cert.FourierIdeal.τ Cert.FourierIdeal.sig) → Buf (Elt Ideal) ℓ) (g : Dev Cert.FourierIdeal.nD → PrngReg), Pre_FourierIdeal m →
    θ_run (Cert.FourierIdeal.defs (F := Ideal)) (onTc (τ := Cert.FourierIdeal.τ) (Cert.FourierIdeal.main (F := Ideal))) ⟨m, fun _ => 0, g⟩ (fun r => (∀ c : Dev Cert.FourierIdeal.nD,
      r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
      ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ r.2.sem = fun _ => 0)

def quiescent_FourierRefIdeal [hFourierRefIdeal : Cert.FourierRefIdeal.Facts] : Prop :=
  ∀ (m : (ℓ : Loc Cert.FourierRefIdeal.nD Cert.FourierRefIdeal.τ Cert.FourierRefIdeal.sig) → Buf (Elt Ideal) ℓ) (g : Dev Cert.FourierRefIdeal.nD → PrngReg), Pre_FourierRefIdeal m →
    θ_run (Cert.FourierRefIdeal.defs (F := Ideal)) (onTc (τ := Cert.FourierRefIdeal.τ) (Cert.FourierRefIdeal.main (F := Ideal))) ⟨m, fun _ => 0, g⟩ (fun r => (∀ c : Dev Cert.FourierRefIdeal.nD,
      r.2.mem ((c.tc : Thread Cert.FourierRefIdeal.nD Cert.FourierRefIdeal.τ).loc Cert.FourierRefIdeal.main_arg0) = m ((c.tc : Thread Cert.FourierRefIdeal.nD Cert.FourierRefIdeal.τ).loc Cert.FourierRefIdeal.main_arg0)
      ∧ r.2.mem ((c.tc : Thread Cert.FourierRefIdeal.nD Cert.FourierRefIdeal.τ).loc Cert.FourierRefIdeal.main_arg1) = m ((c.tc : Thread Cert.FourierRefIdeal.nD Cert.FourierRefIdeal.τ).loc Cert.FourierRefIdeal.main_arg1))
      ∧ r.2.sem = fun _ => 0)

def quiescent_Moe [hMoe : Cert.Moe.Facts] [hPre_moe_tables : Cert.Pre_moe_tables.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] [hPre_moe_tables : Cert.Pre_moe_tables.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_moe_tables [hMoeRefIdeal : Cert.MoeRefIdeal.Facts] [hPre_moe_tables : Cert.Pre_moe_tables.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_moe_tables m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_AttnB [hAttnB : Cert.AttnB.Facts] : Prop :=
  ∀ (m : (ℓ : Loc Cert.AttnB.nD Cert.AttnB.τ Cert.AttnB.sig) → Buf (Elt Bits) ℓ) (g : Dev Cert.AttnB.nD → PrngReg), Pre_AttnB m →
    θ_run (Cert.AttnB.defs (F := Bits)) (onTc (τ := Cert.AttnB.τ) (Cert.AttnB.main (F := Bits))) ⟨m, fun _ => 0, g⟩ (fun r => (∀ c : Dev Cert.AttnB.nD,
      r.2.mem ((c.tc : Thread Cert.AttnB.nD Cert.AttnB.τ).loc Cert.AttnB.main_arg0) = m ((c.tc : Thread Cert.AttnB.nD Cert.AttnB.τ).loc Cert.AttnB.main_arg0))
      ∧ r.2.sem = fun _ => 0)

def quiescent_AttnBIdeal [hAttnBIdeal : Cert.AttnBIdeal.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0))
      ∧ r.2.sem = fun _ => 0)

def quiescent_AttnBIdeal_pre_finite_queries_keys [hAttnBIdeal : Cert.AttnBIdeal.Facts] [hPre_finite_queries_keys : Cert.Pre_finite_queries_keys.Facts] : Prop :=
  ∀ (m : (ℓ : Loc Cert.AttnBIdeal.nD Cert.AttnBIdeal.τ Cert.AttnBIdeal.sig) → Buf (Elt Ideal) ℓ) (g : Dev Cert.AttnBIdeal.nD → PrngReg), Pre_AttnBIdeal_finite_queries_keys m →
    θ_run (Cert.AttnBIdeal.defs (F := Ideal)) (onTc (τ := Cert.AttnBIdeal.τ) (Cert.AttnBIdeal.main (F := Ideal))) ⟨m, fun _ => 0, g⟩ (fun r => (∀ c : Dev Cert.AttnBIdeal.nD,
      r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0))
      ∧ r.2.sem = fun _ => 0)

def quiescent_AttnBRefIdeal [hAttnBRefIdeal : Cert.AttnBRefIdeal.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0))
      ∧ r.2.sem = fun _ => 0)

def quiescent_AttnBRefIdeal_pre_finite_queries_keys [hAttnBRefIdeal : Cert.AttnBRefIdeal.Facts] [hPre_finite_queries_keys : Cert.Pre_finite_queries_keys.Facts] : Prop :=
  ∀ (m : (ℓ : Loc Cert.AttnBRefIdeal.nD Cert.AttnBRefIdeal.τ Cert.AttnBRefIdeal.sig) → Buf (Elt Ideal) ℓ) (g : Dev Cert.AttnBRefIdeal.nD → PrngReg), Pre_AttnBRefIdeal_finite_queries_keys m →
    θ_run (Cert.AttnBRefIdeal.defs (F := Ideal)) (onTc (τ := Cert.AttnBRefIdeal.τ) (Cert.AttnBRefIdeal.main (F := Ideal))) ⟨m, fun _ => 0, g⟩ (fun r => (∀ c : Dev Cert.AttnBRefIdeal.nD,
      r.2.mem ((c.tc : Thread Cert.AttnBRefIdeal.nD Cert.AttnBRefIdeal.τ).loc Cert.AttnBRefIdeal.main_arg0) = m ((c.tc : Thread Cert.AttnBRefIdeal.nD Cert.AttnBRefIdeal.τ).loc Cert.AttnBRefIdeal.main_arg0))
      ∧ r.2.sem = fun _ => 0)

def quiescent_AttnC [hAttnC : Cert.AttnC.Facts] : Prop :=
  ∀ (m : (ℓ : Loc Cert.AttnC.nD Cert.AttnC.τ Cert.AttnC.sig) → Buf (Elt Bits) ℓ) (g : Dev Cert.AttnC.nD → PrngReg), Pre_AttnC m →
    θ_run (Cert.AttnC.defs (F := Bits)) (onTc (τ := Cert.AttnC.τ) (Cert.AttnC.main (F := Bits))) ⟨m, fun _ => 0, g⟩ (fun r => (∀ c : Dev Cert.AttnC.nD,
      r.2.mem ((c.tc : Thread Cert.AttnC.nD Cert.AttnC.τ).loc Cert.AttnC.main_arg0) = m ((c.tc : Thread Cert.AttnC.nD Cert.AttnC.τ).loc Cert.AttnC.main_arg0))
      ∧ r.2.sem = fun _ => 0)

def quiescent_AttnCIdeal [hAttnCIdeal : Cert.AttnCIdeal.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0))
      ∧ r.2.sem = fun _ => 0)

def quiescent_AttnCIdeal_pre_finite_queries_keys [hAttnCIdeal : Cert.AttnCIdeal.Facts] [hPre_finite_queries_keys : Cert.Pre_finite_queries_keys.Facts] : Prop :=
  ∀ (m : (ℓ : Loc Cert.AttnCIdeal.nD Cert.AttnCIdeal.τ Cert.AttnCIdeal.sig) → Buf (Elt Ideal) ℓ) (g : Dev Cert.AttnCIdeal.nD → PrngReg), Pre_AttnCIdeal_finite_queries_keys m →
    θ_run (Cert.AttnCIdeal.defs (F := Ideal)) (onTc (τ := Cert.AttnCIdeal.τ) (Cert.AttnCIdeal.main (F := Ideal))) ⟨m, fun _ => 0, g⟩ (fun r => (∀ c : Dev Cert.AttnCIdeal.nD,
      r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0))
      ∧ r.2.sem = fun _ => 0)

def quiescent_AttnCRefIdeal [hAttnCRefIdeal : Cert.AttnCRefIdeal.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0))
      ∧ r.2.sem = fun _ => 0)

def quiescent_AttnCRefIdeal_pre_finite_queries_keys [hAttnCRefIdeal : Cert.AttnCRefIdeal.Facts] [hPre_finite_queries_keys : Cert.Pre_finite_queries_keys.Facts] : Prop :=
  ∀ (m : (ℓ : Loc Cert.AttnCRefIdeal.nD Cert.AttnCRefIdeal.τ Cert.AttnCRefIdeal.sig) → Buf (Elt Ideal) ℓ) (g : Dev Cert.AttnCRefIdeal.nD → PrngReg), Pre_AttnCRefIdeal_finite_queries_keys m →
    θ_run (Cert.AttnCRefIdeal.defs (F := Ideal)) (onTc (τ := Cert.AttnCRefIdeal.τ) (Cert.AttnCRefIdeal.main (F := Ideal))) ⟨m, fun _ => 0, g⟩ (fun r => (∀ c : Dev Cert.AttnCRefIdeal.nD,
      r.2.mem ((c.tc : Thread Cert.AttnCRefIdeal.nD Cert.AttnCRefIdeal.τ).loc Cert.AttnCRefIdeal.main_arg0) = m ((c.tc : Thread Cert.AttnCRefIdeal.nD Cert.AttnCRefIdeal.τ).loc Cert.AttnCRefIdeal.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_queries_keys [hKernelIdeal : Cert.KernelIdeal.Facts] [hReferenceIdeal : Cert.ReferenceIdeal.Facts] [hPre_finite_queries_keys : Cert.Pre_finite_queries_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Gates_GatesIdeal : Prop :=
  True

def algebraic_GatesIdeal_GatesRefIdeal [hGatesIdeal : Cert.GatesIdeal.Facts] [hGatesRefIdeal : Cert.GatesRefIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)) →
    ∃ (v0 : (c : Dev Cert.GatesIdeal.nD) → Buf (Elt Ideal) ((c.tc : Thread Cert.GatesIdeal.nD Cert.GatesIdeal.τ).loc Cert.GatesIdeal.main_v5)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v5) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v19) = v0 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v3) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v18) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v12) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v10) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_QkvB_QkvBIdeal : Prop :=
  True

def algebraic_QkvBIdeal_QkvBRefIdeal [hQkvBIdeal : Cert.QkvBIdeal.Facts] [hQkvBRefIdeal : Cert.QkvBRefIdeal.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvBRefIdeal.nD Cert.QkvBRefIdeal.τ Cert.QkvBRefIdeal.sig) → Buf (Elt Ideal) ℓ) (g' : Dev Cert.QkvBRefIdeal.nD → PrngReg), Pre_QkvBIdeal m →
    (∀ c : Dev Cert.QkvBIdeal.nD,
      m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0)
      ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1)) →
    ∃ (v0 : (c : Dev Cert.QkvBIdeal.nD) → Buf (Elt Ideal) ((c.tc : Thread Cert.QkvBIdeal.nD Cert.QkvBIdeal.τ).loc Cert.QkvBIdeal.main_v3)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v3) = v0 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1))
      ∧ θ_run (Cert.QkvBRefIdeal.defs (F := Ideal)) (onTc (τ := Cert.QkvBRefIdeal.τ) (Cert.QkvBRefIdeal.main (F := Ideal))) ⟨m', fun _ => 0, g'⟩ (fun r => ∀ c : Dev Cert.QkvBRefIdeal.nD,
          r.2.mem ((c.tc : Thread Cert.QkvBRefIdeal.nD Cert.QkvBRefIdeal.τ).loc Cert.QkvBRefIdeal.main_v18) = v0 c
          ∧ r.2.mem ((c.tc : Thread Cert.QkvBRefIdeal.nD Cert.QkvBRefIdeal.τ).loc Cert.QkvBRefIdeal.main_arg0) = m' ((c.tc : Thread Cert.QkvBRefIdeal.nD Cert.QkvBRefIdeal.τ).loc Cert.QkvBRefIdeal.main_arg0)
          ∧ r.2.mem ((c.tc : Thread Cert.QkvBRefIdeal.nD Cert.QkvBRefIdeal.τ).loc Cert.QkvBRefIdeal.main_arg1) = m' ((c.tc : Thread Cert.QkvBRefIdeal.nD Cert.QkvBRefIdeal.τ).loc Cert.QkvBRefIdeal.main_arg1))

def preserves_QkvC_QkvCIdeal : Prop :=
  True

def algebraic_QkvCIdeal_QkvCRefIdeal [hQkvCIdeal : Cert.QkvCIdeal.Facts] [hQkvCRefIdeal : Cert.QkvCRefIdeal.Facts] : Prop :=
  ∀ (m : (ℓ : Loc Cert.QkvCIdeal.nD Cert.QkvCIdeal.τ Cert.QkvCIdeal.sig) → Buf (Elt Ideal) ℓ) (g : Dev Cert.QkvCIdeal.nD → PrngReg)
    (m' : (ℓ : Loc Cert.QkvCRefIdeal.nD Cert.QkvCRefIdeal.τ Cert.QkvCRefIdeal.sig) → Buf (Elt Ideal) ℓ) (g' : Dev Cert.QkvCRefIdeal.nD → PrngReg), Pre_QkvCIdeal m →
    (∀ c : Dev Cert.QkvCIdeal.nD,
      m' ((c.tc : Thread Cert.QkvCRefIdeal.nD Cert.QkvCRefIdeal.τ).loc Cert.QkvCRefIdeal.main_arg0) = m ((c.tc : Thread Cert.QkvCIdeal.nD Cert.QkvCIdeal.τ).loc Cert.QkvCIdeal.main_arg0)
      ∧ m' ((c.tc : Thread Cert.QkvCRefIdeal.nD Cert.QkvCRefIdeal.τ).loc Cert.QkvCRefIdeal.main_arg1) = m ((c.tc : Thread Cert.QkvCIdeal.nD Cert.QkvCIdeal.τ).loc Cert.QkvCIdeal.main_arg1)) →
    ∃ (v0 : (c : Dev Cert.QkvCIdeal.nD) → Buf (Elt Ideal) ((c.tc : Thread Cert.QkvCIdeal.nD Cert.QkvCIdeal.τ).loc Cert.QkvCIdeal.main_v3)),
      θ_run (Cert.QkvCIdeal.defs (F := Ideal)) (onTc (τ := Cert.QkvCIdeal.τ) (Cert.QkvCIdeal.main (F := Ideal))) ⟨m, fun _ => 0, g⟩ (fun r => ∀ c : Dev Cert.QkvCIdeal.nD,
          r.2.mem ((c.tc : Thread Cert.QkvCIdeal.nD Cert.QkvCIdeal.τ).loc Cert.QkvCIdeal.main_v3) = v0 c
          ∧ r.2.mem ((c.tc : Thread Cert.QkvCIdeal.nD Cert.QkvCIdeal.τ).loc Cert.QkvCIdeal.main_arg0) = m ((c.tc : Thread Cert.QkvCIdeal.nD Cert.QkvCIdeal.τ).loc Cert.QkvCIdeal.main_arg0)
          ∧ r.2.mem ((c.tc : Thread Cert.QkvCIdeal.nD Cert.QkvCIdeal.τ).loc Cert.QkvCIdeal.main_arg1) = m ((c.tc : Thread Cert.QkvCIdeal.nD Cert.QkvCIdeal.τ).loc Cert.QkvCIdeal.main_arg1))
      ∧ θ_run (Cert.QkvCRefIdeal.defs (F := Ideal)) (onTc (τ := Cert.QkvCRefIdeal.τ) (Cert.QkvCRefIdeal.main (F := Ideal))) ⟨m', fun _ => 0, g'⟩ (fun r => ∀ c : Dev Cert.QkvCRefIdeal.nD,
          r.2.mem ((c.tc : Thread Cert.QkvCRefIdeal.nD Cert.QkvCRefIdeal.τ).loc Cert.QkvCRefIdeal.main_v18) = v0 c
          ∧ r.2.mem ((c.tc : Thread Cert.QkvCRefIdeal.nD Cert.QkvCRefIdeal.τ).loc Cert.QkvCRefIdeal.main_arg0) = m' ((c.tc : Thread Cert.QkvCRefIdeal.nD Cert.QkvCRefIdeal.τ).loc Cert.QkvCRefIdeal.main_arg0)
          ∧ r.2.mem ((c.tc : Thread Cert.QkvCRefIdeal.nD Cert.QkvCRefIdeal.τ).loc Cert.QkvCRefIdeal.main_arg1) = m' ((c.tc : Thread Cert.QkvCRefIdeal.nD Cert.QkvCRefIdeal.τ).loc Cert.QkvCRefIdeal.main_arg1))

def preserves_Fourier_FourierIdeal : Prop :=
  True

def algebraic_FourierIdeal_FourierRefIdeal [hFourierIdeal : Cert.FourierIdeal.Facts] [hFourierRefIdeal : Cert.FourierRefIdeal.Facts] : Prop :=
  ∀ (m : (ℓ : Loc Cert.FourierIdeal.nD Cert.FourierIdeal.τ Cert.FourierIdeal.sig) → Buf (Elt Ideal) ℓ) (g : Dev Cert.FourierIdeal.nD → PrngReg)
    (m' : (ℓ : Loc Cert.FourierRefIdeal.nD Cert.FourierRefIdeal.τ Cert.FourierRefIdeal.sig) → Buf (Elt Ideal) ℓ) (g' : Dev Cert.FourierRefIdeal.nD → PrngReg), Pre_FourierIdeal m →
    (∀ c : Dev Cert.FourierIdeal.nD,
      m' ((c.tc : Thread Cert.FourierRefIdeal.nD Cert.FourierRefIdeal.τ).loc Cert.FourierRefIdeal.main_arg0) = m ((c.tc : Thread Cert.FourierIdeal.nD Cert.FourierIdeal.τ).loc Cert.FourierIdeal.main_arg0)
      ∧ m' ((c.tc : Thread Cert.FourierRefIdeal.nD Cert.FourierRefIdeal.τ).loc Cert.FourierRefIdeal.main_arg1) = m ((c.tc : Thread Cert.FourierIdeal.nD Cert.FourierIdeal.τ).loc Cert.FourierIdeal.main_arg1)) →
    ∃ (v0 : (c : Dev Cert.FourierIdeal.nD) → Buf (Elt Ideal) ((c.tc : Thread Cert.FourierIdeal.nD Cert.FourierIdeal.τ).loc Cert.FourierIdeal.main_v3)),
      θ_run (Cert.FourierIdeal.defs (F := Ideal)) (onTc (τ := Cert.FourierIdeal.τ) (Cert.FourierIdeal.main (F := Ideal))) ⟨m, fun _ => 0, g⟩ (fun r => ∀ c : Dev Cert.FourierIdeal.nD,
          r.2.mem ((c.tc : Thread Cert.FourierIdeal.nD Cert.FourierIdeal.τ).loc Cert.FourierIdeal.main_v3) = v0 c
          ∧ r.2.mem ((c.tc : Thread Cert.FourierIdeal.nD Cert.FourierIdeal.τ).loc Cert.FourierIdeal.main_arg0) = m ((c.tc : Thread Cert.FourierIdeal.nD Cert.FourierIdeal.τ).loc Cert.FourierIdeal.main_arg0)
          ∧ r.2.mem ((c.tc : Thread Cert.FourierIdeal.nD Cert.FourierIdeal.τ).loc Cert.FourierIdeal.main_arg1) = m ((c.tc : Thread Cert.FourierIdeal.nD Cert.FourierIdeal.τ).loc Cert.FourierIdeal.main_arg1))
      ∧ θ_run (Cert.FourierRefIdeal.defs (F := Ideal)) (onTc (τ := Cert.FourierRefIdeal.τ) (Cert.FourierRefIdeal.main (F := Ideal))) ⟨m', fun _ => 0, g'⟩ (fun r => ∀ c : Dev Cert.FourierRefIdeal.nD,
          r.2.mem ((c.tc : Thread Cert.FourierRefIdeal.nD Cert.FourierRefIdeal.τ).loc Cert.FourierRefIdeal.main_v9) = v0 c
          ∧ r.2.mem ((c.tc : Thread Cert.FourierRefIdeal.nD Cert.FourierRefIdeal.τ).loc Cert.FourierRefIdeal.main_arg0) = m' ((c.tc : Thread Cert.FourierRefIdeal.nD Cert.FourierRefIdeal.τ).loc Cert.FourierRefIdeal.main_arg0)
          ∧ r.2.mem ((c.tc : Thread Cert.FourierRefIdeal.nD Cert.FourierRefIdeal.τ).loc Cert.FourierRefIdeal.main_arg1) = m' ((c.tc : Thread Cert.FourierRefIdeal.nD Cert.FourierRefIdeal.τ).loc Cert.FourierRefIdeal.main_arg1))

def preserves_Moe_MoeIdeal : Prop :=
  True

def algebraic_MoeIdeal_MoeRefIdeal [hMoeIdeal : Cert.MoeIdeal.Facts] [hMoeRefIdeal : Cert.MoeRefIdeal.Facts] [hPre_moe_tables : Cert.Pre_moe_tables.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v4)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v4) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v54) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_AttnB_AttnBIdeal : Prop :=
  IdealRules.named_const.Statement Cert.AttnBIdeal.κ "mask" .f32 0xF149F2CA#32 ⊥

def algebraic_AttnBIdeal_AttnBRefIdeal_pre_finite_queries_keys [hAttnBIdeal : Cert.AttnBIdeal.Facts] [hAttnBRefIdeal : Cert.AttnBRefIdeal.Facts] [hPre_finite_queries_keys : Cert.Pre_finite_queries_keys.Facts] : Prop :=
  ∀ (m : (ℓ : Loc Cert.AttnBIdeal.nD Cert.AttnBIdeal.τ Cert.AttnBIdeal.sig) → Buf (Elt Ideal) ℓ) (g : Dev Cert.AttnBIdeal.nD → PrngReg)
    (m' : (ℓ : Loc Cert.AttnBRefIdeal.nD Cert.AttnBRefIdeal.τ Cert.AttnBRefIdeal.sig) → Buf (Elt Ideal) ℓ) (g' : Dev Cert.AttnBRefIdeal.nD → PrngReg), Pre_AttnBIdeal_finite_queries_keys m →
    (∀ c : Dev Cert.AttnBIdeal.nD,
      m' ((c.tc : Thread Cert.AttnBRefIdeal.nD Cert.AttnBRefIdeal.τ).loc Cert.AttnBRefIdeal.main_arg0) = m ((c.tc : Thread Cert.AttnBIdeal.nD Cert.AttnBIdeal.τ).loc Cert.AttnBIdeal.main_arg0)) →
    ∃ (v0 : (c : Dev Cert.AttnBIdeal.nD) → Buf (Elt Ideal) ((c.tc : Thread Cert.AttnBIdeal.nD Cert.AttnBIdeal.τ).loc Cert.AttnBIdeal.main_v1_0)) (v1 : (c : Dev Cert.AttnBIdeal.nD) → Buf (Elt Ideal) ((c.tc : Thread Cert.AttnBIdeal.nD Cert.AttnBIdeal.τ).loc Cert.AttnBIdeal.main_v1_1)),
      θ_run (Cert.AttnBIdeal.defs (F := Ideal)) (onTc (τ := Cert.AttnBIdeal.τ) (Cert.AttnBIdeal.main (F := Ideal))) ⟨m, fun _ => 0, g⟩ (fun r => ∀ c : Dev Cert.AttnBIdeal.nD,
          r.2.mem ((c.tc : Thread Cert.AttnBIdeal.nD Cert.AttnBIdeal.τ).loc Cert.AttnBIdeal.main_v1_0) = v0 c
          ∧ r.2.mem ((c.tc : Thread Cert.AttnBIdeal.nD Cert.AttnBIdeal.τ).loc Cert.AttnBIdeal.main_v1_1) = v1 c
          ∧ r.2.mem ((c.tc : Thread Cert.AttnBIdeal.nD Cert.AttnBIdeal.τ).loc Cert.AttnBIdeal.main_arg0) = m ((c.tc : Thread Cert.AttnBIdeal.nD Cert.AttnBIdeal.τ).loc Cert.AttnBIdeal.main_arg0))
      ∧ θ_run (Cert.AttnBRefIdeal.defs (F := Ideal)) (onTc (τ := Cert.AttnBRefIdeal.τ) (Cert.AttnBRefIdeal.main (F := Ideal))) ⟨m', fun _ => 0, g'⟩ (fun r => ∀ c : Dev Cert.AttnBRefIdeal.nD,
          r.2.mem ((c.tc : Thread Cert.AttnBRefIdeal.nD Cert.AttnBRefIdeal.τ).loc Cert.AttnBRefIdeal.main_v140) = v0 c
          ∧ r.2.mem ((c.tc : Thread Cert.AttnBRefIdeal.nD Cert.AttnBRefIdeal.τ).loc Cert.AttnBRefIdeal.main_v142) = v1 c
          ∧ r.2.mem ((c.tc : Thread Cert.AttnBRefIdeal.nD Cert.AttnBRefIdeal.τ).loc Cert.AttnBRefIdeal.main_arg0) = m' ((c.tc : Thread Cert.AttnBRefIdeal.nD Cert.AttnBRefIdeal.τ).loc Cert.AttnBRefIdeal.main_arg0))

def preserves_AttnC_AttnCIdeal : Prop :=
  IdealRules.named_const.Statement Cert.AttnCIdeal.κ "mask" .f32 0xF149F2CA#32 ⊥

def algebraic_AttnCIdeal_AttnCRefIdeal_pre_finite_queries_keys [hAttnCIdeal : Cert.AttnCIdeal.Facts] [hAttnCRefIdeal : Cert.AttnCRefIdeal.Facts] [hPre_finite_queries_keys : Cert.Pre_finite_queries_keys.Facts] : Prop :=
  ∀ (m : (ℓ : Loc Cert.AttnCIdeal.nD Cert.AttnCIdeal.τ Cert.AttnCIdeal.sig) → Buf (Elt Ideal) ℓ) (g : Dev Cert.AttnCIdeal.nD → PrngReg)
    (m' : (ℓ : Loc Cert.AttnCRefIdeal.nD Cert.AttnCRefIdeal.τ Cert.AttnCRefIdeal.sig) → Buf (Elt Ideal) ℓ) (g' : Dev Cert.AttnCRefIdeal.nD → PrngReg), Pre_AttnCIdeal_finite_queries_keys m →
    (∀ c : Dev Cert.AttnCIdeal.nD,
      m' ((c.tc : Thread Cert.AttnCRefIdeal.nD Cert.AttnCRefIdeal.τ).loc Cert.AttnCRefIdeal.main_arg0) = m ((c.tc : Thread Cert.AttnCIdeal.nD Cert.AttnCIdeal.τ).loc Cert.AttnCIdeal.main_arg0)) →
    ∃ (v0 : (c : Dev Cert.AttnCIdeal.nD) → Buf (Elt Ideal) ((c.tc : Thread Cert.AttnCIdeal.nD Cert.AttnCIdeal.τ).loc Cert.AttnCIdeal.main_v1_0)) (v1 : (c : Dev Cert.AttnCIdeal.nD) → Buf (Elt Ideal) ((c.tc : Thread Cert.AttnCIdeal.nD Cert.AttnCIdeal.τ).loc Cert.AttnCIdeal.main_v1_1)),
      θ_run (Cert.AttnCIdeal.defs (F := Ideal)) (onTc (τ := Cert.AttnCIdeal.τ) (Cert.AttnCIdeal.main (F := Ideal))) ⟨m, fun _ => 0, g⟩ (fun r => ∀ c : Dev Cert.AttnCIdeal.nD,
          r.2.mem ((c.tc : Thread Cert.AttnCIdeal.nD Cert.AttnCIdeal.τ).loc Cert.AttnCIdeal.main_v1_0) = v0 c
          ∧ r.2.mem ((c.tc : Thread Cert.AttnCIdeal.nD Cert.AttnCIdeal.τ).loc Cert.AttnCIdeal.main_v1_1) = v1 c
          ∧ r.2.mem ((c.tc : Thread Cert.AttnCIdeal.nD Cert.AttnCIdeal.τ).loc Cert.AttnCIdeal.main_arg0) = m ((c.tc : Thread Cert.AttnCIdeal.nD Cert.AttnCIdeal.τ).loc Cert.AttnCIdeal.main_arg0))
      ∧ θ_run (Cert.AttnCRefIdeal.defs (F := Ideal)) (onTc (τ := Cert.AttnCRefIdeal.τ) (Cert.AttnCRefIdeal.main (F := Ideal))) ⟨m', fun _ => 0, g'⟩ (fun r => ∀ c : Dev Cert.AttnCRefIdeal.nD,
          r.2.mem ((c.tc : Thread Cert.AttnCRefIdeal.nD Cert.AttnCRefIdeal.τ).loc Cert.AttnCRefIdeal.main_v140) = v0 c
          ∧ r.2.mem ((c.tc : Thread Cert.AttnCRefIdeal.nD Cert.AttnCRefIdeal.τ).loc Cert.AttnCRefIdeal.main_v142) = v1 c
          ∧ r.2.mem ((c.tc : Thread Cert.AttnCRefIdeal.nD Cert.AttnCRefIdeal.τ).loc Cert.AttnCRefIdeal.main_arg0) = m' ((c.tc : Thread Cert.AttnCRefIdeal.nD Cert.AttnCRefIdeal.τ).loc Cert.AttnCRefIdeal.main_arg0))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesRefIdeal : Cert.GatesRefIdeal.Facts) (hQkv : Cert.Qkv.Facts) (hQkvIdeal : Cert.QkvIdeal.Facts) (hQkvRefIdeal : Cert.QkvRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hQkvB : Cert.QkvB.Facts) (hQkvBIdeal : Cert.QkvBIdeal.Facts) (hQkvBRefIdeal : Cert.QkvBRefIdeal.Facts) (hQkvC : Cert.QkvC.Facts) (hQkvCIdeal : Cert.QkvCIdeal.Facts) (hQkvCRefIdeal : Cert.QkvCRefIdeal.Facts) (hFourier : Cert.Fourier.Facts) (hFourierIdeal : Cert.FourierIdeal.Facts) (hFourierRefIdeal : Cert.FourierRefIdeal.Facts) (hMoe : Cert.Moe.Facts) (hMoeIdeal : Cert.MoeIdeal.Facts) (hMoeRefIdeal : Cert.MoeRefIdeal.Facts) (hAttnB : Cert.AttnB.Facts) (hAttnBIdeal : Cert.AttnBIdeal.Facts) (hAttnBRefIdeal : Cert.AttnBRefIdeal.Facts) (hAttnC : Cert.AttnC.Facts) (hAttnCIdeal : Cert.AttnCIdeal.Facts) (hAttnCRefIdeal : Cert.AttnCRefIdeal.Facts) (hPre_finite_queries_keys : Cert.Pre_finite_queries_keys.Facts) (hPre_moe_tables : Cert.Pre_moe_tables.Facts),
    quiescent_Kernel (hKernel := hKernel)
    ∧ quiescent_KernelIdeal (hKernelIdeal := hKernelIdeal)
    ∧ quiescent_KernelIdeal_pre_finite_queries_keys (hKernelIdeal := hKernelIdeal) (hPre_finite_queries_keys := hPre_finite_queries_keys)
    ∧ quiescent_ReferenceIdeal (hReferenceIdeal := hReferenceIdeal)
    ∧ quiescent_ReferenceIdeal_pre_finite_queries_keys (hReferenceIdeal := hReferenceIdeal) (hPre_finite_queries_keys := hPre_finite_queries_keys)
    ∧ quiescent_Gates (hGates := hGates)
    ∧ quiescent_GatesIdeal (hGatesIdeal := hGatesIdeal)
    ∧ quiescent_GatesRefIdeal (hGatesRefIdeal := hGatesRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_QkvB (hQkvB := hQkvB)
    ∧ quiescent_QkvBIdeal (hQkvBIdeal := hQkvBIdeal)
    ∧ quiescent_QkvBRefIdeal (hQkvBRefIdeal := hQkvBRefIdeal)
    ∧ quiescent_QkvC (hQkvC := hQkvC)
    ∧ quiescent_QkvCIdeal (hQkvCIdeal := hQkvCIdeal)
    ∧ quiescent_QkvCRefIdeal (hQkvCRefIdeal := hQkvCRefIdeal)
    ∧ quiescent_Fourier (hFourier := hFourier)
    ∧ quiescent_FourierIdeal (hFourierIdeal := hFourierIdeal)
    ∧ quiescent_FourierRefIdeal (hFourierRefIdeal := hFourierRefIdeal)
    ∧ quiescent_Moe (hMoe := hMoe) (hPre_moe_tables := hPre_moe_tables)
    ∧ quiescent_MoeIdeal (hMoeIdeal := hMoeIdeal) (hPre_moe_tables := hPre_moe_tables)
    ∧ quiescent_MoeRefIdeal (hMoeRefIdeal := hMoeRefIdeal)
    ∧ quiescent_MoeRefIdeal_pre_moe_tables (hMoeRefIdeal := hMoeRefIdeal) (hPre_moe_tables := hPre_moe_tables)
    ∧ quiescent_AttnB (hAttnB := hAttnB)
    ∧ quiescent_AttnBIdeal (hAttnBIdeal := hAttnBIdeal)
    ∧ quiescent_AttnBIdeal_pre_finite_queries_keys (hAttnBIdeal := hAttnBIdeal) (hPre_finite_queries_keys := hPre_finite_queries_keys)
    ∧ quiescent_AttnBRefIdeal (hAttnBRefIdeal := hAttnBRefIdeal)
    ∧ quiescent_AttnBRefIdeal_pre_finite_queries_keys (hAttnBRefIdeal := hAttnBRefIdeal) (hPre_finite_queries_keys := hPre_finite_queries_keys)
    ∧ quiescent_AttnC (hAttnC := hAttnC)
    ∧ quiescent_AttnCIdeal (hAttnCIdeal := hAttnCIdeal)
    ∧ quiescent_AttnCIdeal_pre_finite_queries_keys (hAttnCIdeal := hAttnCIdeal) (hPre_finite_queries_keys := hPre_finite_queries_keys)
    ∧ quiescent_AttnCRefIdeal (hAttnCRefIdeal := hAttnCRefIdeal)
    ∧ quiescent_AttnCRefIdeal_pre_finite_queries_keys (hAttnCRefIdeal := hAttnCRefIdeal) (hPre_finite_queries_keys := hPre_finite_queries_keys)
    ∧ preserves_Kernel_KernelIdeal
    ∧ algebraic_KernelIdeal_ReferenceIdeal_pre_finite_queries_keys (hKernelIdeal := hKernelIdeal) (hReferenceIdeal := hReferenceIdeal) (hPre_finite_queries_keys := hPre_finite_queries_keys)
    ∧ preserves_Gates_GatesIdeal
    ∧ algebraic_GatesIdeal_GatesRefIdeal (hGatesIdeal := hGatesIdeal) (hGatesRefIdeal := hGatesRefIdeal)
    ∧ preserves_Qkv_QkvIdeal
    ∧ algebraic_QkvIdeal_QkvRefIdeal (hQkvIdeal := hQkvIdeal) (hQkvRefIdeal := hQkvRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_QkvB_QkvBIdeal
    ∧ algebraic_QkvBIdeal_QkvBRefIdeal (hQkvBIdeal := hQkvBIdeal) (hQkvBRefIdeal := hQkvBRefIdeal)
    ∧ preserves_QkvC_QkvCIdeal
    ∧ algebraic_QkvCIdeal_QkvCRefIdeal (hQkvCIdeal := hQkvCIdeal) (hQkvCRefIdeal := hQkvCRefIdeal)
    ∧ preserves_Fourier_FourierIdeal
    ∧ algebraic_FourierIdeal_FourierRefIdeal (hFourierIdeal := hFourierIdeal) (hFourierRefIdeal := hFourierRefIdeal)
    ∧ preserves_Moe_MoeIdeal
    ∧ algebraic_MoeIdeal_MoeRefIdeal (hMoeIdeal := hMoeIdeal) (hMoeRefIdeal := hMoeRefIdeal) (hPre_moe_tables := hPre_moe_tables)
    ∧ preserves_AttnB_AttnBIdeal
    ∧ algebraic_AttnBIdeal_AttnBRefIdeal_pre_finite_queries_keys (hAttnBIdeal := hAttnBIdeal) (hAttnBRefIdeal := hAttnBRefIdeal) (hPre_finite_queries_keys := hPre_finite_queries_keys)
    ∧ preserves_AttnC_AttnCIdeal
    ∧ algebraic_AttnCIdeal_AttnCRefIdeal_pre_finite_queries_keys (hAttnCIdeal := hAttnCIdeal) (hAttnCRefIdeal := hAttnCRefIdeal) (hPre_finite_queries_keys := hPre_finite_queries_keys)
-- ==== Pre_finite_queries_keys.lean ====
abbrev S8192x3072 : Shape := ⟨2, ![8192, 3072]⟩
abbrev S8192x2048 : Shape := ⟨2, ![8192, 2048]⟩
abbrev S_ : Shape := ⟨0, ![]⟩

class Facts : Prop where
  slices_S8192x3072_S8192x2048_0_0 : S8192x3072.Slices ![0, 0] S8192x2048
  bitsLt_bf16_f32 : FTy.bits .bf16 < FTy.bits .f32
  bcast_S_S8192x2048 : S_.BroadcastsInDim S8192x2048 (![] : Fin 0 → Fin S8192x2048.rank)

variable [Facts]

def fn {F : FTy → Type} [FloatOps F] (main_arg0 : FVec F S8192x3072 .bf16) : IVec S8192x2048 1 :=
  let main_v0 : FVec F S8192x2048 .bf16 := (extractStridedSlice S8192x2048 ![0, 0] · slices_S8192x3072_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  main_v4
-- ==== Pre_moe_tables.lean ====
abbrev S24576x4096 : Shape := ⟨2, ![24576, 4096]⟩
abbrev S4096 : Shape := ⟨1, ![4096]⟩
abbrev S208 : Shape := ⟨1, ![208]⟩
abbrev S1 : Shape := ⟨1, ![1]⟩
abbrev S208x1x256 : Shape := ⟨3, ![208, 1, 256]⟩
abbrev S16x4096x1024 : Shape := ⟨3, ![16, 4096, 1024]⟩
abbrev S16x1024x4096 : Shape := ⟨3, ![16, 1024, 4096]⟩
abbrev S_ : Shape := ⟨0, ![]⟩

class Facts : Prop where
  bcast_S_S208 : S_.BroadcastsInDim S208 (![] : Fin 0 → Fin S208.rank)
  reducesTo_S208_S_d0 : S208.ReducesTo [0] S_
  h_S_ : 0 < S_.numel
  bcast_S_S208x1x256 : S_.BroadcastsInDim S208x1x256 (![] : Fin 0 → Fin S208x1x256.rank)
  reducesTo_S208x1x256_S_d0_1_2 : S208x1x256.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_arg3 : IVec S1 32) (main_v12 : IVec S_ 1) (main_v14 : IVec S1 1) (main_v15 : IVec S1 32) : IVec S_ 1 :=
  let main_v16 : IVec S1 1 := cmpi .sle main_arg3 main_v15
  let main_v17 : IVec S1 1 := andi main_v14 main_v16
  let main_c_7 : IVec S_ 1 := constantI S_ 1 1#1
  let main_v18 : IVec S_ 1 := (fun x v => Host.reduce IntOp.andi x v reducesTo_S1_S_d0 h_S_) main_v17 main_c_7
  let main_v19 : IVec S_ 1 := andi main_v12 main_v18
  main_v19

def fn {F : FTy → Type} [FloatOps F] (main_arg0 : FVec F S24576x4096 .f32) (main_arg1 : FVec F S4096 .f32) (main_arg2 : IVec S208 32) (main_arg3 : IVec S1 32) (main_arg4 : IVec S208x1x256 32) (main_arg5 : FVec F S16x4096x1024 .f32) (main_arg6 : FVec F S16x4096x1024 .f32) (main_arg7 : FVec F S16x1024x4096 .f32) : IVec S_ 1 :=
  let main_c : IVec S_ 32 := constantI S_ 32 0#32
  let main_v0 : IVec S208 32 := broadcastInDim S208 ![] bcast_S_S208 main_c
  let main_v1 : IVec S208 1 := cmpi .sge main_arg2 main_v0
  let main_c_0 : IVec S_ 32 := constantI S_ 32 16#32
  let main_v2 : IVec S208 32 := broadcastInDim S208 ![] bcast_S_S208 main_c_0
  let main_v3 : IVec S208 1 := cmpi .slt main_arg2 main_v2
  let main_v4 : IVec S208 1 := andi main_v1 main_v3
  let main_c_1 : IVec S_ 1 := constantI S_ 1 1#1
  let main_v5 : IVec S_ 1 := (fun x v => Host.reduce IntOp.andi x v reducesTo_S208_S_d0 h_S_) main_v4 main_c_1
  let main_c_2 : IVec S_ 32 := constantI S_ 32 0#32
  let main_v6 : IVec S208x1x256 32 := broadcastInDim S208x1x256 ![] bcast_S_S208x1x256 main_c_2
  let main_v7 : IVec S208x1x256 1 := cmpi .sge main_arg4 main_v6
  let main_c_3 : IVec S_ 32 := constantI S_ 32 24576#32
  let main_v8 : IVec S208x1x256 32 := broadcastInDim S208x1x256 ![] bcast_S_S208x1x256 main_c_3
  let main_v9 : IVec S208x1x256 1 := cmpi .slt main_arg4 main_v8
  let main_v10 : IVec S208x1x256 1 := andi main_v7 main_v9
  let main_c_4 : IVec S_ 1 := constantI S_ 1 1#1
  let main_v11 : IVec S_ 1 := (fun x v => Host.reduce IntOp.andi x v reducesTo_S208x1x256_S_d0_1_2 h_S_) main_v10 main_c_4
  let main_v12 : IVec S_ 1 := andi main_v5 main_v11
  let main_c_5 : IVec S_ 32 := constantI S_ 32 1#32
  let main_v13 : IVec S1 32 := broadcastInDim S1 ![] bcast_S_S1 main_c_5
  let main_v14 : IVec S1 1 := cmpi .sge main_arg3 main_v13
  let main_c_6 : IVec S_ 32 := constantI S_ 32 208#32
  let main_v15 : IVec S1 32 := broadcastInDim S1 ![] bcast_S_S1 main_c_6
  fn_part1 (F := F) main_arg3 main_v12 main_v14 main_v15
-- ==== Kernel.lean ====
abbrev S8192x3072 : Shape := ⟨2, ![8192, 3072]⟩
abbrev S4x2048x3072 : Shape := ⟨3, ![4, 2048, 3072]⟩
abbrev S4x2048x1024 : Shape := ⟨3, ![4, 2048, 1024]⟩
abbrev S4x2048x128 : Shape := ⟨3, ![4, 2048, 128]⟩
abbrev S1x128x1024 : Shape := ⟨3, ![1, 128, 1024]⟩
abbrev S1x2048x1024 : Shape := ⟨3, ![1, 2048, 1024]⟩
abbrev S1x128x128 : Shape := ⟨3, ![1, 128, 128]⟩
abbrev S128x256 : Shape := ⟨2, ![128, 256]⟩
abbrev S128x128 : Shape := ⟨2, ![128, 128]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 10
  | .smem => 0
  | _ => 0

abbrev bufTy : (tb : Table) → Fin (tcTables nBuf tb) → BufTy
  | .hbm, ⟨0, _⟩ => ⟨S8192x3072, .bf16⟩
  | .hbm, ⟨1, _⟩ => ⟨S4x2048x3072, .bf16⟩
  | .hbm, ⟨2, _⟩ => ⟨S4x2048x1024, .bf16⟩
  | .hbm, ⟨3, _⟩ => ⟨S4x2048x128, .f32⟩
  | .local _ .vmem, ⟨0, _⟩ => ⟨S1x128x1024, .bf16⟩
  | .local _ .vmem, ⟨1, _⟩ => ⟨S1x128x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x128, .f32⟩
  | .local _ .vmem, ⟨9, _⟩ => ⟨S1x128x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c1792_i32 : BitVec 32 := 1792#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c1792_i32 v2
  v3
def k0_off1 (i : grid0.Coords) : Fin 3 → Nat :=
  let c0_4 : Index := 0#32
  let c1792_i32 : BitVec 32 := 1792#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v21 : Index := Scalar.indexCast v4
  let c0_5 : Index := 0#32
  ![0, v21.toNat, 0]
def k0_off2 (i : grid0.Coords) : Fin 3 → Nat :=
  let c0_21 : Index := 0#32
  let c1792_i32 : BitVec 32 := 1792#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v59 : Index := Scalar.indexCast v4
  let c128_22 : Index := 128#32
  ![0, v59.toNat, 128]
def k0_off3 (i : grid0.Coords) : Fin 3 → Nat :=
  let c0_37 : Index := 0#32
  let c1792_i32 : BitVec 32 := 1792#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v97 : Index := Scalar.indexCast v4
  let c256_38 : Index := 256#32
  ![0, v97.toNat, 256]
def k0_off4 (i : grid0.Coords) : Fin 3 → Nat :=
  let c0_53 : Index := 0#32
  let c1792_i32 : BitVec 32 := 1792#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v135 : Index := Scalar.indexCast v4
  let c384_54 : Index := 384#32
  ![0, v135.toNat, 384]
def k0_off5 (i : grid0.Coords) : Fin 3 → Nat :=
  let c0_69 : Index := 0#32
  let c1792_i32 : BitVec 32 := 1792#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v173 : Index := Scalar.indexCast v4
  let c512_70 : Index := 512#32
  ![0, v173.toNat, 512]
def k0_off6 (i : grid0.Coords) : Fin 3 → Nat :=
  let c0_85 : Index := 0#32
  let c1792_i32 : BitVec 32 := 1792#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v211 : Index := Scalar.indexCast v4
  let c640_86 : Index := 640#32
  ![0, v211.toNat, 640]
def k0_off7 (i : grid0.Coords) : Fin 3 → Nat :=
  let c0_101 : Index := 0#32
  let c1792_i32 : BitVec 32 := 1792#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v249 : Index := Scalar.indexCast v4
  let c768_102 : Index := 768#32
  ![0, v249.toNat, 768]
def k0_off8 (i : grid0.Coords) : Fin 3 → Nat :=
  let c0_117 : Index := 0#32
  let c1792_i32 : BitVec 32 := 1792#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c1792_i32 v2
  let v4 : BitVec 32 := v3
  let v287 : Index := Scalar.indexCast v4
  let c896_118 : Index := 896#32
  ![0, v287.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x3072 : Shape := ⟨2, ![8192, 3072]⟩
abbrev S8192x1024 : Shape := ⟨2, ![8192, 1024]⟩
abbrev S4x2048x8x128 : Shape := ⟨4, ![4, 2048, 8, 128]⟩
abbrev S8 : Shape := ⟨1, ![8]⟩
abbrev S_ : Shape := ⟨0, ![]⟩
abbrev S4x2048x1x8x128 : Shape := ⟨5, ![4, 2048, 1, 8, 128]⟩
abbrev S4x1x2048x8x128 : Shape := ⟨5, ![4, 1, 2048, 8, 128]⟩
abbrev S4x1x2176x8x128 : Shape := ⟨5, ![4, 1, 2176, 8, 128]⟩
abbrev S32 : Shape := ⟨1, ![32]⟩
abbrev S32x1 : Shape := ⟨2, ![32, 1]⟩
abbrev S192 : Shape := ⟨1, ![192]⟩
abbrev S1x192 : Shape := ⟨2, ![1, 192]⟩
abbrev S32x192 : Shape := ⟨2, ![32, 192]⟩
abbrev S32x192x1 : Shape := ⟨3, ![32, 192, 1]⟩
abbrev S4x1x32x192x8x128 : Shape := ⟨6, ![4, 1, 32, 192, 8, 128]⟩
abbrev S4x1x32x64x8x128 : Shape := ⟨6, ![4, 1, 32, 64, 8, 128]⟩
abbrev S4x1x32x8x64x192 : Shape := ⟨6, ![4, 1, 32, 8, 64, 192]⟩
abbrev S64 : Shape := ⟨1, ![64]⟩
abbrev S64x1 : Shape := ⟨2, ![64, 1]⟩
abbrev S64x192 : Shape := ⟨2, ![64, 192]⟩
abbrev S1x64x192 : Shape := ⟨3, ![1, 64, 192]⟩
abbrev S32x1x192 : Shape := ⟨3, ![32, 1, 192]⟩
abbrev S32x64x192 : Shape := ⟨3, ![32, 64, 192]⟩
abbrev S8x1x1 : Shape := ⟨3, ![8, 1, 1]⟩
abbrev S8x64x192 : Shape := ⟨3, ![8, 64, 192]⟩
abbrev S1x1x32x1x64x192 : Shape := ⟨6, ![1, 1, 32, 1, 64, 192]⟩
abbrev S1x1x1x8x64x192 : Shape := ⟨6, ![1, 1, 1, 8, 64, 192]⟩
abbrev S4x1x32x8x64 : Shape := ⟨5, ![4, 1, 32, 8, 64]⟩
abbrev S4x1x32x8x64x1 : Shape := ⟨6, ![4, 1, 32, 8, 64, 1]⟩
abbrev S4x1x32x8x128x64 : Shape := ⟨6, ![4, 1, 32, 8, 128, 64]⟩
abbrev S4x1x32x64x8 : Shape := ⟨5, ![4, 1, 32, 64, 8]⟩
abbrev S4x1x2048x8 : Shape := ⟨4, ![4, 1, 2048, 8]⟩
abbrev S4x2048x1x8 : Shape := ⟨4, ![4, 2048, 1, 8]⟩
abbrev S4x2048x8 : Shape := ⟨3, ![4, 2048, 8]⟩
abbrev S4x2048x1024 : Shape := ⟨3, ![4, 2048, 1024]⟩
abbrev S4x2048x128 : Shape := ⟨3, ![4, 2048, 128]⟩

abbrev nBuf : Space → Nat
  | .hbm => 184
  | .vmem => 0
  | .smem => 0
  | _ => 0

abbrev hbmTy0_0 (i : Nat) : BufTy := match i % 128 with
  | 0 => ⟨S8192x3072, .bf16⟩
  | 1 => ⟨S8192x3072, .f32⟩
  | 2 => ⟨S8192x1024, .f32⟩
  | 3 => ⟨S8192x1024, .f32⟩
  | 4 => ⟨S8192x1024, .f32⟩
  | 5 => ⟨S4x2048x8x128, .f32⟩
  | 6 => ⟨S4x2048x8x128, .f32⟩
  | 7 => ⟨S4x2048x8x128, .f32⟩
  | 8 => ⟨S8, .i32⟩
  | 9 => ⟨S_, .f32⟩
  | 10 => ⟨S8, .f32⟩
  | 11 => ⟨S_, .i32⟩
  | 12 => ⟨S8, .i32⟩
  | 13 => ⟨S8, .i1⟩
  | 14 => ⟨S_, .f32⟩
  | 15 => ⟨S8, .f32⟩
  | 16 => ⟨S8, .f32⟩
  | 17 => ⟨S_, .i32⟩
  | 18 => ⟨S8, .i32⟩
  | 19 => ⟨S8, .i1⟩
  | 20 => ⟨S_, .f32⟩
  | 21 => ⟨S8, .f32⟩
  | 22 => ⟨S8, .f32⟩
  | 23 => ⟨S_, .i32⟩
  | 24 => ⟨S8, .i32⟩
  | 25 => ⟨S8, .i1⟩
  | 26 => ⟨S_, .f32⟩
  | 27 => ⟨S8, .f32⟩
  | 28 => ⟨S8, .f32⟩
  | 29 => ⟨S_, .i32⟩
  | 30 => ⟨S8, .i32⟩
  | 31 => ⟨S8, .i1⟩
  | 32 => ⟨S_, .f32⟩
  | 33 => ⟨S8, .f32⟩
  | 34 => ⟨S8, .f32⟩
  | 35 => ⟨S_, .i32⟩
  | 36 => ⟨S8, .i32⟩
  | 37 => ⟨S8, .i1⟩
  | 38 => ⟨S_, .f32⟩
  | 39 => ⟨S8, .f32⟩
  | 40 => ⟨S8, .f32⟩
  | 41 => ⟨S_, .i32⟩
  | 42 => ⟨S8, .i32⟩
  | 43 => ⟨S8, .i1⟩
  | 44 => ⟨S_, .f32⟩
  | 45 => ⟨S8, .f32⟩
  | 46 => ⟨S8, .f32⟩
  | 47 => ⟨S_, .i32⟩
  | 48 => ⟨S8, .i32⟩
  | 49 => ⟨S8, .i1⟩
  | 50 => ⟨S_, .f32⟩
  | 51 => ⟨S8, .f32⟩
  | 52 => ⟨S8, .f32⟩
  | 53 => ⟨S_, .i32⟩
  | 54 => ⟨S8, .i32⟩
  | 55 => ⟨S8, .i1⟩
  | 56 => ⟨S_, .f32⟩
  | 57 => ⟨S8, .f32⟩
  | 58 => ⟨S8, .f32⟩
  | 59 => ⟨S4x2048x1x8x128, .f32⟩
  | 60 => ⟨S4x1x2048x8x128, .f32⟩
  | 61 => ⟨S_, .i32⟩
  | 62 => ⟨S_, .f32⟩
  | 63 => ⟨S4x1x2048x8x128, .f32⟩
  | 64 => ⟨S4x2048x1x8x128, .f32⟩
  | 65 => ⟨S4x1x2048x8x128, .f32⟩
  | 66 => ⟨S_, .i32⟩
  | 67 => ⟨S_, .f32⟩
  | 68 => ⟨S4x1x2176x8x128, .f32⟩
  | 69 => ⟨S4x2048x1x8x128, .f32⟩
  | 70 => ⟨S4x1x2048x8x128, .f32⟩
  | 71 => ⟨S_, .i32⟩
  | 72 => ⟨S_, .f32⟩
  | 73 => ⟨S4x1x2176x8x128, .f32⟩
  | 74 => ⟨S32, .i32⟩
  | 75 => ⟨S32x1, .i32⟩
  | 76 => ⟨S_, .i32⟩
  | 77 => ⟨S32x1, .i32⟩
  | 78 => ⟨S32x1, .i32⟩
  | 79 => ⟨S192, .i32⟩
  | 80 => ⟨S1x192, .i32⟩
  | 81 => ⟨S32x192, .i32⟩
  | 82 => ⟨S32x192, .i32⟩
  | 83 => ⟨S32x192, .i32⟩
  | 84 => ⟨S_, .i32⟩
  | 85 => ⟨S32x192, .i32⟩
  | 86 => ⟨S32x192, .i1⟩
  | 87 => ⟨S_, .i32⟩
  | 88 => ⟨S32x192, .i32⟩
  | 89 => ⟨S32x192, .i32⟩
  | 90 => ⟨S32x192, .i32⟩
  | 91 => ⟨S32x192x1, .i32⟩
  | 92 => ⟨S4x1x32x192x8x128, .f32⟩
  | 93 => ⟨S_, .i32⟩
  | 94 => ⟨S32x192, .i32⟩
  | 95 => ⟨S32x192, .i1⟩
  | 96 => ⟨S_, .i32⟩
  | 97 => ⟨S32x192, .i32⟩
  | 98 => ⟨S32x192, .i32⟩
  | 99 => ⟨S32x192, .i32⟩
  | 100 => ⟨S32x192x1, .i32⟩
  | 101 => ⟨S4x1x32x192x8x128, .f32⟩
  | 102 => ⟨S4x1x32x64x8x128, .f32⟩
  | 103 => ⟨S4x1x32x8x64x192, .f32⟩
  | 104 => ⟨S_, .f32⟩
  | 105 => ⟨S4x1x32x8x64x192, .f32⟩
  | 106 => ⟨S4x1x32x8x64x192, .f32⟩
  | 107 => ⟨S192, .i32⟩
  | 108 => ⟨S1x192, .i32⟩
  | 109 => ⟨S_, .i32⟩
  | 110 => ⟨S1x192, .i32⟩
  | 111 => ⟨S1x192, .i32⟩
  | 112 => ⟨S64, .i32⟩
  | 113 => ⟨S64x1, .i32⟩
  | 114 => ⟨S64x192, .i32⟩
  | 115 => ⟨S64x192, .i32⟩
  | 116 => ⟨S64x192, .i32⟩
  | 117 => ⟨S_, .i32⟩
  | 118 => ⟨S32x192, .i32⟩
  | 119 => ⟨S32x192, .i32⟩
  | 120 => ⟨S64x192, .i32⟩
  | 121 => ⟨S_, .i32⟩
  | 122 => ⟨S64x192, .i32⟩
  | 123 => ⟨S64x192, .i1⟩
  | 124 => ⟨S1x64x192, .i1⟩
  | 125 => ⟨S_, .i32⟩
  | 126 => ⟨S32x192, .i32⟩
  | 127 => ⟨S32x192, .i1⟩
  | _ => ⟨S8192x3072, .bf16⟩

abbrev hbmTy0_1 (i : Nat) : BufTy := match i % 128 with
  | 0 => ⟨S_, .i32⟩
  | 1 => ⟨S32x192, .i32⟩
  | 2 => ⟨S32x192, .i1⟩
  | 3 => ⟨S32x192, .i1⟩
  | 4 => ⟨S32x1x192, .i1⟩
  | 5 => ⟨S32x64x192, .i1⟩
  | 6 => ⟨S32x64x192, .i1⟩
  | 7 => ⟨S32x64x192, .i1⟩
  | 8 => ⟨S8x1x1, .f32⟩
  | 9 => ⟨S8x1x1, .f32⟩
  | 10 => ⟨S64x192, .i32⟩
  | 11 => ⟨S_, .i32⟩
  | 12 => ⟨S64x192, .i32⟩
  | 13 => ⟨S64x192, .i32⟩
  | 14 => ⟨S64x192, .f32⟩
  | 15 => ⟨S1x64x192, .f32⟩
  | 16 => ⟨S8x64x192, .f32⟩
  | 17 => ⟨S8x64x192, .f32⟩
  | 18 => ⟨S8x64x192, .f32⟩
  | 19 => ⟨S1x1x32x1x64x192, .i1⟩
  | 20 => ⟨S1x1x1x8x64x192, .f32⟩
  | 21 => ⟨S4x1x32x8x64x192, .f32⟩
  | 22 => ⟨S4x1x32x8x64x192, .f32⟩
  | 23 => ⟨S_, .f32⟩
  | 24 => ⟨S_, .f32⟩
  | 25 => ⟨S4x1x32x8x64x192, .i1⟩
  | 26 => ⟨S4x1x32x8x64x192, .f32⟩
  | 27 => ⟨S4x1x32x8x64x192, .f32⟩
  | 28 => ⟨S_, .f32⟩
  | 29 => ⟨S4x1x32x8x64, .f32⟩
  | 30 => ⟨S4x1x32x8x64x1, .f32⟩
  | 31 => ⟨S4x1x32x8x64x192, .f32⟩
  | 32 => ⟨S4x1x32x8x64x192, .f32⟩
  | 33 => ⟨S4x1x32x8x64x192, .f32⟩
  | 34 => ⟨S_, .f32⟩
  | 35 => ⟨S4x1x32x8x64, .f32⟩
  | 36 => ⟨S4x1x32x8x64x1, .f32⟩
  | 37 => ⟨S4x1x32x8x64x192, .f32⟩
  | 38 => ⟨S4x1x32x8x64x192, .f32⟩
  | 39 => ⟨S4x1x32x8x128x64, .f32⟩
  | 40 => ⟨S4x1x32x64x8x128, .f32⟩
  | 41 => ⟨S4x1x32x8x64x1, .f32⟩
  | 42 => ⟨S4x1x32x8x64x1, .f32⟩
  | 43 => ⟨S4x1x32x8x64, .f32⟩
  | 44 => ⟨S4x1x2048x8x128, .f32⟩
  | 45 => ⟨S4x2048x1x8x128, .f32⟩
  | 46 => ⟨S4x2048x8x128, .f32⟩
  | 47 => ⟨S4x1x32x64x8, .f32⟩
  | 48 => ⟨S4x1x2048x8, .f32⟩
  | 49 => ⟨S4x2048x1x8, .f32⟩
  | 50 => ⟨S4x2048x8, .f32⟩
  | 51 => ⟨S4x2048x1024, .f32⟩
  | 52 => ⟨S4x2048x1024, .bf16⟩
  | 53 => ⟨S_, .i32⟩
  | 54 => ⟨S_, .f32⟩
  | 55 => ⟨S4x2048x128, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_call0_v0 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_call1_v0 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_call2_v0 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_call3_v0 : Ref sig .tc := ⟨.hbm, 33, rfl⟩
abbrev main_v20 : Ref sig .tc := ⟨.hbm, 34, rfl⟩
abbrev main_c_7 : Ref sig .tc := ⟨.hbm, 35, rfl⟩
abbrev main_v21 : Ref sig .tc := ⟨.hbm, 36, rfl⟩
abbrev main_v22 : Ref sig .tc := ⟨.hbm, 37, rfl⟩
abbrev main_cst_8 : Ref sig .tc := ⟨.hbm, 38, rfl⟩
abbrev main_call4_v0 : Ref sig .tc := ⟨.hbm, 39, rfl⟩
abbrev main_v23 : Ref sig .tc := ⟨.hbm, 40, rfl⟩
abbrev main_c_9 : Ref sig .tc := ⟨.hbm, 41, rfl⟩
abbrev main_v24 : Ref sig .tc := ⟨.hbm, 42, rfl⟩
abbrev main_v25 : Ref sig .tc := ⟨.hbm, 43, rfl⟩
abbrev main_cst_10 : Ref sig .tc := ⟨.hbm, 44, rfl⟩
abbrev main_call5_v0 : Ref sig .tc := ⟨.hbm, 45, rfl⟩
abbrev main_v26 : Ref sig .tc := ⟨.hbm, 46, rfl⟩
abbrev main_c_11 : Ref sig .tc := ⟨.hbm, 47, rfl⟩
abbrev main_v27 : Ref sig .tc := ⟨.hbm, 48, rfl⟩
abbrev main_v28 : Ref sig .tc := ⟨.hbm, 49, rfl⟩
abbrev main_cst_12 : Ref sig .tc := ⟨.hbm, 50, rfl⟩
abbrev main_call6_v0 : Ref sig .tc := ⟨.hbm, 51, rfl⟩
abbrev main_v29 : Ref sig .tc := ⟨.hbm, 52, rfl⟩
abbrev main_c_13 : Ref sig .tc := ⟨.hbm, 53, rfl⟩
abbrev main_v30 : Ref sig .tc := ⟨.hbm, 54, rfl⟩
abbrev main_v31 : Ref sig .tc := ⟨.hbm, 55, rfl⟩
abbrev main_cst_14 : Ref sig .tc := ⟨.hbm, 56, rfl⟩
abbrev main_call7_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_15 : Ref sig .tc := ⟨.hbm, 61, rfl⟩
abbrev main_call8_v0 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_16 : Ref sig .tc := ⟨.hbm, 66, rfl⟩
abbrev main_call9_v0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_c_17 : Ref sig .tc := ⟨.hbm, 71, rfl⟩
abbrev main_call10_v0 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_18 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_19 : Ref sig .tc := ⟨.hbm, 84, rfl⟩
abbrev main_v51 : Ref sig .tc := ⟨.hbm, 85, rfl⟩
abbrev main_v52 : Ref sig .tc := ⟨.hbm, 86, rfl⟩
abbrev main_c_20 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_c_21 : Ref sig .tc := ⟨.hbm, 93, rfl⟩
abbrev main_v58 : Ref sig .tc := ⟨.hbm, 94, rfl⟩
abbrev main_v59 : Ref sig .tc := ⟨.hbm, 95, rfl⟩
abbrev main_c_22 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_23 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_c_24 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_c_25 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_c_26 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_c_27 : Ref sig .tc := ⟨.hbm, 125, rfl⟩
abbrev main_v84 : Ref sig .tc := ⟨.hbm, 126, rfl⟩
abbrev main_v85 : Ref sig .tc := ⟨.hbm, 127, rfl⟩
abbrev main_c_28 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_c_29 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_30 : Ref sig .tc := ⟨.hbm, 151, rfl⟩
abbrev main_call11_v0 : Ref sig .tc := ⟨.hbm, 152, rfl⟩
abbrev main_call11_v1 : Ref sig .tc := ⟨.hbm, 153, rfl⟩
abbrev main_call11_v2 : Ref sig .tc := ⟨.hbm, 154, rfl⟩
abbrev main_v107 : Ref sig .tc := ⟨.hbm, 155, rfl⟩
abbrev main_cst_31 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_32 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_c_33 : Ref sig .tc := ⟨.hbm, 181, rfl⟩
abbrev main_call12_v0 : Ref sig .tc := ⟨.hbm, 182, rfl⟩
abbrev main_v131 : Ref sig .tc := ⟨.hbm, 183, rfl⟩

abbrev nD : Nat := 1
abbrev τ : Topo := Topo.v7x

variable {F : FTy → Type} [FloatOps F]
-- ==== Gates.lean ====
abbrev S4x2048x4096 : Shape := ⟨3, ![4, 2048, 4096]⟩
abbrev S1x4096x19456 : Shape := ⟨3, ![1, 4096, 19456]⟩
abbrev S1x8192 : Shape := ⟨2, ![1, 8192]⟩
abbrev S8192x4096 : Shape := ⟨2, ![8192, 4096]⟩
abbrev S4096x19456 : Shape := ⟨2, ![4096, 19456]⟩
abbrev S8192 : Shape := ⟨1, ![8192]⟩
abbrev S8192x8192 : Shape := ⟨2, ![8192, 8192]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x19456, .f32⟩
  | .hbm, ⟨2, _⟩ => ⟨S1x8192, .f32⟩
  | .hbm, ⟨3, _⟩ => ⟨S8192x4096, .bf16⟩
  | .hbm, ⟨4, _⟩ => ⟨S4096x19456, .f32⟩
  | .hbm, ⟨5, _⟩ => ⟨S4096x19456, .bf16⟩
  | .hbm, ⟨6, _⟩ => ⟨S8192, .f32⟩
  | .hbm, ⟨7, _⟩ => ⟨S1x8192, .f32⟩
  | .hbm, ⟨8, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c9216_i32 : BitVec 32 := 9216#32
  let v1 : BitVec 32 := Scalar.addi v0 c9216_i32
  let c2048_i32 : BitVec 32 := 2048#32
  let v2 : BitVec 32 := Scalar.addi v1 c2048_i32
  let c1024_i32_0 : BitVec 32 := 1024#32
  let v3 : BitVec 32 := Scalar.divsi v2 c1024_i32_0
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32_0 c0_i32_2
  let v10 : BitVec 32 := Scalar.extui v9
  let c0_i32_3 : BitVec 32 := 0#32
  let v11 : BitVec 1 := Scalar.cmpi .slt c1024_i32_0 c0_i32_3
  let v12 : BitVec 32 := Scalar.extui v11
  let v13 : BitVec 32 := Scalar.subi v10 v12
  let v14 : BitVec 1 := Scalar.cmpi .ne v8 v13
  let v15 : BitVec 32 := Scalar.remsi v2 c1024_i32_0
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  ![c0_i32_5.toNat, v19.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesRefIdeal.lean ====
abbrev S4x2048x4096 : Shape := ⟨3, ![4, 2048, 4096]⟩
abbrev S1x4096x19456 : Shape := ⟨3, ![1, 4096, 19456]⟩
abbrev S1x8192 : Shape := ⟨2, ![1, 8192]⟩
abbrev S4096x19456 : Shape := ⟨2, ![4096, 19456]⟩
abbrev S4x2048x19456 : Shape := ⟨3, ![4, 2048, 19456]⟩
abbrev S4x2048x3072 : Shape := ⟨3, ![4, 2048, 3072]⟩
abbrev S4x2048x2048 : Shape := ⟨3, ![4, 2048, 2048]⟩
abbrev S4x2048x8192 : Shape := ⟨3, ![4, 2048, 8192]⟩
abbrev S8192 : Shape := ⟨1, ![8192]⟩
abbrev S1x1x8192 : Shape := ⟨3, ![1, 1, 8192]⟩
abbrev S_ : Shape := ⟨0, ![]⟩
abbrev S8192x8192 : Shape := ⟨2, ![8192, 8192]⟩

abbrev nBuf : Space → Nat
  | .hbm => 25
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x19456, .f32⟩
  | .hbm, ⟨2, _⟩ => ⟨S1x8192, .f32⟩
  | .hbm, ⟨3, _⟩ => ⟨S4096x19456, .f32⟩
  | .hbm, ⟨4, _⟩ => ⟨S4x2048x4096, .f32⟩
  | .hbm, ⟨5, _⟩ => ⟨S4x2048x19456, .f32⟩
  | .hbm, ⟨6, _⟩ => ⟨S4x2048x3072, .f32⟩
  | .hbm, ⟨7, _⟩ => ⟨S4x2048x3072, .f32⟩
  | .hbm, ⟨8, _⟩ => ⟨S4x2048x3072, .f32⟩
  | .hbm, ⟨9, _⟩ => ⟨S4x2048x2048, .f32⟩
  | .hbm, ⟨10, _⟩ => ⟨S4x2048x8192, .f32⟩
  | .hbm, ⟨11, _⟩ => ⟨S8192, .f32⟩
  | .hbm, ⟨12, _⟩ => ⟨S1x1x8192, .f32⟩
  | .hbm, ⟨13, _⟩ => ⟨S4x2048x8192, .f32⟩
  | .hbm, ⟨14, _⟩ => ⟨S4x2048x8192, .f32⟩
  | .hbm, ⟨15, _⟩ => ⟨S4x2048x8192, .f32⟩
  | .hbm, ⟨16, _⟩ => ⟨S4x2048x8192, .f32⟩
  | .hbm, ⟨17, _⟩ => ⟨S_, .f32⟩
  | .hbm, ⟨18, _⟩ => ⟨S4x2048x8192, .f32⟩
  | .hbm, ⟨19, _⟩ => ⟨S4x2048x8192, .f32⟩
  | .hbm, ⟨20, _⟩ => ⟨S_, .f32⟩
  | .hbm, ⟨21, _⟩ => ⟨S4x2048x8192, .f32⟩
  | .hbm, ⟨22, _⟩ => ⟨S4x2048x8192, .f32⟩
  | .hbm, ⟨23, _⟩ => ⟨S4x2048x8192, .bf16⟩
  | .hbm, ⟨24, _⟩ => ⟨S8192x8192, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Qkv.lean ====
abbrev S4x2048x4096 : Shape := ⟨3, ![4, 2048, 4096]⟩
abbrev S1x4096x19456 : Shape := ⟨3, ![1, 4096, 19456]⟩
abbrev S8192x4096 : Shape := ⟨2, ![8192, 4096]⟩
abbrev S4096x19456 : Shape := ⟨2, ![4096, 19456]⟩
abbrev S8192x3072 : Shape := ⟨2, ![8192, 3072]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x19456, .f32⟩
  | .hbm, ⟨2, _⟩ => ⟨S8192x4096, .bf16⟩
  | .hbm, ⟨3, _⟩ => ⟨S4096x19456, .f32⟩
  | .hbm, ⟨4, _⟩ => ⟨S4096x19456, .bf16⟩
  | .hbm, ⟨5, _⟩ => ⟨S8192x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3072_i32 : BitVec 32 := 3072#32
  let v18 : BitVec 32 := Scalar.muli v17 c3072_i32
  let c0_i32_5 : BitVec 32 := 0#32
  let v19 : BitVec 32 := Scalar.addi v18 c0_i32_5
  let c1024_i32_6 : BitVec 32 := 1024#32
  let c0_i32_7 : BitVec 32 := 0#32
  let v20 : BitVec 1 := Scalar.cmpi .eq c1024_i32_6 c0_i32_7
  let c1_i32_8 : BitVec 32 := 1#32
  let v21 : BitVec 32 := Scalar.select v20 c1_i32_8 c1024_i32_6
  let v22 : BitVec 32 := Scalar.remsi v0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c1024_i32_12 : BitVec 32 := 1024#32
  let v31 : BitVec 32 := Scalar.divsi v30 c1024_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c1024_i32_12 c0_i32_15
  let v38 : BitVec 32 := Scalar.extui v37
  let c0_i32_16 : BitVec 32 := 0#32
  let v39 : BitVec 1 := Scalar.cmpi .slt c1024_i32_12 c0_i32_16
  let v40 : BitVec 32 := Scalar.extui v39
  let v41 : BitVec 32 := Scalar.subi v38 v40
  let v42 : BitVec 1 := Scalar.cmpi .ne v36 v41
  let v43 : BitVec 32 := Scalar.remsi v30 c1024_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c0_i32_19 : BitVec 32 := 0#32
  let c0_i32_20 : BitVec 32 := 0#32
  ![c0_i32_19.toNat, v47.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvRefIdeal.lean ====
abbrev S4x2048x4096 : Shape := ⟨3, ![4, 2048, 4096]⟩
abbrev S1x4096x19456 : Shape := ⟨3, ![1, 4096, 19456]⟩
abbrev S4096x19456 : Shape := ⟨2, ![4096, 19456]⟩
abbrev S4x2048x19456 : Shape := ⟨3, ![4, 2048, 19456]⟩
abbrev S4x2048x3072 : Shape := ⟨3, ![4, 2048, 3072]⟩
abbrev S4x2048x2048 : Shape := ⟨3, ![4, 2048, 2048]⟩
abbrev S4x2048x8192 : Shape := ⟨3, ![4, 2048, 8192]⟩
abbrev S8192x3x1024 : Shape := ⟨3, ![8192, 3, 1024]⟩
abbrev S8192x1x1024 : Shape := ⟨3, ![8192, 1, 1024]⟩
abbrev S8192x1024 : Shape := ⟨2, ![8192, 1024]⟩
abbrev S8192x3072 : Shape := ⟨2, ![8192, 3072]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .bf16⟩
  | .hbm, ⟨1, _⟩ => ⟨S1x4096x19456, .f32⟩
  | .hbm, ⟨2, _⟩ => ⟨S4096x19456, .f32⟩
  | .hbm, ⟨3, _⟩ => ⟨S4x2048x4096, .f32⟩
  | .hbm, ⟨4, _⟩ => ⟨S4x2048x19456, .f32⟩
  | .hbm, ⟨5, _⟩ => ⟨S4x2048x3072, .f32⟩
  | .hbm, ⟨6, _⟩ => ⟨S4x2048x3072, .f32⟩
  | .hbm, ⟨7, _⟩ => ⟨S4x2048x3072, .f32⟩
  | .hbm, ⟨8, _⟩ => ⟨S4x2048x2048, .f32⟩
  | .hbm, ⟨9, _⟩ => ⟨S4x2048x8192, .f32⟩
  | .hbm, ⟨10, _⟩ => ⟨S8192x3x1024, .f32⟩
  | .hbm, ⟨11, _⟩ => ⟨S8192x1x1024, .f32⟩
  | .hbm, ⟨12, _⟩ => ⟨S8192x1024, .f32⟩
  | .hbm, ⟨13, _⟩ => ⟨S8192x3x1024, .f32⟩
  | .hbm, ⟨14, _⟩ => ⟨S8192x1x1024, .f32⟩
  | .hbm, ⟨15, _⟩ => ⟨S8192x1024, .f32⟩
  | .hbm, ⟨16, _⟩ => ⟨S8192x3x1024, .f32⟩
  | .hbm, ⟨17, _⟩ => ⟨S8192x1x1024, .f32⟩
  | .hbm, ⟨18, _⟩ => ⟨S8192x1024, .f32⟩
  | .hbm, ⟨19, _⟩ => ⟨S8192x3072, .f32⟩
  | .hbm, ⟨20, _⟩ => ⟨S8192x3072, .bf16⟩
  | _, _ => ⟨S4x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== Merge.lean ====
abbrev S8192x1024 : Shape := ⟨2, ![8192, 1024]⟩
abbrev S8192x2048 : Shape := ⟨2, ![8192, 2048]⟩
abbrev S1x1024x4096 : Shape := ⟨3, ![1, 1024, 4096]⟩
abbrev S1x2048x4096 : Shape := ⟨3, ![1, 2048, 4096]⟩
abbrev S8192x8192 : Shape := ⟨2, ![8192, 8192]⟩
abbrev S1024x4096 : Shape := ⟨2, ![1024, 4096]⟩
abbrev S2048x4096 : Shape := ⟨2, ![2048, 4096]⟩
abbrev S8192x4096 : Shape := ⟨2, ![8192, 4096]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x1024x4096, .f32⟩
  | .hbm, ⟨3, _⟩ => ⟨S1x2048x4096, .f32⟩
  | .hbm, ⟨4, _⟩ => ⟨S8192x8192, .bf16⟩
  | .hbm, ⟨5, _⟩ => ⟨S1024x4096, .f32⟩
  | .hbm, ⟨6, _⟩ => ⟨S1024x4096, .bf16⟩
  | .hbm, ⟨7, _⟩ => ⟨S2048x4096, .f32⟩
  | .hbm, ⟨8, _⟩ => ⟨S2048x4096, .bf16⟩
  | .hbm, ⟨9, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x1024 : Shape := ⟨2, ![8192, 1024]⟩
abbrev S8192x2048 : Shape := ⟨2, ![8192, 2048]⟩
abbrev S1x1024x4096 : Shape := ⟨3, ![1, 1024, 4096]⟩
abbrev S1x2048x4096 : Shape := ⟨3, ![1, 2048, 4096]⟩
abbrev S8192x8192 : Shape := ⟨2, ![8192, 8192]⟩
abbrev S1024x4096 : Shape := ⟨2, ![1024, 4096]⟩
abbrev S8192x4096 : Shape := ⟨2, ![8192, 4096]⟩
abbrev S2048x4096 : Shape := ⟨2, ![2048, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1x1024x4096, .f32⟩
  | .hbm, ⟨3, _⟩ => ⟨S1x2048x4096, .f32⟩
  | .hbm, ⟨4, _⟩ => ⟨S8192x8192, .bf16⟩
  | .hbm, ⟨5, _⟩ => ⟨S8192x1024, .f32⟩
  | .hbm, ⟨6, _⟩ => ⟨S1024x4096, .f32⟩
  | .hbm, ⟨7, _⟩ => ⟨S8192x4096, .f32⟩
  | .hbm, ⟨8, _⟩ => ⟨S8192x2048, .f32⟩
  | .hbm, ⟨9, _⟩ => ⟨S2048x4096, .f32⟩
  | .hbm, ⟨10, _⟩ => ⟨S8192x4096, .f32⟩
  | .hbm, ⟨11, _⟩ => ⟨S8192x8192, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Out.lean ====
abbrev S8192x4096 : Shape := ⟨2, ![8192, 4096]⟩
abbrev S16384x4096 : Shape := ⟨2, ![16384, 4096]⟩
abbrev S1x4096x4096 : Shape := ⟨3, ![1, 4096, 4096]⟩
abbrev S4x2048x4096 : Shape := ⟨3, ![4, 2048, 4096]⟩
abbrev S4x4096x4096 : Shape := ⟨3, ![4, 4096, 4096]⟩
abbrev S4096x4096 : Shape := ⟨2, ![4096, 4096]⟩
abbrev S24576x4096 : Shape := ⟨2, ![24576, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 10
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S16384x4096, .bf16⟩
  | .hbm, ⟨2, _⟩ => ⟨S1x4096x4096, .f32⟩
  | .hbm, ⟨3, _⟩ => ⟨S4x2048x4096, .f32⟩
  | .hbm, ⟨4, _⟩ => ⟨S4x4096x4096, .f32⟩
  | .hbm, ⟨5, _⟩ => ⟨S4096x4096, .f32⟩
  | .hbm, ⟨6, _⟩ => ⟨S4096x4096, .bf16⟩
  | .hbm, ⟨7, _⟩ => ⟨S8192x4096, .f32⟩
  | .hbm, ⟨8, _⟩ => ⟨S16384x4096, .f32⟩
  | .hbm, ⟨9, _⟩ => ⟨S24576x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 48], ![false, false]⟩

def k0_cond1 (i : grid0.Coords) : BitVec 1 :=
  let arg1 : BitVec 32 := BitVec.ofNat 32 (i 1).val
  let c16_i32 : BitVec 32 := 16#32
  let v0 : BitVec 1 := Scalar.cmpi .slt arg1 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c16_i32_0 : BitVec 32 := 16#32
  let v3 : BitVec 1 := Scalar.cmpi .sge arg1 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  ![v1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S8192x4096 : Shape := ⟨2, ![8192, 4096]⟩
abbrev S16384x4096 : Shape := ⟨2, ![16384, 4096]⟩
abbrev S1x4096x4096 : Shape := ⟨3, ![1, 4096, 4096]⟩
abbrev S4x2048x4096 : Shape := ⟨3, ![4, 2048, 4096]⟩
abbrev S4x4096x4096 : Shape := ⟨3, ![4, 4096, 4096]⟩
abbrev S4096x4096 : Shape := ⟨2, ![4096, 4096]⟩
abbrev S24576x4096 : Shape := ⟨2, ![24576, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S16384x4096, .bf16⟩
  | .hbm, ⟨2, _⟩ => ⟨S1x4096x4096, .f32⟩
  | .hbm, ⟨3, _⟩ => ⟨S4x2048x4096, .f32⟩
  | .hbm, ⟨4, _⟩ => ⟨S4x4096x4096, .f32⟩
  | .hbm, ⟨5, _⟩ => ⟨S8192x4096, .f32⟩
  | .hbm, ⟨6, _⟩ => ⟨S8192x4096, .f32⟩
  | .hbm, ⟨7, _⟩ => ⟨S4096x4096, .f32⟩
  | .hbm, ⟨8, _⟩ => ⟨S8192x4096, .f32⟩
  | .hbm, ⟨9, _⟩ => ⟨S8192x4096, .f32⟩
  | .hbm, ⟨10, _⟩ => ⟨S16384x4096, .f32⟩
  | .hbm, ⟨11, _⟩ => ⟨S16384x4096, .f32⟩
  | .hbm, ⟨12, _⟩ => ⟨S4096x4096, .f32⟩
  | .hbm, ⟨13, _⟩ => ⟨S16384x4096, .f32⟩
  | .hbm, ⟨14, _⟩ => ⟨S16384x4096, .f32⟩
  | .hbm, ⟨15, _⟩ => ⟨S24576x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== QkvB.lean ====
abbrev S4x4x512x4096 : Shape := ⟨4, ![4, 4, 512, 4096]⟩
abbrev S1x4096x19456 : Shape := ⟨3, ![1, 4096, 19456]⟩
abbrev S8192x4096 : Shape := ⟨2, ![8192, 4096]⟩
abbrev S4096x19456 : Shape := ⟨2, ![4096, 19456]⟩
abbrev S8192x3072 : Shape := ⟨2, ![8192, 3072]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4x512x4096, .bf16⟩
  | .hbm, ⟨1, _⟩ => ⟨S1x4096x19456, .f32⟩
  | .hbm, ⟨2, _⟩ => ⟨S8192x4096, .bf16⟩
  | .hbm, ⟨3, _⟩ => ⟨S4096x19456, .f32⟩
  | .hbm, ⟨4, _⟩ => ⟨S4096x19456, .bf16⟩
  | .hbm, ⟨5, _⟩ => ⟨S8192x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4x4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3072_i32 : BitVec 32 := 3072#32
  let v18 : BitVec 32 := Scalar.muli v17 c3072_i32
  let c1024_i32_5 : BitVec 32 := 1024#32
  let v19 : BitVec 32 := Scalar.addi v18 c1024_i32_5
  let c1024_i32_6 : BitVec 32 := 1024#32
  let c0_i32_7 : BitVec 32 := 0#32
  let v20 : BitVec 1 := Scalar.cmpi .eq c1024_i32_6 c0_i32_7
  let c1_i32_8 : BitVec 32 := 1#32
  let v21 : BitVec 32 := Scalar.select v20 c1_i32_8 c1024_i32_6
  let v22 : BitVec 32 := Scalar.remsi v0 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c1024_i32_12 : BitVec 32 := 1024#32
  let v31 : BitVec 32 := Scalar.divsi v30 c1024_i32_12
  let c0_i32_13 : BitVec 32 := 0#32
  let v32 : BitVec 1 := Scalar.cmpi .sgt v30 c0_i32_13
  let v33 : BitVec 32 := Scalar.extui v32
  let c0_i32_14 : BitVec 32 := 0#32
  let v34 : BitVec 1 := Scalar.cmpi .slt v30 c0_i32_14
  let v35 : BitVec 32 := Scalar.extui v34
  let v36 : BitVec 32 := Scalar.subi v33 v35
  let c0_i32_15 : BitVec 32 := 0#32
  let v37 : BitVec 1 := Scalar.cmpi .sgt c1024_i32_12 c0_i32_15
  let v38 : BitVec 32 := Scalar.extui v37
  let c0_i32_16 : BitVec 32 := 0#32
  let v39 : BitVec 1 := Scalar.cmpi .slt c1024_i32_12 c0_i32_16
  let v40 : BitVec 32 := Scalar.extui v39
  let v41 : BitVec 32 := Scalar.subi v38 v40
  let v42 : BitVec 1 := Scalar.cmpi .ne v36 v41
  let v43 : BitVec 32 := Scalar.remsi v30 c1024_i32_12
  let c0_i32_17 : BitVec 32 := 0#32
  let v44 : BitVec 1 := Scalar.cmpi .ne v43 c0_i32_17
  let v45 : BitVec 1 := Scalar.andi v42 v44
  let c1_i32_18 : BitVec 32 := 1#32
  let v46 : BitVec 32 := Scalar.subi v31 c1_i32_18
  let v47 : BitVec 32 := Scalar.select v45 v46 v31
  let c0_i32_19 : BitVec 32 := 0#32
  let c0_i32_20 : BitVec 32 := 0#32
  ![c0_i32_19.toNat, v47.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvBRefIdeal.lean ====
abbrev S4x4x512x4096 : Shape := ⟨4, ![4, 4, 512, 4096]⟩
abbrev S1x4096x19456 : Shape := ⟨3, ![1, 4096, 19456]⟩
abbrev S4096x19456 : Shape := ⟨2, ![4096, 19456]⟩
abbrev S4x4x512x19456 : Shape := ⟨4, ![4, 4, 512, 19456]⟩
abbrev S4x4x512x3072 : Shape := ⟨4, ![4, 4, 512, 3072]⟩
abbrev S4x4x512x2048 : Shape := ⟨4, ![4, 4, 512, 2048]⟩
abbrev S4x4x512x8192 : Shape := ⟨4, ![4, 4, 512, 8192]⟩
abbrev S8192x3x1024 : Shape := ⟨3, ![8192, 3, 1024]⟩
abbrev S8192x1x1024 : Shape := ⟨3, ![8192, 1, 1024]⟩
abbrev S8192x1024 : Shape := ⟨2, ![8192, 1024]⟩
abbrev S8192x3072 : Shape := ⟨2, ![8192, 3072]⟩

abbrev nBuf : Space → Nat
  | .hbm => 21
  | .vmem => 0
  | .smem => 0
  | _ => 0

abbrev bufTy : (tb : Table) → Fin (tcTables nBuf tb) → BufTy
  | .hbm, ⟨0, _⟩ => ⟨S4x4x512x4096, .bf16⟩
  | .hbm, ⟨1, _⟩ => ⟨S1x4096x19456, .f32⟩
  | .hbm, ⟨2, _⟩ => ⟨S4096x19456, .f32⟩
  | .hbm, ⟨3, _⟩ => ⟨S4x4x512x4096, .f32⟩
  | .hbm, ⟨4, _⟩ => ⟨S4x4x512x19456, .f32⟩
  | .hbm, ⟨5, _⟩ => ⟨S4x4x512x3072, .f32⟩
  | .hbm, ⟨6, _⟩ => ⟨S4x4x512x3072, .f32⟩
  | .hbm, ⟨7, _⟩ => ⟨S4x4x512x3072, .f32⟩
  | .hbm, ⟨8, _⟩ => ⟨S4x4x512x2048, .f32⟩
  | .hbm, ⟨9, _⟩ => ⟨S4x4x512x8192, .f32⟩
  | .hbm, ⟨10, _⟩ => ⟨S8192x3x1024, .f32⟩
  | .hbm, ⟨11, _⟩ => ⟨S8192x1x1024, .f32⟩
  | .hbm, ⟨12, _⟩ => ⟨S8192x1024, .f32⟩
  | .hbm, ⟨13, _⟩ => ⟨S8192x3x1024, .f32⟩
  | .hbm, ⟨14, _⟩ => ⟨S8192x1x1024, .f32⟩
  | .hbm, ⟨15, _⟩ => ⟨S8192x1024, .f32⟩
  | .hbm, ⟨16, _⟩ => ⟨S8192x3x1024, .f32⟩
  | .hbm, ⟨17, _⟩ => ⟨S8192x1x1024, .f32⟩
  | .hbm, ⟨18, _⟩ => ⟨S8192x1024, .f32⟩
  | .hbm, ⟨19, _⟩ => ⟨S8192x3072, .f32⟩
  | .hbm, ⟨20, _⟩ => ⟨S8192x3072, .bf16⟩
  | _, _ => ⟨S4x4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== QkvC.lean ====
abbrev S4x16x128x4096 : Shape := ⟨4, ![4, 16, 128, 4096]⟩
abbrev S1x4096x19456 : Shape := ⟨3, ![1, 4096, 19456]⟩
abbrev S8192x4096 : Shape := ⟨2, ![8192, 4096]⟩
abbrev S4096x19456 : Shape := ⟨2, ![4096, 19456]⟩
abbrev S8192x3072 : Shape := ⟨2, ![8192, 3072]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x16x128x4096, .bf16⟩
  | .hbm, ⟨1, _⟩ => ⟨S1x4096x19456, .f32⟩
  | .hbm, ⟨2, _⟩ => ⟨S8192x4096, .bf16⟩
  | .hbm, ⟨3, _⟩ => ⟨S4096x19456, .f32⟩
  | .hbm, ⟨4, _⟩ => ⟨S4096x19456, .bf16⟩
  | .hbm, ⟨5, _⟩ => ⟨S8192x3072, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4x16x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c1024_i32_0 : BitVec 32 := 1024#32
  let v1 : BitVec 32 := Scalar.divsi v0 c1024_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c1024_i32_0 c0_i32_2
  let v8 : BitVec 32 := Scalar.extui v7
  let c0_i32_3 : BitVec 32 := 0#32
  let v9 : BitVec 1 := Scalar.cmpi .slt c1024_i32_0 c0_i32_3
  let v10 : BitVec 32 := Scalar.extui v9
  let v11 : BitVec 32 := Scalar.subi v8 v10
  let v12 : BitVec 1 := Scalar.cmpi .ne v6 v11
  let v13 : BitVec 32 := Scalar.remsi v0 c1024_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c3072_i32 : BitVec 32 := 3072#32
  let v18 : BitVec 32 := Scalar.muli v17 c3072_i32
  let c2048_i32 : BitVec 32 := 2048#32
  let v19 : BitVec 32 := Scalar.addi v18 c2048_i32
  let c1024_i32_5 : BitVec 32 := 1024#32
  let c0_i32_6 : BitVec 32 := 0#32
  let v20 : BitVec 1 := Scalar.cmpi .eq c1024_i32_5 c0_i32_6
  let c1_i32_7 : BitVec 32 := 1#32
  let v21 : BitVec 32 := Scalar.select v20 c1_i32_7 c1024_i32_5
  let v22 : BitVec 32 := Scalar.remsi v0 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let v30 : BitVec 32 := Scalar.addi v19 v29
  let c1024_i32_11 : BitVec 32 := 1024#32
  let v31 : BitVec 32 := Scalar.divsi v30 c1024_i32_11
  let c0_i32_12 : BitVec 32 := 0#32
  let v32 : BitVec 1 := Scalar.cmpi .sgt v30 c0_i32_12
  let v33 : BitVec 32 := Scalar.extui v32
  let c0_i32_13 : BitVec 32 := 0#32
  let v34 : BitVec 1 := Scalar.cmpi .slt v30 c0_i32_13
  let v35 : BitVec 32 := Scalar.extui v34
  let v36 : BitVec 32 := Scalar.subi v33 v35
  let c0_i32_14 : BitVec 32 := 0#32
  let v37 : BitVec 1 := Scalar.cmpi .sgt c1024_i32_11 c0_i32_14
  let v38 : BitVec 32 := Scalar.extui v37
  let c0_i32_15 : BitVec 32 := 0#32
  let v39 : BitVec 1 := Scalar.cmpi .slt c1024_i32_11 c0_i32_15
  let v40 : BitVec 32 := Scalar.extui v39
  let v41 : BitVec 32 := Scalar.subi v38 v40
  let v42 : BitVec 1 := Scalar.cmpi .ne v36 v41
  let v43 : BitVec 32 := Scalar.remsi v30 c1024_i32_11
  let c0_i32_16 : BitVec 32 := 0#32
  let v44 : BitVec 1 := Scalar.cmpi .ne v43 c0_i32_16
  let v45 : BitVec 1 := Scalar.andi v42 v44
  let c1_i32_17 : BitVec 32 := 1#32
  let v46 : BitVec 32 := Scalar.subi v31 c1_i32_17
  let v47 : BitVec 32 := Scalar.select v45 v46 v31
  let c0_i32_18 : BitVec 32 := 0#32
  let c0_i32_19 : BitVec 32 := 0#32
  ![c0_i32_18.toNat, v47.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QkvCRefIdeal.lean ====
abbrev S4x16x128x4096 : Shape := ⟨4, ![4, 16, 128, 4096]⟩
abbrev S1x4096x19456 : Shape := ⟨3, ![1, 4096, 19456]⟩
abbrev S4096x19456 : Shape := ⟨2, ![4096, 19456]⟩
abbrev S4x16x128x19456 : Shape := ⟨4, ![4, 16, 128, 19456]⟩
abbrev S4x16x128x3072 : Shape := ⟨4, ![4, 16, 128, 3072]⟩
abbrev S4x16x128x2048 : Shape := ⟨4, ![4, 16, 128, 2048]⟩
abbrev S4x16x128x8192 : Shape := ⟨4, ![4, 16, 128, 8192]⟩
abbrev S8192x3x1024 : Shape := ⟨3, ![8192, 3, 1024]⟩
abbrev S8192x1x1024 : Shape := ⟨3, ![8192, 1, 1024]⟩
abbrev S8192x1024 : Shape := ⟨2, ![8192, 1024]⟩
abbrev S8192x3072 : Shape := ⟨2, ![8192, 3072]⟩

abbrev nBuf : Space → Nat
  | .hbm => 21
  | .vmem => 0
  | .smem => 0
  | _ => 0

abbrev bufTy : (tb : Table) → Fin (tcTables nBuf tb) → BufTy
  | .hbm, ⟨0, _⟩ => ⟨S4x16x128x4096, .bf16⟩
  | .hbm, ⟨1, _⟩ => ⟨S1x4096x19456, .f32⟩
  | .hbm, ⟨2, _⟩ => ⟨S4096x19456, .f32⟩
  | .hbm, ⟨3, _⟩ => ⟨S4x16x128x4096, .f32⟩
  | .hbm, ⟨4, _⟩ => ⟨S4x16x128x19456, .f32⟩
  | .hbm, ⟨5, _⟩ => ⟨S4x16x128x3072, .f32⟩
  | .hbm, ⟨6, _⟩ => ⟨S4x16x128x3072, .f32⟩
  | .hbm, ⟨7, _⟩ => ⟨S4x16x128x3072, .f32⟩
  | .hbm, ⟨8, _⟩ => ⟨S4x16x128x2048, .f32⟩
  | .hbm, ⟨9, _⟩ => ⟨S4x16x128x8192, .f32⟩
  | .hbm, ⟨10, _⟩ => ⟨S8192x3x1024, .f32⟩
  | .hbm, ⟨11, _⟩ => ⟨S8192x1x1024, .f32⟩
  | .hbm, ⟨12, _⟩ => ⟨S8192x1024, .f32⟩
  | .hbm, ⟨13, _⟩ => ⟨S8192x3x1024, .f32⟩
  | .hbm, ⟨14, _⟩ => ⟨S8192x1x1024, .f32⟩
  | .hbm, ⟨15, _⟩ => ⟨S8192x1024, .f32⟩
  | .hbm, ⟨16, _⟩ => ⟨S8192x3x1024, .f32⟩
  | .hbm, ⟨17, _⟩ => ⟨S8192x1x1024, .f32⟩
  | .hbm, ⟨18, _⟩ => ⟨S8192x1024, .f32⟩
  | .hbm, ⟨19, _⟩ => ⟨S8192x3072, .f32⟩
  | .hbm, ⟨20, _⟩ => ⟨S8192x3072, .bf16⟩
  | _, _ => ⟨S4x16x128x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== Fourier.lean ====
abbrev S4x4x512x4096 : Shape := ⟨4, ![4, 4, 512, 4096]⟩
abbrev S1x4096x19456 : Shape := ⟨3, ![1, 4096, 19456]⟩
abbrev S8192x4096 : Shape := ⟨2, ![8192, 4096]⟩
abbrev S4096x19456 : Shape := ⟨2, ![4096, 19456]⟩
abbrev S8192x2048 : Shape := ⟨2, ![8192, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x4x512x4096, .bf16⟩
  | .hbm, ⟨1, _⟩ => ⟨S1x4096x19456, .f32⟩
  | .hbm, ⟨2, _⟩ => ⟨S8192x4096, .bf16⟩
  | .hbm, ⟨3, _⟩ => ⟨S4096x19456, .f32⟩
  | .hbm, ⟨4, _⟩ => ⟨S4096x19456, .bf16⟩
  | .hbm, ⟨5, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4x4x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c9216_i32 : BitVec 32 := 9216#32
  let v1 : BitVec 32 := Scalar.addi v0 c9216_i32
  let c1024_i32_0 : BitVec 32 := 1024#32
  let v2 : BitVec 32 := Scalar.divsi v1 c1024_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c1024_i32_0 c0_i32_2
  let v9 : BitVec 32 := Scalar.extui v8
  let c0_i32_3 : BitVec 32 := 0#32
  let v10 : BitVec 1 := Scalar.cmpi .slt c1024_i32_0 c0_i32_3
  let v11 : BitVec 32 := Scalar.extui v10
  let v12 : BitVec 32 := Scalar.subi v9 v11
  let v13 : BitVec 1 := Scalar.cmpi .ne v7 v12
  let v14 : BitVec 32 := Scalar.remsi v1 c1024_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c0_i32_5 : BitVec 32 := 0#32
  let c0_i32_6 : BitVec 32 := 0#32
  ![c0_i32_5.toNat, v18.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FourierRefIdeal.lean ====
abbrev S4x4x512x4096 : Shape := ⟨4, ![4, 4, 512, 4096]⟩
abbrev S1x4096x19456 : Shape := ⟨3, ![1, 4096, 19456]⟩
abbrev S4096x19456 : Shape := ⟨2, ![4096, 19456]⟩
abbrev S4x4x512x19456 : Shape := ⟨4, ![4, 4, 512, 19456]⟩
abbrev S4x4x512x3072 : Shape := ⟨4, ![4, 4, 512, 3072]⟩
abbrev S4x4x512x2048 : Shape := ⟨4, ![4, 4, 512, 2048]⟩
abbrev S4x4x512x8192 : Shape := ⟨4, ![4, 4, 512, 8192]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4x4x512x4096, .bf16⟩
  | .hbm, ⟨1, _⟩ => ⟨S1x4096x19456, .f32⟩
  | .hbm, ⟨2, _⟩ => ⟨S4096x19456, .f32⟩
  | .hbm, ⟨3, _⟩ => ⟨S4x4x512x4096, .f32⟩
  | .hbm, ⟨4, _⟩ => ⟨S4x4x512x19456, .f32⟩
  | .hbm, ⟨5, _⟩ => ⟨S4x4x512x3072, .f32⟩
  | .hbm, ⟨6, _⟩ => ⟨S4x4x512x3072, .f32⟩
  | .hbm, ⟨7, _⟩ => ⟨S4x4x512x3072, .f32⟩
  | .hbm, ⟨8, _⟩ => ⟨S4x4x512x2048, .f32⟩
  | .hbm, ⟨9, _⟩ => ⟨S4x4x512x8192, .f32⟩
  | .hbm, ⟨10, _⟩ => ⟨S8192x2048, .f32⟩
  | .hbm, ⟨11, _⟩ => ⟨S8192x2048, .bf16⟩
  | _, _ => ⟨S4x4x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Moe.lean ====
abbrev S24576x4096 : Shape := ⟨2, ![24576, 4096]⟩
abbrev S4096 : Shape := ⟨1, ![4096]⟩
abbrev S208 : Shape := ⟨1, ![208]⟩
abbrev S1 : Shape := ⟨1, ![1]⟩
abbrev S208x1x256 : Shape := ⟨3, ![208, 1, 256]⟩
abbrev S16x4096x1024 : Shape := ⟨3, ![16, 4096, 1024]⟩
abbrev S16x1024x4096 : Shape := ⟨3, ![16, 1024, 4096]⟩
abbrev S1x4096 : Shape := ⟨2, ![1, 4096]⟩
abbrev S53248x4096 : Shape := ⟨2, ![53248, 4096]⟩
abbrev S1x1x256 : Shape := ⟨3, ![1, 1, 256]⟩
abbrev S1x4096x1024 : Shape := ⟨3, ![1, 4096, 1024]⟩
abbrev S1x1024x4096 : Shape := ⟨3, ![1, 1024, 4096]⟩
abbrev S256x4096 : Shape := ⟨2, ![256, 4096]⟩
abbrev S2x256x4096 : Shape := ⟨3, ![2, 256, 4096]⟩
abbrev S2 : Shape := ⟨1, ![2]⟩
abbrev S1x1x1 : Shape := ⟨3, ![1, 1, 1]⟩
abbrev S_ : Shape := ⟨0, ![]⟩
abbrev S1x1x4096 : Shape := ⟨3, ![1, 1, 4096]⟩
abbrev S1x256x4096 : Shape := ⟨3, ![1, 256, 4096]⟩
abbrev S256 : Shape := ⟨1, ![256]⟩
abbrev S256x1 : Shape := ⟨2, ![256, 1]⟩
abbrev S4096x1024 : Shape := ⟨2, ![4096, 1024]⟩
abbrev S256x1024 : Shape := ⟨2, ![256, 1024]⟩
abbrev S1x1024x1024 : Shape := ⟨3, ![1, 1024, 1024]⟩
abbrev S1024x1024 : Shape := ⟨2, ![1024, 1024]⟩

abbrev nBuf : Space → Nat
  | .hbm => 11
  | .vmem => 7
  | .smem => 6
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S208x1x256, .i32⟩
  | .hbm, ⟨3, _⟩ => ⟨S16x4096x1024, .f32⟩
  | .hbm, ⟨4, _⟩ => ⟨S16x4096x1024, .f32⟩
  | .hbm, ⟨5, _⟩ => ⟨S16x1024x4096, .f32⟩
  | .hbm, ⟨6, _⟩ => ⟨S16x4096x1024, .bf16⟩
  | .hbm, ⟨7, _⟩ => ⟨S16x4096x1024, .bf16⟩
  | .hbm, ⟨8, _⟩ => ⟨S16x1024x4096, .bf16⟩
  | .hbm, ⟨9, _⟩ => ⟨S1x4096, .f32⟩
  | .hbm, ⟨10, _⟩ => ⟨S53248x4096, .bf16⟩
  | .local _ .vmem, ⟨0, _⟩ => ⟨S1x4096, .f32⟩
  | .local _ .vmem, ⟨1, _⟩ => ⟨S1x4096x1024, .bf16⟩
  | .local _ .vmem, ⟨2, _⟩ => ⟨S1x4096x1024, .bf16⟩
  | .local _ .vmem, ⟨3, _⟩ => ⟨S1x1024x4096, .bf16⟩
  | .local _ .vmem, ⟨4, _⟩ => ⟨S256x4096, .bf16⟩
  | .local _ .vmem, ⟨5, _⟩ => ⟨S256x4096, .bf16⟩
  | .local _ .vmem, ⟨6, _⟩ => ⟨S2x256x4096, .f32⟩
  | .local _ .smem, ⟨0, _⟩ => ⟨S208, .i32⟩
  | .local _ .smem, ⟨1, _⟩ => ⟨S1, .i32⟩
  | .local _ .smem, ⟨2, _⟩ => ⟨S1x1x256, .i32⟩
  | .local _ .smem, ⟨3, _⟩ => ⟨S1x1x256, .i32⟩
  | .local _ .smem, ⟨4, _⟩ => ⟨S1x1x256, .i32⟩
  | .local _ .smem, ⟨5, _⟩ => ⟨S1x1x256, .i32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_arg2 : Ref sig .tc := ⟨.smem, 0, rfl⟩
abbrev main_arg3 : Ref sig .tc := ⟨.smem, 1, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_scratch0 : Ref sig .tc := ⟨.vmem, 6, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![208], ![false]⟩

abbrev pre0 : Pipeline.Prefetch sig := ⟨2, ![main_arg2.idx, main_arg3.idx], fun | 0 => main_arg2.names | 1 => main_arg3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32_3 : BitVec 32 := 0#32
  let v11 : BitVec 1 := Scalar.cmpi .eq arg0 c0_i32_3
  let v12 : BitVec 32 := Scalar.extui v11
  let c0_i32_4 : BitVec 32 := 0#32
  let v13 : BitVec 1 := Scalar.cmpi .ne v12 c0_i32_4
  v13

@[reducible] def k0_t1_loop : Scf.Loop 32 :=
  let c0_i32_9 : BitVec 32 := 0#32
  let c256_i32 : BitVec 32 := 256#32
  let v24 : BitVec 32 := Scalar.addi c0_i32_9 c256_i32
  let c1_i32_10 : BitVec 32 := 1#32
  ⟨c0_i32_9, v24, c1_i32_10⟩
def k0_off2 (k0_t1 : Fin k0_t1_loop.trips) : Fin 3 → Nat :=
  let c0_12 : Index := 0#32
  let c0_13 : Index := 0#32
  let c0_i32_9 : BitVec 32 := 0#32
  let c1_i32_10 : BitVec 32 := 1#32
  let arg13 : BitVec 32 := Scf.iv c0_i32_9 c1_i32_10 k0_t1
  let v25 : Index := Scalar.indexCast arg13
  ![0, 0, v25.toNat]
def k0_off3 (k0_t1 : Fin k0_t1_loop.trips) : Fin 3 → Nat :=
  let c0_i32_14 : BitVec 32 := 0#32
  let c0_i32_9 : BitVec 32 := 0#32
  let c1_i32_10 : BitVec 32 := 1#32
  let arg13 : BitVec 32 := Scf.iv c0_i32_9 c1_i32_10 k0_t1
  let c0_i32_16 : BitVec 32 := 0#32
  ![0, arg13.toNat, 0]
def k0_off4 (v26 : BitVec 32) : Fin 2 → Nat :=
  let c0_i32_17 : BitVec 32 := 0#32
  ![v26.toNat, 0]

def k0_chk1 (i : grid0.Coords) (v26 : BitVec 32) : Prop :=
  (∀ (k0_h1 : k0_cond1 i = 1#1), ∀ a, (k0_off4 v26) a + S1x4096.size a ≤ S24576x4096.size a)
theorem k0_off4_inb : ∀ (i : grid0.Coords) (v26 : BitVec 32) (k0_hw1 : k0_chk1 i v26), ∀ (k0_h1 : k0_cond1 i = 1#1), ∀ a, (k0_off4 v26) a + S1x4096.size a ≤ S24576x4096.size a := fun i v26 k0_hw1 k0_h1 => k0_hw1 k0_h1

@[reducible] def k0_t2_loop : Scf.Loop 32 :=
  let c0_i32_10 : BitVec 32 := 0#32
  let c256_i32 : BitVec 32 := 256#32
  let v25 : BitVec 32 := Scalar.addi c0_i32_10 c256_i32
  let c1_i32_11 : BitVec 32 := 1#32
  ⟨c0_i32_10, v25, c1_i32_11⟩
def k0_off5 (k0_t2 : Fin k0_t2_loop.trips) : Fin 3 → Nat :=
  let c0_13 : Index := 0#32
  let c0_14 : Index := 0#32
  let c0_i32_10 : BitVec 32 := 0#32
  let c1_i32_11 : BitVec 32 := 1#32
  let arg13 : BitVec 32 := Scf.iv c0_i32_10 c1_i32_11 k0_t2
  let v26 : Index := Scalar.indexCast arg13
  ![0, 0, v26.toNat]
def k0_off6 (i : grid0.Coords) : Fin 1 → Nat :=
  let c1_i32_9 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v24 : BitVec 32 := Scalar.subi c1_i32_9 v10
  ![v24.toNat]
def k0_off7 (i : grid0.Coords) (k0_t2 : Fin k0_t2_loop.trips) : Fin 3 → Nat :=
  let c1_i32_9 : BitVec 32 := 1#32
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v24 : BitVec 32 := Scalar.subi c1_i32_9 v10
  let c0_i32_10 : BitVec 32 := 0#32
  let c1_i32_11 : BitVec 32 := 1#32
  let arg13 : BitVec 32 := Scf.iv c0_i32_10 c1_i32_11 k0_t2
  let c0_i32_15 : BitVec 32 := 0#32
  ![v24.toNat, arg13.toNat, 0]
def k0_off8 (v27 : BitVec 32) : Fin 2 → Nat :=
  let c0_i32_16 : BitVec 32 := 0#32
  ![v27.toNat, 0]
def k0_cond2 (i : grid0.Coords) (v0 : BitVec 32) : BitVec 1 :=
  let arg0 : BitVec 32 := BitVec.ofNat 32 (i 0).val
  let c1_i32_5 : BitVec 32 := 1#32
  let v14 : BitVec 32 := Scalar.addi arg0 c1_i32_5
  let v15 : BitVec 1 := Scalar.cmpi .slt v14 v0
  let v16 : BitVec 32 := Scalar.extui v15
  let c0_i32_6 : BitVec 32 := 0#32
  let v17 : BitVec 1 := Scalar.cmpi .ne v16 c0_i32_6
  v17

def k0_chk2 (i : grid0.Coords) (v0 : BitVec 32) (v27 : BitVec 32) : Prop :=
  (∀ (k0_h2 : k0_cond2 i v0 = 1#1), ∀ a, (k0_off8 v27) a + S1x4096.size a ≤ S24576x4096.size a)
theorem k0_off8_inb : ∀ (i : grid0.Coords) (v0 : BitVec 32) (v27 : BitVec 32) (k0_hw2 : k0_chk2 i v0 v27), ∀ (k0_h2 : k0_cond2 i v0 = 1#1), ∀ a, (k0_off8 v27) a + S1x4096.size a ≤ S24576x4096.size a := fun i v0 v27 k0_hw2 k0_h2 => k0_hw2 k0_h2

@[reducible] def k0_t3_loop : Scf.Loop 32 :=
  let c0_i32_9 : BitVec 32 := 0#32
  let c256_i32 : BitVec 32 := 256#32
  let v24 : BitVec 32 := Scalar.addi c0_i32_9 c256_i32
  let c1_i32_10 : BitVec 32 := 1#32
  ⟨c0_i32_9, v24, c1_i32_10⟩
def k0_off9 (i : grid0.Coords) : Fin 1 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  ![v10.toNat]
def k0_off10 (i : grid0.Coords) (k0_t3 : Fin k0_t3_loop.trips) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let c0_i32_9 : BitVec 32 := 0#32
  let c1_i32_10 : BitVec 32 := 1#32
  let arg13 : BitVec 32 := Scf.iv c0_i32_9 c1_i32_10 k0_t3
  let c0_i32_50 : BitVec 32 := 0#32
  ![v10.toNat, arg13.toNat, 0]
def k0_off11 (i : grid0.Coords) : Fin 3 → Nat :=
  let arg0 : BitVec 32 := BitVec.ofNat 32 (i 0).val
  let c2_i32 : BitVec 32 := 2#32
  let c0_i32 : BitVec 32 := 0#32
  let v1 : BitVec 1 := Scalar.cmpi .eq c2_i32 c0_i32
  let c1_i32 : BitVec 32 := 1#32
  let v2 : BitVec 32 := Scalar.select v1 c1_i32 c2_i32
  let v3 : BitVec 32 := Scalar.remsi arg0 v2
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let c0_i32_0 : BitVec 32 := 0#32
  let v4 : BitVec 1 := Scalar.cmpi .ne v3 c0_i32_0
  let v8 : BitVec 1 := Scalar.andi v7 v4
  let v9 : BitVec 32 := Scalar.addi v3 v2
  let v10 : BitVec 32 := Scalar.select v8 v9 v3
  let v25 : Index := Scalar.indexCast v10
  let c0_12 : Index := 0#32
  let c0_13 : Index := 0#32
  ![v25.toNat, 0, 0]
def k0_cond3 (i : grid0.Coords) (v0 : BitVec 32) : BitVec 1 :=
  let arg0 : BitVec 32 := BitVec.ofNat 32 (i 0).val
  let v18 : BitVec 1 := Scalar.cmpi .sge arg0 v0
  let v19 : BitVec 32 := Scalar.extui v18
  let c0_i32_7 : BitVec 32 := 0#32
  let v20 : BitVec 1 := Scalar.cmpi .ne v19 c0_i32_7
  v20

def k0_cond4 (i : grid0.Coords) (v0 : BitVec 32) : BitVec 1 :=
  let arg0 : BitVec 32 := BitVec.ofNat 32 (i 0).val
  let v21 : BitVec 1 := Scalar.cmpi .slt arg0 v0
  let v22 : BitVec 32 := Scalar.extui v21
  let c0_i32_8 : BitVec 32 := 0#32
  let v23 : BitVec 1 := Scalar.cmpi .ne v22 c0_i32_8
  v23

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.addi arg0 c1_i32
  let c207_i32 : BitVec 32 := 207#32
  let v1 : BitVec 32 := Scalar.minsi v0 c207_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (k0_off1_inb : ∀ i : grid0.Coords, ∀ a, (k0_off1 i) a + S1.size a ≤ S208.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S208) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S208.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S208) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S208.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S208) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MoeRefIdeal.lean ====
abbrev S24576x4096 : Shape := ⟨2, ![24576, 4096]⟩
abbrev S4096 : Shape := ⟨1, ![4096]⟩
abbrev S208 : Shape := ⟨1, ![208]⟩
abbrev S1 : Shape := ⟨1, ![1]⟩
abbrev S208x1x256 : Shape := ⟨3, ![208, 1, 256]⟩
abbrev S16x4096x1024 : Shape := ⟨3, ![16, 4096, 1024]⟩
abbrev S16x1024x4096 : Shape := ⟨3, ![16, 1024, 4096]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S208x256 : Shape := ⟨2, ![208, 256]⟩
abbrev S208x256x1 : Shape := ⟨3, ![208, 256, 1]⟩
abbrev S208x256x4096 : Shape := ⟨3, ![208, 256, 4096]⟩
abbrev S208x1 : Shape := ⟨2, ![208, 1]⟩
abbrev S208x4096x1024 : Shape := ⟨3, ![208, 4096, 1024]⟩
abbrev S208x256x1024 : Shape := ⟨3, ![208, 256, 1024]⟩
abbrev S208x1024x4096 : Shape := ⟨3, ![208, 1024, 4096]⟩
abbrev S208x1x1 : Shape := ⟨3, ![208, 1, 1]⟩
abbrev S53248x4096 : Shape := ⟨2, ![53248, 4096]⟩

abbrev nBuf : Space → Nat
  | .hbm => 86
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S208, .i32⟩
  | .hbm, ⟨3, _⟩ => ⟨S1, .i32⟩
  | .hbm, ⟨4, _⟩ => ⟨S208x1x256, .i32⟩
  | .hbm, ⟨5, _⟩ => ⟨S16x4096x1024, .f32⟩
  | .hbm, ⟨6, _⟩ => ⟨S16x4096x1024, .f32⟩
  | .hbm, ⟨7, _⟩ => ⟨S16x1024x4096, .f32⟩
  | .hbm, ⟨8, _⟩ => ⟨S24576x4096, .f32⟩
  | .hbm, ⟨9, _⟩ => ⟨S_, .f32⟩
  | .hbm, ⟨10, _⟩ => ⟨S24576, .f32⟩
  | .hbm, ⟨11, _⟩ => ⟨S24576x1, .f32⟩
  | .hbm, ⟨12, _⟩ => ⟨S_, .f32⟩
  | .hbm, ⟨13, _⟩ => ⟨S24576x1, .f32⟩
  | .hbm, ⟨14, _⟩ => ⟨S24576x1, .f32⟩
  | .hbm, ⟨15, _⟩ => ⟨S_, .f32⟩
  | .hbm, ⟨16, _⟩ => ⟨S24576x1, .f32⟩
  | .hbm, ⟨17, _⟩ => ⟨S24576x1, .f32⟩
  | .hbm, ⟨18, _⟩ => ⟨S24576x1, .f32⟩
  | .hbm, ⟨19, _⟩ => ⟨S24576x4096, .f32⟩
  | .hbm, ⟨20, _⟩ => ⟨S24576x4096, .f32⟩
  | .hbm, ⟨21, _⟩ => ⟨S1x4096, .f32⟩
  | .hbm, ⟨22, _⟩ => ⟨S24576x4096, .f32⟩
  | .hbm, ⟨23, _⟩ => ⟨S24576x4096, .f32⟩
  | .hbm, ⟨24, _⟩ => ⟨S208x256, .i32⟩
  | .hbm, ⟨25, _⟩ => ⟨S_, .i32⟩
  | .hbm, ⟨26, _⟩ => ⟨S208x256, .i32⟩
  | .hbm, ⟨27, _⟩ => ⟨S208x256, .i1⟩
  | .hbm, ⟨28, _⟩ => ⟨S_, .i32⟩
  | .hbm, ⟨29, _⟩ => ⟨S208x256, .i32⟩
  | .hbm, ⟨30, _⟩ => ⟨S208x256, .i32⟩
  | .hbm, ⟨31, _⟩ => ⟨S208x256, .i32⟩
  | .hbm, ⟨32, _⟩ => ⟨S208x256x1, .i32⟩
  | .hbm, ⟨33, _⟩ => ⟨S208x256x4096, .f32⟩
  | .hbm, ⟨34, _⟩ => ⟨S_, .i32⟩
  | .hbm, ⟨35, _⟩ => ⟨S208, .i32⟩
  | .hbm, ⟨36, _⟩ => ⟨S208, .i1⟩
  | .hbm, ⟨37, _⟩ => ⟨S_, .i32⟩
  | .hbm, ⟨38, _⟩ => ⟨S208, .i32⟩
  | .hbm, ⟨39, _⟩ => ⟨S208, .i32⟩
  | .hbm, ⟨40, _⟩ => ⟨S208, .i32⟩
  | .hbm, ⟨41, _⟩ => ⟨S208x1, .i32⟩
  | .hbm, ⟨42, _⟩ => ⟨S208x4096x1024, .f32⟩
  | .hbm, ⟨43, _⟩ => ⟨S208x256x1024, .f32⟩
  | .hbm, ⟨44, _⟩ => ⟨S_, .i32⟩
  | .hbm, ⟨45, _⟩ => ⟨S208, .i32⟩
  | .hbm, ⟨46, _⟩ => ⟨S208, .i1⟩
  | .hbm, ⟨47, _⟩ => ⟨S_, .i32⟩
  | .hbm, ⟨48, _⟩ => ⟨S208, .i32⟩
  | .hbm, ⟨49, _⟩ => ⟨S208, .i32⟩
  | .hbm, ⟨50, _⟩ => ⟨S208, .i32⟩
  | .hbm, ⟨51, _⟩ => ⟨S208x1, .i32⟩
  | .hbm, ⟨52, _⟩ => ⟨S208x4096x1024, .f32⟩
  | .hbm, ⟨53, _⟩ => ⟨S208x256x1024, .f32⟩
  | .hbm, ⟨54, _⟩ => ⟨S208x256x1024, .f32⟩
  | .hbm, ⟨55, _⟩ => ⟨S208x256x1024, .f32⟩
  | .hbm, ⟨56, _⟩ => ⟨S_, .f32⟩
  | .hbm, ⟨57, _⟩ => ⟨S208x256x1024, .f32⟩
  | .hbm, ⟨58, _⟩ => ⟨S208x256x1024, .f32⟩
  | .hbm, ⟨59, _⟩ => ⟨S_, .f32⟩
  | .hbm, ⟨60, _⟩ => ⟨S208x256x1024, .f32⟩
  | .hbm, ⟨61, _⟩ => ⟨S208x256x1024, .f32⟩
  | .hbm, ⟨62, _⟩ => ⟨S208x256x1024, .f32⟩
  | .hbm, ⟨63, _⟩ => ⟨S208x256x1024, .f32⟩
  | .hbm, ⟨64, _⟩ => ⟨S_, .i32⟩
  | .hbm, ⟨65, _⟩ => ⟨S208, .i32⟩
  | .hbm, ⟨66, _⟩ => ⟨S208, .i1⟩
  | .hbm, ⟨67, _⟩ => ⟨S_, .i32⟩
  | .hbm, ⟨68, _⟩ => ⟨S208, .i32⟩
  | .hbm, ⟨69, _⟩ => ⟨S208, .i32⟩
  | .hbm, ⟨70, _⟩ => ⟨S208, .i32⟩
  | .hbm, ⟨71, _⟩ => ⟨S208x1, .i32⟩
  | .hbm, ⟨72, _⟩ => ⟨S208x1024x4096, .f32⟩
  | .hbm, ⟨73, _⟩ => ⟨S208x256x4096, .f32⟩
  | .hbm, ⟨74, _⟩ => ⟨S208, .i32⟩
  | .hbm, ⟨75, _⟩ => ⟨S208x1x1, .i32⟩
  | .hbm, ⟨76, _⟩ => ⟨S_, .i32⟩
  | .hbm, ⟨77, _⟩ => ⟨S208x1x1, .i32⟩
  | .hbm, ⟨78, _⟩ => ⟨S208x1x1, .i1⟩
  | .hbm, ⟨79, _⟩ => ⟨S_, .f32⟩
  | .hbm, ⟨80, _⟩ => ⟨S_, .f32⟩
  | .hbm, ⟨81, _⟩ => ⟨S208x256x4096, .i1⟩
  | .hbm, ⟨82, _⟩ => ⟨S208x256x4096, .f32⟩
  | .hbm, ⟨83, _⟩ => ⟨S208x256x4096, .f32⟩
  | .hbm, ⟨84, _⟩ => ⟨S53248x4096, .f32⟩
  | .hbm, ⟨85, _⟩ => ⟨S53248x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v37 : Ref sig .tc := ⟨.hbm, 62, rfl⟩
abbrev main_v38 : Ref sig .tc := ⟨.hbm, 63, rfl⟩
abbrev main_c_7 : Ref sig .tc := ⟨.hbm, 64, rfl⟩
abbrev main_v39 : Ref sig .tc := ⟨.hbm, 65, rfl⟩
abbrev main_v40 : Ref sig .tc := ⟨.hbm, 66, rfl⟩
abbrev main_c_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩

abbrev nD : Nat := 1
abbrev τ : Topo := Topo.v7x

variable {F : FTy → Type} [FloatOps F]
-- ==== AttnB.lean ====
abbrev S8192x3072 : Shape := ⟨2, ![8192, 3072]⟩
abbrev S16x512x3072 : Shape := ⟨3, ![16, 512, 3072]⟩
abbrev S16x512x1024 : Shape := ⟨3, ![16, 512, 1024]⟩
abbrev S16x512x128 : Shape := ⟨3, ![16, 512, 128]⟩
abbrev S1x128x1024 : Shape := ⟨3, ![1, 128, 1024]⟩
abbrev S1x512x1024 : Shape := ⟨3, ![1, 512, 1024]⟩
abbrev S1x128x128 : Shape := ⟨3, ![1, 128, 128]⟩
abbrev S128x256 : Shape := ⟨2, ![128, 256]⟩
abbrev S128x128 : Shape := ⟨2, ![128, 128]⟩
abbrev S1x256x128 : Shape := ⟨3, ![1, 256, 128]⟩
abbrev S256x128 : Shape := ⟨2, ![256, 128]⟩
abbrev S128 : Shape := ⟨1, ![128]⟩
abbrev S128x1 : Shape := ⟨2, ![128, 1]⟩

abbrev nBuf : Space → Nat
  | .hbm => 4
  | .vmem => 10
  | .smem => 0
  | _ => 0

abbrev bufTy : (tb : Table) → Fin (tcTables nBuf tb) → BufTy
  | .hbm, ⟨0, _⟩ => ⟨S8192x3072, .bf16⟩
  | .hbm, ⟨1, _⟩ => ⟨S16x512x3072, .bf16⟩
  | .hbm, ⟨2, _⟩ => ⟨S16x512x1024, .bf16⟩
  | .hbm, ⟨3, _⟩ => ⟨S16x512x128, .f32⟩
  | .local _ .vmem, ⟨0, _⟩ => ⟨S1x128x1024, .bf16⟩
  | .local _ .vmem, ⟨1, _⟩ => ⟨S1x128x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x128, .f32⟩
  | .local _ .vmem, ⟨9, _⟩ => ⟨S1x128x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c256_i32 v2
  v3
def k0_off1 (i : grid0.Coords) : Fin 3 → Nat :=
  let c0_4 : Index := 0#32
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v21 : Index := Scalar.indexCast v4
  let c0_5 : Index := 0#32
  ![0, v21.toNat, 0]
def k0_off2 (i : grid0.Coords) : Fin 3 → Nat :=
  let c0_21 : Index := 0#32
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v59 : Index := Scalar.indexCast v4
  let c128_22 : Index := 128#32
  ![0, v59.toNat, 128]
def k0_off3 (i : grid0.Coords) : Fin 3 → Nat :=
  let c0_37 : Index := 0#32
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v97 : Index := Scalar.indexCast v4
  let c256_38 : Index := 256#32
  ![0, v97.toNat, 256]
def k0_off4 (i : grid0.Coords) : Fin 3 → Nat :=
  let c0_53 : Index := 0#32
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v135 : Index := Scalar.indexCast v4
  let c384_54 : Index := 384#32
  ![0, v135.toNat, 384]
def k0_off5 (i : grid0.Coords) : Fin 3 → Nat :=
  let c0_69 : Index := 0#32
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v173 : Index := Scalar.indexCast v4
  let c512_70 : Index := 512#32
  ![0, v173.toNat, 512]
def k0_off6 (i : grid0.Coords) : Fin 3 → Nat :=
  let c0_85 : Index := 0#32
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v211 : Index := Scalar.indexCast v4
  let c640_86 : Index := 640#32
  ![0, v211.toNat, 640]
def k0_off7 (i : grid0.Coords) : Fin 3 → Nat :=
  let c0_101 : Index := 0#32
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v249 : Index := Scalar.indexCast v4
  let c768_102 : Index := 768#32
  ![0, v249.toNat, 768]
def k0_off8 (i : grid0.Coords) : Fin 3 → Nat :=
  let c0_117 : Index := 0#32
  let c256_i32 : BitVec 32 := 256#32
  let c0_i32 : BitVec 32 := 0#32
  let arg1 : BitVec 32 := BitVec.ofNat 32 (i 1).val
  let c128_i32 : BitVec 32 := 128#32
  let v0 : BitVec 32 := Scalar.muli arg1 c128_i32
  let c64_i32 : BitVec 32 := 64#32
  let v1 : BitVec 32 := Scalar.subi v0 c64_i32
  let v2 : BitVec 32 := Scalar.maxsi c0_i32 v1
  let v3 : BitVec 32 := Scalar.minsi c256_i32 v2
  let v4 : BitVec 32 := v3
  let v287 : Index := Scalar.indexCast v4
  let c896_118 : Index := 896#32
  ![0, v287.toNat, 896]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnBIdeal.lean ====
variable {F : FTy → Type} [FloatOps F] [Named F]
def κ : String → Option EReal := fun
  | "mask" => some ⊥
  | _ => none
-- ==== AttnBRefIdeal.lean ====
abbrev S8192x3072 : Shape := ⟨2, ![8192, 3072]⟩
abbrev S8192x1024 : Shape := ⟨2, ![8192, 1024]⟩
abbrev S4x4x512x8x128 : Shape := ⟨5, ![4, 4, 512, 8, 128]⟩
abbrev S4x512x4x8x128 : Shape := ⟨5, ![4, 512, 4, 8, 128]⟩
abbrev S4x2048x8x128 : Shape := ⟨4, ![4, 2048, 8, 128]⟩
abbrev S8 : Shape := ⟨1, ![8]⟩
abbrev S_ : Shape := ⟨0, ![]⟩
abbrev S4x4x640x8x128 : Shape := ⟨5, ![4, 4, 640, 8, 128]⟩
abbrev S8x1 : Shape := ⟨2, ![8, 1]⟩
abbrev S192 : Shape := ⟨1, ![192]⟩
abbrev S1x192 : Shape := ⟨2, ![1, 192]⟩
abbrev S8x192 : Shape := ⟨2, ![8, 192]⟩
abbrev S8x192x1 : Shape := ⟨3, ![8, 192, 1]⟩
abbrev S4x4x8x192x8x128 : Shape := ⟨6, ![4, 4, 8, 192, 8, 128]⟩
abbrev S4x4x8x64x8x128 : Shape := ⟨6, ![4, 4, 8, 64, 8, 128]⟩
abbrev S4x4x8x8x64x192 : Shape := ⟨6, ![4, 4, 8, 8, 64, 192]⟩
abbrev S64 : Shape := ⟨1, ![64]⟩
abbrev S64x1 : Shape := ⟨2, ![64, 1]⟩
abbrev S64x192 : Shape := ⟨2, ![64, 192]⟩
abbrev S1x64x192 : Shape := ⟨3, ![1, 64, 192]⟩
abbrev S8x1x192 : Shape := ⟨3, ![8, 1, 192]⟩
abbrev S8x64x192 : Shape := ⟨3, ![8, 64, 192]⟩
abbrev S8x1x1 : Shape := ⟨3, ![8, 1, 1]⟩
abbrev S1x1x8x1x64x192 : Shape := ⟨6, ![1, 1, 8, 1, 64, 192]⟩
abbrev S1x1x1x8x64x192 : Shape := ⟨6, ![1, 1, 1, 8, 64, 192]⟩
abbrev S4x4x8x8x64 : Shape := ⟨5, ![4, 4, 8, 8, 64]⟩
abbrev S4x4x8x8x64x1 : Shape := ⟨6, ![4, 4, 8, 8, 64, 1]⟩
abbrev S4x4x8x8x128x64 : Shape := ⟨6, ![4, 4, 8, 8, 128, 64]⟩
abbrev S4x4x8x64x8 : Shape := ⟨5, ![4, 4, 8, 64, 8]⟩
abbrev S4x4x512x8 : Shape := ⟨4, ![4, 4, 512, 8]⟩
abbrev S4x512x4x8 : Shape := ⟨4, ![4, 512, 4, 8]⟩
abbrev S4x2048x8 : Shape := ⟨3, ![4, 2048, 8]⟩
abbrev S4x512x4x1024 : Shape := ⟨4, ![4, 512, 4, 1024]⟩
abbrev S4x4x512x1024 : Shape := ⟨4, ![4, 4, 512, 1024]⟩
abbrev S16x512x1024 : Shape := ⟨3, ![16, 512, 1024]⟩
abbrev S16x512x8 : Shape := ⟨3, ![16, 512, 8]⟩
abbrev S16x512x128 : Shape := ⟨3, ![16, 512, 128]⟩

abbrev nBuf : Space → Nat
  | .hbm => 195
  | .vmem => 0
  | .smem => 0
  | _ => 0

abbrev hbmTy0_0 (i : Nat) : BufTy := match i % 128 with
  | 0 => ⟨S8192x3072, .bf16⟩
  | 1 => ⟨S8192x3072, .f32⟩
  | 2 => ⟨S8192x1024, .f32⟩
  | 3 => ⟨S8192x1024, .f32⟩
  | 4 => ⟨S8192x1024, .f32⟩
  | 5 => ⟨S4x4x512x8x128, .f32⟩
  | 6 => ⟨S4x512x4x8x128, .f32⟩
  | 7 => ⟨S4x2048x8x128, .f32⟩
  | 8 => ⟨S4x4x512x8x128, .f32⟩
  | 9 => ⟨S4x512x4x8x128, .f32⟩
  | 10 => ⟨S4x2048x8x128, .f32⟩
  | 11 => ⟨S4x4x512x8x128, .f32⟩
  | 12 => ⟨S4x512x4x8x128, .f32⟩
  | 13 => ⟨S4x2048x8x128, .f32⟩
  | 14 => ⟨S8, .i32⟩
  | 15 => ⟨S_, .f32⟩
  | 16 => ⟨S8, .f32⟩
  | 17 => ⟨S_, .i32⟩
  | 18 => ⟨S8, .i32⟩
  | 19 => ⟨S8, .i1⟩
  | 20 => ⟨S_, .f32⟩
  | 21 => ⟨S8, .f32⟩
  | 22 => ⟨S8, .f32⟩
  | 23 => ⟨S_, .i32⟩
  | 24 => ⟨S8, .i32⟩
  | 25 => ⟨S8, .i1⟩
  | 26 => ⟨S_, .f32⟩
  | 27 => ⟨S8, .f32⟩
  | 28 => ⟨S8, .f32⟩
  | 29 => ⟨S_, .i32⟩
  | 30 => ⟨S8, .i32⟩
  | 31 => ⟨S8, .i1⟩
  | 32 => ⟨S_, .f32⟩
  | 33 => ⟨S8, .f32⟩
  | 34 => ⟨S8, .f32⟩
  | 35 => ⟨S_, .i32⟩
  | 36 => ⟨S8, .i32⟩
  | 37 => ⟨S8, .i1⟩
  | 38 => ⟨S_, .f32⟩
  | 39 => ⟨S8, .f32⟩
  | 40 => ⟨S8, .f32⟩
  | 41 => ⟨S_, .i32⟩
  | 42 => ⟨S8, .i32⟩
  | 43 => ⟨S8, .i1⟩
  | 44 => ⟨S_, .f32⟩
  | 45 => ⟨S8, .f32⟩
  | 46 => ⟨S8, .f32⟩
  | 47 => ⟨S_, .i32⟩
  | 48 => ⟨S8, .i32⟩
  | 49 => ⟨S8, .i1⟩
  | 50 => ⟨S_, .f32⟩
  | 51 => ⟨S8, .f32⟩
  | 52 => ⟨S8, .f32⟩
  | 53 => ⟨S_, .i32⟩
  | 54 => ⟨S8, .i32⟩
  | 55 => ⟨S8, .i1⟩
  | 56 => ⟨S_, .f32⟩
  | 57 => ⟨S8, .f32⟩
  | 58 => ⟨S8, .f32⟩
  | 59 => ⟨S_, .i32⟩
  | 60 => ⟨S8, .i32⟩
  | 61 => ⟨S8, .i1⟩
  | 62 => ⟨S_, .f32⟩
  | 63 => ⟨S8, .f32⟩
  | 64 => ⟨S8, .f32⟩
  | 65 => ⟨S4x512x4x8x128, .f32⟩
  | 66 => ⟨S4x4x512x8x128, .f32⟩
  | 67 => ⟨S_, .i32⟩
  | 68 => ⟨S_, .f32⟩
  | 69 => ⟨S4x4x512x8x128, .f32⟩
  | 70 => ⟨S4x512x4x8x128, .f32⟩
  | 71 => ⟨S4x4x512x8x128, .f32⟩
  | 72 => ⟨S_, .i32⟩
  | 73 => ⟨S_, .f32⟩
  | 74 => ⟨S4x4x640x8x128, .f32⟩
  | 75 => ⟨S4x512x4x8x128, .f32⟩
  | 76 => ⟨S4x4x512x8x128, .f32⟩
  | 77 => ⟨S_, .i32⟩
  | 78 => ⟨S_, .f32⟩
  | 79 => ⟨S4x4x640x8x128, .f32⟩
  | 80 => ⟨S8, .i32⟩
  | 81 => ⟨S8x1, .i32⟩
  | 82 => ⟨S_, .i32⟩
  | 83 => ⟨S8x1, .i32⟩
  | 84 => ⟨S8x1, .i32⟩
  | 85 => ⟨S192, .i32⟩
  | 86 => ⟨S1x192, .i32⟩
  | 87 => ⟨S8x192, .i32⟩
  | 88 => ⟨S8x192, .i32⟩
  | 89 => ⟨S8x192, .i32⟩
  | 90 => ⟨S_, .i32⟩
  | 91 => ⟨S8x192, .i32⟩
  | 92 => ⟨S8x192, .i1⟩
  | 93 => ⟨S_, .i32⟩
  | 94 => ⟨S8x192, .i32⟩
  | 95 => ⟨S8x192, .i32⟩
  | 96 => ⟨S8x192, .i32⟩
  | 97 => ⟨S8x192x1, .i32⟩
  | 98 => ⟨S4x4x8x192x8x128, .f32⟩
  | 99 => ⟨S_, .i32⟩
  | 100 => ⟨S8x192, .i32⟩
  | 101 => ⟨S8x192, .i1⟩
  | 102 => ⟨S_, .i32⟩
  | 103 => ⟨S8x192, .i32⟩
  | 104 => ⟨S8x192, .i32⟩
  | 105 => ⟨S8x192, .i32⟩
  | 106 => ⟨S8x192x1, .i32⟩
  | 107 => ⟨S4x4x8x192x8x128, .f32⟩
  | 108 => ⟨S4x4x8x64x8x128, .f32⟩
  | 109 => ⟨S4x4x8x8x64x192, .f32⟩
  | 110 => ⟨S_, .f32⟩
  | 111 => ⟨S4x4x8x8x64x192, .f32⟩
  | 112 => ⟨S4x4x8x8x64x192, .f32⟩
  | 113 => ⟨S192, .i32⟩
  | 114 => ⟨S1x192, .i32⟩
  | 115 => ⟨S_, .i32⟩
  | 116 => ⟨S1x192, .i32⟩
  | 117 => ⟨S1x192, .i32⟩
  | 118 => ⟨S64, .i32⟩
  | 119 => ⟨S64x1, .i32⟩
  | 120 => ⟨S64x192, .i32⟩
  | 121 => ⟨S64x192, .i32⟩
  | 122 => ⟨S64x192, .i32⟩
  | 123 => ⟨S_, .i32⟩
  | 124 => ⟨S8x192, .i32⟩
  | 125 => ⟨S8x192, .i32⟩
  | 126 => ⟨S64x192, .i32⟩
  | 127 => ⟨S_, .i32⟩
  | _ => ⟨S8192x3072, .bf16⟩

abbrev hbmTy0_1 (i : Nat) : BufTy := match i % 128 with
  | 0 => ⟨S64x192, .i32⟩
  | 1 => ⟨S64x192, .i1⟩
  | 2 => ⟨S1x64x192, .i1⟩
  | 3 => ⟨S_, .i32⟩
  | 4 => ⟨S8x192, .i32⟩
  | 5 => ⟨S8x192, .i1⟩
  | 6 => ⟨S_, .i32⟩
  | 7 => ⟨S8x192, .i32⟩
  | 8 => ⟨S8x192, .i1⟩
  | 9 => ⟨S8x192, .i1⟩
  | 10 => ⟨S8x1x192, .i1⟩
  | 11 => ⟨S8x64x192, .i1⟩
  | 12 => ⟨S8x64x192, .i1⟩
  | 13 => ⟨S8x64x192, .i1⟩
  | 14 => ⟨S8x1x1, .f32⟩
  | 15 => ⟨S8x1x1, .f32⟩
  | 16 => ⟨S64x192, .i32⟩
  | 17 => ⟨S_, .i32⟩
  | 18 => ⟨S64x192, .i32⟩
  | 19 => ⟨S64x192, .i32⟩
  | 20 => ⟨S64x192, .f32⟩
  | 21 => ⟨S1x64x192, .f32⟩
  | 22 => ⟨S8x64x192, .f32⟩
  | 23 => ⟨S8x64x192, .f32⟩
  | 24 => ⟨S8x64x192, .f32⟩
  | 25 => ⟨S1x1x8x1x64x192, .i1⟩
  | 26 => ⟨S1x1x1x8x64x192, .f32⟩
  | 27 => ⟨S4x4x8x8x64x192, .f32⟩
  | 28 => ⟨S4x4x8x8x64x192, .f32⟩
  | 29 => ⟨S_, .f32⟩
  | 30 => ⟨S_, .f32⟩
  | 31 => ⟨S4x4x8x8x64x192, .i1⟩
  | 32 => ⟨S4x4x8x8x64x192, .f32⟩
  | 33 => ⟨S4x4x8x8x64x192, .f32⟩
  | 34 => ⟨S_, .f32⟩
  | 35 => ⟨S4x4x8x8x64, .f32⟩
  | 36 => ⟨S4x4x8x8x64x1, .f32⟩
  | 37 => ⟨S4x4x8x8x64x192, .f32⟩
  | 38 => ⟨S4x4x8x8x64x192, .f32⟩
  | 39 => ⟨S4x4x8x8x64x192, .f32⟩
  | 40 => ⟨S_, .f32⟩
  | 41 => ⟨S4x4x8x8x64, .f32⟩
  | 42 => ⟨S4x4x8x8x64x1, .f32⟩
  | 43 => ⟨S4x4x8x8x64x192, .f32⟩
  | 44 => ⟨S4x4x8x8x64x192, .f32⟩
  | 45 => ⟨S4x4x8x8x128x64, .f32⟩
  | 46 => ⟨S4x4x8x64x8x128, .f32⟩
  | 47 => ⟨S4x4x8x8x64x1, .f32⟩
  | 48 => ⟨S4x4x8x8x64x1, .f32⟩
  | 49 => ⟨S4x4x8x8x64, .f32⟩
  | 50 => ⟨S4x4x512x8x128, .f32⟩
  | 51 => ⟨S4x512x4x8x128, .f32⟩
  | 52 => ⟨S4x2048x8x128, .f32⟩
  | 53 => ⟨S4x4x8x64x8, .f32⟩
  | 54 => ⟨S4x4x512x8, .f32⟩
  | 55 => ⟨S4x512x4x8, .f32⟩
  | 56 => ⟨S4x2048x8, .f32⟩
  | 57 => ⟨S4x512x4x1024, .f32⟩
  | 58 => ⟨S4x4x512x1024, .f32⟩
  | 59 => ⟨S4x512x4x8, .f32⟩
  | 60 => ⟨S4x4x512x8, .f32⟩
  | 61 => ⟨S16x512x1024, .f32⟩
  | 62 => ⟨S16x512x1024, .bf16⟩
  | 63 => ⟨S16x512x8, .f32⟩
  | 64 => ⟨S_, .i32⟩
  | 65 => ⟨S_, .f32⟩
  | 66 => ⟨S16x512x128, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_c : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_call0_v0 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_call1_v0 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_call2_v0 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_call3_v0 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_call4_v0 : Ref sig .tc := ⟨.hbm, 45, rfl⟩
abbrev main_v29 : Ref sig .tc := ⟨.hbm, 46, rfl⟩
abbrev main_c_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_call5_v0 : Ref sig .tc := ⟨.hbm, 51, rfl⟩
abbrev main_v32 : Ref sig .tc := ⟨.hbm, 52, rfl⟩
abbrev main_c_11 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_call6_v0 : Ref sig .tc := ⟨.hbm, 57, rfl⟩
abbrev main_v35 : Ref sig .tc := ⟨.hbm, 58, rfl⟩
abbrev main_c_13 : Ref sig .tc := ⟨.hbm, 59, rfl⟩
abbrev main_v36 : Ref sig .tc := ⟨.hbm, 60, rfl⟩
abbrev main_v37 : Ref sig .tc := ⟨.hbm, 61, rfl⟩
abbrev main_cst_14 : Ref sig .tc := ⟨.hbm, 62, rfl⟩
abbrev main_call7_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_15 : Ref sig .tc := ⟨.hbm, 67, rfl⟩
abbrev main_call8_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_16 : Ref sig .tc := ⟨.hbm, 72, rfl⟩
abbrev main_call9_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_17 : Ref sig .tc := ⟨.hbm, 77, rfl⟩
abbrev main_call10_v0 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_18 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_19 : Ref sig .tc := ⟨.hbm, 90, rfl⟩
abbrev main_v57 : Ref sig .tc := ⟨.hbm, 91, rfl⟩
abbrev main_v58 : Ref sig .tc := ⟨.hbm, 92, rfl⟩
abbrev main_c_20 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_21 : Ref sig .tc := ⟨.hbm, 99, rfl⟩
abbrev main_v64 : Ref sig .tc := ⟨.hbm, 100, rfl⟩
abbrev main_v65 : Ref sig .tc := ⟨.hbm, 101, rfl⟩
abbrev main_c_22 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_23 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_24 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_25 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_26 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_27 : Ref sig .tc := ⟨.hbm, 131, rfl⟩
abbrev main_v90 : Ref sig .tc := ⟨.hbm, 132, rfl⟩
abbrev main_v91 : Ref sig .tc := ⟨.hbm, 133, rfl⟩
abbrev main_c_28 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_29 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_30 : Ref sig .tc := ⟨.hbm, 157, rfl⟩
abbrev main_call11_v0 : Ref sig .tc := ⟨.hbm, 158, rfl⟩
abbrev main_call11_v1 : Ref sig .tc := ⟨.hbm, 159, rfl⟩
abbrev main_call11_v2 : Ref sig .tc := ⟨.hbm, 160, rfl⟩
abbrev main_v113 : Ref sig .tc := ⟨.hbm, 161, rfl⟩
abbrev main_cst_31 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_32 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_33 : Ref sig .tc := ⟨.hbm, 192, rfl⟩
abbrev main_call12_v0 : Ref sig .tc := ⟨.hbm, 193, rfl⟩
abbrev main_v142 : Ref sig .tc := ⟨.hbm, 194, rfl⟩

abbrev nD : Nat := 1
abbrev τ : Topo := Topo.v7x

variable {F : FTy → Type} [FloatOps F]
-- ==== AttnC.lean ====
abbrev S8192x3072 : Shape := ⟨2, ![8192, 3072]⟩
abbrev S64x128x3072 : Shape := ⟨3, ![64, 128, 3072]⟩
abbrev S64x128x1024 : Shape := ⟨3, ![64, 128, 1024]⟩
abbrev S64x128x128 : Shape := ⟨3, ![64, 128, 128]⟩
abbrev S1x128x1024 : Shape := ⟨3, ![1, 128, 1024]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩

abbrev nBuf : Space → Nat
  | .hbm => 4
  | .vmem => 10
  | .smem => 0
  | _ => 0

abbrev bufTy : (tb : Table) → Fin (tcTables nBuf tb) → BufTy
  | .hbm, ⟨0, _⟩ => ⟨S8192x3072, .bf16⟩
  | .hbm, ⟨1, _⟩ => ⟨S64x128x3072, .bf16⟩
  | .hbm, ⟨2, _⟩ => ⟨S64x128x1024, .bf16⟩
  | .hbm, ⟨3, _⟩ => ⟨S64x128x128, .f32⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .vmem, ⟨6, _⟩ => ⟨S1x128x1024, .bf16⟩
  | .local _ .vmem, ⟨7, _⟩ => ⟨S1x128x1024, .bf16⟩
  | .local _ .vmem, ⟨8, _⟩ => ⟨S1x128x128, .f32⟩
  | .local _ .vmem, ⟨9, _⟩ => ⟨S1x128x128, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnCIdeal.lean ====
variable {F : FTy → Type} [FloatOps F] [Named F]
def κ : String → Option EReal := fun
  | "mask" => some ⊥
  | _ => none
-- ==== AttnCRefIdeal.lean ====
abbrev S8192x3072 : Shape := ⟨2, ![8192, 3072]⟩
abbrev S8192x1024 : Shape := ⟨2, ![8192, 1024]⟩
abbrev S4x16x128x8x128 : Shape := ⟨5, ![4, 16, 128, 8, 128]⟩
abbrev S4x128x16x8x128 : Shape := ⟨5, ![4, 128, 16, 8, 128]⟩
abbrev S4x2048x8x128 : Shape := ⟨4, ![4, 2048, 8, 128]⟩
abbrev S8 : Shape := ⟨1, ![8]⟩
abbrev S_ : Shape := ⟨0, ![]⟩
abbrev S4x16x256x8x128 : Shape := ⟨5, ![4, 16, 256, 8, 128]⟩
abbrev S2 : Shape := ⟨1, ![2]⟩
abbrev S2x1 : Shape := ⟨2, ![2, 1]⟩
abbrev S192 : Shape := ⟨1, ![192]⟩
abbrev S1x192 : Shape := ⟨2, ![1, 192]⟩
abbrev S2x192 : Shape := ⟨2, ![2, 192]⟩
abbrev S2x192x1 : Shape := ⟨3, ![2, 192, 1]⟩
abbrev S4x16x2x192x8x128 : Shape := ⟨6, ![4, 16, 2, 192, 8, 128]⟩
abbrev S4x16x2x64x8x128 : Shape := ⟨6, ![4, 16, 2, 64, 8, 128]⟩
abbrev S4x16x2x8x64x192 : Shape := ⟨6, ![4, 16, 2, 8, 64, 192]⟩
abbrev S64 : Shape := ⟨1, ![64]⟩
abbrev S64x1 : Shape := ⟨2, ![64, 1]⟩
abbrev S64x192 : Shape := ⟨2, ![64, 192]⟩
abbrev S1x64x192 : Shape := ⟨3, ![1, 64, 192]⟩
abbrev S2x1x192 : Shape := ⟨3, ![2, 1, 192]⟩
abbrev S2x64x192 : Shape := ⟨3, ![2, 64, 192]⟩
abbrev S8x1x1 : Shape := ⟨3, ![8, 1, 1]⟩
abbrev S8x64x192 : Shape := ⟨3, ![8, 64, 192]⟩
abbrev S1x1x2x1x64x192 : Shape := ⟨6, ![1, 1, 2, 1, 64, 192]⟩
abbrev S1x1x1x8x64x192 : Shape := ⟨6, ![1, 1, 1, 8, 64, 192]⟩
abbrev S4x16x2x8x64 : Shape := ⟨5, ![4, 16, 2, 8, 64]⟩
abbrev S4x16x2x8x64x1 : Shape := ⟨6, ![4, 16, 2, 8, 64, 1]⟩
abbrev S4x16x2x8x128x64 : Shape := ⟨6, ![4, 16, 2, 8, 128, 64]⟩
abbrev S4x16x2x64x8 : Shape := ⟨5, ![4, 16, 2, 64, 8]⟩
abbrev S4x16x128x8 : Shape := ⟨4, ![4, 16, 128, 8]⟩
abbrev S4x128x16x8 : Shape := ⟨4, ![4, 128, 16, 8]⟩
abbrev S4x2048x8 : Shape := ⟨3, ![4, 2048, 8]⟩
abbrev S4x128x16x1024 : Shape := ⟨4, ![4, 128, 16, 1024]⟩
abbrev S4x16x128x1024 : Shape := ⟨4, ![4, 16, 128, 1024]⟩
abbrev S64x128x1024 : Shape := ⟨3, ![64, 128, 1024]⟩
abbrev S64x128x8 : Shape := ⟨3, ![64, 128, 8]⟩
abbrev S64x128x128 : Shape := ⟨3, ![64, 128, 128]⟩

abbrev nBuf : Space → Nat
  | .hbm => 195
  | .vmem => 0
  | .smem => 0
  | _ => 0

abbrev hbmTy0_0 (i : Nat) : BufTy := match i % 128 with
  | 0 => ⟨S8192x3072, .bf16⟩
  | 1 => ⟨S8192x3072, .f32⟩
  | 2 => ⟨S8192x1024, .f32⟩
  | 3 => ⟨S8192x1024, .f32⟩
  | 4 => ⟨S8192x1024, .f32⟩
  | 5 => ⟨S4x16x128x8x128, .f32⟩
  | 6 => ⟨S4x128x16x8x128, .f32⟩
  | 7 => ⟨S4x2048x8x128, .f32⟩
  | 8 => ⟨S4x16x128x8x128, .f32⟩
  | 9 => ⟨S4x128x16x8x128, .f32⟩
  | 10 => ⟨S4x2048x8x128, .f32⟩
  | 11 => ⟨S4x16x128x8x128, .f32⟩
  | 12 => ⟨S4x128x16x8x128, .f32⟩
  | 13 => ⟨S4x2048x8x128, .f32⟩
  | 14 => ⟨S8, .i32⟩
  | 15 => ⟨S_, .f32⟩
  | 16 => ⟨S8, .f32⟩
  | 17 => ⟨S_, .i32⟩
  | 18 => ⟨S8, .i32⟩
  | 19 => ⟨S8, .i1⟩
  | 20 => ⟨S_, .f32⟩
  | 21 => ⟨S8, .f32⟩
  | 22 => ⟨S8, .f32⟩
  | 23 => ⟨S_, .i32⟩
  | 24 => ⟨S8, .i32⟩
  | 25 => ⟨S8, .i1⟩
  | 26 => ⟨S_, .f32⟩
  | 27 => ⟨S8, .f32⟩
  | 28 => ⟨S8, .f32⟩
  | 29 => ⟨S_, .i32⟩
  | 30 => ⟨S8, .i32⟩
  | 31 => ⟨S8, .i1⟩
  | 32 => ⟨S_, .f32⟩
  | 33 => ⟨S8, .f32⟩
  | 34 => ⟨S8, .f32⟩
  | 35 => ⟨S_, .i32⟩
  | 36 => ⟨S8, .i32⟩
  | 37 => ⟨S8, .i1⟩
  | 38 => ⟨S_, .f32⟩
  | 39 => ⟨S8, .f32⟩
  | 40 => ⟨S8, .f32⟩
  | 41 => ⟨S_, .i32⟩
  | 42 => ⟨S8, .i32⟩
  | 43 => ⟨S8, .i1⟩
  | 44 => ⟨S_, .f32⟩
  | 45 => ⟨S8, .f32⟩
  | 46 => ⟨S8, .f32⟩
  | 47 => ⟨S_, .i32⟩
  | 48 => ⟨S8, .i32⟩
  | 49 => ⟨S8, .i1⟩
  | 50 => ⟨S_, .f32⟩
  | 51 => ⟨S8, .f32⟩
  | 52 => ⟨S8, .f32⟩
  | 53 => ⟨S_, .i32⟩
  | 54 => ⟨S8, .i32⟩
  | 55 => ⟨S8, .i1⟩
  | 56 => ⟨S_, .f32⟩
  | 57 => ⟨S8, .f32⟩
  | 58 => ⟨S8, .f32⟩
  | 59 => ⟨S_, .i32⟩
  | 60 => ⟨S8, .i32⟩
  | 61 => ⟨S8, .i1⟩
  | 62 => ⟨S_, .f32⟩
  | 63 => ⟨S8, .f32⟩
  | 64 => ⟨S8, .f32⟩
  | 65 => ⟨S4x128x16x8x128, .f32⟩
  | 66 => ⟨S4x16x128x8x128, .f32⟩
  | 67 => ⟨S_, .i32⟩
  | 68 => ⟨S_, .f32⟩
  | 69 => ⟨S4x16x128x8x128, .f32⟩
  | 70 => ⟨S4x128x16x8x128, .f32⟩
  | 71 => ⟨S4x16x128x8x128, .f32⟩
  | 72 => ⟨S_, .i32⟩
  | 73 => ⟨S_, .f32⟩
  | 74 => ⟨S4x16x256x8x128, .f32⟩
  | 75 => ⟨S4x128x16x8x128, .f32⟩
  | 76 => ⟨S4x16x128x8x128, .f32⟩
  | 77 => ⟨S_, .i32⟩
  | 78 => ⟨S_, .f32⟩
  | 79 => ⟨S4x16x256x8x128, .f32⟩
  | 80 => ⟨S2, .i32⟩
  | 81 => ⟨S2x1, .i32⟩
  | 82 => ⟨S_, .i32⟩
  | 83 => ⟨S2x1, .i32⟩
  | 84 => ⟨S2x1, .i32⟩
  | 85 => ⟨S192, .i32⟩
  | 86 => ⟨S1x192, .i32⟩
  | 87 => ⟨S2x192, .i32⟩
  | 88 => ⟨S2x192, .i32⟩
  | 89 => ⟨S2x192, .i32⟩
  | 90 => ⟨S_, .i32⟩
  | 91 => ⟨S2x192, .i32⟩
  | 92 => ⟨S2x192, .i1⟩
  | 93 => ⟨S_, .i32⟩
  | 94 => ⟨S2x192, .i32⟩
  | 95 => ⟨S2x192, .i32⟩
  | 96 => ⟨S2x192, .i32⟩
  | 97 => ⟨S2x192x1, .i32⟩
  | 98 => ⟨S4x16x2x192x8x128, .f32⟩
  | 99 => ⟨S_, .i32⟩
  | 100 => ⟨S2x192, .i32⟩
  | 101 => ⟨S2x192, .i1⟩
  | 102 => ⟨S_, .i32⟩
  | 103 => ⟨S2x192, .i32⟩
  | 104 => ⟨S2x192, .i32⟩
  | 105 => ⟨S2x192, .i32⟩
  | 106 => ⟨S2x192x1, .i32⟩
  | 107 => ⟨S4x16x2x192x8x128, .f32⟩
  | 108 => ⟨S4x16x2x64x8x128, .f32⟩
  | 109 => ⟨S4x16x2x8x64x192, .f32⟩
  | 110 => ⟨S_, .f32⟩
  | 111 => ⟨S4x16x2x8x64x192, .f32⟩
  | 112 => ⟨S4x16x2x8x64x192, .f32⟩
  | 113 => ⟨S192, .i32⟩
  | 114 => ⟨S1x192, .i32⟩
  | 115 => ⟨S_, .i32⟩
  | 116 => ⟨S1x192, .i32⟩
  | 117 => ⟨S1x192, .i32⟩
  | 118 => ⟨S64, .i32⟩
  | 119 => ⟨S64x1, .i32⟩
  | 120 => ⟨S64x192, .i32⟩
  | 121 => ⟨S64x192, .i32⟩
  | 122 => ⟨S64x192, .i32⟩
  | 123 => ⟨S_, .i32⟩
  | 124 => ⟨S2x192, .i32⟩
  | 125 => ⟨S2x192, .i32⟩
  | 126 => ⟨S64x192, .i32⟩
  | 127 => ⟨S_, .i32⟩
  | _ => ⟨S8192x3072, .bf16⟩

abbrev hbmTy0_1 (i : Nat) : BufTy := match i % 128 with
  | 0 => ⟨S64x192, .i32⟩
  | 1 => ⟨S64x192, .i1⟩
  | 2 => ⟨S1x64x192, .i1⟩
  | 3 => ⟨S_, .i32⟩
  | 4 => ⟨S2x192, .i32⟩
  | 5 => ⟨S2x192, .i1⟩
  | 6 => ⟨S_, .i32⟩
  | 7 => ⟨S2x192, .i32⟩
  | 8 => ⟨S2x192, .i1⟩
  | 9 => ⟨S2x192, .i1⟩
  | 10 => ⟨S2x1x192, .i1⟩
  | 11 => ⟨S2x64x192, .i1⟩
  | 12 => ⟨S2x64x192, .i1⟩
  | 13 => ⟨S2x64x192, .i1⟩
  | 14 => ⟨S8x1x1, .f32⟩
  | 15 => ⟨S8x1x1, .f32⟩
  | 16 => ⟨S64x192, .i32⟩
  | 17 => ⟨S_, .i32⟩
  | 18 => ⟨S64x192, .i32⟩
  | 19 => ⟨S64x192, .i32⟩
  | 20 => ⟨S64x192, .f32⟩
  | 21 => ⟨S1x64x192, .f32⟩
  | 22 => ⟨S8x64x192, .f32⟩
  | 23 => ⟨S8x64x192, .f32⟩
  | 24 => ⟨S8x64x192, .f32⟩
  | 25 => ⟨S1x1x2x1x64x192, .i1⟩
  | 26 => ⟨S1x1x1x8x64x192, .f32⟩
  | 27 => ⟨S4x16x2x8x64x192, .f32⟩
  | 28 => ⟨S4x16x2x8x64x192, .f32⟩
  | 29 => ⟨S_, .f32⟩
  | 30 => ⟨S_, .f32⟩
  | 31 => ⟨S4x16x2x8x64x192, .i1⟩
  | 32 => ⟨S4x16x2x8x64x192, .f32⟩
  | 33 => ⟨S4x16x2x8x64x192, .f32⟩
  | 34 => ⟨S_, .f32⟩
  | 35 => ⟨S4x16x2x8x64, .f32⟩
  | 36 => ⟨S4x16x2x8x64x1, .f32⟩
  | 37 => ⟨S4x16x2x8x64x192, .f32⟩
  | 38 => ⟨S4x16x2x8x64x192, .f32⟩
  | 39 => ⟨S4x16x2x8x64x192, .f32⟩
  | 40 => ⟨S_, .f32⟩
  | 41 => ⟨S4x16x2x8x64, .f32⟩
  | 42 => ⟨S4x16x2x8x64x1, .f32⟩
  | 43 => ⟨S4x16x2x8x64x192, .f32⟩
  | 44 => ⟨S4x16x2x8x64x192, .f32⟩
  | 45 => ⟨S4x16x2x8x128x64, .f32⟩
  | 46 => ⟨S4x16x2x64x8x128, .f32⟩
  | 47 => ⟨S4x16x2x8x64x1, .f32⟩
  | 48 => ⟨S4x16x2x8x64x1, .f32⟩
  | 49 => ⟨S4x16x2x8x64, .f32⟩
  | 50 => ⟨S4x16x128x8x128, .f32⟩
  | 51 => ⟨S4x128x16x8x128, .f32⟩
  | 52 => ⟨S4x2048x8x128, .f32⟩
  | 53 => ⟨S4x16x2x64x8, .f32⟩
  | 54 => ⟨S4x16x128x8, .f32⟩
  | 55 => ⟨S4x128x16x8, .f32⟩
  | 56 => ⟨S4x2048x8, .f32⟩
  | 57 => ⟨S4x128x16x1024, .f32⟩
  | 58 => ⟨S4x16x128x1024, .f32⟩
  | 59 => ⟨S4x128x16x8, .f32⟩
  | 60 => ⟨S4x16x128x8, .f32⟩
  | 61 => ⟨S64x128x1024, .f32⟩
  | 62 => ⟨S64x128x1024, .bf16⟩
  | 63 => ⟨S64x128x8, .f32⟩
  | 64 => ⟨S_, .i32⟩
  | 65 => ⟨S_, .f32⟩
  | 66 => ⟨S64x128x128, .f32⟩
  | _ => ⟨S8192x3072, .bf16⟩

abbrev hbmTy (i : Nat) : BufTy := match i / 128 with
  | 0 => hbmTy0_0 i
  | 1 => hbmTy0_1 i
  | _ => ⟨S8192x3072, .bf16⟩

abbrev bufTy : (tb : Table) → Fin (tcTables nBuf tb) → BufTy
  | .hbm, ⟨i, _⟩ => hbmTy i
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_cst : Ref sig .tc := ⟨.hbm, 15, rfl⟩
abbrev main_v14 : Ref sig .tc := ⟨.hbm, 16, rfl⟩
abbrev main_c : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_call0_v0 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_call1_v0 : Ref sig .tc := ⟨.hbm, 27, rfl⟩
abbrev main_v20 : Ref sig .tc := ⟨.hbm, 28, rfl⟩
abbrev main_c_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_call2_v0 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_call3_v0 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_call4_v0 : Ref sig .tc := ⟨.hbm, 45, rfl⟩
abbrev main_v29 : Ref sig .tc := ⟨.hbm, 46, rfl⟩
abbrev main_c_9 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_call5_v0 : Ref sig .tc := ⟨.hbm, 51, rfl⟩
abbrev main_v32 : Ref sig .tc := ⟨.hbm, 52, rfl⟩
abbrev main_c_11 : Ref sig .tc := ⟨.hbm, 53, rfl⟩
abbrev main_v33 : Ref sig .tc := ⟨.hbm, 54, rfl⟩
abbrev main_v34 : Ref sig .tc := ⟨.hbm, 55, rfl⟩
abbrev main_cst_12 : Ref sig .tc := ⟨.hbm, 56, rfl⟩
abbrev main_call6_v0 : Ref sig .tc := ⟨.hbm, 57, rfl⟩
abbrev main_v35 : Ref sig .tc := ⟨.hbm, 58, rfl⟩
abbrev main_c_13 : Ref sig .tc := ⟨.hbm, 59, rfl⟩
abbrev main_v36 : Ref sig .tc := ⟨.hbm, 60, rfl⟩
abbrev main_v37 : Ref sig .tc := ⟨.hbm, 61, rfl⟩
abbrev main_cst_14 : Ref sig .tc := ⟨.hbm, 62, rfl⟩
abbrev main_call7_v0 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_15 : Ref sig .tc := ⟨.hbm, 67, rfl⟩
abbrev main_call8_v0 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_c_16 : Ref sig .tc := ⟨.hbm, 72, rfl⟩
abbrev main_call9_v0 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_c_17 : Ref sig .tc := ⟨.hbm, 77, rfl⟩
abbrev main_call10_v0 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_18 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_c_19 : Ref sig .tc := ⟨.hbm, 90, rfl⟩
abbrev main_v57 : Ref sig .tc := ⟨.hbm, 91, rfl⟩
abbrev main_v58 : Ref sig .tc := ⟨.hbm, 92, rfl⟩
abbrev main_c_20 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_c_21 : Ref sig .tc := ⟨.hbm, 99, rfl⟩
abbrev main_v64 : Ref sig .tc := ⟨.hbm, 100, rfl⟩
abbrev main_v65 : Ref sig .tc := ⟨.hbm, 101, rfl⟩
abbrev main_c_22 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_23 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_24 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_c_25 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_c_26 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_c_27 : Ref sig .tc := ⟨.hbm, 131, rfl⟩
abbrev main_v90 : Ref sig .tc := ⟨.hbm, 132, rfl⟩
abbrev main_v91 : Ref sig .tc := ⟨.hbm, 133, rfl⟩
abbrev main_c_28 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_29 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_30 : Ref sig .tc := ⟨.hbm, 157, rfl⟩
abbrev main_call11_v0 : Ref sig .tc := ⟨.hbm, 158, rfl⟩
abbrev main_call11_v1 : Ref sig .tc := ⟨.hbm, 159, rfl⟩
abbrev main_call11_v2 : Ref sig .tc := ⟨.hbm, 160, rfl⟩
abbrev main_v113 : Ref sig .tc := ⟨.hbm, 161, rfl⟩
abbrev main_cst_31 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_cst_32 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_33 : Ref sig .tc := ⟨.hbm, 192, rfl⟩
abbrev main_call12_v0 : Ref sig .tc := ⟨.hbm, 193, rfl⟩
abbrev main_v142 : Ref sig .tc := ⟨.hbm, 194, rfl⟩

abbrev nD : Nat := 1
abbrev τ : Topo := Topo.v7x

variable {F : FTy → Type} [FloatOps F]
-- ==== Proof.Attn.Math.lean ====
module
public import Idealize.ShloMosaic.PureOps.Ideal
public import Mathlib.Data.EReal.Operations

/-! A softmax-weighted sum over extended reals, free of any program: the row's maximum, the weights, the
    weighted sum, and what does not change when the row is read through a window. -/

@[expose] public section
noncomputable section
namespace Cert.Proof.Attn
open Idealize.ShloMosaic

variable {ι κ : Type} [Fintype ι] [Fintype κ]

/-- The greatest entry of a row of scores. -/
def rowMax (s : ι → EReal) : EReal := Finset.univ.sup s

/-- The sum of the exponentials of a row less its maximum. -/
def rowDen (s : ι → EReal) : EReal := ∑ j, Ideal.exp (s j - rowMax s)

/-- The values weighted by the exponentials, divided by their sum. -/
def rowOut (s v : ι → EReal) : EReal := Ideal.div (∑ j, Ideal.exp (s j - rowMax s) * v j) (rowDen s)

/-- The values weighted by the divided exponentials. -/
def rowOutW (s v : ι → EReal) : EReal := ∑ j, Ideal.div (Ideal.exp (s j - rowMax s)) (rowDen s) * v j

/-- The logarithm of the sum of the exponentials. -/
def rowLse (s : ι → EReal) : EReal := rowMax s + Ideal.log (rowDen s)

/-- A row read through a window: `P` marks the places that stand for an entry, `e` names the entry. -/
structure Window (P : κ → Prop) (e : κ → ι) (s' : κ → EReal) (s : ι → EReal) : Prop where
  on : ∀ a, P a → s' a = s (e a)
  off : ∀ a, ¬ P a → s' a = ⊥
  inj : ∀ a b, P a → P b → e a = e b → a = b
  cov : ∀ j, s j ≠ ⊥ → ∃ a, P a ∧ e a = j

variable {P : κ → Prop} {e : κ → ι} {s' : κ → EReal} {s : ι → EReal}

/-- The maximum through a window. -/
theorem Window.rowMax (w : Window P e s' s) : rowMax s' = rowMax s := by
  apply le_antisymm
  · refine Finset.sup_le fun a _ => ?_
    by_cases h : P a
    · rw [w.on a h]; exact Finset.le_sup (f := s) (Finset.mem_univ _)
    · rw [w.off a h]; exact bot_le
  · refine Finset.sup_le fun j _ => ?_
    by_cases h : s j = ⊥
    · rw [h]; exact bot_le
    · obtain ⟨a, ha, rfl⟩ := w.cov j h
      rw [← w.on a ha]; exact Finset.le_sup (f := s') (Finset.mem_univ _)

/-- A sum of terms that vanish with the score, through a window. -/
theorem Window.sum (w : Window P e s' s) (f' : κ → EReal) (f : ι → EReal) (hon : ∀ a, P a → f' a = f (e a))
    (hoff : ∀ a, ¬ P a → f' a = 0) (hbot : ∀ j, s j = ⊥ → f j = 0) : ∑ a, f' a = ∑ j, f j := by
  refine Finset.sum_bij_ne_zero (fun a _ _ => e a) (fun _ _ _ => Finset.mem_univ _) ?_ ?_ ?_
  · intro a _ ha b _ hb hab
    refine w.inj a b ?_ ?_ hab
    · by_contra h; exact ha (hoff a h)
    · by_contra h; exact hb (hoff b h)
  · intro j _ hj
    obtain ⟨a, ha, rfl⟩ := w.cov j fun h => hj (hbot j h)
    exact ⟨a, Finset.mem_univ _, by rw [hon a ha]; exact hj, rfl⟩
  · intro a _ ha
    exact hon a (by by_contra h; exact ha (hoff a h))

/-- A score of minus infinity has weight zero. -/
theorem exp_bot_sub (x : EReal) : Ideal.exp (⊥ - x) = 0 := by
  rw [EReal.bot_sub]; rfl

/-- The sum of exponentials through a window. -/
theorem Window.rowDen (w : Window P e s' s) : rowDen s' = rowDen s := by
  unfold Attn.rowDen
  rw [w.rowMax]
  refine w.sum _ _ (fun a h => by rw [w.on a h]) (fun a h => by rw [w.off a h, exp_bot_sub])
    (fun j h => by rw [h, exp_bot_sub])

/-- The log-sum-exp through a window. -/
theorem Window.rowLse (w : Window P e s' s) : rowLse s' = rowLse s := by
  unfold Attn.rowLse; rw [w.rowMax, w.rowDen]

/-- The weighted sum through a window. -/
theorem Window.rowOut (w : Window P e s' s) (v' : κ → EReal) (v : ι → EReal) (hv : ∀ a, P a → v' a = v (e a)) :
    rowOut s' v' = rowOut s v := by
  unfold Attn.rowOut
  rw [w.rowDen, w.rowMax]
  congr 1
  refine w.sum _ _ (fun a h => by rw [w.on a h, hv a h]) (fun a h => by rw [w.off a h, exp_bot_sub, zero_mul])
    (fun j h => by rw [h, exp_bot_sub, zero_mul])

/-- A row of scores that are real or minus infinity, one of them real. -/
structure Real' (s : ι → EReal) : Prop where
  top : ∀ j, s j ≠ ⊤
  one : ∃ j, s j ≠ ⊥

/-- The maximum of such a row is real. -/
theorem Real'.max (h : Real' s) : ∃ M : ℝ, Attn.rowMax s = (M : EReal) := by
  obtain ⟨j, hj⟩ := h.one
  have hb : Attn.rowMax s ≠ ⊥ := by
    intro h0
    have := Finset.le_sup (f := s) (Finset.mem_univ j)
    rw [show Finset.univ.sup s = ⊥ from h0] at this
    exact hj (le_bot_iff.mp this)
  have ht : Attn.rowMax s ≠ ⊤ := by
    intro h0
    have : Attn.rowMax s < ⊤ := (Finset.sup_lt_iff (by exact bot_lt_top)).mpr fun j _ => lt_top_iff_ne_top.mpr (h.top j)
    exact this.ne h0
  exact ⟨(Attn.rowMax s).toReal, (EReal.coe_toReal ht hb).symm⟩

/-- Each exponential is a nonnegative real, positive where the score is real. -/
theorem Real'.exp (h : Real' s) (j : ι) : ∃ p : ℝ, 0 ≤ p ∧ (s j ≠ ⊥ → 0 < p) ∧ Ideal.exp (s j - Attn.rowMax s) = (p : EReal) := by
  obtain ⟨M, hM⟩ := h.max
  rw [hM]
  by_cases hj : s j = ⊥
  · exact ⟨0, le_refl _, fun h' => absurd hj h', by rw [hj, exp_bot_sub]; rfl⟩
  · refine ⟨Real.exp ((s j).toReal - M), (Real.exp_pos _).le, fun _ => Real.exp_pos _, ?_⟩
    conv_lhs => rw [← EReal.coe_toReal (h.top j) hj, ← EReal.coe_sub]
    rfl

/-- The sum of the exponentials is a positive real. -/
theorem Real'.den (h : Real' s) : ∃ d : ℝ, 0 < d ∧ rowDen s = (d : EReal) := by
  choose p h0 h1 h2 using h.exp
  refine ⟨∑ j, p j, ?_, ?_⟩
  · obtain ⟨j, hj⟩ := h.one
    exact Finset.sum_pos' (fun j _ => h0 j) ⟨j, Finset.mem_univ _, h1 j hj⟩
  · unfold rowDen
    rw [Finset.sum_congr rfl fun j _ => h2 j]
    induction (Finset.univ : Finset ι) using Finset.cons_induction with
    | empty => simp
    | cons a t ha ih => rw [Finset.sum_cons, Finset.sum_cons, ih, EReal.coe_add]

/-- A product with a nonnegative real goes into a sum of extended reals. -/
theorem sum_mul_real (f : ι → EReal) (c : ℝ) (hc : 0 ≤ c) : ∑ j, f j * (c : EReal) = (∑ j, f j) * (c : EReal) := by
  induction (Finset.univ : Finset ι) using Finset.cons_induction with
  | empty => simp
  | cons a t ha ih =>
    rw [Finset.sum_cons, Finset.sum_cons, ih, EReal.right_distrib_of_nonneg_of_ne_top (by exact_mod_cast hc) (EReal.coe_ne_top c)]

/-- Dividing each weight and dividing the sum agree. -/
theorem Real'.outW (h : Real' s) (v : ι → EReal) : rowOutW s v = rowOut s v := by
  obtain ⟨d, hd, hden⟩ := h.den
  unfold rowOutW rowOut
  rw [hden, Ideal.div_coe hd.ne', ← sum_mul_real _ _ (one_div_nonneg.mpr hd.le)]
  refine Finset.sum_congr rfl fun j _ => ?_
  rw [Ideal.div_coe hd.ne', mul_right_comm]

/-- A finite sum of products of finite extended reals is finite. -/
theorem sum_mul_finite (a b : ι → EReal) (ha : ∀ x, ∃ r : ℝ, a x = r) (hb : ∀ x, ∃ r : ℝ, b x = r) :
    ∃ r : ℝ, ∑ x, a x * b x = (r : EReal) := by
  choose f hf using ha
  choose g hg using hb
  refine ⟨∑ x, f x * g x, ?_⟩
  rw [Finset.sum_congr rfl fun x _ => by rw [hf x, hg x, ← EReal.coe_mul]]
  induction (Finset.univ : Finset ι) using Finset.cons_induction with
  | empty => simp
  | cons a t ha ih => rw [Finset.sum_cons, Finset.sum_cons, ih, EReal.coe_add]

end Cert.Proof.Attn
end
-- ==== Proof.Attn.Spec.lean ====
module
public import proofs.«01_k».proof.Proof.Attn.Math
public import Idealize.ShloMosaic.Lib.Pointwise

/-! What the attention of group 0 is, row by row, and the arithmetic of the index words that both programs compute. -/

@[expose] public section
set_option maxRecDepth 16384
noncomputable section
namespace Cert.Proof.Attn
open Idealize.ShloMosaic

/-- The bits of the slopes of the eight heads of group 0. -/
def slopeBits : Fin 8 → BitVec 32 :=
  ![0x3F4B2FF5#32, 0x3F214518#32, 0x3F000000#32, 0x3ECB2FF5#32, 0x3EA14518#32, 0x3E800000#32, 0x3E4B2FF5#32, 0x3E214518#32]

/-- The slope of a head. -/
def slope (h : Fin 8) : EReal := Ideal.ofBits .f32 (slopeBits h)

/-- The scale of the scores. -/
def scale : EReal := Ideal.ofBits .f32 0x3DB504F3#32

variable (x : (⟨2, ![8192, 3072]⟩ : Shape).Idx → EReal)

/-- Column `e` of head `h` in third `s` (queries, keys, values) of the row of position `t` in sequence `b`. -/
def part (s : Fin 3) (b : Fin 4) (t : Fin 2048) (h : Fin 8) (e : Fin 128) : EReal :=
  x (ix2 ⟨b.val * 2048 + t.val, by omega⟩ ⟨s.val * 1024 + (h.val * 128 + e.val), by omega⟩)

/-- How far apart two positions are. -/
def dist (t j : ℕ) : ℕ := (t - j) + (j - t)

/-- The score of position `j` for the query at `t`: minus infinity outside the band. -/
def row (b : Fin 4) (h : Fin 8) (t : Fin 2048) (j : Fin 2048) : EReal :=
  if dist t.val j.val ≤ 64 then
    (∑ e, part x 0 b t h e * part x 1 b j h e) * scale - slope h * (((dist t.val j.val : ℕ) : ℝ) : EReal)
  else ⊥

/-- The attention's output. -/
def attn (b : Fin 4) (t : Fin 2048) (h : Fin 8) (e : Fin 128) : EReal :=
  rowOut (row x b h t) fun j => part x 2 b j h e

/-- The logarithm of the attention's denominator. -/
def lse (b : Fin 4) (t : Fin 2048) (h : Fin 8) : EReal := rowLse (row x b h t)

/-! ## Index words -/

/-- A natural number as a word. -/
theorem natWord (n : ℕ) : BitVec.ofNat 32 n = BitVec.ofInt 32 n := by simp

/-- The sum of two words. -/
theorem wadd (a b : ℤ) : IntOp.addi (BitVec.ofInt 32 a) (BitVec.ofInt 32 b) = BitVec.ofInt 32 (a + b) := by
  unfold IntOp.addi; rw [BitVec.ofInt_add]

/-- The difference of two words. -/
theorem wsub (a b : ℤ) : IntOp.subi (BitVec.ofInt 32 a) (BitVec.ofInt 32 b) = BitVec.ofInt 32 (a - b) := by
  unfold IntOp.subi; rw [sub_eq_add_neg a b, BitVec.ofInt_add, BitVec.ofInt_neg, BitVec.sub_eq_add_neg]

/-- The product of two words. -/
theorem wmul (a b : ℤ) : IntOp.muli (BitVec.ofInt 32 a) (BitVec.ofInt 32 b) = BitVec.ofInt 32 (a * b) := by
  unfold IntOp.muli; rw [BitVec.ofInt_mul]

/-- A small word reads as its integer. -/
theorem wInt (z : ℤ) (h : -2147483648 ≤ z) (h' : z < 2147483648) : (BitVec.ofInt 32 z).toInt = z := by
  rw [BitVec.toInt_ofInt]; exact Int.bmod_eq_of_le (by omega) (by omega)

/-- The absolute value of a word. -/
theorem wabs (z : ℤ) (h : -2147483648 < z) (h' : z < 2147483648) : IntOp.absi (BitVec.ofInt 32 z) = BitVec.ofInt 32 |z| := by
  have hz := wInt z (by omega) h'
  have hm : (BitVec.ofInt 32 z).msb = decide (z < 0) := by rw [BitVec.msb_eq_toInt, hz]
  unfold IntOp.absi
  by_cases hn : z < 0
  · rw [hm, if_pos (by simpa using hn), abs_of_neg hn, BitVec.ofInt_neg]
  · rw [hm, if_neg (by simpa using hn), abs_of_nonneg (by omega)]

/-- Words compare as the integers do: at most. -/
theorem wsle (a b : ℤ) (h : -2147483648 ≤ a ∧ a < 2147483648) (h' : -2147483648 ≤ b ∧ b < 2147483648) :
    IntOp.cmpi .sle (BitVec.ofInt 32 a) (BitVec.ofInt 32 b) = BitVec.ofBool (decide (a ≤ b)) := by
  show BitVec.ofBool ((BitVec.ofInt 32 a).sle (BitVec.ofInt 32 b)) = _
  rw [BitVec.sle_eq_decide, wInt a h.1 h.2, wInt b h'.1 h'.2]

/-- Words compare as the integers do: less. -/
theorem wslt (a b : ℤ) (h : -2147483648 ≤ a ∧ a < 2147483648) (h' : -2147483648 ≤ b ∧ b < 2147483648) :
    IntOp.cmpi .slt (BitVec.ofInt 32 a) (BitVec.ofInt 32 b) = BitVec.ofBool (decide (a < b)) := by
  show BitVec.ofBool ((BitVec.ofInt 32 a).slt (BitVec.ofInt 32 b)) = _
  rw [BitVec.slt_eq_decide, wInt a h.1 h.2, wInt b h'.1 h'.2]

/-- Words compare as the integers do: at least. -/
theorem wsge (a b : ℤ) (h : -2147483648 ≤ a ∧ a < 2147483648) (h' : -2147483648 ≤ b ∧ b < 2147483648) :
    IntOp.cmpi .sge (BitVec.ofInt 32 a) (BitVec.ofInt 32 b) = BitVec.ofBool (decide (b ≤ a)) := wsle b a h' h

/-- A word as a float. -/
theorem wfp (z : ℤ) (h : -2147483648 ≤ z) (h' : z < 2147483648) :
    (FloatOps.sitofp .f32 (BitVec.ofInt 32 z) : Ideal .f32) = ((z : ℝ) : EReal) := by
  show (((BitVec.ofInt 32 z).toInt : ℝ) : EReal) = _
  rw [wInt z h h']

/-- A choice by a comparison's bit. -/
theorem sel (p : Prop) [Decidable p] (a b : EReal) : Scalar.select (BitVec.ofBool (decide p)) a b = if p then a else b := by
  by_cases hp : p <;> simp [hp, Scalar.select]

/-- The absolute difference as a word. -/
theorem wdist (a t j : ℕ) (z : ℤ) (hz : z = (j : ℤ) - t) (hd : dist t j = a) : |z| = (a : ℤ) := by
  subst hz hd; unfold dist
  rcases le_total t j with h | h
  · rw [abs_of_nonneg (by omega)]; omega
  · rw [abs_of_nonpos (by omega)]; omega

end Cert.Proof.Attn
-- ==== Proof.Attn.Head.lean ====
module
public import proofs.«01_k».proof.Proof.Gen.KernelIdeal.Value
public import Idealize.ShloMosaic.Lib.Pipeline.ValueKit
public import proofs.«01_k».proof.Proof.Attn.Spec

/-! One head of the attention call, as a function of the head's query, key and value blocks. -/

@[expose] public section
set_option maxRecDepth 16384
noncomputable section
namespace Cert.Proof.Attn
open Cert.KernelIdeal Cert.KernelIdeal.Gen Cert.KernelIdeal.Facts Idealize.ShloMosaic Idealize.ShloMosaic.TcCoe Idealize.SL.Sem

/-- The masked scores of a head whose slope has the bits `b`. -/
def sc (i : grid0.Coords) (b : BitVec 32) (q : Vec Ideal S1x128x128 .bf16) (k : Vec Ideal S1x256x128 .bf16) :
    FVec Ideal S128x256 .f32 :=
  select (k0_pay3 i)
    (subf (mulf (matmul dot_S128x128_S256x128_S128x256_1_1_0_0_n_n none (shapeCast S128x128 q shapeCasts_S1x128x128_S128x128 : FVec Ideal S128x128 .bf16)
        (shapeCast S256x128 k shapeCasts_S1x256x128_S256x128 : FVec Ideal S256x128 .bf16) (constant S128x256 .f32 0x00000000#32))
        (broadcast S128x256 (Scalar.ofBits .f32 0x3DB504F3#32)))
      (mulf (broadcast S128x256 (Scalar.ofBits .f32 b)) (k0_pay4 (F := Ideal) i)))
    (broadcast S128x256 (Named.named κ "mask" 0xF149F2CA#32))

/-- The row maxima of scores. -/
def mx (s : FVec Ideal S128x256 .f32) : FVec Ideal S128x1 .f32 :=
  shapeCast S128x1 (multiReduction .maximumf [1] S128 s 0xFF800000#32 reduces_S128x256_S128 (.inl rfl) rfl) shapeCasts_S128_S128x1

/-- The weights before division. -/
def ex (s : FVec Ideal S128x256 .f32) : FVec Ideal S128x256 .f32 :=
  exp (subf s (broadcastTo S128x256 (mx s) broadcasts_S128x1_S128x256))

/-- The row sums of the weights. -/
def dn (s : FVec Ideal S128x256 .f32) : FVec Ideal S128x1 .f32 :=
  shapeCast S128x1 (multiReduction .add [1] S128 (ex s) 0x00000000#32 reduces_S128x256_S128 (.inl rfl) rfl) shapeCasts_S128_S128x1

/-- The head's output block. -/
def ho (s : FVec Ideal S128x256 .f32) (v : Vec Ideal S1x256x128 .bf16) : FVec Ideal S1x128x128 .bf16 :=
  shapeCast S1x128x128 (truncf .bf16 (divf (matmul dot_S128x256_S256x128_S128x128_1_0_0_1_n_n none (truncf .bf16 (ex s) bitsLt_bf16_f32)
    (shapeCast S256x128 v shapeCasts_S1x256x128_S256x128 : FVec Ideal S256x128 .bf16) (constant S128x128 .f32 0x00000000#32))
    (broadcastTo S128x128 (dn s) broadcasts_S128x1_S128x128)) bitsLt_bf16_f32) shapeCasts_S128x128_S1x128x128

/-- One step of the log-sum-exp tile: lane `h` takes the head's column. -/
def ls (h : BitVec 32) (s : FVec Ideal S128x256 .f32) (prev : FVec Ideal S128x128 .f32) : FVec Ideal S128x128 .f32 :=
  select (cmpi .eq (iota Kind.tc S128x128 32 [1] iota_S128x128_d1_w32) (broadcast S128x128 h))
    (broadcastTo S128x128 (shapeCast S128x1 (addf (mx s) (log (dn s))) shapeCasts_S128x1_S128x1) broadcasts_S128x1_S128x128) prev

/-- Where a query block's key window starts. -/
def st (n : ℕ) : ℕ := min 1792 (128 * n - 64)

/-- The start of the key window less that of the query block, as a word. -/
theorem startWord (n : ℕ) (h : n < 16) :
    Scalar.subi (Scalar.minsi 1792#32 (Scalar.maxsi 0#32 (Scalar.subi (Scalar.muli (BitVec.ofNat 32 n) 128#32) 64#32)))
      (Scalar.muli (BitVec.ofNat 32 n) 128#32) = BitVec.ofInt 32 ((st n : ℤ) - 128 * n) := by
  interval_cases n <;> rfl

/-- A masked score: minus infinity outside the band. -/
theorem sc_apply (i : grid0.Coords) (b : BitVec 32) (q : Vec Ideal S1x128x128 .bf16) (k : Vec Ideal S1x256x128 .bf16) (r : Fin 128) (c : Fin 256) :
    sc i b q k (ix2 r c) = if dist (128 * (i 1).val + r.val) (st (i 1).val + c.val) ≤ 64 then
      (∑ e : Fin 128, q (ix3 0 r e) * k (ix3 0 c e)) * scale
        - Ideal.ofBits .f32 b * (((dist (128 * (i 1).val + r.val) (st (i 1).val + c.val) : ℕ) : ℝ) : EReal) else ⊥ := by
  have hi : (i 1).val < 16 := (i 1).isLt
  have hs : st (i 1).val ≤ 1792 := Nat.min_le_left _ _
  pointwise [sc, k0_pay3, k0_pay4, k0_pay2]
  have hk : (Named.named κ "mask" 4048155338#32 : Ideal .f32) = (⊥ : EReal) := IdealRules.named_const.ideal_named_scalar _ _ _ _ rfl
  rw [hk, startWord _ hi, natWord c.val, natWord r.val, wsub, wadd, show (64#32) = BitVec.ofInt 32 64 from rfl,
    wabs _ (by omega) (by omega)]
  rw [wdist (dist (128 * (i 1).val + r.val) (st (i 1).val + c.val)) (128 * (i 1).val + r.val) (st (i 1).val + c.val) _ (by push_cast; ring) rfl]
  have hd : dist (128 * (i 1).val + r.val) (st (i 1).val + c.val) < 4096 := by unfold dist; omega
  generalize dist (128 * (i 1).val + r.val) (st (i 1).val + c.val) = d at hd
  rw [wsle _ _ (by omega) (by omega), wfp _ (by omega) (by omega), sel]
  simp only [Int.cast_natCast, show ((d : ℤ) ≤ 64) ↔ d ≤ 64 by omega]
  rfl

/-- A row's maximum, as the body computes it. -/
theorem mx_apply (s : FVec Ideal S128x256 .f32) (r : Fin 128) (z : Fin 1) :
    mx s (ix2 r z) = rowMax fun c : Fin 256 => s (ix2 r c) := by
  pointwise [mx]
  rw [show Ideal.ofBits .f32 4286578688#32 = ⊥ by simp [Ideal.ofBits, Ideal.ieee]]
  rfl

/-- A row's exponentials, as the body computes them. -/
theorem ex_apply (s : FVec Ideal S128x256 .f32) (r : Fin 128) (c : Fin 256) :
    ex s (ix2 r c) = Ideal.exp (s (ix2 r c) - rowMax fun c : Fin 256 => s (ix2 r c)) := by
  pointwise [ex]
  rw [mx_apply]

/-- A row's denominator, as the body computes it. -/
theorem dn_apply (s : FVec Ideal S128x256 .f32) (r : Fin 128) (z : Fin 1) :
    dn s (ix2 r z) = rowDen fun c : Fin 256 => s (ix2 r c) := by
  pointwise [dn]
  simp only [ex_apply]
  rfl

/-- A head's output is the row's weighted mean of the values. -/
theorem ho_apply (s : FVec Ideal S128x256 .f32) (v : Vec Ideal S1x256x128 .bf16) (z : Fin 1) (r : Fin 128) (e : Fin 128) :
    ho s v (ix3 z r e) = rowOut (fun c : Fin 256 => s (ix2 r c)) fun c => v (ix3 0 c e) := by
  pointwise [ho]
  simp only [ex_apply, dn_apply]
  rfl

/-- One step of the tile of log-sum-exps. -/
theorem ls_apply (h : Fin 8) (s : FVec Ideal S128x256 .f32) (prev : FVec Ideal S128x128 .f32) (r : Fin 128) (e : Fin 128) :
    ls (BitVec.ofNat 32 h.val) s prev (ix2 r e) = if e.val = h.val then rowLse (fun c : Fin 256 => s (ix2 r c)) else prev (ix2 r e) := by
  pointwise [ls]
  rw [mx_apply, dn_apply]
  have : IntOp.cmpi .eq (BitVec.ofNat 32 e.val) (BitVec.ofNat 32 h.val) = BitVec.ofBool (decide (e.val = h.val)) := by
    show BitVec.ofBool (BitVec.ofNat 32 e.val == BitVec.ofNat 32 h.val) = _
    congr 1
    rw [Bool.eq_iff_iff]
    simp only [beq_iff_eq, decide_eq_true_eq, ← BitVec.toNat_inj, BitVec.toNat_ofNat]
    omega
  rw [this, sel]
  rfl

/-- A head's row of scores is the attention's row read through the key window. -/
theorem headWindow (x : (⟨2, ![8192, 3072]⟩ : Shape).Idx → EReal) (i : grid0.Coords) (b : Fin 4) (h : Fin 8)
    (q : Vec Ideal S1x128x128 .bf16) (k : Vec Ideal S1x256x128 .bf16) (hi : (i 1).val < 16) (hs : st (i 1).val + 256 ≤ 2048)
    (hq : ∀ (r e : Fin 128), q (ix3 0 r e) = part x 0 b ⟨128 * (i 1).val + r.val, by omega⟩ h e)
    (hk : ∀ (c : Fin 256) (e : Fin 128), k (ix3 0 c e) = part x 1 b ⟨st (i 1).val + c.val, by omega⟩ h e) (r : Fin 128) :
    Window (fun c : Fin 256 => dist (128 * (i 1).val + r.val) (st (i 1).val + c.val) ≤ 64)
      (fun c => (⟨st (i 1).val + c.val, by omega⟩ : Fin 2048)) (fun c => sc i (slopeBits h) q k (ix2 r c))
      (row x b h ⟨128 * (i 1).val + r.val, by omega⟩) where
  on c hc := by
    rw [sc_apply, if_pos hc, row, if_pos hc]
    simp only [hq, hk]
    rfl
  off c hc := by rw [sc_apply, if_neg hc]
  inj a c _ _ hac := by
    have := congrArg Fin.val hac
    exact Fin.ext (by simpa using this)
  cov j hj := by
    have hd : dist (128 * (i 1).val + r.val) j.val ≤ 64 := by
      by_contra hn
      exact hj (by rw [row, if_neg hn])
    have hd' := hd
    unfold dist at hd'
    have hst : st (i 1).val = min 1792 (128 * (i 1).val - 64) := rfl
    refine ⟨⟨j.val - st (i 1).val, by omega⟩, ?_, Fin.ext ?_⟩
    · show dist _ (st (i 1).val + (j.val - st (i 1).val)) ≤ 64
      rw [show st (i 1).val + (j.val - st (i 1).val) = j.val by omega]; exact hd
    · show st (i 1).val + (j.val - st (i 1).val) = j.val
      omega

end Cert.Proof.Attn
-- ==== Proof.Attn.Block.lean ====
module
public import proofs.«01_k».proof.Proof.Attn.Head

/-! The blocks that a grid point of the attention call reads, and the two blocks that it writes. -/

@[expose] public section
set_option maxRecDepth 16384
noncomputable section
namespace Cert.Proof.Attn
open Cert.KernelIdeal Cert.KernelIdeal.Gen Cert.KernelIdeal.Facts Idealize.ShloMosaic Idealize.ShloMosaic.TcCoe Idealize.SL.Sem
variable (m : (ℓ : Loc nD τ sig) → Buf (Elt Ideal) ℓ)

/-- The argument on a device. -/
abbrev argX (c : Dev nD) : (⟨2, ![8192, 3072]⟩ : Shape).Idx → EReal := m ((c : Thread nD τ).loc main_arg0)

/-- Where each window's block lies. -/
theorem idx : ∀ t : Fin cfg0.N, win0_0.index t = ![(grid0.coords t 0).val, (grid0.coords t 1).val, 0]
    ∧ win0_1.index t = ![(grid0.coords t 0).val, 0, 1] ∧ win0_2.index t = ![(grid0.coords t 0).val, 0, 2]
    ∧ win0_3.index t = ![(grid0.coords t 0).val, (grid0.coords t 1).val, 0]
    ∧ win0_4.index t = ![(grid0.coords t 0).val, (grid0.coords t 1).val, 0] := by decide +kernel

/-- The sequence of a grid point. -/
def sq (t : Fin cfg0.N) : Fin 4 := ⟨(grid0.coords t 0).val, (grid0.coords t 0).isLt⟩

/-- The grid has sixteen blocks of queries. -/
theorem c1_lt (t : Fin cfg0.N) : (grid0.coords t 1).val < 16 := (grid0.coords t 1).isLt

/-- The key window lies within the sequence. -/
theorem st_le (t : Fin cfg0.N) : st (grid0.coords t 1).val + 256 ≤ 2048 := by
  have : st (grid0.coords t 1).val ≤ 1792 := Nat.min_le_left _ _
  omega

/-- The reshaped argument at an index. -/
theorem V_at (c : Dev nD) (b : Fin 4) (t : Fin 2048) (e : Fin 3072) :
    V m c main_v0 (ix3 b t e) = argX m c (ix2 ⟨b.val * 2048 + t.val, by omega⟩ e) := by
  entry_read
  pointwise []

/-- The block of queries at a grid point. -/
theorem q_at (c : Dev nD) (t : Fin cfg0.N) (r : Fin 128) (h : Fin 8) (e : Fin 128) :
    iblk m c 0 t (ix3 0 r ⟨128 * h.val + e.val, by omega⟩)
      = part (argX m c) 0 (sq t) ⟨128 * (grid0.coords t 1).val + r.val, by have := c1_lt t; omega⟩ h e := by
  have h1 := c1_lt t
  blk_simp [iblk]
  have : (win0_0.blk t).view.emb (ix3 0 r ⟨128 * h.val + e.val, by omega⟩)
      = ix3 (sq t) ⟨128 * (grid0.coords t 1).val + r.val, by omega⟩ ⟨0 * 1024 + (h.val * 128 + e.val), by omega⟩ := by
    blk_ext [idx t, sq]
  rw [this, V_at]
  rfl

/-- The block of keys at a grid point: the whole sequence. -/
theorem k_at (c : Dev nD) (t : Fin cfg0.N) (j : Fin 2048) (h : Fin 8) (e : Fin 128) :
    iblk m c 1 t (ix3 0 j ⟨128 * h.val + e.val, by omega⟩) = part (argX m c) 1 (sq t) j h e := by
  blk_simp [iblk]
  have : (win0_1.blk t).view.emb (ix3 0 j ⟨128 * h.val + e.val, by omega⟩)
      = ix3 (sq t) j ⟨1 * 1024 + (h.val * 128 + e.val), by omega⟩ := by
    blk_ext [idx t, sq]
  rw [this, V_at]
  rfl

/-- The block of values at a grid point: the whole sequence. -/
theorem v_at (c : Dev nD) (t : Fin cfg0.N) (j : Fin 2048) (h : Fin 8) (e : Fin 128) :
    iblk m c 2 t (ix3 0 j ⟨128 * h.val + e.val, by omega⟩) = part (argX m c) 2 (sq t) j h e := by
  blk_simp [iblk]
  have : (win0_2.blk t).view.emb (ix3 0 j ⟨128 * h.val + e.val, by omega⟩)
      = ix3 (sq t) j ⟨2 * 1024 + (h.val * 128 + e.val), by omega⟩ := by
    blk_ext [idx t, sq]
  rw [this, V_at]
  rfl

/-- Where the key window of each head begins. -/
theorem offs : ∀ i : grid0.Coords, k0_off1 i = ![0, st (i 1).val, 128 * 0] ∧ k0_off2 i = ![0, st (i 1).val, 128 * 1]
    ∧ k0_off3 i = ![0, st (i 1).val, 128 * 2] ∧ k0_off4 i = ![0, st (i 1).val, 128 * 3] ∧ k0_off5 i = ![0, st (i 1).val, 128 * 4]
    ∧ k0_off6 i = ![0, st (i 1).val, 128 * 5] ∧ k0_off7 i = ![0, st (i 1).val, 128 * 6] ∧ k0_off8 i = ![0, st (i 1).val, 128 * 7] := by
  decide +kernel

/-- One head's columns of a block of queries. -/
theorem ld_q (f : S1x128x1024.Idx → EReal) (off : Fin 3 → ℕ) (o : ℕ) (hoff : off = ![0, 0, o]) (inb) (r e : Fin 128) (ho : o + 128 ≤ 1024) :
    View.ld (Val := Elt Ideal) (e' := .bf16) f (Rect.unit (s := S1x128x1024) off ![1, 128, 128] inb) (ix3 0 r e) = f (ix3 0 r ⟨o + e.val, by omega⟩) := by
  subst hoff
  rw [View.ld_apply]
  refine congrArg f (funext fun a => Fin.ext ?_)
  rw [Rect.idx_unit_val]
  match a with
  | ⟨0, _⟩ => rfl
  | ⟨1, _⟩ => exact Nat.zero_add _
  | ⟨2, _⟩ => rfl

/-- One head's columns of a window of keys or values. -/
theorem ld_kv (f : S1x2048x1024.Idx → EReal) (off : Fin 3 → ℕ) (s o : ℕ) (hoff : off = ![0, s, o]) (inb) (r : Fin 256) (e : Fin 128)
    (hs : s + 256 ≤ 2048) (ho : o + 128 ≤ 1024) :
    View.ld (Val := Elt Ideal) (e' := .bf16) f (Rect.unit (s := S1x2048x1024) off ![1, 256, 128] inb) (ix3 0 r e)
      = f (ix3 0 ⟨s + r.val, by omega⟩ ⟨o + e.val, by omega⟩) := by
  subst hoff
  rw [View.ld_apply]
  refine congrArg f (funext fun a => Fin.ext ?_)
  rw [Rect.idx_unit_val]
  match a with
  | ⟨0, _⟩ => rfl
  | ⟨1, _⟩ => rfl
  | ⟨2, _⟩ => rfl

/-- The query, key and value blocks of head `h` at a grid point. -/
structure Loads (c : Dev nD) (t : Fin cfg0.N) (h : Fin 8) (q : Vec Ideal S1x128x128 .bf16) (k v : Vec Ideal S1x256x128 .bf16) : Prop where
  q : ∀ (r e : Fin 128), q (ix3 0 r e) = part (argX m c) 0 (sq t) ⟨128 * (grid0.coords t 1).val + r.val, by have := c1_lt t; omega⟩ h e
  k : ∀ (j : Fin 256) (e : Fin 128), k (ix3 0 j e) = part (argX m c) 1 (sq t) ⟨st (grid0.coords t 1).val + j.val, by have := st_le t; omega⟩ h e
  v : ∀ (j : Fin 256) (e : Fin 128), v (ix3 0 j e) = part (argX m c) 2 (sq t) ⟨st (grid0.coords t 1).val + j.val, by have := st_le t; omega⟩ h e

/-- The loads of head `h` are its blocks. -/
theorem loads (c : Dev nD) (t : Fin cfg0.N) (h : Fin 8) (oq ok : Fin 3 → ℕ) (hq : oq = ![0, 0, 128 * h.val])
    (hk : ok = ![0, st (grid0.coords t 1).val, 128 * h.val]) (iq ik iv) :
    Loads m c t h (View.ld (Val := Elt Ideal) (e' := .bf16) (iblk m c 0 t) (Rect.unit (s := S1x128x1024) oq ![1, 128, 128] iq))
      (View.ld (Val := Elt Ideal) (e' := .bf16) (iblk m c 1 t) (Rect.unit (s := S1x2048x1024) ok ![1, 256, 128] ik))
      (View.ld (Val := Elt Ideal) (e' := .bf16) (iblk m c 2 t) (Rect.unit (s := S1x2048x1024) ok ![1, 256, 128] iv)) where
  q r e := (ld_q (iblk m c 0 t) oq (128 * h.val) hq iq r e (by omega)).trans (q_at m c t r h e)
  k j e := (ld_kv (iblk m c 1 t) ok _ (128 * h.val) hk ik j e (st_le t) (by omega)).trans (k_at m c t _ h e)
  v j e := (ld_kv (iblk m c 2 t) ok _ (128 * h.val) hk iv j e (st_le t) (by omega)).trans (v_at m c t _ h e)

variable {m}

/-- A head's output block is the attention at the block's positions. -/
theorem Loads.out {c : Dev nD} {t : Fin cfg0.N} {h : Fin 8} {q : Vec Ideal S1x128x128 .bf16} {k v : Vec Ideal S1x256x128 .bf16}
    (L : Loads m c t h q k v) (z : Fin 1) (r e : Fin 128) :
    ho (sc (grid0.coords t) (slopeBits h) q k) v (ix3 z r e)
      = attn (argX m c) (sq t) ⟨128 * (grid0.coords t 1).val + r.val, by have := c1_lt t; omega⟩ h e := by
  rw [ho_apply]
  exact (headWindow _ _ _ h q k (c1_lt t) (st_le t) L.q L.k r).rowOut _ _ fun j _ => L.v j e

/-- A head's rows have the attention's log-sum-exp. -/
theorem Loads.lse {c : Dev nD} {t : Fin cfg0.N} {h : Fin 8} {q : Vec Ideal S1x128x128 .bf16} {k v : Vec Ideal S1x256x128 .bf16}
    (L : Loads m c t h q k v) (r : Fin 128) :
    rowLse (fun j : Fin 256 => sc (grid0.coords t) (slopeBits h) q k (ix2 r j))
      = Attn.lse (argX m c) (sq t) ⟨128 * (grid0.coords t 1).val + r.val, by have := c1_lt t; omega⟩ h :=
  (headWindow _ _ _ h q k (c1_lt t) (st_le t) L.q L.k r).rowLse

/-- One of the eight stores of the output block. -/
theorem piece {c : Dev nD} {t : Fin cfg0.N} {h : Fin 8} {q : Vec Ideal S1x128x128 .bf16} {k v : Vec Ideal S1x256x128 .bf16}
    (L : Loads m c t h q k v) (P : FVec Ideal S1x128x128 .bf16) (hP : P = ho (sc (grid0.coords t) (slopeBits h) q k) v)
    (y : S1x128x128.Idx) (r : Fin 128) (col : Fin 1024) (hr : r.val = (y 1).val) (hc : col.val = 128 * h.val + (y 2).val) :
    P y = attn (argX m c) (sq t) ⟨128 * (grid0.coords t 1).val + r.val, by have := c1_lt t; omega⟩
      ⟨col.val / 128, by omega⟩ ⟨col.val % 128, by omega⟩ := by
  subst hP
  idx_vars y
  have e2 : (y2 : ℕ) < 128 := y2.isLt
  have hr' : r = y1 := Fin.ext hr
  have hc' : col.val = 128 * h.val + y2.val := hc
  subst hr'
  rw [L.out]
  congr 1
  · exact Fin.ext (by show h.val = col.val / 128; omega)
  · exact Fin.ext (by show y2.val = col.val % 128; omega)

variable (m)

/-- What a grid point writes to the output's block. -/
theorem out_block (c : Dev nD) (t : Fin cfg0.N) (z : Fin 1) (r : Fin 128) (col : Fin 1024) :
    (dats m 0 c).after 3 t (ix3 z r col) = attn (argX m c) (sq t) ⟨128 * (grid0.coords t 1).val + r.val, by have := c1_lt t; omega⟩
      ⟨col.val / 128, by omega⟩ ⟨col.val % 128, by omega⟩ := by
  obtain ⟨o1, o2, o3, o4, o5, o6, o7, o8⟩ := offs (grid0.coords t)
  rw [after0_3]
  simp only [outsAt0]
  frame_out
  canon_tiles y h
  case piece0 => exact piece (loads m c t 7 _ _ rfl o8 _ _ _) _ rfl y r col h1 h2
  case piece1 => exact piece (loads m c t 6 _ _ rfl o7 _ _ _) _ rfl y r col h1 h2
  case piece2 => exact piece (loads m c t 5 _ _ rfl o6 _ _ _) _ rfl y r col h1 h2
  case piece3 => exact piece (loads m c t 4 _ _ rfl o5 _ _ _) _ rfl y r col h1 h2
  case piece4 => exact piece (loads m c t 3 _ _ rfl o4 _ _ _) _ rfl y r col h1 h2
  case piece5 => exact piece (loads m c t 2 _ _ rfl o3 _ _ _) _ rfl y r col h1 h2
  case piece6 => exact piece (loads m c t 1 _ _ rfl o2 _ _ _) _ rfl y r col h1 h2
  case piece7 => exact piece (loads m c t 0 _ _ rfl o1 _ _ _) _ rfl y r col h1 (h2.trans (Nat.zero_add _).symm)

/-- A tile of log-sum-exps whose first `n` lanes are filled. -/
def Upto (c : Dev nD) (t : Fin cfg0.N) (n : ℕ) (T : FVec Ideal S128x128 .f32) : Prop :=
  ∀ (r : Fin 128) (col : Fin 128), T (ix2 r col) = if h : col.val < 8 ∧ col.val < n then
    Attn.lse (argX m c) (sq t) ⟨128 * (grid0.coords t 1).val + r.val, by have := c1_lt t; omega⟩ ⟨col.val, h.1⟩ else 0

/-- The tile before the first head is zero. -/
theorem upto_zero (c : Dev nD) (t : Fin cfg0.N) : Upto m c t 0 (k0_pay5 (F := Ideal)) := by
  intro r col
  rw [dif_neg (by omega)]
  show Ideal.ofBits .f32 0x00000000#32 = 0
  simp [Ideal.ofBits, Ideal.ieee]

variable {m} in
/-- The next head fills its lane. -/
theorem Upto.step {c : Dev nD} {t : Fin cfg0.N} {n : ℕ} {T : FVec Ideal S128x128 .f32} (hT : Upto m c t n T) (h : Fin 8) (hn : h.val = n)
    {q : Vec Ideal S1x128x128 .bf16} {k v : Vec Ideal S1x256x128 .bf16} (L : Loads m c t h q k v) :
    Upto m c t (n + 1) (ls (BitVec.ofNat 32 h.val) (sc (grid0.coords t) (slopeBits h) q k) T) := by
  intro r col
  rw [ls_apply, L.lse, hT r col]
  by_cases hc : col.val = h.val
  · rw [if_pos hc, dif_pos ⟨by omega, by omega⟩]
    exact congrArg _ (Fin.ext hc.symm)
  · rw [if_neg hc]
    by_cases h' : col.val < 8 ∧ col.val < n
    · rw [dif_pos h', dif_pos ⟨h'.1, by omega⟩]
    · rw [dif_neg h', dif_neg (by omega)]

variable {m} in
theorem Upto.block {c : Dev nD} {t : Fin cfg0.N} {T : FVec Ideal S128x128 .f32} (hT : Upto m c t 8 T) (P : FVec Ideal S1x128x128 .f32)
    (hP : P = shapeCast S1x128x128 T shapeCasts_S128x128_S1x128x128) (z : Fin 1) (r : Fin 128) (col : Fin 128) :
    P (ix3 z r col) = if h : col.val < 8 then
      Attn.lse (argX m c) (sq t) ⟨128 * (grid0.coords t 1).val + r.val, by have := c1_lt t; omega⟩ ⟨col.val, h⟩ else 0 := by
  subst hP
  pointwise []
  rw [hT r col]
  by_cases h' : col.val < 8
  · rw [dif_pos ⟨h', h'⟩, dif_pos h']
  · rw [dif_neg (fun h => h' h.1), dif_neg h']

/-- What a grid point writes to the block of log-sum-exps: lane `h` below 8 is head `h`, the other lanes are zero. -/
theorem lse_block (c : Dev nD) (t : Fin cfg0.N) (z : Fin 1) (r : Fin 128) (col : Fin 128) :
    (dats m 0 c).after 4 t (ix3 z r col) = if h : col.val < 8 then
      Attn.lse (argX m c) (sq t) ⟨128 * (grid0.coords t 1).val + r.val, by have := c1_lt t; omega⟩ ⟨col.val, h⟩ else 0 := by
  obtain ⟨o1, o2, o3, o4, o5, o6, o7, o8⟩ := offs (grid0.coords t)
  have U := ((((((((upto_zero m c t).step 0 rfl
    (loads m c t 0 _ _ rfl o1 inb_S1x128x1024_S1x128x128_0_0_0 (k0_off1_inb _) (k0_off1_inb _))).step 1 rfl
    (loads m c t 1 _ _ rfl o2 inb_S1x128x1024_S1x128x128_0_0_128 (k0_off2_inb _) (k0_off2_inb _))).step 2 rfl
    (loads m c t 2 _ _ rfl o3 inb_S1x128x1024_S1x128x128_0_0_256 (k0_off3_inb _) (k0_off3_inb _))).step 3 rfl
    (loads m c t 3 _ _ rfl o4 inb_S1x128x1024_S1x128x128_0_0_384 (k0_off4_inb _) (k0_off4_inb _))).step 4 rfl
    (loads m c t 4 _ _ rfl o5 inb_S1x128x1024_S1x128x128_0_0_512 (k0_off5_inb _) (k0_off5_inb _))).step 5 rfl
    (loads m c t 5 _ _ rfl o6 inb_S1x128x1024_S1x128x128_0_0_640 (k0_off6_inb _) (k0_off6_inb _))).step 6 rfl
    (loads m c t 6 _ _ rfl o7 inb_S1x128x1024_S1x128x128_0_0_768 (k0_off7_inb _) (k0_off7_inb _))).step 7 rfl
    (loads m c t 7 _ _ rfl o8 inb_S1x128x1024_S1x128x128_0_0_896 (k0_off8_inb _) (k0_off8_inb _))
  rw [after0_4]
  simp only [outsAt0]
  frame_out
  exact U.block _ rfl z r col
end Cert.Proof.Attn
-- ==== Proof.Attn.Arrays.lean ====
module
public import proofs.«01_k».proof.Proof.Attn.Block

/-! What the attention call's two result arrays hold after the run. -/

@[expose] public section
set_option maxRecDepth 16384
noncomputable section
namespace Cert.Proof.Attn
open Cert.KernelIdeal Cert.KernelIdeal.Gen Idealize.ShloMosaic Idealize.ShloMosaic.TcCoe Idealize.SL.Sem

/-- The attention's output as an array. -/
def outArr (x : (⟨2, ![8192, 3072]⟩ : Shape).Idx → EReal) : S4x2048x1024.Idx → EReal := fun i =>
  attn x (i 0) (i 1) ⟨(i 2).val / 128, by have : (i 2).val < 1024 := (i 2).isLt; omega⟩ ⟨(i 2).val % 128, Nat.mod_lt _ (by norm_num)⟩

/-- The log-sum-exps as an array of 128 lanes, the first eight of which are heads. -/
def lseArr (x : (⟨2, ![8192, 3072]⟩ : Shape).Idx → EReal) : S4x2048x128.Idx → EReal := fun i =>
  if h : (i 2).val < 8 then lse x (i 0) (i 1) ⟨(i 2).val, h⟩ else 0

variable (m : (ℓ : Loc nD τ sig) → Buf (Elt Ideal) ℓ)

/-- The call's first result array. -/
theorem arr3 (c : Dev nD) : (dats m 0 c).arrAt 3 cfg0.N = outArr (argX m c) := by
  refine (dats m 0 c).arrAt_eq_of_covers 3 _ (by decide +kernel) fun t hf y => ?_
  blk_simp
  have h1 : (y 1).val < 128 := (y 1).isLt
  have h2 : (y 2).val < 1024 := (y 2).isLt
  have hy : y = (ix3 (0 : Fin 1) (⟨(y 1).val, h1⟩ : Fin 128) (⟨(y 2).val, h2⟩ : Fin 1024) : (cfg0.win 3).block.Idx) := by
    have h0 : (y 0).val < 1 := (y 0).isLt
    funext a
    fin_cases a
    · exact Fin.ext (by simpa using h0)
    · rfl
    · rfl
  have e : ((cfg0.win 3).blk t).view.emb y
      = (ix3 (sq t) ⟨128 * (grid0.coords t 1).val + (y 1).val, by have := c1_lt t; omega⟩ (⟨(y 2).val, h2⟩ : Fin 1024) : S4x2048x1024.Idx) := by
    blk_ext [idx t, sq]
  exact ((congrArg ((dats m 0 c).after 3 t) hy).trans (out_block m c t _ _ _)).trans (congrArg (outArr (argX m c)) e).symm

/-- The call's second result array. -/
theorem arr4 (c : Dev nD) : (dats m 0 c).arrAt 4 cfg0.N = lseArr (argX m c) := by
  refine (dats m 0 c).arrAt_eq_of_covers 4 _ (by decide +kernel) fun t hf y => ?_
  blk_simp
  have h1 : (y 1).val < 128 := (y 1).isLt
  have h2 : (y 2).val < 128 := (y 2).isLt
  have hy : y = (ix3 (0 : Fin 1) (⟨(y 1).val, h1⟩ : Fin 128) (⟨(y 2).val, h2⟩ : Fin 128) : (cfg0.win 4).block.Idx) := by
    have h0 : (y 0).val < 1 := (y 0).isLt
    funext a
    fin_cases a
    · exact Fin.ext (by simpa using h0)
    · rfl
    · rfl
  have e : ((cfg0.win 4).blk t).view.emb y
      = (ix3 (sq t) ⟨128 * (grid0.coords t 1).val + (y 1).val, by have := c1_lt t; omega⟩ (⟨(y 2).val, h2⟩ : Fin 128) : S4x2048x128.Idx) := by
    blk_ext [idx t, sq]
  exact ((congrArg ((dats m 0 c).after 4 t) hy).trans (lse_block m c t _ _ _)).trans (congrArg (lseArr (argX m c)) e).symm

end Cert.Proof.Attn
-- ==== Proof.Attn.RefMask.lean ====
module
public import proofs.«01_k».proof.Proof.Gen.ReferenceIdeal.Read
public import proofs.«01_k».proof.Proof.Attn.Spec
public import Idealize.ShloMosaic.PureOps.Ideal.Laws
@[expose] public section
set_option maxRecDepth 16384
noncomputable section
namespace Cert.Proof.Attn
open Cert.ReferenceIdeal Cert.ReferenceIdeal.Read Idealize.ShloMosaic Idealize.ShloMosaic.TcCoe Idealize.SL.Sem
variable (x : (⟨S8192x3072, .bf16⟩ : BufTy).Contents (Elt Ideal))

/-- The reference's slopes. -/
theorem ref_slope (h : Fin 8) : val_main_v32 (F := Ideal) (ix1 h) = slope h := by
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14,
    val_main_v13, val_main_v12, val_main_v11, val_main_v10, val_main_v9, val_main_v8, val_main_v7,
    val_main_call0_v0, val_main_call1_v0, val_main_call2_v0, val_main_call3_v0, val_main_call4_v0, val_main_call5_v0, val_main_call6_v0, val_main_call7_v0,
    val_main_c, val_main_c_1, val_main_c_3, val_main_c_5, val_main_c_7, val_main_c_9, val_main_c_11, val_main_c_13,
    val_main_cst, val_main_cst_0, val_main_cst_2, val_main_cst_4, val_main_cst_6, val_main_cst_8, val_main_cst_10, val_main_cst_12, val_main_cst_14]
  fin_cases h <;> rfl

/-- The reference's mask. -/
theorem ref_mask (n : Fin 32) (q : Fin 64) (k : Fin 192) : val_main_v92 (F := Ideal) (ix3 n q k) =
    BitVec.ofBool (decide (dist (n.val * 64 + q.val) (n.val * 64 + k.val - 64) ≤ 64 ∧ 64 ≤ n.val * 64 + k.val ∧ n.val * 64 + k.val - 64 < 2048)) := by
  pointwise [val_main_v92, val_main_v91, val_main_v90, val_main_v89, val_main_v88, val_main_v87, val_main_v86, val_main_v85, val_main_v84, val_main_v83, val_main_v82, val_main_v81,
   val_main_v80, val_main_v79, val_main_v78, val_main_v77, val_main_v76, val_main_v75, val_main_v74, val_main_v73, val_main_v72, val_main_v71, val_main_v70, val_main_v69, val_main_v50, val_main_v49,
   val_main_v48, val_main_v47, val_main_v46, val_main_v45, val_main_v44, val_main_v43, val_main_v42, val_main_c_18, val_main_c_24, val_main_c_25, val_main_c_26, val_main_c_27, val_main_c_28]
  simp only [natWord, show (64#32) = BitVec.ofInt 32 64 from rfl, show (0#32) = BitVec.ofInt 32 0 from rfl, show (2048#32) = BitVec.ofInt 32 2048 from rfl, wsub, wadd, wmul]
  rw [wabs _ (by omega) (by omega), wsle _ _ ⟨by have := abs_nonneg ((k.val : ℤ) - 64 - q.val); omega, by rw [abs_lt]; omega⟩ (by omega), wsge _ _ (by omega) (by omega), wslt _ _ (by omega) (by omega)]
  have h1 : (|(k.val : ℤ) - 64 - q.val| ≤ 64) ↔ (k.val ≤ q.val + 128 ∧ q.val ≤ k.val) := by rw [abs_le]; omega
  have h2 : (dist (n.val * 64 + q.val) (n.val * 64 + k.val - 64) ≤ 64 ∧ 64 ≤ n.val * 64 + k.val ∧ n.val * 64 + k.val - 64 < 2048)
      ↔ ((k.val ≤ q.val + 128 ∧ q.val ≤ k.val) ∧ (0 : ℤ) ≤ (n.val : ℤ) * 64 + k.val - 64 ∧ (n.val : ℤ) * 64 + k.val - 64 < 2048) := by unfold dist; omega
  unfold IntOp.andi
  simp only [h1, h2, Bool.decide_and, BitVec.ofBool_and_ofBool]

/-- The reference's bias. -/
theorem ref_alibi (h : Fin 8) (q : Fin 64) (k : Fin 192) : val_main_v102 (F := Ideal) (ix3 h q k) = -slope h * (((|(k.val : ℤ) - 64 - q.val| : ℤ) : ℝ) : EReal) := by
  pointwise [val_main_v102,val_main_v101,val_main_v100, val_main_v99,val_main_v98,val_main_v97,val_main_v96,val_main_v95,val_main_v94,val_main_v93,
    val_main_v77, val_main_v76, val_main_v75, val_main_v74, val_main_v73, val_main_v72, val_main_v71, val_main_v70, val_main_v69, val_main_c_24, val_main_c_29]
  rw [ref_slope]
  simp only [natWord, show (64#32) = BitVec.ofInt 32 64 from rfl, show (1#32) = BitVec.ofInt 32 1 from rfl, wsub, wadd]
  rw [wabs _ (by omega) (by omega), wmul, mul_one, wfp _ (by have := abs_nonneg ((k.val : ℤ) - 64 - q.val); omega) (by rw [abs_lt]; omega)]
end Cert.Proof.Attn
-- ==== Proof.Attn.RefGather.lean ====
module
public import proofs.«01_k».proof.Proof.Gen.ReferenceIdeal.Read
public import proofs.«01_k».proof.Proof.Attn.Spec
public import Idealize.ShloMosaic.PureOps.Ideal.Laws
@[expose] public section
set_option maxRecDepth 16384
noncomputable section
namespace Cert.Proof.Attn
open Cert.ReferenceIdeal Cert.ReferenceIdeal.Read Idealize.ShloMosaic Idealize.ShloMosaic.TcCoe Idealize.SL.Sem
variable (x : (⟨S8192x3072, .bf16⟩ : BufTy).Contents (Elt Ideal))

/-- The position that the gather of the values reads. -/
theorem ref_idx (n : Fin 32) (k : Fin 192) : val_main_v63 (F := Ideal) (ix3 n k 0) = BitVec.ofInt 32 ((n.val * 64 + k.val : ℕ) : ℤ) := by
  pointwise [val_main_v63, val_main_v62, val_main_v61, val_main_v60, val_main_v59, val_main_v58, val_main_v50, val_main_v49,
   val_main_v48, val_main_v47, val_main_v46, val_main_v45, val_main_v44, val_main_v43, val_main_v42, val_main_c_18,val_main_c_21,val_main_c_22]
  simp only [natWord, show (64#32) = BitVec.ofInt 32 64 from rfl, show (0#32) = BitVec.ofInt 32 0 from rfl, show (2176#32) = BitVec.ofInt 32 2176 from rfl, wadd, wmul]
  rw [wslt _ _ (by omega) (by omega), show decide ((n.val : ℤ) * 64 + k.val < 0) = false from decide_eq_false (by omega)]
  simp [Scalar.select]

/-- The keys are gathered at the same positions. -/
theorem ref_idx' : val_main_v56 (F := Ideal) = val_main_v63 (F := Ideal) := rfl

/-- What a gather of padded keys or values reads. -/
theorem gather_at (y : S4x1x2176x8x128.Idx → EReal) (b : Fin 4) (n : Fin 32) (k : Fin 192) (h : Fin 8) (e : Fin 128) :
    Host.gather gather_S4x1x2176x8x128_S32x192x1_S4x1x32x192x8x128_0145_2_n_n_2_2_4118128 y (val_main_v63 (F := Ideal)) (ix6 b 0 n k h e)
      = y (ix5 b 0 ⟨n.val * 64 + k.val, by omega⟩ h e) := by
  have hi := ref_idx n k
  generalize val_main_v63 (F := Ideal) = w at hi
  unfold Host.gather
  refine congrArg y (funext fun a => Fin.ext ?_)
  match a with
  | ⟨0, _⟩ => exact (show 0 + 0 + b.val = b.val by omega)
  | ⟨1, _⟩ => rfl
  | ⟨2, _⟩ =>
    show min (w (gather_S4x1x2176x8x128_S32x192x1_S4x1x32x192x8x128_0145_2_n_n_2_2_4118128.siIdx (ix6 b 0 n k h e) ⟨0, by decide⟩)).toInt.toNat (2176 - 1) + 0 + 0 = n.val * 64 + k.val
    rw [show gather_S4x1x2176x8x128_S32x192x1_S4x1x32x192x8x128_0145_2_n_n_2_2_4118128.siIdx (ix6 b 0 n k h e) ⟨0, by decide⟩ = ix3 n k 0 from
      funext fun a => Fin.ext (by match a with | ⟨0, _⟩ => rfl | ⟨1, _⟩ => rfl | ⟨2, _⟩ => rfl), hi, wInt _ (by omega) (by omega)]
    omega
  | ⟨3, _⟩ => exact (show 0 + 0 + h.val = h.val by omega)
  | ⟨4, _⟩ => exact (show 0 + 0 + e.val = e.val by omega)
end Cert.Proof.Attn
-- ==== Proof.Attn.RefParts.lean ====
module
public import proofs.«01_k».proof.Proof.Gen.ReferenceIdeal.Read
public import proofs.«01_k».proof.Proof.Attn.Spec
public import Idealize.ShloMosaic.PureOps.Ideal.Laws
@[expose] public section
set_option maxRecDepth 16384
noncomputable section
namespace Cert.Proof.Attn
open Cert.ReferenceIdeal Cert.ReferenceIdeal.Read Idealize.ShloMosaic Idealize.ShloMosaic.TcCoe Idealize.SL.Sem
variable (x : (⟨S8192x3072, .bf16⟩ : BufTy).Contents (Elt Ideal))

/-- The reference's queries by block. -/
theorem ref_q (b : Fin 4) (n : Fin 32) (q : Fin 64) (h : Fin 8) (e : Fin 128) :
    val_main_v65 x (ix6 b 0 n q h e) = part x 0 b ⟨n.val * 64 + q.val, by omega⟩ h e := by
  pointwise [val_main_v65, val_main_v35, val_main_v34, val_main_v33, val_main_v4, val_main_v1, val_main_v0]
  rw [dif_pos (by omega)]
  exact congrArg x (by simp)

/-- The reference's padded keys. -/
theorem ref_kc (b : Fin 4) (j : Fin 2176) (h : Fin 8) (e : Fin 128) (h1 : 64 ≤ j.val) (h2 : j.val - 64 < 2048) :
    val_main_v38 x (ix5 b 0 j h e) = part x 1 b ⟨j.val - 64, h2⟩ h e := by
  pointwise [val_main_v38, val_main_v37, val_main_v36, val_main_v5, val_main_v2, val_main_v0]
  rw [dif_pos ⟨h1, h2⟩]
  exact congrArg x (by simp)

/-- The reference's padded values. -/
theorem ref_vc (b : Fin 4) (j : Fin 2176) (h : Fin 8) (e : Fin 128) (h1 : 64 ≤ j.val) (h2 : j.val - 64 < 2048) :
    val_main_v41 x (ix5 b 0 j h e) = part x 2 b ⟨j.val - 64, h2⟩ h e := by
  pointwise [val_main_v41, val_main_v40, val_main_v39, val_main_v6, val_main_v3, val_main_v0]
  rw [dif_pos ⟨h1, h2⟩]
  exact congrArg x (by simp)
end Cert.Proof.Attn
-- ==== Proof.Attn.RefRow.lean ====
module
public import proofs.«01_k».proof.Proof.Gen.ReferenceIdeal.Read
public import proofs.«01_k».proof.Proof.Attn.Spec
public import Idealize.ShloMosaic.PureOps.Ideal.Laws
@[expose] public section
set_option maxRecDepth 16384
noncomputable section
namespace Cert.Proof.Attn
open Cert.ReferenceIdeal Cert.ReferenceIdeal.Read Idealize.ShloMosaic Idealize.ShloMosaic.TcCoe Idealize.SL.Sem
variable (x : (⟨S8192x3072, .bf16⟩ : BufTy).Contents (Elt Ideal))

/-- The reference's masked score. -/
theorem ref_s (b : Fin 4) (n : Fin 32) (q : Fin 64) (k : Fin 192) (h : Fin 8) : val_main_v107 x (ix6 b 0 n h q k) =
   Scalar.select (val_main_v92 (F := Ideal) (ix3 n q k))
      ((∑ e, val_main_v65 x (ix6 b 0 n q h e) * val_main_v57 x (ix6 b 0 n k h e)) * scale + val_main_v102 (F := Ideal) (ix3 h q k)) ⊥ := by
  pointwise [val_main_v107, val_main_v106, val_main_v105, val_main_v104, val_main_v103, val_main_v68, val_main_v67, val_main_v66, val_main_call11_v0, val_main_call11_v1, val_main_call11_v2, val_main_cst_30, val_main_cst_23]
  have : (id (constant (F := Ideal) S_ FTy.f32 4286578688#32) ix0 : Ideal .f32) = (⊥ : EReal) := by
    show Ideal.ofBits .f32 0xFF800000#32 = ⊥
    simp [Ideal.ofBits, Ideal.ieee]
  rw [this]; rfl

/-- The maximum of the reference's row. -/
theorem ref_m (b : Fin 4) (n : Fin 32) (q : Fin 64) (h : Fin 8) : val_main_v108 x (ix5 b 0 n h q) = rowMax fun k : Fin 192 => val_main_v107 x (ix6 b 0 n h q k) := by
  unfold val_main_v108
  generalize val_main_v107 x = y
  rw [show (FloatOps.maximumf : Ideal .f32 → Ideal .f32 → Ideal .f32) = (max : EReal → EReal → EReal) from rfl,
    Host.reduce_eq_fold_single (max : EReal → EReal → EReal) y _ Gen.reducesTo_S4x1x32x8x64x192_S4x1x32x8x64_d5 (by decide)]
  have : (val_main_cst_31 (F := Ideal) (Shape.Idx.first Gen.h_S_) : EReal) = ⊥ := by
    show Ideal.ofBits .f32 0xFF800000#32 = ⊥
    simp [Ideal.ofBits, Ideal.ieee]
  rw [this]
  unfold rowMax Finset.sup
  refine Finset.fold_congr fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The exponentials of the reference's row. -/
theorem ref_e (b : Fin 4) (n : Fin 32) (q : Fin 64) (h : Fin 8) (k : Fin 192): val_main_v112 x (ix6 b 0 n h q k) =
    Ideal.exp (val_main_v107 x (ix6 b 0 n h q k) - rowMax fun k : Fin 192 => val_main_v107 x (ix6 b 0 n h q k)) := by
  rw [← ref_m]
  pointwise [val_main_v112, val_main_v111, val_main_v110, val_main_v109]

/-- The denominator of the reference's row. -/
theorem ref_d (b : Fin 4) (n : Fin 32) (q : Fin 64) (h : Fin 8) : val_main_v113 x (ix5 b 0 n h q) = rowDen fun k : Fin 192 => val_main_v107 x (ix6 b 0 n h q k) := by
  rw [val_main_v113_apply]
  have : (val_main_cst_32 (F := Ideal) (Shape.Idx.first Gen.h_S_) : EReal) = 0 := by
    show Ideal.ofBits .f32 0x00000000#32 = 0
    simp [Ideal.ofBits, Ideal.ieee]
  rw [this, zero_add]
  unfold rowDen
  refine Finset.sum_congr rfl fun k _ => ?_
  rw [← ref_e]
  exact congrArg _ (funext fun a => Fin.ext (by match a with | ⟨0, _⟩ => rfl | ⟨1, _⟩ => rfl | ⟨2, _⟩ => rfl | ⟨3, _⟩ => rfl | ⟨4, _⟩ => rfl | ⟨5, _⟩ => rfl))

/-- The weights of the reference's row. -/
theorem ref_p (b : Fin 4) (n : Fin 32) (q : Fin 64) (h : Fin 8) (k : Fin 192): val_main_v116 x (ix6 b 0 n h q k) =
    Ideal.div (Ideal.exp (val_main_v107 x (ix6 b 0 n h q k) - rowMax fun k : Fin 192 => val_main_v107 x (ix6 b 0 n h q k))) (rowDen fun k : Fin 192 => val_main_v107 x (ix6 b 0 n h q k)) := by
  rw [← ref_e, ← ref_d]
  pointwise [val_main_v116, val_main_v115, val_main_v114]
end Cert.Proof.Attn
-- ==== Proof.Attn.RefOut.lean ====
module
public import proofs.«01_k».proof.Proof.Gen.ReferenceIdeal.Read
public import proofs.«01_k».proof.Proof.Attn.Spec
public import Idealize.ShloMosaic.PureOps.Ideal.Laws
@[expose] public section
set_option maxRecDepth 16384
noncomputable section
namespace Cert.Proof.Attn
open Cert.ReferenceIdeal Cert.ReferenceIdeal.Read Idealize.ShloMosaic Idealize.ShloMosaic.TcCoe Idealize.SL.Sem
variable (x : (⟨S8192x3072, .bf16⟩ : BufTy).Contents (Elt Ideal))

/-- The reference's output by position. -/
theorem ref_out (b : Fin 4) (t : Fin 2048) (c : Fin 1024) : val_main_v130 x (ix3 b t c) =
    ∑ k, val_main_v64 x (ix6 b 0 ⟨t.val / 64, by omega⟩ k ⟨c.val / 128, by omega⟩ ⟨c.val % 128, by omega⟩) *
      val_main_v116 x (ix6 b 0 ⟨t.val / 64, by omega⟩ ⟨c.val / 128, by omega⟩ ⟨t.val % 64, by omega⟩ k) := by
  pointwise [val_main_v130, val_main_v129, val_main_v124, val_main_v123, val_main_v122, val_main_v118, val_main_v117]
end Cert.Proof.Attn
-- ==== Proof.Attn.RefLse.lean ====
module
public import proofs.«01_k».proof.Proof.Gen.ReferenceIdeal.Read
public import proofs.«01_k».proof.Proof.Attn.Spec
public import Idealize.ShloMosaic.PureOps.Ideal.Laws
@[expose] public section
set_option maxRecDepth 16384
noncomputable section
namespace Cert.Proof.Attn
open Cert.ReferenceIdeal Cert.ReferenceIdeal.Read Idealize.ShloMosaic Idealize.ShloMosaic.TcCoe Idealize.SL.Sem
variable (x : (⟨S8192x3072, .bf16⟩ : BufTy).Contents (Elt Ideal))

/-- The reference's padded logarithms. -/
theorem ref_pad (b : Fin 4) (t : Fin 2048) (c : Fin 128) : val_main_v131 x (ix3 b t c) =
    if h : c.val < 8 then val_main_v128 x (ix3 b t ⟨c.val, h⟩) else 0 := by
  have h0 : (val_main_call12_v0 (F := Ideal) (Shape.Idx.first Gen.h_S_) : EReal) = 0 := by
    show (((0#32).toInt : ℝ) : EReal) = 0
    simp
  unfold val_main_v131
  generalize val_main_v128 x = y
  pointwise []
  rw [h0]
/-- The reference's logarithms by position. -/
theorem ref_128 (b : Fin 4) (t : Fin 2048) (h : Fin 8) : val_main_v128 x (ix3 b t h) =
    val_main_v121 x (ix5 b 0 ⟨t.val / 64, by omega⟩ h ⟨t.val % 64, by omega⟩) := by
  unfold val_main_v128 val_main_v127 val_main_v126 val_main_v125
  generalize val_main_v121 x = y
  pointwise []
/-- The reference's logarithms by block of queries. -/
theorem ref_121 (b : Fin 4) (n : Fin 32) (h : Fin 8) (q : Fin 64) : val_main_v121 x (ix5 b 0 n h q) =
    val_main_v120 x (ix6 b 0 n h q 0) := by
  unfold val_main_v121
  generalize val_main_v120 x = y
  pointwise []
/-- The logarithm of a row of the blocks. -/
theorem ref_120 (b : Fin 4) (n : Fin 32) (h : Fin 8) (q : Fin 64) : val_main_v120 x (ix6 b 0 n h q 0) =
    val_main_v108 x (ix5 b 0 n h q) + Ideal.log (val_main_v113 x (ix5 b 0 n h q)) := by
  rw [val_main_v120_apply, val_main_v119_apply, val_main_v109_apply, val_main_v114_apply]
  generalize val_main_v108 x = y
  generalize val_main_v113 x = z
  have h1 : idx_main_v109 (ix6 b 0 n h q 0) = ix5 b 0 n h q :=
    funext fun a => Fin.ext (by match a with | ⟨0, _⟩ => rfl | ⟨1, _⟩ => rfl | ⟨2, _⟩ => rfl | ⟨3, _⟩ => rfl | ⟨4, _⟩ => rfl)
  have h2 : idx_main_v114 (ix6 b 0 n h q 0) = ix5 b 0 n h q :=
    funext fun a => Fin.ext (by match a with | ⟨0, _⟩ => rfl | ⟨1, _⟩ => rfl | ⟨2, _⟩ => rfl | ⟨3, _⟩ => rfl | ⟨4, _⟩ => rfl)
  rw [h1, h2]
  rfl
end Cert.Proof.Attn
-- ==== Proof.Attn.RefValue.lean ====
module
public import proofs.«01_k».proof.Proof.Attn.RefMask
public import proofs.«01_k».proof.Proof.Attn.RefGather
public import proofs.«01_k».proof.Proof.Attn.RefParts
public import proofs.«01_k».proof.Proof.Attn.RefRow
public import proofs.«01_k».proof.Proof.Attn.RefOut
public import proofs.«01_k».proof.Proof.Attn.RefLse

/-! The host's attention, over blocks of queries and padded keys, is the attention row by row. -/

@[expose] public section
set_option maxRecDepth 16384
noncomputable section
namespace Cert.Proof.Attn
open Cert.ReferenceIdeal Cert.ReferenceIdeal.Read Idealize.ShloMosaic Idealize.ShloMosaic.TcCoe Idealize.SL.Sem
variable (x : (⟨S8192x3072, .bf16⟩ : BufTy).Contents (Elt Ideal))

/-- The key a block's query and its padded key stand for is in the band. -/
def near (n : Fin 32) (q : Fin 64) (k : Fin 192) : Prop :=
  dist (n.val * 64 + q.val) (n.val * 64 + k.val - 64) ≤ 64 ∧ 64 ≤ n.val * 64 + k.val ∧ n.val * 64 + k.val - 64 < 2048

/-- The position of a block's padded key. -/
def pos (n : Fin 32) (k : Fin 192) : Fin 2048 := ⟨min (n.val * 64 + k.val - 64) 2047, by omega⟩

/-- The position of a key in the band is not clipped. -/
theorem pos_eq {n : Fin 32} {q : Fin 64} {k : Fin 192} (h : near n q k) :
    pos n k = ⟨n.val * 64 + k.val - 64, h.2.2⟩ := by
  have := h.2.2
  exact Fin.ext (by
    show min (n.val * 64 + k.val - 64) 2047 = n.val * 64 + k.val - 64
    omega)

/-- The gathered keys. -/
theorem ref_k {n : Fin 32} {q : Fin 64} {k : Fin 192} (hn : near n q k) (b : Fin 4) (h : Fin 8) (e : Fin 128) :
    val_main_v57 x (ix6 b 0 n k h e) = part x 1 b (pos n k) h e := by
  unfold val_main_v57
  rw [ref_idx', gather_at, ref_kc x b ⟨n.val * 64 + k.val, by omega⟩ h e hn.2.1 hn.2.2, pos_eq hn]

/-- The gathered values. -/
theorem ref_v {n : Fin 32} {q : Fin 64} {k : Fin 192} (hn : near n q k) (b : Fin 4) (h : Fin 8) (e : Fin 128) :
    val_main_v64 x (ix6 b 0 n k h e) = part x 2 b (pos n k) h e := by
  unfold val_main_v64
  rw [gather_at, ref_vc x b ⟨n.val * 64 + k.val, by omega⟩ h e hn.2.1 hn.2.2, pos_eq hn]

/-- The host's row of scores is the attention's row read through the block's keys. -/
theorem refWindow (b : Fin 4) (n : Fin 32) (q : Fin 64) (h : Fin 8) :
    Window (near n q) (pos n) (fun k => val_main_v107 x (ix6 b 0 n h q k)) (row x b h ⟨n.val * 64 + q.val, by omega⟩) where
  on k hk := by
    show val_main_v107 x (ix6 b 0 n h q k) = _
    have hd := hk.1
    rw [ref_s, ref_mask, sel, if_pos (show _ ∧ _ ∧ _ from hk), ref_alibi, row, pos_eq hk, if_pos hd]
    simp only [ref_q, ref_k x hk, pos_eq hk]
    rw [sub_eq_add_neg, EReal.neg_mul]
    congr 4
    rw [wdist (dist (n.val * 64 + q.val) (n.val * 64 + k.val - 64)) (n.val * 64 + q.val) (n.val * 64 + k.val - 64) _
      (by have := hk.2.1; omega) rfl]
    simp
  off k hk := by
    show val_main_v107 x (ix6 b 0 n h q k) = _
    rw [ref_s, ref_mask, sel, if_neg (show ¬ (_ ∧ _ ∧ _) from hk)]
  inj a c ha hc hac := by
    have := congrArg Fin.val hac
    rw [pos_eq ha, pos_eq hc] at this
    have h1 := ha.2.1
    have h2 := hc.2.1
    exact Fin.ext (by simp only at this; omega)
  cov j hj := by
    have hd : dist (n.val * 64 + q.val) j.val ≤ 64 := by
      by_contra hn
      exact hj (by rw [row, if_neg hn])
    have hd' := hd
    unfold dist at hd'
    have hk : near n q ⟨j.val + 64 - n.val * 64, by omega⟩ := by
      refine ⟨?_, ?_, ?_⟩ <;> simp only
      · rw [show n.val * 64 + (j.val + 64 - n.val * 64) - 64 = j.val by omega]; exact hd
      · omega
      · omega
    exact ⟨_, hk, by rw [pos_eq hk]; exact Fin.ext (by simp only; omega)⟩

/-- The queries and keys are real numbers. -/
def Finite : Prop := ∀ (a : Fin 8192) (c : Fin 3072), c.val < 2048 → ∃ r : ℝ, x (ix2 a c) = (r : EReal)

/-- A slope is a real number. -/
theorem slope_real (h : Fin 8) : ∃ r : ℝ, slope h = (r : EReal) := by
  unfold slope slopeBits
  fin_cases h <;> simp [Ideal.ofBits, Ideal.ieee] <;> exact ⟨_, (EReal.coe_mul _ _).symm⟩

/-- The scale is a real number. -/
theorem scale_real : ∃ r : ℝ, scale = (r : EReal) := by
  unfold scale
  simp [Ideal.ofBits, Ideal.ieee]
  exact ⟨_, (EReal.coe_mul _ _).symm⟩

/-- A score inside the band is a real number. -/
theorem row_real (hx : Finite x) (b : Fin 4) (h : Fin 8) (t j : Fin 2048) (hd : dist t.val j.val ≤ 64) :
    ∃ r : ℝ, row x b h t j = (r : EReal) := by
  obtain ⟨s, hs⟩ := slope_real h
  obtain ⟨a, ha⟩ := scale_real
  obtain ⟨d, hd'⟩ := sum_mul_finite (fun e => part x 0 b t h e) (fun e => part x 1 b j h e)
    (fun e => hx _ _ (by show 0 * 1024 + _ < _; omega)) (fun e => hx _ _ (by show 1 * 1024 + _ < _; omega))
  refine ⟨d * a - s * (dist t.val j.val : ℕ), ?_⟩
  rw [row, if_pos hd, hd', hs, ha]
  push_cast
  rfl

/-- A row of scores of finite queries and keys is real or minus infinity. -/
theorem row_real' (hx : Finite x) (b : Fin 4) (h : Fin 8) (t : Fin 2048) : Real' (row x b h t) where
  top j hj := by
    by_cases hd : dist t.val j.val ≤ 64
    · obtain ⟨r, hr⟩ := row_real x hx b h t j hd
      exact EReal.coe_ne_top r (hr.symm.trans hj)
    · rw [row, if_neg hd] at hj; exact absurd hj bot_ne_top
  one := ⟨t, by
    obtain ⟨r, hr⟩ := row_real x hx b h t t (by unfold dist; omega)
    rw [hr]; exact EReal.coe_ne_bot r⟩

/-- A row read through a window is as real as the row. -/
theorem Window.real' {ι κ : Type} [Fintype ι] [Fintype κ] {P : κ → Prop} {e : κ → ι} {s' : κ → EReal} {s : ι → EReal}
    (w : Window P e s' s) (h : Real' s) : Real' s' where
  top k hk := by
    by_cases hP : P k
    · exact h.top _ ((w.on k hP).symm.trans hk)
    · rw [w.off k hP] at hk; exact bot_ne_top hk
  one := by
    obtain ⟨j, hj⟩ := h.one
    obtain ⟨a, ha, rfl⟩ := w.cov j hj
    exact ⟨a, by rw [w.on a ha]; exact hj⟩

/-- The host's output at a block's query. -/
theorem ref_out_block (hx : Finite x) (b : Fin 4) (n : Fin 32) (q : Fin 64) (h : Fin 8) (e : Fin 128) :
    ∑ k, val_main_v64 x (ix6 b 0 n k h e) * val_main_v116 x (ix6 b 0 n h q k) = attn x b ⟨n.val * 64 + q.val, by omega⟩ h e := by
  have w := refWindow x b n q h
  unfold attn
  rw [← w.rowOut (fun k => val_main_v64 x (ix6 b 0 n k h e)) _ (fun k hk => ref_v x hk b h e),
    ← (w.real' (row_real' x hx b h _)).outW]
  unfold rowOutW
  refine Finset.sum_congr rfl fun k _ => ?_
  rw [ref_p]
  exact mul_comm _ _

/-- The host's output. -/
theorem ref_value (hx : Finite x) (b : Fin 4) (t : Fin 2048) (c : Fin 1024) :
    val_main_v130 x (ix3 b t c) = attn x b t ⟨c.val / 128, by omega⟩ ⟨c.val % 128, Nat.mod_lt _ (by norm_num)⟩ := by
  rw [ref_out]
  refine (ref_out_block x hx b _ _ _ _).trans ?_
  congr 1
  exact Fin.ext (by show t.val / 64 * 64 + t.val % 64 = t.val; omega)

/-- The host's log-sum-exp. -/
theorem ref_lse (b : Fin 4) (t : Fin 2048) (c : Fin 128) :
    val_main_v131 x (ix3 b t c) = if h : c.val < 8 then lse x b t ⟨c.val, h⟩ else 0 := by
  rw [ref_pad]
  split
  · rename_i h
    rw [ref_128, ref_121, ref_120, ref_m, ref_d]
    refine ((refWindow x b _ _ _).rowLse).trans ?_
    unfold lse
    congr 2
    exact Fin.ext (by show t.val / 64 * 64 + t.val % 64 = t.val; omega)
  · rfl
end Cert.Proof.Attn
-- ==== Proof.Attn.Claims.lean ====
module
public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Attn.Arrays
public import proofs.«01_k».proof.Proof.Attn.RefValue
public import Idealize.ShloMosaic.Init
public import Idealize.ShloMosaic.Adequacy

/-! The claims about the attention call. -/

@[expose] public section
set_option maxRecDepth 16384
noncomputable section
namespace Cert.Proof.Attn
open Idealize.ShloMosaic Idealize.ShloMosaic.TcCoe Idealize.SL.Sem

/-- The precondition's shape facts. -/
theorem facts : Cert.Pre_finite_queries_keys.Facts where
  slices_S8192x3072_S8192x2048_0_0 := by decide
  bitsLt_bf16_f32 := by decide
  bcast_S_S8192x2048 := by decide

attribute [local instance] facts Cert.Kernel.Gen.facts Cert.KernelIdeal.Gen.facts Cert.ReferenceIdeal.Gen.facts

/-- The kernel runs and ends quietly. -/
theorem frame_k : Cert.quiescent_Kernel := fun m g _ => Cert.Kernel.Gen.frame m g

/-- So does its idealization. -/
theorem frame_i : Cert.quiescent_KernelIdeal := fun m g _ => Cert.KernelIdeal.Gen.frame m g

/-- So does its idealization under the precondition. -/
theorem frame_ip : Cert.quiescent_KernelIdeal_pre_finite_queries_keys := fun m g _ => Cert.KernelIdeal.Gen.frame m g

/-- So does the reference's. -/
theorem frame_r : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- So does the reference's under the precondition. -/
theorem frame_rp : Cert.quiescent_ReferenceIdeal_pre_finite_queries_keys := fun m g _ => frame_r m g trivial

/-- The mask constant's idealization. -/
theorem named : Cert.preserves_Kernel_KernelIdeal :=
  IdealRules.named_const.statement Cert.KernelIdeal.κ "mask" .f32 0xF149F2CA#32 ⊥ rfl

/-- What the precondition says of the queries and keys. -/
theorem finite_of_pre (x : (⟨2, ![8192, 3072]⟩ : Shape).Idx → EReal)
    (h : Cert.Pre_finite_queries_keys.fn (F := Ideal) x = fun _ => 1#1) : Finite x := by
  intro a c hc
  have h1 := congrFun h (ix2 a ⟨c.val, hc⟩)
  unfold Cert.Pre_finite_queries_keys.fn at h1
  have h2 : Ideal.cmp .olt (max (x (ix2 a c)) (-(x (ix2 a c)))) (Ideal.ofBits .f32 0x7F800000#32) = 1#1 := by
    refine Eq.trans ?_ h1
    pointwise []
    rfl
  have ht : Ideal.ofBits .f32 0x7F800000#32 = ⊤ := by simp [Ideal.ofBits, Ideal.ieee]
  rw [ht] at h2
  have h3 : max (x (ix2 a c)) (-(x (ix2 a c))) < ⊤ := by
    by_contra hn
    rw [show Ideal.cmp .olt (max (x (ix2 a c)) (-(x (ix2 a c)))) ⊤ = BitVec.ofBool (decide (max (x (ix2 a c)) (-(x (ix2 a c))) < ⊤)) from rfl, decide_eq_false hn] at h2
    exact absurd h2 (by decide)
  generalize x (ix2 a c) = y at h3
  induction y with
  | bot => exact absurd h3 (by simp)
  | top => exact absurd h3 (by simp)
  | coe r => exact ⟨r, rfl⟩

/-- The two idealizations compute the same two arrays. -/
theorem algebraic : Cert.algebraic_KernelIdeal_ReferenceIdeal_pre_finite_queries_keys := by
  intro m g m' g' hpre hx
  refine ⟨fun c => outArr (argX m c), fun c => lseArr (argX m c), ?_, ?_⟩
  · refine (θ_run _ _ _).mono ?_ (Cert.KernelIdeal.Value.run_blocks m g)
    intro r h c
    obtain ⟨h0, h1, h2⟩ := h c
    exact ⟨h0.trans (arr3 m c), h1.trans (arr4 m c), h2⟩
  · refine (θ_run _ _ _).mono ?_ (Cert.ReferenceIdeal.Value.run (F := Ideal) m' g')
    intro r h c
    obtain ⟨h0, h1, h2⟩ := h c
    have hf : Finite (argX m c) := finite_of_pre _ (hpre c)
    refine ⟨h0.trans ?_, h1.trans ?_, h2⟩
    · refine (Cert.ReferenceIdeal.Read.val_main_v130_eq (StableHlo.launchContents m' c)).trans ?_
      rw [StableHlo.launchContents_devRef, hx c]
      funext i
      rw [show i = ix3 (i 0) (i 1) (i 2) from by funext a; fin_cases a <;> rfl]
      exact ref_value _ hf _ _ _
    · refine (Cert.ReferenceIdeal.Read.val_main_v131_eq (StableHlo.launchContents m' c)).trans ?_
      rw [StableHlo.launchContents_devRef, hx c]
      funext i
      rw [show i = ix3 (i 0) (i 1) (i 2) from by funext a; fin_cases a <;> rfl]
      exact ref_lse _ _ _ _
end Cert.Proof.Attn
-- ==== Proof.Proj.Base.lean ====
module
public import proofs.«01_k».proof.Proof.Attn.Spec

/-! What the layer's dense products are, free of any program. -/

@[expose] public section
set_option maxRecDepth 16384
noncomputable section
namespace Cert.Proof.Proj
open Idealize.ShloMosaic

/-- The entries of the input projection's weight. -/
abbrev WIn : Type := (⟨3, ![1, 4096, 19456]⟩ : Shape).Idx → EReal

/-- Entry `r, k` of the 8192 rows of a batch of four sequences. -/
def rows (h : (⟨3, ![4, 2048, 4096]⟩ : Shape).Idx → EReal) (r : Fin 8192) (k : Fin 4096) : EReal :=
  h (ix3 ⟨r.val / 2048, by omega⟩ ⟨r.val % 2048, by omega⟩ k)

/-- Entry `r, k` of the 8192 rows of a batch whose sequences lie in four residue classes. -/
def rows4 (h : (⟨4, ![4, 4, 512, 4096]⟩ : Shape).Idx → EReal) (r : Fin 8192) (k : Fin 4096) : EReal :=
  h (ix4 ⟨r.val / 2048, by omega⟩ ⟨r.val / 512 % 4, by omega⟩ ⟨r.val % 512, by omega⟩ k)

/-- Entry `r, k` of the 8192 rows of a batch whose sequences lie in sixteen residue classes. -/
def rows16 (h : (⟨4, ![4, 16, 128, 4096]⟩ : Shape).Idx → EReal) (r : Fin 8192) (k : Fin 4096) : EReal :=
  h (ix4 ⟨r.val / 2048, by omega⟩ ⟨r.val / 128 % 16, by omega⟩ ⟨r.val % 128, by omega⟩ k)

/-- The column of the input projection's weight that column `j` of group `g` reads: the first three spans of 3072
    columns are queries, keys and values, and each group has 1024 columns of each. -/
def qkvCol (g : Fin 3) (j : Fin 3072) : Fin 19456 := ⟨j.val / 1024 * 3072 + g.val * 1024 + j.val % 1024, by omega⟩

/-- The column of the input projection's weight that column `j` of the Fourier branch reads. -/
def fourierCol (j : Fin 2048) : Fin 19456 := ⟨9216 + j.val, by omega⟩

/-- The column of the input projection's weight that gate `j` reads. -/
def gateCol (j : Fin 8192) : Fin 19456 := ⟨11264 + j.val, by omega⟩

/-- One entry of a product with the input projection's weight. -/
def dot (row : Fin 4096 → EReal) (w : WIn) (j : Fin 19456) : EReal := ∑ k, row k * w (ix3 0 k j)

/-- The query, key and value columns of group `g`, of the given rows. -/
def qkv (g : Fin 3) (row : Fin 8192 → Fin 4096 → EReal) (w : WIn) : (⟨2, ![8192, 3072]⟩ : Shape).Idx → EReal :=
  fun i => dot (row (i 0)) w (qkvCol g (i 1))

/-- The Fourier branch's columns of the given rows. -/
def fourier (row : Fin 8192 → Fin 4096 → EReal) (w : WIn) : (⟨2, ![8192, 2048]⟩ : Shape).Idx → EReal :=
  fun i => dot (row (i 0)) w (fourierCol (i 1))

/-- The gates of the given rows. -/
def gates (row : Fin 8192 → Fin 4096 → EReal) (w : WIn) (b : (⟨2, ![1, 8192]⟩ : Shape).Idx → EReal) :
    (⟨2, ![8192, 8192]⟩ : Shape).Idx → EReal :=
  fun i => Ideal.div 1 (1 + Ideal.exp (-(dot (row (i 0)) w (gateCol (i 1)) + b (ix2 0 (i 1)))))

/-- The attention's gate of column `j` of the merge. -/
def attnGate (j : Fin 4096) : Fin 8192 := ⟨j.val, by omega⟩

/-- The Fourier branch's gate of column `j` of the merge. -/
def fourierGate (j : Fin 4096) : Fin 8192 := ⟨4096 + j.val, by omega⟩

/-- The gated sum of the attention's and the Fourier branch's projections. -/
def merged (a : (⟨2, ![8192, 1024]⟩ : Shape).Idx → EReal) (f : (⟨2, ![8192, 2048]⟩ : Shape).Idx → EReal)
    (u : (⟨3, ![1, 1024, 4096]⟩ : Shape).Idx → EReal) (w : (⟨3, ![1, 2048, 4096]⟩ : Shape).Idx → EReal)
    (g : (⟨2, ![8192, 8192]⟩ : Shape).Idx → EReal) : (⟨2, ![8192, 4096]⟩ : Shape).Idx → EReal := fun i =>
  g (ix2 (i 0) (attnGate (i 1))) * ∑ k : Fin 1024, a (ix2 (i 0) k) * u (ix3 0 k (i 1))
    + g (ix2 (i 0) (fourierGate (i 1))) * ∑ k : Fin 2048, f (ix2 (i 0) k) * w (ix3 0 k (i 1))

/-- One entry of the first batch's output projection with its residual. -/
def outA (a : (⟨2, ![8192, 4096]⟩ : Shape).Idx → EReal) (w : (⟨3, ![1, 4096, 4096]⟩ : Shape).Idx → EReal)
    (x : (⟨3, ![4, 2048, 4096]⟩ : Shape).Idx → EReal) (r : Fin 8192) (j : Fin 4096) : EReal :=
  ∑ k : Fin 4096, a (ix2 r k) * w (ix3 0 k j) + x (ix3 ⟨r.val / 2048, by omega⟩ ⟨r.val % 2048, by omega⟩ j)

/-- One entry of the second batch's output projection with its residual. -/
def outB (b : (⟨2, ![16384, 4096]⟩ : Shape).Idx → EReal) (w : (⟨3, ![1, 4096, 4096]⟩ : Shape).Idx → EReal)
    (y : (⟨3, ![4, 4096, 4096]⟩ : Shape).Idx → EReal) (r : Fin 16384) (j : Fin 4096) : EReal :=
  ∑ k : Fin 4096, b (ix2 r k) * w (ix3 0 k j) + y (ix3 ⟨r.val / 4096, by omega⟩ ⟨r.val % 4096, by omega⟩ j)

/-- One entry of the first batch's output projection above the second's. -/
def outRow (a : (⟨2, ![8192, 4096]⟩ : Shape).Idx → EReal) (b : (⟨2, ![16384, 4096]⟩ : Shape).Idx → EReal)
    (w : (⟨3, ![1, 4096, 4096]⟩ : Shape).Idx → EReal) (x : (⟨3, ![4, 2048, 4096]⟩ : Shape).Idx → EReal)
    (y : (⟨3, ![4, 4096, 4096]⟩ : Shape).Idx → EReal) (r : Fin 24576) (j : Fin 4096) : EReal :=
  if h : r.val < 8192 then outA a w x ⟨r.val, h⟩ j else outB b w y ⟨r.val - 8192, by omega⟩ j

/-- The first 8192 rows are the first batch's. -/
theorem outRow_a  (a : (⟨2, ![8192, 4096]⟩ : Shape).Idx → EReal) (b : (⟨2, ![16384, 4096]⟩ : Shape).Idx → EReal)
    (w : (⟨3, ![1, 4096, 4096]⟩ : Shape).Idx → EReal) (x : (⟨3, ![4, 2048, 4096]⟩ : Shape).Idx → EReal)
    (y : (⟨3, ![4, 4096, 4096]⟩ : Shape).Idx → EReal) (r : Fin 24576) (j : Fin 4096) (h : r.val < 8192) :
    outRow a b w x y r j = outA a w x ⟨r.val, h⟩ j := dif_pos h

/-- The other rows are the second batch's. -/
theorem outRow_b  (a : (⟨2, ![8192, 4096]⟩ : Shape).Idx → EReal) (b : (⟨2, ![16384, 4096]⟩ : Shape).Idx → EReal)
    (w : (⟨3, ![1, 4096, 4096]⟩ : Shape).Idx → EReal) (x : (⟨3, ![4, 2048, 4096]⟩ : Shape).Idx → EReal)
    (y : (⟨3, ![4, 4096, 4096]⟩ : Shape).Idx → EReal) (r : Fin 24576) (j : Fin 4096) (h : ¬r.val < 8192) :
    outRow a b w x y r j = outB b w y ⟨r.val - 8192, by omega⟩ j := dif_neg h

/-- The first batch's output projection above the second's, as an array. -/
def outSum (a : (⟨2, ![8192, 4096]⟩ : Shape).Idx → EReal) (b : (⟨2, ![16384, 4096]⟩ : Shape).Idx → EReal)
    (w : (⟨3, ![1, 4096, 4096]⟩ : Shape).Idx → EReal) (x : (⟨3, ![4, 2048, 4096]⟩ : Shape).Idx → EReal)
    (y : (⟨3, ![4, 4096, 4096]⟩ : Shape).Idx → EReal) : (⟨2, ![24576, 4096]⟩ : Shape).Idx → EReal :=
  fun i => outRow a b w x y (i 0) (i 1)

end Cert.Proof.Proj
-- ==== Proof.Proj.Gates.lean ====
module
public import proofs.«01_k».proof.Defs
public import proofs.«01_k».proof.Proof.Gen.Gates.Frame
public import proofs.«01_k».proof.Proof.Gen.GatesIdeal.Value
public import proofs.«01_k».proof.Proof.Gen.GatesRefIdeal.Run
public import proofs.«01_k».proof.Proof.Gen.GatesRefIdeal.Read
public import proofs.«01_k».proof.Proof.Proj.Base
public import Idealize.ShloMosaic.Lib.Pipeline.ValueKit
public import Idealize.ShloMosaic.Init
public import Idealize.ShloMosaic.Adequacy

/-! The projection to the gates. -/

@[expose] public section
set_option maxRecDepth 16384
noncomputable section
namespace Cert.Proof.Proj.Gates
open Cert.GatesIdeal Cert.GatesIdeal.Gen Idealize.ShloMosaic Idealize.ShloMosaic.TcCoe Idealize.SL.Sem

section
variable (m : (ℓ : Loc nD τ sig) → Buf (Elt Ideal) ℓ)

/-- The rows on a device. -/
abbrev argH (c : Dev nD) : (⟨3, ![4, 2048, 4096]⟩ : Shape).Idx → EReal := m ((c : Thread nD τ).loc main_arg0)

/-- The weight on a device. -/
abbrev argW (c : Dev nD) : WIn := m ((c : Thread nD τ).loc main_arg1)

/-- The bias on a device. -/
abbrev argB (c : Dev nD) : (⟨2, ![1, 8192]⟩ : Shape).Idx → EReal := m ((c : Thread nD τ).loc main_arg2)

/-- Where each window's block lies. -/
theorem idx : ∀ t : Fin cfg0.N, win0_0.index t = ![(grid0.coords t 0).val, 0]
    ∧ win0_1.index t = ![0, (grid0.coords t 1).val + 11]
    ∧ win0_2.index t = ![0, (grid0.coords t 1).val]
    ∧ win0_3.index t = ![(grid0.coords t 0).val, (grid0.coords t 1).val] := by decide +kernel

/-- The grid has eight blocks of rows. -/
theorem lt0 (t : Fin cfg0.N) : (grid0.coords t 0).val < 8 := (grid0.coords t 0).isLt

/-- The grid has eight blocks of columns. -/
theorem lt1 (t : Fin cfg0.N) : (grid0.coords t 1).val < 8 := (grid0.coords t 1).isLt

/-- The reshaped rows at an index. -/
theorem rows_at (c : Dev nD) (r : Fin 8192) (k : Fin 4096) : V m c main_v0 (ix2 r k) = rows (argH m c) r k := by
  entry_read
  pointwise []
  rfl

/-- The weight without its leading axis at an index. -/
theorem weight_at (c : Dev nD) (k : Fin 4096) (j : Fin 19456) : V m c main_v2 (ix2 k j) = argW m c (ix3 0 k j) := by
  entry_read
  pointwise []

/-- The bias at an index. -/
theorem bias_at (c : Dev nD) (j : Fin 8192) : V m c main_v4 (ix2 0 j) = argB m c (ix2 0 j) := by
  entry_read
  pointwise []
  try rfl

/-- The gate that the call's body stores. -/
theorem pay (a : Vec Ideal S1024x4096 .bf16) (b : Vec Ideal S4096x1024 .bf16) (d : Vec Ideal S1x1024 .f32) (r j : Fin 1024) :
    k0_pay1 (F := Ideal) a b d (ix2 r j)
      = Ideal.div 1 (1 + Ideal.exp (-(∑ k : Fin 4096, a (ix2 r k) * b (ix2 k j) + d (ix2 0 j)))) := by
  pointwise [k0_pay1]
  rw [zero_sub]

/-- The block of rows at a grid point. -/
theorem a_at (c : Dev nD) (t : Fin cfg0.N) (r : Fin 1024) (k : Fin 4096) :
    iblk m c 0 t (ix2 r k) = rows (argH m c) ⟨1024 * (grid0.coords t 0).val + r.val, by have := lt0 t; omega⟩ k := by
  have h0 := lt0 t
  blk_simp [iblk]
  have : (win0_0.blk t).view.emb (ix2 r k) = ix2 ⟨1024 * (grid0.coords t 0).val + r.val, by omega⟩ k := by
    blk_ext [idx t]
  rw [this, rows_at]

/-- The block of the weight at a grid point. -/
theorem b_at (c : Dev nD) (t : Fin cfg0.N) (k : Fin 4096) (j : Fin 1024) :
    iblk m c 1 t (ix2 k j)
      = argW m c (ix3 0 k (gateCol ⟨1024 * (grid0.coords t 1).val + j.val, by have := lt1 t; omega⟩)) := by
  have h1 := lt1 t
  blk_simp [iblk]
  have : (win0_1.blk t).view.emb (ix2 k j) = ix2 k (gateCol ⟨1024 * (grid0.coords t 1).val + j.val, by omega⟩) := by
    blk_ext [idx t, gateCol]
  rw [this, weight_at]

/-- The block of the bias at a grid point. -/
theorem d_at (c : Dev nD) (t : Fin cfg0.N) (j : Fin 1024) :
    iblk m c 2 t (ix2 0 j) = argB m c (ix2 0 ⟨1024 * (grid0.coords t 1).val + j.val, by have := lt1 t; omega⟩) := by
  have h1 := lt1 t
  blk_simp [iblk]
  have : (win0_2.blk t).view.emb (ix2 0 j) = ix2 0 ⟨1024 * (grid0.coords t 1).val + j.val, by omega⟩ := by
    blk_ext [idx t]
  rw [this, bias_at]

/-- What a grid point writes. -/
theorem block (c : Dev nD) (t : Fin cfg0.N) (r j : Fin 1024) :
    (dats m 0 c).after 3 t (ix2 r j) = gates (rows (argH m c)) (argW m c) (argB m c)
      (ix2 ⟨1024 * (grid0.coords t 0).val + r.val, by have := lt0 t; omega⟩ ⟨1024 * (grid0.coords t 1).val + j.val, by have := lt1 t; omega⟩) := by
  rw [after0_3]
  frame_out
  rw [pay]
  simp only [a_at, b_at, d_at]
  rfl

/-- The call's result array. -/
theorem result (c : Dev nD) : (dats m 0 c).arrAt 3 cfg0.N = gates (rows (argH m c)) (argW m c) (argB m c) := by
  refine (dats m 0 c).arrAt_eq_of_covers 3 _ (by decide +kernel) fun t hf y => ?_
  blk_simp
  have h0 := lt0 t
  have h1 := lt1 t
  have y0 : (y 0).val < 1024 := (y 0).isLt
  have y1 : (y 1).val < 1024 := (y 1).isLt
  have hy : y = (ix2 (⟨(y 0).val, y0⟩ : Fin 1024) (⟨(y 1).val, y1⟩ : Fin 1024) : (cfg0.win 3).block.Idx) := by
    funext a
    fin_cases a <;> rfl
  have e : ((cfg0.win 3).blk t).view.emb y
      = (ix2 ⟨1024 * (grid0.coords t 0).val + (y 0).val, by omega⟩ ⟨1024 * (grid0.coords t 1).val + (y 1).val, by omega⟩ : S8192x8192.Idx) := by
    blk_ext [idx t]
  exact ((congrArg ((dats m 0 c).after 3 t) hy).trans (block m c t _ _)).trans (congrArg (gates (rows (argH m c)) (argW m c) (argB m c)) e).symm
end

section
open Cert.GatesRefIdeal.Read
variable (h : (⟨3, ![4, 2048, 4096]⟩ : Shape).Idx → EReal) (w : WIn)

/-- A column of the reference's product. -/
theorem ref_col (b : Fin 4) (t : Fin 2048) (j : Fin 19456) :
    val_main_v2 (F := Ideal) h w (ix3 b t j) = dot (fun k => h (ix3 b t k)) w j := by
  pointwise [val_main_v2, val_main_v1, val_main_v0]
  rfl

/-- The reference's result. -/
theorem ref (b : (⟨2, ![1, 8192]⟩ : Shape).Idx → EReal) (r j : Fin 8192) :
    val_main_v19 (F := Ideal) h w b (ix2 r j) = gates (rows h) w b (ix2 r j) := by
  pointwise [val_main_v19, val_main_v18, val_main_v17, val_main_v16, val_main_v15, val_main_v14, val_main_v13, val_main_v12,
    val_main_v11, val_main_v10, val_main_v9, val_main_v8, val_main_v7, val_main_cst, val_main_cst_0]
  simp only [ref_col]
  rfl
end

attribute [local instance] Cert.Gates.Gen.facts Cert.GatesIdeal.Gen.facts Cert.GatesRefIdeal.Gen.facts

/-- The kernel runs and ends quietly. -/
theorem frame_k : Cert.quiescent_Gates := fun m g _ => Cert.Gates.Gen.frame m g

/-- So does its idealization. -/
theorem frame_i : Cert.quiescent_GatesIdeal := fun m g _ => Cert.GatesIdeal.Gen.frame m g

/-- So does the reference's. -/
theorem frame_r : Cert.quiescent_GatesRefIdeal := fun m g _ =>
  (θ_run Cert.GatesRefIdeal.defs _ _).mono (fun r h => ⟨fun c => (h c).2, sem_eq_zero_of_no_sems (by decide) r.2⟩)
    (Cert.GatesRefIdeal.Value.run (F := Ideal) m g)

/-- The two idealizations compute the same array. -/
theorem algebraic : Cert.algebraic_GatesIdeal_GatesRefIdeal := by
  intro m g m' g' _ hx
  refine ⟨fun c => gates (rows (argH m c)) (argW m c) (argB m c), ?_, ?_⟩
  · refine (θ_run _ _ _).mono ?_ (Cert.GatesIdeal.Value.run_blocks m g)
    intro r h c
    exact ⟨(h c).1.trans (result m c), (h c).2⟩
  · refine (θ_run _ _ _).mono ?_ (Cert.GatesRefIdeal.Value.run (F := Ideal) m' g')
    intro r h c
    obtain ⟨x0, x1, x2⟩ := hx c
    refine ⟨(h c).1.trans ?_, (h c).2⟩
    refine (Cert.GatesRefIdeal.Read.val_main_v19_eq _ _ _).trans ?_
    rw [x0, x1, x2]
    funext i
    rw [show i = ix2 (i 0) (i 1) from by funext a; fin_cases a <;> rfl]
    exact ref _ _ _ _ _
end Cert.Proof.Proj.Gates
-- ==== Proof.Proj.Qkv.lean ====
module
public import proofs.«01_k».proof.Defs
public import proofs.«01_k».proof.Proof.Gen.Qkv.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.Proj.Base
public import Idealize.ShloMosaic.Lib.Pipeline.ValueKit
public import Idealize.ShloMosaic.Init
public import Idealize.ShloMosaic.Adequacy

/-! The projection to head group 0's queries, keys and values. -/

@[expose] public section
set_option maxRecDepth 16384
noncomputable section
namespace Cert.Proof.Proj.Qkv
open Cert.QkvIdeal Cert.QkvIdeal.Gen Idealize.ShloMosaic Idealize.ShloMosaic.TcCoe Idealize.SL.Sem

section
variable (m : (ℓ : Loc nD τ sig) → Buf (Elt Ideal) ℓ)

/-- The rows on a device. -/
abbrev argH (c : Dev nD) : (⟨3, ![4, 2048, 4096]⟩ : Shape).Idx → EReal := m ((c : Thread nD τ).loc main_arg0)

/-- The weight on a device. -/
abbrev argW (c : Dev nD) : WIn := m ((c : Thread nD τ).loc main_arg1)

/-- Where each window's block lies. -/
theorem idx : ∀ t : Fin cfg0.N, win0_0.index t = ![(grid0.coords t 0).val, 0]
    ∧ win0_1.index t = ![0, (grid0.coords t 1).val * 3 + 0]
    ∧ win0_2.index t = ![(grid0.coords t 0).val, (grid0.coords t 1).val] := by decide +kernel

/-- The grid has eight blocks of rows. -/
theorem lt0 (t : Fin cfg0.N) : (grid0.coords t 0).val < 8 := (grid0.coords t 0).isLt

/-- The grid has three blocks of columns. -/
theorem lt1 (t : Fin cfg0.N) : (grid0.coords t 1).val < 3 := (grid0.coords t 1).isLt

/-- The reshaped rows at an index. -/
theorem rows_at (c : Dev nD) (r : Fin 8192) (k : Fin 4096) : V m c main_v0 (ix2 r k) = rows (argH m c) r k := by
  entry_read
  pointwise []
  rfl

/-- The weight without its leading axis at an index. -/
theorem weight_at (c : Dev nD) (k : Fin 4096) (j : Fin 19456) : V m c main_v2 (ix2 k j) = argW m c (ix3 0 k j) := by
  entry_read
  pointwise []

/-- The product that the call's body stores. -/
theorem pay (a : Vec Ideal S1024x4096 .bf16) (b : Vec Ideal S4096x1024 .bf16) (r j : Fin 1024) :
    k0_pay1 (F := Ideal) a b (ix2 r j) = ∑ k : Fin 4096, a (ix2 r k) * b (ix2 k j) := by
  pointwise [k0_pay1]

/-- The block of rows at a grid point. -/
theorem a_at (c : Dev nD) (t : Fin cfg0.N) (r : Fin 1024) (k : Fin 4096) :
    iblk m c 0 t (ix2 r k) = rows (argH m c) ⟨1024 * (grid0.coords t 0).val + r.val, by have := lt0 t; omega⟩ k := by
  have h0 := lt0 t
  blk_simp [iblk]
  have : (win0_0.blk t).view.emb (ix2 r k) = ix2 ⟨1024 * (grid0.coords t 0).val + r.val, by omega⟩ k := by
    blk_ext [idx t]
  rw [this, rows_at]

/-- The block of the weight at a grid point. -/
theorem b_at (c : Dev nD) (t : Fin cfg0.N) (k : Fin 4096) (j : Fin 1024) :
    iblk m c 1 t (ix2 k j)
      = argW m c (ix3 0 k (qkvCol 0 ⟨1024 * (grid0.coords t 1).val + j.val, by have := lt1 t; omega⟩)) := by
  have h1 := lt1 t
  blk_simp [iblk]
  have : (win0_1.blk t).view.emb (ix2 k j) = ix2 k (qkvCol 0 ⟨1024 * (grid0.coords t 1).val + j.val, by omega⟩) := by
    blk_ext [idx t, qkvCol]
  rw [this, weight_at]

/-- What a grid point writes. -/
theorem block (c : Dev nD) (t : Fin cfg0.N) (r j : Fin 1024) :
    (dats m 0 c).after 2 t (ix2 r j) = qkv 0 (rows (argH m c)) (argW m c)
      (ix2 ⟨1024 * (grid0.coords t 0).val + r.val, by have := lt0 t; omega⟩ ⟨1024 * (grid0.coords t 1).val + j.val, by have := lt1 t; omega⟩) := by
  rw [after0_2]
  frame_out
  rw [pay]
  simp only [a_at, b_at]
  rfl

/-- The call's result array. -/
theorem result (c : Dev nD) : (dats m 0 c).arrAt 2 cfg0.N = qkv 0 (rows (argH m c)) (argW m c) := by
  refine (dats m 0 c).arrAt_eq_of_covers 2 _ (by decide +kernel) fun t hf y => ?_
  blk_simp
  have h0 := lt0 t
  have h1 := lt1 t
  have y0 : (y 0).val < 1024 := (y 0).isLt
  have y1 : (y 1).val < 1024 := (y 1).isLt
  have hy : y = (ix2 (⟨(y 0).val, y0⟩ : Fin 1024) (⟨(y 1).val, y1⟩ : Fin 1024) : (cfg0.win 2).block.Idx) := by
    funext a
    fin_cases a <;> rfl
  have e : ((cfg0.win 2).blk t).view.emb y
      = (ix2 ⟨1024 * (grid0.coords t 0).val + (y 0).val, by omega⟩ ⟨1024 * (grid0.coords t 1).val + (y 1).val, by omega⟩ : S8192x3072.Idx) := by
    blk_ext [idx t]
  exact ((congrArg ((dats m 0 c).after 2 t) hy).trans (block m c t _ _)).trans (congrArg (qkv 0 (rows (argH m c)) (argW m c)) e).symm
end

section
open Cert.QkvRefIdeal.Read
variable (h : (⟨3, ![4, 2048, 4096]⟩ : Shape).Idx → EReal) (w : WIn)

/-- A column of the reference's product. -/
theorem ref_col (b : Fin 4) (t : Fin 2048) (j : Fin 19456) :
    val_main_v2 (F := Ideal) h w (ix3 b t j) = dot (fun k => h (ix3 b t k)) w j := by
  pointwise [val_main_v2, val_main_v1, val_main_v0]
  rfl

/-- The reference's result. -/
theorem ref (r : Fin 8192) (j : Fin 3072) : val_main_v18 (F := Ideal) h w (ix2 r j) = qkv 0 (rows h) w (ix2 r j) := by
  pointwise [val_main_v18, val_main_v17, val_main_v16, val_main_v15, val_main_v14, val_main_v13, val_main_v12, val_main_v11,
    val_main_v10, val_main_v9, val_main_v8, val_main_v3, val_main_v4, val_main_v5]
  simp only [ref_col]
  split_ifs with h1 h2 <;> refine congrArg (dot (rows h r) w) (Fin.ext ?_) <;> simp [qkvCol] <;> omega
end

attribute [local instance] Cert.Qkv.Gen.facts Cert.QkvIdeal.Gen.facts Cert.QkvRefIdeal.Gen.facts

/-- The kernel runs and ends quietly. -/
theorem frame_k : Cert.quiescent_Qkv := fun m g _ => Cert.Qkv.Gen.frame m g

/-- So does its idealization. -/
theorem frame_i : Cert.quiescent_QkvIdeal := fun m g _ => Cert.QkvIdeal.Gen.frame m g

/-- So does the reference's. -/
theorem frame_r : Cert.quiescent_QkvRefIdeal := fun m g _ =>
  (θ_run Cert.QkvRefIdeal.defs _ _).mono (fun r h => ⟨fun c => (h c).2, sem_eq_zero_of_no_sems (by decide) r.2⟩)
    (Cert.QkvRefIdeal.Value.run (F := Ideal) m g)

/-- The two idealizations compute the same array. -/
theorem algebraic : Cert.algebraic_QkvIdeal_QkvRefIdeal := by
  intro m g m' g' _ hx
  refine ⟨fun c => qkv 0 (rows (argH m c)) (argW m c), ?_, ?_⟩
  · refine (θ_run _ _ _).mono ?_ (Cert.QkvIdeal.Value.run_blocks m g)
    intro r h c
    exact ⟨(h c).1.trans (result m c), (h c).2⟩
  · refine (θ_run _ _ _).mono ?_ (Cert.QkvRefIdeal.Value.run (F := Ideal) m' g')
    intro r h c
    obtain ⟨x0, x1⟩ := hx c
    refine ⟨(h c).1.trans ?_, (h c).2⟩
    refine (Cert.QkvRefIdeal.Read.val_main_v18_eq _ _).trans ?_
    rw [x0, x1]
    funext i
    rw [show i = ix2 (i 0) (i 1) from by funext a; fin_cases a <;> rfl]
    exact ref _ _ _ _
end Cert.Proof.Proj.Qkv
-- ==== Proof.Proj.Merge.lean ====
module
public import proofs.«01_k».proof.Defs
public import proofs.«01_k».proof.Proof.Gen.Merge.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Proj.Base
public import Idealize.ShloMosaic.Lib.Pipeline.ValueKit
public import Idealize.ShloMosaic.Init
public import Idealize.ShloMosaic.Adequacy

/-! The gated merge of the attention and the Fourier branch. -/

@[expose] public section
set_option maxRecDepth 16384
noncomputable section
namespace Cert.Proof.Proj.Merge
open Cert.MergeIdeal Cert.MergeIdeal.Gen Idealize.ShloMosaic Idealize.ShloMosaic.TcCoe Idealize.SL.Sem

section
variable (m : (ℓ : Loc nD τ sig) → Buf (Elt Ideal) ℓ)

/-- The attention's rows on a device. -/
abbrev argA (c : Dev nD) : (⟨2, ![8192, 1024]⟩ : Shape).Idx → EReal := m ((c : Thread nD τ).loc main_arg0)

/-- The Fourier branch's rows on a device. -/
abbrev argF (c : Dev nD) : (⟨2, ![8192, 2048]⟩ : Shape).Idx → EReal := m ((c : Thread nD τ).loc main_arg1)

/-- The attention's weight on a device. -/
abbrev argU (c : Dev nD) : (⟨3, ![1, 1024, 4096]⟩ : Shape).Idx → EReal := m ((c : Thread nD τ).loc main_arg2)

/-- The Fourier branch's weight on a device. -/
abbrev argW (c : Dev nD) : (⟨3, ![1, 2048, 4096]⟩ : Shape).Idx → EReal := m ((c : Thread nD τ).loc main_arg3)

/-- The gates on a device. -/
abbrev argG (c : Dev nD) : (⟨2, ![8192, 8192]⟩ : Shape).Idx → EReal := m ((c : Thread nD τ).loc main_arg4)

/-- Where each window's block lies. -/
theorem idx : ∀ t : Fin cfg0.N, win0_0.index t = ![(grid0.coords t 1).val, 0]
    ∧ win0_1.index t = ![(grid0.coords t 1).val, 0] ∧ win0_2.index t = ![0, (grid0.coords t 0).val]
    ∧ win0_3.index t = ![0, (grid0.coords t 0).val] ∧ win0_4.index t = ![(grid0.coords t 1).val, (grid0.coords t 0).val]
    ∧ win0_5.index t = ![(grid0.coords t 1).val, 4 + (grid0.coords t 0).val]
    ∧ win0_6.index t = ![(grid0.coords t 1).val, (grid0.coords t 0).val] := by decide +kernel

/-- The grid has four blocks of columns. -/
theorem lt0 (t : Fin cfg0.N) : (grid0.coords t 0).val < 4 := (grid0.coords t 0).isLt

/-- The grid has eight blocks of rows. -/
theorem lt1 (t : Fin cfg0.N) : (grid0.coords t 1).val < 8 := (grid0.coords t 1).isLt

/-- Row `r` of the block of rows at a grid point. -/
def row (t : Fin cfg0.N) (r : Fin 1024) : Fin 8192 := ⟨1024 * (grid0.coords t 1).val + r.val, by have := lt1 t; omega⟩

/-- Column `j` of the block of columns at a grid point. -/
def col (t : Fin cfg0.N) (j : Fin 1024) : Fin 4096 := ⟨1024 * (grid0.coords t 0).val + j.val, by have := lt0 t; omega⟩

/-- The attention's weight without its leading axis at an index. -/
theorem u_at (c : Dev nD) (k : Fin 1024) (j : Fin 4096) : V m c main_v1 (ix2 k j) = argU m c (ix3 0 k j) := by
  entry_read
  pointwise []

/-- The Fourier branch's weight without its leading axis at an index. -/
theorem w_at (c : Dev nD) (k : Fin 2048) (j : Fin 4096) : V m c main_v3 (ix2 k j) = argW m c (ix3 0 k j) := by
  entry_read
  pointwise []

/-- The gated sum that the call's body stores. -/
theorem pay (a : Vec Ideal S1024x1024 .bf16) (u : Vec Ideal S1024x1024 .bf16) (f : Vec Ideal S1024x2048 .bf16)
    (w : Vec Ideal S2048x1024 .bf16) (p q : Vec Ideal S1024x1024 .bf16) (r j : Fin 1024) :
    k0_pay1 (F := Ideal) a u f w p q (ix2 r j) = p (ix2 r j) * ∑ k : Fin 1024, a (ix2 r k) * u (ix2 k j)
      + q (ix2 r j) * ∑ k : Fin 2048, f (ix2 r k) * w (ix2 k j) := by
  pointwise [k0_pay1]

/-- The block of the attention's rows at a grid point. -/
theorem blk0 (c : Dev nD) (t : Fin cfg0.N) (r : Fin 1024) (k : Fin 1024) : iblk m c 0 t (ix2 r k) = argA m c (ix2 (row t r) k) := by
  blk_simp [iblk]
  have : (win0_0.blk t).view.emb (ix2 r k) = ix2 (row t r) k := by blk_ext [idx t, row]
  rw [this, V_main_arg0]

/-- The block of the Fourier branch's rows at a grid point. -/
theorem blk1 (c : Dev nD) (t : Fin cfg0.N) (r : Fin 1024) (k : Fin 2048) : iblk m c 1 t (ix2 r k) = argF m c (ix2 (row t r) k) := by
  blk_simp [iblk]
  have : (win0_1.blk t).view.emb (ix2 r k) = ix2 (row t r) k := by blk_ext [idx t, row]
  rw [this, V_main_arg1]

/-- The block of the attention's weight at a grid point. -/
theorem blk2 (c : Dev nD) (t : Fin cfg0.N) (k : Fin 1024) (j : Fin 1024) : iblk m c 2 t (ix2 k j) = argU m c (ix3 0 k (col t j)) := by
  blk_simp [iblk]
  have : (win0_2.blk t).view.emb (ix2 k j) = ix2 k (col t j) := by blk_ext [idx t, col]
  rw [this, u_at]

/-- The block of the Fourier branch's weight at a grid point. -/
theorem blk3 (c : Dev nD) (t : Fin cfg0.N) (k : Fin 2048) (j : Fin 1024) : iblk m c 3 t (ix2 k j) = argW m c (ix3 0 k (col t j)) := by
  blk_simp [iblk]
  have : (win0_3.blk t).view.emb (ix2 k j) = ix2 k (col t j) := by blk_ext [idx t, col]
  rw [this, w_at]

/-- The block of the attention's gates at a grid point. -/
theorem blk4 (c : Dev nD) (t : Fin cfg0.N) (r j : Fin 1024) :
    iblk m c 4 t (ix2 r j) = argG m c (ix2 (row t r) (attnGate (col t j))) := by
  blk_simp [iblk]
  have : (win0_4.blk t).view.emb (ix2 r j) = ix2 (row t r) (attnGate (col t j)) := by blk_ext [idx t, row, col, attnGate]
  rw [this, V_main_arg4]

/-- The block of the Fourier branch's gates at a grid point. -/
theorem blk5 (c : Dev nD) (t : Fin cfg0.N) (r j : Fin 1024) :
    iblk m c 5 t (ix2 r j) = argG m c (ix2 (row t r) (fourierGate (col t j))) := by
  blk_simp [iblk]
  have : (win0_5.blk t).view.emb (ix2 r j) = ix2 (row t r) (fourierGate (col t j)) := by blk_ext [idx t, row, col, fourierGate]
  rw [this, V_main_arg4]

/-- What a grid point writes. -/
theorem block (c : Dev nD) (t : Fin cfg0.N) (r j : Fin 1024) :
    (dats m 0 c).after 6 t (ix2 r j) = merged (argA m c) (argF m c) (argU m c) (argW m c) (argG m c) (ix2 (row t r) (col t j)) := by
  rw [after0_6]
  frame_out
  rw [pay]
  simp only [blk0, blk1, blk2, blk3, blk4, blk5]
  rfl

/-- The call's result array. -/
theorem result (c : Dev nD) :
    (dats m 0 c).arrAt 6 cfg0.N = merged (argA m c) (argF m c) (argU m c) (argW m c) (argG m c) := by
  refine (dats m 0 c).arrAt_eq_of_covers 6 _ (by decide +kernel) fun t hf y => ?_
  blk_simp
  have y0 : (y 0).val < 1024 := (y 0).isLt
  have y1 : (y 1).val < 1024 := (y 1).isLt
  have hy : y = (ix2 (⟨(y 0).val, y0⟩ : Fin 1024) (⟨(y 1).val, y1⟩ : Fin 1024) : (cfg0.win 6).block.Idx) := by
    funext a
    fin_cases a <;> rfl
  have e : ((cfg0.win 6).blk t).view.emb y = (ix2 (row t ⟨(y 0).val, y0⟩) (col t ⟨(y 1).val, y1⟩) : S8192x4096.Idx) := by
    blk_ext [idx t, row, col]
  exact ((congrArg ((dats m 0 c).after 6 t) hy).trans (block m c t _ _)).trans
    (congrArg (merged (argA m c) (argF m c) (argU m c) (argW m c) (argG m c)) e).symm
end

open Cert.MergeRefIdeal.Read in
/-- The reference's result. -/
theorem ref (a : (⟨2, ![8192, 1024]⟩ : Shape).Idx → EReal) (f : (⟨2, ![8192, 2048]⟩ : Shape).Idx → EReal)
    (u : (⟨3, ![1, 1024, 4096]⟩ : Shape).Idx → EReal) (w : (⟨3, ![1, 2048, 4096]⟩ : Shape).Idx → EReal)
    (g : (⟨2, ![8192, 8192]⟩ : Shape).Idx → EReal) (r : Fin 8192) (j : Fin 4096) :
    val_main_v12 (F := Ideal) a f u w g (ix2 r j) = merged a f u w g (ix2 r j) := by
  pointwise [val_main_v12, val_main_v11, val_main_v10, val_main_v9, val_main_v8, val_main_v7, val_main_v6, val_main_v5, val_main_v4,
    val_main_v3, val_main_v2, val_main_v1, val_main_v0]
  rfl

attribute [local instance] Cert.Merge.Gen.facts Cert.MergeIdeal.Gen.facts Cert.MergeRefIdeal.Gen.facts

/-- The kernel runs and ends quietly. -/
theorem frame_k : Cert.quiescent_Merge := fun m g _ => Cert.Merge.Gen.frame m g

/-- So does its idealization. -/
theorem frame_i : Cert.quiescent_MergeIdeal := fun m g _ => Cert.MergeIdeal.Gen.frame m g

/-- So does the reference's. -/
theorem frame_r : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run (F := Ideal) m g)

/-- The two idealizations compute the same array. -/
theorem algebraic : Cert.algebraic_MergeIdeal_MergeRefIdeal := by
  intro m g m' g' _ hx
  refine ⟨fun c => merged (argA m c) (argF m c) (argU m c) (argW m c) (argG m c), ?_, ?_⟩
  · refine (θ_run _ _ _).mono ?_ (Cert.MergeIdeal.Value.run_blocks m g)
    intro r h c
    exact ⟨(h c).1.trans (result m c), (h c).2⟩
  · refine (θ_run _ _ _).mono ?_ (Cert.MergeRefIdeal.Value.run (F := Ideal) m' g')
    intro r h c
    obtain ⟨x0, x1, x2, x3, x4⟩ := hx c
    refine ⟨(h c).1.trans ?_, (h c).2⟩
    refine (Cert.MergeRefIdeal.Read.val_main_v12_eq _ _ _ _ _).trans ?_
    rw [x0, x1, x2, x3, x4]
    funext i
    rw [show i = ix2 (i 0) (i 1) from by funext a; fin_cases a <;> rfl]
    exact ref _ _ _ _ _ _ _
end Cert.Proof.Proj.Merge
-- ==== Proof.Proj.Out.lean ====
module
public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Proj.Base
public import Idealize.ShloMosaic.Lib.Pipeline.ValueKit
public import Idealize.ShloMosaic.Init
public import Idealize.ShloMosaic.Adequacy

/-! The output projection with the residual, of both batches. -/

@[expose] public section
set_option maxRecDepth 16384
noncomputable section
namespace Cert.Proof.Proj.Out
open Cert.OutIdeal Cert.OutIdeal.Gen Idealize.ShloMosaic Idealize.ShloMosaic.TcCoe Idealize.SL.Sem

section
variable (m : (ℓ : Loc nD τ sig) → Buf (Elt Ideal) ℓ)

/-- The first batch's merged rows on a device. -/
abbrev argA (c : Dev nD) : (⟨2, ![8192, 4096]⟩ : Shape).Idx → EReal := m ((c : Thread nD τ).loc main_arg0)

/-- The second batch's merged rows on a device. -/
abbrev argB (c : Dev nD) : (⟨2, ![16384, 4096]⟩ : Shape).Idx → EReal := m ((c : Thread nD τ).loc main_arg1)

/-- The weight on a device. -/
abbrev argW (c : Dev nD) : (⟨3, ![1, 4096, 4096]⟩ : Shape).Idx → EReal := m ((c : Thread nD τ).loc main_arg2)

/-- The first batch's residual on a device. -/
abbrev argX (c : Dev nD) : (⟨3, ![4, 2048, 4096]⟩ : Shape).Idx → EReal := m ((c : Thread nD τ).loc main_arg3)

/-- The second batch's residual on a device. -/
abbrev argY (c : Dev nD) : (⟨3, ![4, 4096, 4096]⟩ : Shape).Idx → EReal := m ((c : Thread nD τ).loc main_arg4)

/-- The call's result on a device, from its arguments. -/
abbrev total (c : Dev nD) : S24576x4096.Idx → EReal := outSum (argA m c) (argB m c) (argW m c) (argX m c) (argY m c)

/-- Where each window's block lies. -/
theorem idx : ∀ t : Fin cfg0.N, win0_0.index t = ![min (grid0.coords t 1).val 15, 0]
    ∧ win0_1.index t = ![(grid0.coords t 1).val - 16, 0] ∧ win0_2.index t = ![0, (grid0.coords t 0).val]
    ∧ win0_3.index t = ![min (grid0.coords t 1).val 15, (grid0.coords t 0).val]
    ∧ win0_4.index t = ![(grid0.coords t 1).val - 16, (grid0.coords t 0).val]
    ∧ win0_5.index t = ![(grid0.coords t 1).val, (grid0.coords t 0).val] := by decide +kernel

/-- The grid's row block of a point. -/
theorem rem : ∀ t : Fin cfg0.N, t.val % 48 = (grid0.coords t 1).val := by decide +kernel

/-- The grid has four blocks of columns. -/
theorem lt0 (t : Fin cfg0.N) : (grid0.coords t 0).val < 4 := (grid0.coords t 0).isLt

/-- The grid has 48 blocks of rows. -/
theorem lt1 (t : Fin cfg0.N) : (grid0.coords t 1).val < 48 := (grid0.coords t 1).isLt

/-- Row `r` of the block of rows at a grid point. -/
def row (t : Fin cfg0.N) (r : Fin 512) : Fin 24576 := ⟨512 * (grid0.coords t 1).val + r.val, by have := lt1 t; omega⟩

/-- Column `j` of the block of columns at a grid point. -/
def col (t : Fin cfg0.N) (j : Fin 1024) : Fin 4096 := ⟨1024 * (grid0.coords t 0).val + j.val, by have := lt0 t; omega⟩

/-- The weight without its leading axis at an index. -/
theorem w_at (c : Dev nD) (k : Fin 4096) (j : Fin 4096) : V m c main_v1 (ix2 k j) = argW m c (ix3 0 k j) := by
  entry_read
  pointwise []

/-- The first batch's residual row by row. -/
theorem x_at (c : Dev nD) (r : Fin 8192) (j : Fin 4096) :
    V m c main_v2 (ix2 r j) = argX m c (ix3 ⟨r.val / 2048, by omega⟩ ⟨r.val % 2048, by omega⟩ j) := by
  entry_read
  pointwise []

/-- The second batch's residual row by row. -/
theorem y_at (c : Dev nD) (r : Fin 16384) (j : Fin 4096) :
    V m c main_v3 (ix2 r j) = argY m c (ix3 ⟨r.val / 4096, by omega⟩ ⟨r.val % 4096, by omega⟩ j) := by
  entry_read
  pointwise []

/-- The sum that the call's body stores at the first batch's points. -/
theorem pay1 (a : Vec Ideal S512x4096 .bf16) (w : Vec Ideal S4096x1024 .bf16) (x : Vec Ideal S512x1024 .f32) (r : Fin 512) (j : Fin 1024) :
    k0_pay1 (F := Ideal) a w x (ix2 r j) = ∑ k : Fin 4096, a (ix2 r k) * w (ix2 k j) + x (ix2 r j) := by
  pointwise [k0_pay1]

/-- At the second batch's points it stores the same function of its blocks. -/
theorem pay2 (a : Vec Ideal S512x4096 .bf16) (w : Vec Ideal S4096x1024 .bf16) (x : Vec Ideal S512x1024 .f32) :
    k0_pay2 (F := Ideal) a w x = k0_pay1 a w x := rfl

/-- The block of the weight at a grid point. -/
theorem blk2 (c : Dev nD) (t : Fin cfg0.N) (k : Fin 4096) (j : Fin 1024) : iblk m c 2 t (ix2 k j) = argW m c (ix3 0 k (col t j)) := by
  blk_simp [iblk]
  have : (win0_2.blk t).view.emb (ix2 k j) = ix2 k (col t j) := by blk_ext [idx t, col]
  rw [this, w_at]

/-- The block of the first batch's rows at one of its points. -/
theorem blk0 (c : Dev nD) (t : Fin cfg0.N) (ht : (grid0.coords t 1).val < 16) (r : Fin 512) (k : Fin 4096) :
    iblk m c 0 t (ix2 r k) = argA m c (ix2 ⟨(row t r).val, by simp only [row]; omega⟩ k) := by
  blk_simp [iblk]
  have : (win0_0.blk t).view.emb (ix2 r k) = ix2 ⟨(row t r).val, by simp only [row]; omega⟩ k := by blk_ext [idx t, row]
  rw [this, V_main_arg0]

/-- The block of the first batch's residual at one of its points. -/
theorem blk3 (c : Dev nD) (t : Fin cfg0.N) (ht : (grid0.coords t 1).val < 16) (r : Fin 512) (j : Fin 1024) :
    iblk m c 3 t (ix2 r j) = argX m c (ix3 ⟨(row t r).val / 2048, by simp only [row]; omega⟩ ⟨(row t r).val % 2048, by omega⟩ (col t j)) := by
  blk_simp [iblk]
  have : (win0_3.blk t).view.emb (ix2 r j) = ix2 ⟨(row t r).val, by simp only [row]; omega⟩ (col t j) := by blk_ext [idx t, row, col]
  rw [this, x_at]

/-- The block of the second batch's rows at one of its points. -/
theorem blk1 (c : Dev nD) (t : Fin cfg0.N) (ht : ¬(grid0.coords t 1).val < 16) (r : Fin 512) (k : Fin 4096) :
    iblk m c 1 t (ix2 r k) = argB m c (ix2 ⟨(row t r).val - 8192, by omega⟩ k) := by
  have h1 := lt1 t
  blk_simp [iblk]
  have : (win0_1.blk t).view.emb (ix2 r k) = ix2 ⟨(row t r).val - 8192, by omega⟩ k := by blk_ext [idx t, row]
  rw [this, V_main_arg1]

/-- The block of the second batch's residual at one of its points. -/
theorem blk4 (c : Dev nD) (t : Fin cfg0.N) (ht : ¬(grid0.coords t 1).val < 16) (r : Fin 512) (j : Fin 1024) :
    iblk m c 4 t (ix2 r j)
      = argY m c (ix3 ⟨((row t r).val - 8192) / 4096, by omega⟩ ⟨((row t r).val - 8192) % 4096, by omega⟩ (col t j)) := by
  have h1 := lt1 t
  blk_simp [iblk]
  have : (win0_4.blk t).view.emb (ix2 r j) = ix2 ⟨(row t r).val - 8192, by omega⟩ (col t j) := by blk_ext [idx t, row, col]
  rw [this, y_at]

/-- What a grid point writes. -/
theorem block (c : Dev nD) (t : Fin cfg0.N) (r : Fin 512) (j : Fin 1024) :
    (dats m 0 c).after 5 t (ix2 r j) = total m c (ix2 (row t r) (col t j)) := by
  have h1 := lt1 t
  rw [after0_5]
  by_cases ht : (grid0.coords t 1).val < 16
  · rw [outsAt0_A m c t (by rw [rem]; omega) (by rw [rem]; omega)]
    frame_out
    rw [pay1]
    simp only [blk0 m c t ht, blk3 m c t ht, blk2]
    have hr : (row t r).val < 8192 := by simp only [row]; omega
    exact (outRow_a _ _ _ _ _ (row t r) (col t j) hr).symm
  · rw [outsAt0_B m c t (by rw [rem]; omega) (by rw [rem]; omega)]
    frame_out
    rw [pay2, pay1]
    simp only [blk1 m c t ht, blk4 m c t ht, blk2]
    have hr : ¬(row t r).val < 8192 := by simp only [row]; omega
    exact (outRow_b _ _ _ _ _ (row t r) (col t j) hr).symm

/-- The call's result array. -/
theorem result (c : Dev nD) : (dats m 0 c).arrAt 5 cfg0.N = total m c := by
  refine (dats m 0 c).arrAt_eq_of_covers 5 _ (by decide +kernel) fun t hf y => ?_
  blk_simp
  have y0 : (y 0).val < 512 := (y 0).isLt
  have y1 : (y 1).val < 1024 := (y 1).isLt
  have hy : y = (ix2 (⟨(y 0).val, y0⟩ : Fin 512) (⟨(y 1).val, y1⟩ : Fin 1024) : (cfg0.win 5).block.Idx) := by
    funext a
    fin_cases a <;> rfl
  have e : ((cfg0.win 5).blk t).view.emb y = (ix2 (row t ⟨(y 0).val, y0⟩) (col t ⟨(y 1).val, y1⟩) : S24576x4096.Idx) := by
    blk_ext [idx t, row, col]
  exact ((congrArg ((dats m 0 c).after 5 t) hy).trans (block m c t _ _)).trans (congrArg (total m c) e).symm
end

open Cert.OutRefIdeal.Read in
/-- The reference's result. -/
theorem ref (a : (⟨2, ![8192, 4096]⟩ : Shape).Idx → EReal) (b : (⟨2, ![16384, 4096]⟩ : Shape).Idx → EReal)
    (w : (⟨3, ![1, 4096, 4096]⟩ : Shape).Idx → EReal) (x : (⟨3, ![4, 2048, 4096]⟩ : Shape).Idx → EReal)
    (y : (⟨3, ![4, 4096, 4096]⟩ : Shape).Idx → EReal) (r : Fin 24576) (j : Fin 4096) :
    val_main_v10 (F := Ideal) a b w x y (ix2 r j) = outSum a b w x y (ix2 r j) := by
  pointwise [val_main_v10, val_main_v9, val_main_v8, val_main_v7, val_main_v6, val_main_v5, val_main_v4,
    val_main_v3, val_main_v2, val_main_v1, val_main_v0]
  show _ = outRow a b w x y r j
  by_cases h : r.val < 8192
  · rw [outRow_a _ _ _ _ _ _ _ h, dif_pos h]
    exact add_comm _ _
  · rw [outRow_b _ _ _ _ _ _ _ h, dif_neg h]
    exact add_comm _ _

attribute [local instance] Cert.Out.Gen.facts Cert.OutIdeal.Gen.facts Cert.OutRefIdeal.Gen.facts

/-- The kernel runs and ends quietly. -/
theorem frame_k : Cert.quiescent_Out := fun m g _ => Cert.Out.Gen.frame m g

/-- So does its idealization. -/
theorem frame_i : Cert.quiescent_OutIdeal := fun m g _ => Cert.OutIdeal.Gen.frame m g

/-- So does the reference's. -/
theorem frame_r : Cert.quiescent_OutRefIdeal := fun m g _ =>
  (θ_run Cert.OutRefIdeal.defs _ _).mono (fun r h => ⟨fun c => (h c).2, sem_eq_zero_of_no_sems (by decide) r.2⟩)
    (Cert.OutRefIdeal.Value.run (F := Ideal) m g)

/-- The two idealizations compute the same array. -/
theorem algebraic : Cert.algebraic_OutIdeal_OutRefIdeal := by
  intro m g m' g' _ hx
  refine ⟨fun c => total m c, ?_, ?_⟩
  · refine (θ_run _ _ _).mono ?_ (Cert.OutIdeal.Value.run_blocks m g)
    intro r h c
    exact ⟨(h c).1.trans (result m c), (h c).2⟩
  · refine (θ_run _ _ _).mono ?_ (Cert.OutRefIdeal.Value.run (F := Ideal) m' g')
    intro r h c
    obtain ⟨x0, x1, x2, x3, x4⟩ := hx c
    refine ⟨(h c).1.trans ?_, (h c).2⟩
    refine (Cert.OutRefIdeal.Read.val_main_v10_eq _ _ _ _ _).trans ?_
    rw [x0, x1, x2, x3, x4]
    funext i
    rw [show i = ix2 (i 0) (i 1) from by funext a; fin_cases a <;> rfl]
    exact ref _ _ _ _ _ _ _
end Cert.Proof.Proj.Out
-- ==== Proof.Proj.QkvB.lean ====
module
public import proofs.«01_k».proof.Defs
public import proofs.«01_k».proof.Proof.Gen.QkvB.Frame
public import proofs.«01_k».proof.Proof.Gen.QkvBIdeal.Value
public import proofs.«01_k».proof.Proof.Gen.QkvBRefIdeal.Run
public import proofs.«01_k».proof.Proof.Gen.QkvBRefIdeal.Read
public import proofs.«01_k».proof.Proof.Proj.Base
public import Idealize.ShloMosaic.Lib.Pipeline.ValueKit
public import Idealize.ShloMosaic.Init
public import Idealize.ShloMosaic.Adequacy

/-! The projection to head group 1's queries, keys and values. -/

@[expose] public section
set_option maxRecDepth 16384
noncomputable section
namespace Cert.Proof.Proj.QkvB
open Cert.QkvBIdeal Cert.QkvBIdeal.Gen Idealize.ShloMosaic Idealize.ShloMosaic.TcCoe Idealize.SL.Sem

section
variable (m : (ℓ : Loc nD τ sig) → Buf (Elt Ideal) ℓ)

/-- The rows on a device. -/
abbrev argH (c : Dev nD) : (⟨4, ![4, 4, 512, 4096]⟩ : Shape).Idx → EReal := m ((c : Thread nD τ).loc main_arg0)

/-- The weight on a device. -/
abbrev argW (c : Dev nD) : WIn := m ((c : Thread nD τ).loc main_arg1)

/-- Where each window's block lies. -/
theorem idx : ∀ t : Fin cfg0.N, win0_0.index t = ![(grid0.coords t 0).val, 0]
    ∧ win0_1.index t = ![0, (grid0.coords t 1).val * 3 + 1]
    ∧ win0_2.index t = ![(grid0.coords t 0).val, (grid0.coords t 1).val] := by decide +kernel

/-- The grid has eight blocks of rows. -/
theorem lt0 (t : Fin cfg0.N) : (grid0.coords t 0).val < 8 := (grid0.coords t 0).isLt

/-- The grid has three blocks of columns. -/
theorem lt1 (t : Fin cfg0.N) : (grid0.coords t 1).val < 3 := (grid0.coords t 1).isLt

/-- The reshaped rows at an index. -/
theorem rows_at (c : Dev nD) (r : Fin 8192) (k : Fin 4096) : V m c main_v0 (ix2 r k) = rows4 (argH m c) r k := by
  entry_read
  pointwise []
  rfl

/-- The weight without its leading axis at an index. -/
theorem weight_at (c : Dev nD) (k : Fin 4096) (j : Fin 19456) : V m c main_v2 (ix2 k j) = argW m c (ix3 0 k j) := by
  entry_read
  pointwise []

/-- The product that the call's body stores. -/
theorem pay (a : Vec Ideal S1024x4096 .bf16) (b : Vec Ideal S4096x1024 .bf16) (r j : Fin 1024) :
    k0_pay1 (F := Ideal) a b (ix2 r j) = ∑ k : Fin 4096, a (ix2 r k) * b (ix2 k j) := by
  pointwise [k0_pay1]

/-- The block of rows at a grid point. -/
theorem a_at (c : Dev nD) (t : Fin cfg0.N) (r : Fin 1024) (k : Fin 4096) :
    iblk m c 0 t (ix2 r k) = rows4 (argH m c) ⟨1024 * (grid0.coords t 0).val + r.val, by have := lt0 t; omega⟩ k := by
  have h0 := lt0 t
  blk_simp [iblk]
  have : (win0_0.blk t).view.emb (ix2 r k) = ix2 ⟨1024 * (grid0.coords t 0).val + r.val, by omega⟩ k := by
    blk_ext [idx t]
  rw [this, rows_at]

/-- The block of the weight at a grid point. -/
theorem b_at (c : Dev nD) (t : Fin cfg0.N) (k : Fin 4096) (j : Fin 1024) :
    iblk m c 1 t (ix2 k j)
      = argW m c (ix3 0 k (qkvCol 1 ⟨1024 * (grid0.coords t 1).val + j.val, by have := lt1 t; omega⟩)) := by
  have h1 := lt1 t
  blk_simp [iblk]
  have : (win0_1.blk t).view.emb (ix2 k j) = ix2 k (qkvCol 1 ⟨1024 * (grid0.coords t 1).val + j.val, by omega⟩) := by
    blk_ext [idx t, qkvCol]
  rw [this, weight_at]

/-- What a grid point writes. -/
theorem block (c : Dev nD) (t : Fin cfg0.N) (r j : Fin 1024) :
    (dats m 0 c).after 2 t (ix2 r j) = qkv 1 (rows4 (argH m c)) (argW m c)
      (ix2 ⟨1024 * (grid0.coords t 0).val + r.val, by have := lt0 t; omega⟩ ⟨1024 * (grid0.coords t 1).val + j.val, by have := lt1 t; omega⟩) := by
  rw [after0_2]
  frame_out
  rw [pay]
  simp only [a_at, b_at]
  rfl

/-- The call's result array. -/
theorem result (c : Dev nD) : (dats m 0 c).arrAt 2 cfg0.N = qkv 1 (rows4 (argH m c)) (argW m c) := by
  refine (dats m 0 c).arrAt_eq_of_covers 2 _ (by decide +kernel) fun t hf y => ?_
  blk_simp
  have h0 := lt0 t
  have h1 := lt1 t
  have y0 : (y 0).val < 1024 := (y 0).isLt
  have y1 : (y 1).val < 1024 := (y 1).isLt
  have hy : y = (ix2 (⟨(y 0).val, y0⟩ : Fin 1024) (⟨(y 1).val, y1⟩ : Fin 1024) : (cfg0.win 2).block.Idx) := by
    funext a
    fin_cases a <;> rfl
  have e : ((cfg0.win 2).blk t).view.emb y
      = (ix2 ⟨1024 * (grid0.coords t 0).val + (y 0).val, by omega⟩ ⟨1024 * (grid0.coords t 1).val + (y 1).val, by omega⟩ : S8192x3072.Idx) := by
    blk_ext [idx t]
  exact ((congrArg ((dats m 0 c).after 2 t) hy).trans (block m c t _ _)).trans (congrArg (qkv 1 (rows4 (argH m c)) (argW m c)) e).symm
end

section
open Cert.QkvBRefIdeal.Read
variable (h : (⟨4, ![4, 4, 512, 4096]⟩ : Shape).Idx → EReal) (w : WIn)

/-- A column of the reference's product. -/
theorem ref_col (b a : Fin 4) (t : Fin 512) (j : Fin 19456) :
    val_main_v2 (F := Ideal) h w (ix4 b a t j) = dot (fun k => h (ix4 b a t k)) w j := by
  pointwise [val_main_v2, val_main_v1, val_main_v0]
  rfl

/-- The reference's result. -/
theorem ref (r : Fin 8192) (j : Fin 3072) : val_main_v18 (F := Ideal) h w (ix2 r j) = qkv 1 (rows4 h) w (ix2 r j) := by
  pointwise [val_main_v18, val_main_v17, val_main_v16, val_main_v15, val_main_v14, val_main_v13, val_main_v12, val_main_v11,
    val_main_v10, val_main_v9, val_main_v8, val_main_v3, val_main_v4, val_main_v5]
  simp only [ref_col]
  split_ifs with h1 h2 <;> refine congrArg (dot (rows4 h r) w) (Fin.ext ?_) <;> simp [qkvCol] <;> omega
end

attribute [local instance] Cert.QkvB.Gen.facts Cert.QkvBIdeal.Gen.facts Cert.QkvBRefIdeal.Gen.facts

/-- The kernel runs and ends quietly. -/
theorem frame_k : Cert.quiescent_QkvB := fun m g _ => Cert.QkvB.Gen.frame m g

/-- So does its idealization. -/
theorem frame_i : Cert.quiescent_QkvBIdeal := fun m g _ => Cert.QkvBIdeal.Gen.frame m g

/-- So does the reference's. -/
theorem frame_r : Cert.quiescent_QkvBRefIdeal := fun m g _ =>
  (θ_run Cert.QkvBRefIdeal.defs _ _).mono (fun r h => ⟨fun c => (h c).2, sem_eq_zero_of_no_sems (by decide) r.2⟩)
    (Cert.QkvBRefIdeal.Value.run (F := Ideal) m g)

/-- The two idealizations compute the same array. -/
theorem algebraic : Cert.algebraic_QkvBIdeal_QkvBRefIdeal := by
  intro m g m' g' _ hx
  refine ⟨fun c => qkv 1 (rows4 (argH m c)) (argW m c), ?_, ?_⟩
  · refine (θ_run _ _ _).mono ?_ (Cert.QkvBIdeal.Value.run_blocks m g)
    intro r h c
    exact ⟨(h c).1.trans (result m c), (h c).2⟩
  · refine (θ_run _ _ _).mono ?_ (Cert.QkvBRefIdeal.Value.run (F := Ideal) m' g')
    intro r h c
    obtain ⟨x0, x1⟩ := hx c
    refine ⟨(h c).1.trans ?_, (h c).2⟩
    refine (Cert.QkvBRefIdeal.Read.val_main_v18_eq _ _).trans ?_
    rw [x0, x1]
    funext i
    rw [show i = ix2 (i 0) (i 1) from by funext a; fin_cases a <;> rfl]
    exact ref _ _ _ _
end Cert.Proof.Proj.QkvB
-- ==== Proof.Proj.QkvC.lean ====
module
public import proofs.«01_k».proof.Defs
public import proofs.«01_k».proof.Proof.Gen.QkvC.Frame
public import proofs.«01_k».proof.Proof.Gen.QkvCIdeal.Value
public import proofs.«01_k».proof.Proof.Gen.QkvCRefIdeal.Run
public import proofs.«01_k».proof.Proof.Gen.QkvCRefIdeal.Read
public import proofs.«01_k».proof.Proof.Proj.Base
public import Idealize.ShloMosaic.Lib.Pipeline.ValueKit
public import Idealize.ShloMosaic.Init
public import Idealize.ShloMosaic.Adequacy

/-! The projection to head group 2's queries, keys and values. -/

@[expose] public section
set_option maxRecDepth 16384
noncomputable section
namespace Cert.Proof.Proj.QkvC
open Cert.QkvCIdeal Cert.QkvCIdeal.Gen Idealize.ShloMosaic Idealize.ShloMosaic.TcCoe Idealize.SL.Sem

section
variable (m : (ℓ : Loc nD τ sig) → Buf (Elt Ideal) ℓ)

/-- The rows on a device. -/
abbrev argH (c : Dev nD) : (⟨4, ![4, 16, 128, 4096]⟩ : Shape).Idx → EReal := m ((c : Thread nD τ).loc main_arg0)

/-- The weight on a device. -/
abbrev argW (c : Dev nD) : WIn := m ((c : Thread nD τ).loc main_arg1)

/-- Where each window's block lies. -/
theorem idx : ∀ t : Fin cfg0.N, win0_0.index t = ![(grid0.coords t 0).val, 0]
    ∧ win0_1.index t = ![0, (grid0.coords t 1).val * 3 + 2]
    ∧ win0_2.index t = ![(grid0.coords t 0).val, (grid0.coords t 1).val] := by decide +kernel

/-- The grid has eight blocks of rows. -/
theorem lt0 (t : Fin cfg0.N) : (grid0.coords t 0).val < 8 := (grid0.coords t 0).isLt

/-- The grid has three blocks of columns. -/
theorem lt1 (t : Fin cfg0.N) : (grid0.coords t 1).val < 3 := (grid0.coords t 1).isLt

/-- The reshaped rows at an index. -/
theorem rows_at (c : Dev nD) (r : Fin 8192) (k : Fin 4096) : V m c main_v0 (ix2 r k) = rows16 (argH m c) r k := by
  entry_read
  pointwise []
  rfl

/-- The weight without its leading axis at an index. -/
theorem weight_at (c : Dev nD) (k : Fin 4096) (j : Fin 19456) : V m c main_v2 (ix2 k j) = argW m c (ix3 0 k j) := by
  entry_read
  pointwise []

/-- The product that the call's body stores. -/
theorem pay (a : Vec Ideal S1024x4096 .bf16) (b : Vec Ideal S4096x1024 .bf16) (r j : Fin 1024) :
    k0_pay1 (F := Ideal) a b (ix2 r j) = ∑ k : Fin 4096, a (ix2 r k) * b (ix2 k j) := by
  pointwise [k0_pay1]

/-- The block of rows at a grid point. -/
theorem a_at (c : Dev nD) (t : Fin cfg0.N) (r : Fin 1024) (k : Fin 4096) :
    iblk m c 0 t (ix2 r k) = rows16 (argH m c) ⟨1024 * (grid0.coords t 0).val + r.val, by have := lt0 t; omega⟩ k := by
  have h0 := lt0 t
  blk_simp [iblk]
  have : (win0_0.blk t).view.emb (ix2 r k) = ix2 ⟨1024 * (grid0.coords t 0).val + r.val, by omega⟩ k := by
    blk_ext [idx t]
  rw [this, rows_at]

/-- The block of the weight at a grid point. -/
theorem b_at (c : Dev nD) (t : Fin cfg0.N) (k : Fin 4096) (j : Fin 1024) :
    iblk m c 1 t (ix2 k j)
      = argW m c (ix3 0 k (qkvCol 2 ⟨1024 * (grid0.coords t 1).val + j.val, by have := lt1 t; omega⟩)) := by
  have h1 := lt1 t
  blk_simp [iblk]
  have : (win0_1.blk t).view.emb (ix2 k j) = ix2 k (qkvCol 2 ⟨1024 * (grid0.coords t 1).val + j.val, by omega⟩) := by
    blk_ext [idx t, qkvCol]
  rw [this, weight_at]

/-- What a grid point writes. -/
theorem block (c : Dev nD) (t : Fin cfg0.N) (r j : Fin 1024) :
    (dats m 0 c).after 2 t (ix2 r j) = qkv 2 (rows16 (argH m c)) (argW m c)
      (ix2 ⟨1024 * (grid0.coords t 0).val + r.val, by have := lt0 t; omega⟩ ⟨1024 * (grid0.coords t 1).val + j.val, by have := lt1 t; omega⟩) := by
  rw [after0_2]
  frame_out
  rw [pay]
  simp only [a_at, b_at]
  rfl

/-- The call's result array. -/
theorem result (c : Dev nD) : (dats m 0 c).arrAt 2 cfg0.N = qkv 2 (rows16 (argH m c)) (argW m c) := by
  refine (dats m 0 c).arrAt_eq_of_covers 2 _ (by decide +kernel) fun t hf y => ?_
  blk_simp
  have h0 := lt0 t
  have h1 := lt1 t
  have y0 : (y 0).val < 1024 := (y 0).isLt
  have y1 : (y 1).val < 1024 := (y 1).isLt
  have hy : y = (ix2 (⟨(y 0).val, y0⟩ : Fin 1024) (⟨(y 1).val, y1⟩ : Fin 1024) : (cfg0.win 2).block.Idx) := by
    funext a
    fin_cases a <;> rfl
  have e : ((cfg0.win 2).blk t).view.emb y
      = (ix2 ⟨1024 * (grid0.coords t 0).val + (y 0).val, by omega⟩ ⟨1024 * (grid0.coords t 1).val + (y 1).val, by omega⟩ : S8192x3072.Idx) := by
    blk_ext [idx t]
  exact ((congrArg ((dats m 0 c).after 2 t) hy).trans (block m c t _ _)).trans (congrArg (qkv 2 (rows16 (argH m c)) (argW m c)) e).symm
end

section
open Cert.QkvCRefIdeal.Read
variable (h : (⟨4, ![4, 16, 128, 4096]⟩ : Shape).Idx → EReal) (w : WIn)

/-- A column of the reference's product. -/
theorem ref_col (b : Fin 4) (a : Fin 16) (t : Fin 128) (j : Fin 19456) :
    val_main_v2 (F := Ideal) h w (ix4 b a t j) = dot (fun k => h (ix4 b a t k)) w j := by
  pointwise [val_main_v2, val_main_v1, val_main_v0]
  rfl

/-- The reference's result. -/
theorem ref (r : Fin 8192) (j : Fin 3072) : val_main_v18 (F := Ideal) h w (ix2 r j) = qkv 2 (rows16 h) w (ix2 r j) := by
  pointwise [val_main_v18, val_main_v17, val_main_v16, val_main_v15, val_main_v14, val_main_v13, val_main_v12, val_main_v11,
    val_main_v10, val_main_v9, val_main_v8, val_main_v3, val_main_v4, val_main_v5]
  simp only [ref_col]
  split_ifs with h1 h2 <;> refine congrArg (dot (rows16 h r) w) (Fin.ext ?_) <;> simp [qkvCol] <;> omega
end

attribute [local instance] Cert.QkvC.Gen.facts Cert.QkvCIdeal.Gen.facts Cert.QkvCRefIdeal.Gen.facts

/-- The kernel runs and ends quietly. -/
theorem frame_k : Cert.quiescent_QkvC := fun m g _ => Cert.QkvC.Gen.frame m g

/-- So does its idealization. -/
theorem frame_i : Cert.quiescent_QkvCIdeal := fun m g _ => Cert.QkvCIdeal.Gen.frame m g

/-- So does the reference's. -/
theorem frame_r : Cert.quiescent_QkvCRefIdeal := fun m g _ =>
  (θ_run Cert.QkvCRefIdeal.defs _ _).mono (fun r h => ⟨fun c => (h c).2, sem_eq_zero_of_no_sems (by decide) r.2⟩)
    (Cert.QkvCRefIdeal.Value.run (F := Ideal) m g)

/-- The two idealizations compute the same array. -/
theorem algebraic : Cert.algebraic_QkvCIdeal_QkvCRefIdeal := by
  intro m g m' g' _ hx
  refine ⟨fun c => qkv 2 (rows16 (argH m c)) (argW m c), ?_, ?_⟩
  · refine (θ_run _ _ _).mono ?_ (Cert.QkvCIdeal.Value.run_blocks m g)
    intro r h c
    exact ⟨(h c).1.trans (result m c), (h c).2⟩
  · refine (θ_run _ _ _).mono ?_ (Cert.QkvCRefIdeal.Value.run (F := Ideal) m' g')
    intro r h c
    obtain ⟨x0, x1⟩ := hx c
    refine ⟨(h c).1.trans ?_, (h c).2⟩
    refine (Cert.QkvCRefIdeal.Read.val_main_v18_eq _ _).trans ?_
    rw [x0, x1]
    funext i
    rw [show i = ix2 (i 0) (i 1) from by funext a; fin_cases a <;> rfl]
    exact ref _ _ _ _
end Cert.Proof.Proj.QkvC
-- ==== Proof.Proj.Fourier.lean ====
module
public import proofs.«01_k».proof.Defs
public import proofs.«01_k».proof.Proof.Gen.Fourier.Frame
public import proofs.«01_k».proof.Proof.Gen.FourierIdeal.Value
public import proofs.«01_k».proof.Proof.Gen.FourierRefIdeal.Run
public import proofs.«01_k».proof.Proof.Gen.FourierRefIdeal.Read
public import proofs.«01_k».proof.Proof.Proj.Base
public import Idealize.ShloMosaic.Lib.Pipeline.ValueKit
public import Idealize.ShloMosaic.Init
public import Idealize.ShloMosaic.Adequacy

/-! The projection to the Fourier branch. -/

@[expose] public section
set_option maxRecDepth 16384
noncomputable section
namespace Cert.Proof.Proj.Fourier
open Cert.FourierIdeal Cert.FourierIdeal.Gen Idealize.ShloMosaic Idealize.ShloMosaic.TcCoe Idealize.SL.Sem

section
variable (m : (ℓ : Loc nD τ sig) → Buf (Elt Ideal) ℓ)

/-- The rows on a device. -/
abbrev argH (c : Dev nD) : (⟨4, ![4, 4, 512, 4096]⟩ : Shape).Idx → EReal := m ((c : Thread nD τ).loc main_arg0)

/-- The weight on a device. -/
abbrev argW (c : Dev nD) : WIn := m ((c : Thread nD τ).loc main_arg1)

/-- Where each window's block lies. -/
theorem idx : ∀ t : Fin cfg0.N, win0_0.index t = ![(grid0.coords t 0).val, 0]
    ∧ win0_1.index t = ![0, (grid0.coords t 1).val + 9]
    ∧ win0_2.index t = ![(grid0.coords t 0).val, (grid0.coords t 1).val] := by decide +kernel

/-- The grid has eight blocks of rows. -/
theorem lt0 (t : Fin cfg0.N) : (grid0.coords t 0).val < 8 := (grid0.coords t 0).isLt

/-- The grid has two blocks of columns. -/
theorem lt1 (t : Fin cfg0.N) : (grid0.coords t 1).val < 2 := (grid0.coords t 1).isLt

/-- The reshaped rows at an index. -/
theorem rows_at (c : Dev nD) (r : Fin 8192) (k : Fin 4096) : V m c main_v0 (ix2 r k) = rows4 (argH m c) r k := by
  entry_read
  pointwise []
  rfl

/-- The weight without its leading axis at an index. -/
theorem weight_at (c : Dev nD) (k : Fin 4096) (j : Fin 19456) : V m c main_v2 (ix2 k j) = argW m c (ix3 0 k j) := by
  entry_read
  pointwise []

/-- The product that the call's body stores. -/
theorem pay (a : Vec Ideal S1024x4096 .bf16) (b : Vec Ideal S4096x1024 .bf16) (r j : Fin 1024) :
    k0_pay1 (F := Ideal) a b (ix2 r j) = ∑ k : Fin 4096, a (ix2 r k) * b (ix2 k j) := by
  pointwise [k0_pay1]

/-- The block of rows at a grid point. -/
theorem a_at (c : Dev nD) (t : Fin cfg0.N) (r : Fin 1024) (k : Fin 4096) :
    iblk m c 0 t (ix2 r k) = rows4 (argH m c) ⟨1024 * (grid0.coords t 0).val + r.val, by have := lt0 t; omega⟩ k := by
  have h0 := lt0 t
  blk_simp [iblk]
  have : (win0_0.blk t).view.emb (ix2 r k) = ix2 ⟨1024 * (grid0.coords t 0).val + r.val, by omega⟩ k := by
    blk_ext [idx t]
  rw [this, rows_at]

/-- The block of the weight at a grid point. -/
theorem b_at (c : Dev nD) (t : Fin cfg0.N) (k : Fin 4096) (j : Fin 1024) :
    iblk m c 1 t (ix2 k j)
      = argW m c (ix3 0 k (fourierCol ⟨1024 * (grid0.coords t 1).val + j.val, by have := lt1 t; omega⟩)) := by
  have h1 := lt1 t
  blk_simp [iblk]
  have : (win0_1.blk t).view.emb (ix2 k j) = ix2 k (fourierCol ⟨1024 * (grid0.coords t 1).val + j.val, by omega⟩) := by
    blk_ext [idx t, fourierCol]
  rw [this, weight_at]

/-- What a grid point writes. -/
theorem block (c : Dev nD) (t : Fin cfg0.N) (r j : Fin 1024) :
    (dats m 0 c).after 2 t (ix2 r j) = fourier (rows4 (argH m c)) (argW m c)
      (ix2 ⟨1024 * (grid0.coords t 0).val + r.val, by have := lt0 t; omega⟩ ⟨1024 * (grid0.coords t 1).val + j.val, by have := lt1 t; omega⟩) := by
  rw [after0_2]
  frame_out
  rw [pay]
  simp only [a_at, b_at]
  rfl

/-- The call's result array. -/
theorem result (c : Dev nD) : (dats m 0 c).arrAt 2 cfg0.N = fourier (rows4 (argH m c)) (argW m c) := by
  refine (dats m 0 c).arrAt_eq_of_covers 2 _ (by decide +kernel) fun t hf y => ?_
  blk_simp
  have h0 := lt0 t
  have h1 := lt1 t
  have y0 : (y 0).val < 1024 := (y 0).isLt
  have y1 : (y 1).val < 1024 := (y 1).isLt
  have hy : y = (ix2 (⟨(y 0).val, y0⟩ : Fin 1024) (⟨(y 1).val, y1⟩ : Fin 1024) : (cfg0.win 2).block.Idx) := by
    funext a
    fin_cases a <;> rfl
  have e : ((cfg0.win 2).blk t).view.emb y
      = (ix2 ⟨1024 * (grid0.coords t 0).val + (y 0).val, by omega⟩ ⟨1024 * (grid0.coords t 1).val + (y 1).val, by omega⟩ : S8192x2048.Idx) := by
    blk_ext [idx t]
  exact ((congrArg ((dats m 0 c).after 2 t) hy).trans (block m c t _ _)).trans (congrArg (fourier (rows4 (argH m c)) (argW m c)) e).symm
end

section
open Cert.FourierRefIdeal.Read
variable (h : (⟨4, ![4, 4, 512, 4096]⟩ : Shape).Idx → EReal) (w : WIn)

/-- A column of the reference's product. -/
theorem ref_col (b a : Fin 4) (t : Fin 512) (j : Fin 19456) :
    val_main_v2 (F := Ideal) h w (ix4 b a t j) = dot (fun k => h (ix4 b a t k)) w j := by
  pointwise [val_main_v2, val_main_v1, val_main_v0]
  rfl

/-- The reference's result. -/
theorem ref (r : Fin 8192) (j : Fin 2048) : val_main_v9 (F := Ideal) h w (ix2 r j) = fourier (rows4 h) w (ix2 r j) := by
  pointwise [val_main_v9, val_main_v8, val_main_v6]
  simp only [ref_col]
  rfl
end

attribute [local instance] Cert.Fourier.Gen.facts Cert.FourierIdeal.Gen.facts Cert.FourierRefIdeal.Gen.facts

/-- The kernel runs and ends quietly. -/
theorem frame_k : Cert.quiescent_Fourier := fun m g _ => Cert.Fourier.Gen.frame m g

/-- So does its idealization. -/
theorem frame_i : Cert.quiescent_FourierIdeal := fun m g _ => Cert.FourierIdeal.Gen.frame m g

/-- So does the reference's. -/
theorem frame_r : Cert.quiescent_FourierRefIdeal := fun m g _ =>
  (θ_run Cert.FourierRefIdeal.defs _ _).mono (fun r h => ⟨fun c => (h c).2, sem_eq_zero_of_no_sems (by decide) r.2⟩)
    (Cert.FourierRefIdeal.Value.run (F := Ideal) m g)

/-- The two idealizations compute the same array. -/
theorem algebraic : Cert.algebraic_FourierIdeal_FourierRefIdeal := by
  intro m g m' g' _ hx
  refine ⟨fun c => fourier (rows4 (argH m c)) (argW m c), ?_, ?_⟩
  · refine (θ_run _ _ _).mono ?_ (Cert.FourierIdeal.Value.run_blocks m g)
    intro r h c
    exact ⟨(h c).1.trans (result m c), (h c).2⟩
  · refine (θ_run _ _ _).mono ?_ (Cert.FourierRefIdeal.Value.run (F := Ideal) m' g')
    intro r h c
    obtain ⟨x0, x1⟩ := hx c
    refine ⟨(h c).1.trans ?_, (h c).2⟩
    refine (Cert.FourierRefIdeal.Read.val_main_v9_eq _ _).trans ?_
    rw [x0, x1]
    funext i
    rw [show i = ix2 (i 0) (i 1) from by funext a; fin_cases a <;> rfl]
    exact ref _ _ _ _
end Cert.Proof.Proj.Fourier
-- ==== Proof.Moe.Rows.lean ====
module

public import proofs.«01_k».proof.Proof.Gen.MoeIdeal.Launch
public import proofs.«01_k».proof.Proof.Gen.MoeIdeal.Skeleton
public import proofs.«01_k».proof.Proof.Gen.MoeIdeal.Loops
public import Idealize.ShloMosaic.Lib.Pipeline.FrameBody
public import Idealize.ShloMosaic.Lib.Batch
public import Idealize.ShloMosaic.Lib.Ring
public import Idealize.ShloMosaic.Lib.Tactic
public import Idealize.ShloMosaic.Lib.WordCmp
public import Idealize.ShloMosaic.Lib.Pipeline.ValueKit
public import Idealize.ShloMosaic.Lib.ValueIdxCore

/-! The rows of the scratch and of the activations, and the transfers between them. -/

@[expose] public section

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Row `r` of slot `s` lies inside the scratch. -/
theorem row_inb (s : Fin 2) (r : Fin 256) : ∀ a, (![s.val, r.val, 0] : Fin 3 → Nat) a + S1x1x4096.size a ≤ S2x256x4096.size a := by
  have := s.isLt; have := r.isLt; intro a; fin_cases a
  · show s.val + 1 ≤ 2; omega
  · show r.val + 1 ≤ 256; omega
  · show 0 + 4096 ≤ 4096; omega

/-- Row `n` lies inside the activations. -/
theorem src_inb (n : Fin 24576) : ∀ a, (![n.val, 0] : Fin 2 → Nat) a + S1x4096.size a ≤ S24576x4096.size a := by
  have := n.isLt; intro a; fin_cases a
  · show n.val + 1 ≤ 24576; omega
  · show 0 + 4096 ≤ 4096; omega

/-- The scratch. -/
abbrev scM : Memref sig .tc .vmem S2x256x4096 .f32 := Memref.whole cc0_scratch0
/-- The activations. -/
abbrev xM : Memref sig .tc .hbm S24576x4096 .f32 := Memref.whole main_arg0

/-- Row `r` of slot `s` of the scratch, a transfer's destination. -/
def rowM (s : Fin 2) (r : Fin 256) : Memref sig .tc .vmem S1x4096 .f32 :=
  (scM.slice (Rect.unit (s := S2x256x4096) ![s.val, r.val, 0] S1x1x4096.size (row_inb s r)) (fun _ => rfl)).squeeze S1x4096 squeezes_S1x1x4096_S1x4096

/-- Row `n` of the activations, a transfer's source. -/
def srcM (n : Fin 24576) : Memref sig .tc .hbm S1x4096 .f32 :=
  xM.slice (Rect.unit (s := S24576x4096) ![n.val, 0] S1x4096.size (src_inb n)) (fun _ => rfl)

/-- Slot `s`'s semaphore is one of the two. -/
theorem cell_inb (s : Fin 2) : ∀ a, (![s.val] : Fin 1 → Nat) a + S1.size a ≤ S2.size a := by
  have := s.isLt; intro a; fin_cases a; show s.val + 1 ≤ 2; omega
/-- Slot `s`'s semaphore. -/
abbrev cell (s : Fin 2) : DmaSem sig := ((cc0_scratch1.slice (Rect.unit (s := S2) ![s.val] S1.size (cell_inb s))).squeeze S_ squeezes_S1_S_).sem

/-- The row of the activations a table's word names. -/
def rowOf (v : BitVec 32) : Fin 24576 := ⟨min v.toNat 24575, by omega⟩

/-- What a slot holds once a tile's rows have landed: row `r` is the activations' row that the tile's table names. -/
def landed (X : S24576x4096.Idx → Elt F .f32) (tab : Fin 256 → BitVec 32) : S2x256x4096.Idx → Elt F .f32 :=
  fun y => X (ValueIdx.ix2 (rowOf (tab (y 1))) (y 2))

section
variable (c : Dev nD)

/-- A row's elements in the scratch. -/
theorem rowset_eq (s : Fin 2) (r : Fin 256) : (rowM s r).view.set = (Rect.unit (s := S2x256x4096) ![s.val, r.val, 0] S1x1x4096.size (row_inb s r)).set := by
  unfold rowM; exact (View.set_reshape _ _).trans (View.set_slice_whole _ _)
/-- A row's elements in the activations. -/
theorem srcset_eq (n : Fin 24576) : (srcM n).view.set = (Rect.unit (s := S24576x4096) ![n.val, 0] S1x4096.size (src_inb n)).set := by
  unfold srcM; exact View.set_slice_whole _ _

/-- A row of a slot at its contents. -/
abbrev rowPt (s : Fin 2) (r : Fin 256) (f : S2x256x4096.Idx → Elt F .f32) : sProp (MT nD τ sig Unit (Elt F) ℕ (Pipeline.UD sig nD τ) ℕ) :=
  (rowM s r).view.loc (c : Thread nD τ) ↦[(rowM s r).view.set]{fullShare} f
/-- The activations at the share of transfer `t`. -/
abbrev xTok (X : S24576x4096.Idx → Elt F .f32) (t : ℕ) : sProp (MT nD τ sig Unit (Elt F) ℕ (Pipeline.UD sig nD τ) ℕ) :=
  xM.view.loc (c : Thread nD τ) ↦[Finset.univ]{Transfers.shareTokN fullShare t} X
/-- A row of the activations at that share. -/
abbrev srcTok (X : S24576x4096.Idx → Elt F .f32) (n : Fin 24576) (t : ℕ) : sProp (MT nD τ sig Unit (Elt F) ℕ (Pipeline.UD sig nD τ) ℕ) :=
  (srcM n).view.loc (c : Thread nD τ) ↦[(srcM n).view.set]{Transfers.shareTokN fullShare t} X
/-- The other rows at that share. -/
abbrev xRem (X : S24576x4096.Idx → Elt F .f32) (n : Fin 24576) (t : ℕ) : sProp (MT nD τ sig Unit (Elt F) ℕ (Pipeline.UD sig nD τ) ℕ) :=
  xM.view.loc (c : Thread nD τ) ↦[Finset.univ \ (srcM n).view.set]{Transfers.shareTokN fullShare t} X

/-- A share of the activations is that of one row and that of the others. -/
theorem xTok_split (X : S24576x4096.Idx → Elt F .f32) (n : Fin 24576) (t : ℕ) :
    (xTok c X t : sProp (MT nD τ sig Unit (Elt F) ℕ (Pipeline.UD sig nD τ) ℕ)) = iprop(srcTok c X n t ∗ xRem c X n t) :=
  Entails.antisymm (pointsTo_split_subset (Finset.subset_univ _)).1 (pointsTo_split_subset (Finset.subset_univ _)).2

/-- What transfer `r` of a tile into slot `s` delivers. -/
abbrev deliv (X : S24576x4096.Idx → Elt F .f32) (tab : Fin 256 → BitVec 32) (s : Fin 2) (r : Fin 256) : sProp (MT nD τ sig Unit (Elt F) ℕ (Pipeline.UD sig nD τ) ℕ) :=
  iprop(rowPt c s r (landed X tab) ∗ srcTok c X (rowOf (tab r)) (256 * s.val + r.val))

/-- The transfers of a tile into slot `s`, `j` of them sent and `u` collected. -/
abbrev batch (X : S24576x4096.Idx → Elt F .f32) (tab : Fin 256 → BitVec 32) (s : Fin 2) (j u : ℕ) : sProp (MT nD τ sig Unit (Elt F) ℕ (Pipeline.UD sig nD τ) ℕ) :=
  Transfers.Batch (countersEmb (U := Pipeline.UD sig nD τ)) (c : Thread nD τ) (.dma (cell s)) () 512 (deliv c X tab s) j u

/-- A row written by its transfer holds what the slot is to hold. -/
theorem landed_eq (X : S24576x4096.Idx → Elt F .f32) (tab : Fin 256 → BitVec 32) (s : Fin 2) (r : Fin 256) (g : S2x256x4096.Idx → Elt F .f32) :
   rowPt c s r ((rowM s r).view.write (Elt F) g (ReadAs.same.apply ((srcM (rowOf (tab r))).view.read (Elt F) X)) Finset.univ)
    ⊢ (rowPt c s r (landed X tab) : sProp (MT nD τ sig Unit (Elt F) ℕ (Pipeline.UD sig nD τ) ℕ)) := by
  refine Entails.of_eq (pointsTo_congr fun i hi => ?_)
  obtain ⟨x, -, rfl⟩ := Finset.mem_map.mp hi
  obtain ⟨q, hq⟩ : ∃ q : S2x256x4096.Idx, q = (rowM s r).view.emb x := ⟨_, rfl⟩
  refine (View.write_emb_of_mem (v := (rowM s r).view) _ _ (Finset.mem_univ x)).trans ?_
  rw [← hq]
  show X ((srcM (rowOf (tab r))).view.emb x) = X (ValueIdx.ix2 (rowOf (tab (q 1))) (q 2))
  congr 1
  funext a
  apply Fin.ext
  have e : (rowM s r).view.emb x = (Rect.unit (s := S2x256x4096) ![s.val, r.val, 0] S1x1x4096.size (row_inb s r)).emb (Fin.cons ⟨0, Nat.one_pos⟩ x) := by
    rw [← Shape.reshapeEquiv_cons_one (h := squeezes_S1x1x4096_S1x4096.numel_eq)]; rfl
  have hx : (x 0).val = 0 := by have : (x 0).val < 1 := (x 0).isLt; omega
  have e1 : q 1 = r := by
    rw [hq, e]; apply Fin.ext
    refine (ValueKit.rect_emb_unit_val (s := S2x256x4096) _ _ _ _ _).trans ?_
    show r.val + (x 0).val = r.val; omega
  have e2 : (q 2).val = (x 1).val := by
    rw [hq, e]
    refine (ValueKit.rect_emb_unit_val (s := S2x256x4096) _ _ _ _ _).trans ?_
    show 0 + (x 1).val = (x 1).val; omega
  have es : ((srcM (rowOf (tab r))).view.emb x a).val = (![(rowOf (tab r)).val, 0] : Fin 2 → ℕ) a + (x a).val :=
    ValueKit.rect_emb_unit_val (s := S24576x4096) _ _ _ _ _
  rw [es]
  match a with
  | ⟨0, _⟩ => show (rowOf (tab r)).val + (x 0).val = (rowOf (tab (q 1))).val; rw [show tab (q 1) = tab r from congrArg tab e1]; omega
  | ⟨1, _⟩ => show 0 + (x 1).val = _; rw [Nat.zero_add]; exact e2.symm
end
end Cert.MoeIdeal.Hand
end
end
-- ==== Proof.Moe.Gather.lean ====
module

public import proofs.«01_k».proof.Proof.Moe.Rows

/-! The loops that send for a tile's rows. -/

@[expose] public section

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD)

/-- The state of a slot before trip `k` of its tile's gather. -/
def gatherAt (X : S24576x4096.Idx → Elt F .f32) (tab : Fin 256 → BitVec 32) (s : Fin 2) (k : ℕ) : sProp (MT nD τ sig Unit (Elt F) ℕ (Pipeline.UD sig nD τ) ℕ) :=
  iprop(batch c X tab s k 0
    ∗ bigSep (Ring.rangeSet 256 k 256) (fun r => iprop(∃ g, rowPt c s r g))
    ∗ bigSep (Ring.rangeSet 256 k 256) (fun r => xTok c X (256 * s.val + r.val))
    ∗ bigSep (Ring.rangeSet 256 0 k) (fun r => xRem c X (rowOf (tab r)) (256 * s.val + r.val)))

/-- A table's words. -/
def words (f : S1x1x256.Idx → Elt F .i32) (r : Fin 256) : BitVec 32 := f (ValueIdx.ix3 0 0 r)

/-- The next tile's semaphore. -/
theorem off6_eq (i : grid0.Coords) : k0_off6 i = ![1 - (i 0).val % 2] := by
  have h : ∀ i : grid0.Coords, k0_off6 i 0 = 1 - (i 0).val % 2 := by decide +kernel
  funext a; fin_cases a; exact h i
/-- The row of the next tile's slot that trip `k` sends for. -/
theorem off7_eq (i : grid0.Coords) (k : Fin k0_t2_loop.trips) : k0_off7 i k = ![1 - (i 0).val % 2, k.val, 0] := by
  funext a; fin_cases a
  · exact congrFun (off6_eq i) 0
  · exact congrFun (k0_off5_eq k) 2
  · rfl
/-- This tile's semaphore. -/
theorem off9_eq (i : grid0.Coords) : k0_off9 i = ![(i 0).val % 2] := by
  have h : ∀ i : grid0.Coords, k0_off9 i 0 = (i 0).val % 2 := by decide +kernel
  funext a; fin_cases a; exact h i
/-- This tile's slot. -/
theorem off11_eq (i : grid0.Coords) : k0_off11 i = ![(i 0).val % 2, 0, 0] := by
  funext a; fin_cases a
  · exact congrFun (off9_eq i) 0
  · rfl
  · rfl

/-- The word a table's scalar load reads. -/
theorem word_at (a : Memref sig .tc .smem S1x1x256 .i32) (f : Buf (Elt F) (a.view.loc (c : Thread nD τ))) (k : ℕ) (hk : k < 256) {o : Fin 3 → ℕ} (e : o = ![0, 0, k]) {hb} {hp} :
    a.view.readAt (Elt F) (Rect.unit (s := S1x1x256) o ![1, 1, 1] hb).toLoadRect f (Shape.Idx.first hp) = words (a.view.read (Elt F) f) ⟨k, hk⟩ := by
  subst e
  show a.view.read (Elt F) f ((Rect.unit (s := S1x1x256) ![0, 0, k] ![1, 1, 1] hb).emb _) = a.view.read (Elt F) f (ValueIdx.ix3 0 0 ⟨k, hk⟩)
  congr 1
  funext a
  apply Fin.ext
  refine (ValueKit.rect_emb_unit_val (s := S1x1x256) _ _ _ _ _).trans ?_
  match a with
  | ⟨0, _⟩ => rfl
  | ⟨1, _⟩ => rfl
  | ⟨2, _⟩ => rfl

/-- What a transfer of one row signals. -/
theorem amount_eq (s : Fin 2) (r : Fin 256) : (rowM s r).view.amount (.dma (cell s)) = 512 := by
  show (cc0_scratch0 : Ref sig .tc).dmaCredit S1x4096 .f32 = 512
  decide +kernel

/-- A transfer that has landed delivers its row and the share it read through. -/
theorem deliver (X : S24576x4096.Idx → Elt F .f32) (tab : Fin 256 → BitVec 32) (s : Fin 2) (r : Fin 256) (g : S2x256x4096.Idx → Elt F .f32) :
    iprop(rowPt c s r ((rowM s r).view.write (Elt F) g (ReadAs.same.apply ((srcM (rowOf (tab r))).view.read (Elt F) X)) Finset.univ)
      ∗ srcTok c X (rowOf (tab r)) (256 * s.val + r.val)) ⊢ (deliv c X tab s r : sProp (MT nD τ sig Unit (Elt F) ℕ (Pipeline.UD sig nD τ) ℕ)) := by
  iintro ⟨H1, H2⟩
  isplitl [H1]
  · iapply (landed_eq c X tab s r g); iexact H1
  iexact H2

/-- A value returned goes to what follows. -/
theorem ret_then {E : Type → Type} {α β : Type} (a : α) (k : α → Prog E β) : (Prog.ret a).bind k = k a := rfl

/-- One row sent for: transfer `k` of a tile into slot `s`. -/
theorem issue (X : S24576x4096.Idx → Elt F .f32) (tab : Fin 256 → BitVec 32) (s : Fin 2) (k : ℕ) (hk : k < 256)
    {α : Type} {Q : α → sProp (MT nD τ sig Unit (Elt F) ℕ (Pipeline.UD sig nD τ) ℕ)} {hsrc : (srcM (rowOf (tab ⟨k, hk⟩))).view.WordExact} {hdst : (rowM s ⟨k, hk⟩).view.WordExact}
    {hsem} {kont : PUnit → Prog (TpuEff nD τ sig (Elt F) Λ₀ .tc) α} :
    (gatherAt c X tab s k : sProp (MT nD τ sig Unit (Elt F) ℕ (Pipeline.UD sig nD τ) ℕ))
      ⊢ iprop((gatherAt c X tab s (k + 1) -∗ wp frame (wpE (defs₀ (F := F)) Variants.none (c : Thread nD τ) none) Set.univ (kont ⟨⟩) Q)
        -∗ wp frame (wpE (defs₀ (F := F)) Variants.none (c : Thread nD τ) none) Set.univ
          (.op (.enqueueDma (srcM (rowOf (tab ⟨k, hk⟩))) (.here (rowM s ⟨k, hk⟩)) (.dma (cell s)) hsrc hdst hsem) kont) Q) := by
  unfold gatherAt
  rw [Ring.bigSep_rangeSet_head (Φ := fun r => (iprop(∃ g, rowPt c s r g) : sProp (MT nD τ sig Unit (Elt F) ℕ (Pipeline.UD sig nD τ) ℕ))) hk hk,
    Ring.bigSep_rangeSet_head (Φ := fun r => (xTok c X (256 * s.val + r.val) : sProp (MT nD τ sig Unit (Elt F) ℕ (Pipeline.UD sig nD τ) ℕ))) hk hk,
    Ring.bigSep_rangeSet_last (Φ := fun r => (xRem c X (rowOf (tab r)) (256 * s.val + r.val) : sProp (MT nD τ sig Unit (Elt F) ℕ (Pipeline.UD sig nD τ) ℕ))) (Nat.succ_pos k) hk]
  iintro ⟨HB, ⟨⟨%g, HR⟩, HRs⟩, ⟨HX, HXs⟩, HM⟩ HK
  ihave HX' := (Entails.of_eq (xTok_split c X (rowOf (tab ⟨k, hk⟩)) (256 * s.val + k))) $$ HX
  icases HX' with ⟨HS, HXr⟩
  iapply (Transfers.wp_dmaBatch (countersEmb (U := Pipeline.UD sig nD τ)) Variants.none (c : Thread nD τ) none () 512 (amount_eq s _) (Finset.Subset.refl _) hk (Nat.zero_le _)
    (deliver c X tab s ⟨k, hk⟩ g)) $$ [HS HR HB]
  · isplitl [HS]; · iexact HS
    isplitl [HR]; · iexact HR
    iexact HB
  iintro HB
  iapply HK
  isplitl [HB]; · iexact HB
  isplitl [HRs]; · iexact HRs
  isplitl [HXs]; · iexact HXs
  isplitl [HXr]; · iexact HXr
  iexact HM

/-- The same of a transfer whose rows and semaphore are known by their offsets. -/
theorem issue' (X : S24576x4096.Idx → Elt F .f32) (tab : Fin 256 → BitVec 32) (s : Fin 2) (k : ℕ) (hk : k < 256)
    {α : Type} {Q : α → sProp (MT nD τ sig Unit (Elt F) ℕ (Pipeline.UD sig nD τ) ℕ)} {o1 : Fin 1 → ℕ} {o3 : Fin 3 → ℕ} {o2 : Fin 2 → ℕ} {b1 b2 b3}
    (e1 : o1 = ![s.val]) (e3 : o3 = ![s.val, k, 0]) (e2 : o2 = ![(tab ⟨k, hk⟩).toNat, 0]) (hlt : (tab ⟨k, hk⟩).toNat < 24576) {hs2 hs3 hsrc hdst}
    {hsem} {kont : PUnit → Prog (TpuEff nD τ sig (Elt F) Λ₀ .tc) α} :
    (gatherAt c X tab s k : sProp (MT nD τ sig Unit (Elt F) ℕ (Pipeline.UD sig nD τ) ℕ))
      ⊢ iprop((gatherAt c X tab s (k + 1) -∗ wp frame (wpE (defs₀ (F := F)) Variants.none (c : Thread nD τ) none) Set.univ (kont ⟨⟩) Q)
        -∗ wp frame (wpE (defs₀ (F := F)) Variants.none (c : Thread nD τ) none) Set.univ
          (.op (.enqueueDma (xM.slice (Rect.unit (s := S24576x4096) o2 S1x4096.size b2) hs2)
            (.here ((scM.slice (Rect.unit (s := S2x256x4096) o3 S1x1x4096.size b3) hs3).squeeze S1x4096 squeezes_S1x1x4096_S1x4096))
            (.dma ((cc0_scratch1.slice (Rect.unit (s := S2) o1 S1.size b1)).squeeze S_ squeezes_S1_S_).sem) hsrc hdst hsem) kont) Q) := by
  have e : o2 = ![(rowOf (tab ⟨k, hk⟩)).val, 0] := by rw [e2]; show _ = ![min (tab ⟨k, hk⟩).toNat 24575, 0]; rw [Nat.min_eq_left (by omega)]
  subst e1 e3 e
  exact issue c X tab s k hk

/-- One trip of the first tile's gather. -/
theorem gather_step1 (X : S24576x4096.Idx → Elt F .f32) (i : grid0.Coords) (a1) (h1) (a2) (h2) (a3 : Memref sig .tc .smem S1x1x256 .i32) (h3 : a3.IsWhole) (a4) (h4) (a6) (h6) (a7) (h7) (a8) (h8) (a9) (h9) (a10) (h10)
    (f : Buf (Elt F) (a3.view.loc (c : Thread nD τ))) (hw : k0_cond1 i = 1#1)
    (htab : ∀ r, (words (a3.view.read (Elt F) f) r).toNat < 24576) (k : Fin k0_t1_loop.trips) (acc : Unit) :
    iprop(gatherAt c X (words (a3.view.read (Elt F) f)) 0 k.val ∗ a3.view.loc (c : Thread nD τ) ↦[a3.view.set]{fullShare} f)
      ⊢ wp frame (wpE (defs₀ (F := F)) Variants.none (c : Thread nD τ) none) Set.univ
        (k0_t1_body (F := F) i a1 h1 a2 h2 a3 h3 a4 h4 xM (Memref.isWhole_whole _) a6 h6 a7 h7 a8 h8 a9 h9 a10 h10 scM (Memref.isWhole_whole _) cc0_scratch1 hw k acc)
        (fun _ => iprop(gatherAt c X (words (a3.view.read (Elt F) f)) 0 (k.val + 1) ∗ a3.view.loc (c : Thread nD τ) ↦[a3.view.set]{fullShare} f)) := by
  have hk : k.val < 256 := k.isLt
  iintro ⟨HG, HT⟩
  unfold k0_t1_body
  sl_exec
  have hv : gather_step1.sl.r c i a3 f hw k = words (a3.view.read (Elt F) f) ⟨k.val, hk⟩ := by
    unfold gather_step1.sl.r
    exact word_at c a3 f k.val hk (k0_off2_eq k)
  rw [wp_assume_of _ _ _ _ (show k0_chk1 i (gather_step1.sl.r c i a3 f hw k) from by
    rw [hv]; intro _ a
    have := htab ⟨k.val, hk⟩
    fin_cases a
    · show (words (a3.view.read (Elt F) f) ⟨k.val, hk⟩).toNat + 1 ≤ 24576; omega
    · show 0 + 4096 ≤ 4096; omega)]
  iapply (issue' c X (words (a3.view.read (Elt F) f)) 0 k.val hk rfl (k0_off3_eq k) (by rw [hv]; rfl) (htab _)) $$ HG
  iintro HG
  simp only [ret_then]
  sl_step
  isplitl [HG]; · iexact HG
  iexact HT

/-- One trip of the next tile's gather. -/
theorem gather_step2 (X : S24576x4096.Idx → Elt F .f32) (i : grid0.Coords) (a1) (h1) (a2) (h2) (a3) (h3) (a4 : Memref sig .tc .smem S1x1x256 .i32) (h4 : a4.IsWhole) (a6) (h6) (a7) (h7) (a8) (h8) (a9) (h9) (a10) (h10)
    (f : Buf (Elt F) (a4.view.loc (c : Thread nD τ))) (v0) (hw : k0_cond2 i v0 = 1#1) (s : Fin 2) (hs : (s.val : ℕ) = 1 - (i 0).val % 2)
    (htab : ∀ r, (words (a4.view.read (Elt F) f) r).toNat < 24576) (k : Fin k0_t2_loop.trips) (acc : Unit) :
    iprop(gatherAt c X (words (a4.view.read (Elt F) f)) s k.val ∗ a4.view.loc (c : Thread nD τ) ↦[a4.view.set]{fullShare} f)
      ⊢ wp frame (wpE (defs₀ (F := F)) Variants.none (c : Thread nD τ) none) Set.univ
        (k0_t2_body (F := F) i a1 h1 a2 h2 a3 h3 a4 h4 xM (Memref.isWhole_whole _) a6 h6 a7 h7 a8 h8 a9 h9 a10 h10 scM (Memref.isWhole_whole _) cc0_scratch1 v0 hw k acc)
        (fun _ => iprop(gatherAt c X (words (a4.view.read (Elt F) f)) s (k.val + 1) ∗ a4.view.loc (c : Thread nD τ) ↦[a4.view.set]{fullShare} f)) := by
  have hk : k.val < 256 := k.isLt
  iintro ⟨HG, HT⟩
  unfold k0_t2_body
  sl_exec
  have hv : gather_step2.sl.r c a4 f k = words (a4.view.read (Elt F) f) ⟨k.val, hk⟩ := by
    unfold gather_step2.sl.r
    exact word_at c a4 f k.val hk (k0_off5_eq k)
  rw [wp_assume_of _ _ _ _ (show k0_chk2 i v0 (gather_step2.sl.r c a4 f k) from by
    rw [hv]; intro _ a
    have := htab ⟨k.val, hk⟩
    fin_cases a
    · show (words (a4.view.read (Elt F) f) ⟨k.val, hk⟩).toNat + 1 ≤ 24576; omega
    · show 0 + 4096 ≤ 4096; omega)]
  iapply (issue' c X (words (a4.view.read (Elt F) f)) s k.val hk (by rw [hs]; exact off6_eq i) (by rw [hs]; exact off7_eq i k) (by rw [hv]; rfl) (htab _)) $$ HG
  iintro HG
  simp only [ret_then]
  sl_step
  isplitl [HG]; · iexact HG
  iexact HT
end
end Cert.MoeIdeal.Hand
end
end
-- ==== Proof.Moe.Drain.lean ====
module

public import proofs.«01_k».proof.Proof.Moe.Gather

@[expose] public section

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD)

/-- The state of a slot before wait `k` of its tile's rows. -/
def drainAt (X : S24576x4096.Idx → Elt F .f32) (tab : Fin 256 → BitVec 32) (s : Fin 2) (k : ℕ) (_ : Unit) : sProp (MT nD τ sig Unit (Elt F) ℕ (Pipeline.UD sig nD τ) ℕ) :=
  iprop((∃ W, owes (c : Thread nD τ) 0 W)
    ∗ (if k < 256 then batch c X tab s 256 (k * 512)
       else iprop(semVal ((c : Thread nD τ), SemLoc.dma (cell s)) 0 ∗ bigSep Finset.univ (deliv c X tab s))))

/-- What one row counts on its semaphore. -/
theorem credit_eq (s : Fin 2) (r : Fin 256) : (rowM s r).view.dmaCredit = 512 := by
  show (cc0_scratch0 : Ref sig .tc).dmaCredit S1x4096 .f32 = 512
  decide +kernel

/-- One row waited for. -/
theorem collect (X : S24576x4096.Idx → Elt F .f32) (tab : Fin 256 → BitVec 32) (s : Fin 2) (k : ℕ) (hk : k < 256)
    {α : Type} {Q : α → sProp (MT nD τ sig Unit (Elt F) ℕ (Pipeline.UD sig nD τ) ℕ)} {o1 : Fin 1 → ℕ} {o3 : Fin 3 → ℕ} {b1 b3} {src : Memref sig .tc .hbm S1x4096 .f32}
    (e1 : o1 = ![s.val]) (e3 : o3 = ![s.val, k, 0]) {hs3 hsrc hdst}
    {kont : PUnit → Prog (TpuEff nD τ sig (Elt F) Λ₀ .tc) α} :
    (drainAt c X tab s k () : sProp (MT nD τ sig Unit (Elt F) ℕ (Pipeline.UD sig nD τ) ℕ))
      ⊢ iprop((drainAt c X tab s (k + 1) () -∗ wp frame (wpE (defs₀ (F := F)) Variants.none (c : Thread nD τ) none) Set.univ (kont ⟨⟩) Q)
        -∗ wp frame (wpE (defs₀ (F := F)) Variants.none (c : Thread nD τ) none) Set.univ
          (.op (.waitDma2 ((cc0_scratch1.slice (Rect.unit (s := S2) o1 S1.size b1)).squeeze S_ squeezes_S1_S_).sem src
            ((scM.slice (Rect.unit (s := S2x256x4096) o3 S1x1x4096.size b3) hs3).squeeze S1x4096 squeezes_S1x1x4096_S1x4096)
            hsrc hdst) kont) Q) := by
  subst e1 e3
  unfold drainAt
  rw [if_pos hk]
  rcases Nat.lt_or_ge (k + 1) 256 with h | h
  · rw [if_pos h]
    iintro ⟨⟨%W, HO⟩, HB⟩ HK
    iapply (Transfers.wp_waitBatch (countersEmb (U := Pipeline.UD sig nD τ)) Variants.none (c : Thread nD τ) none () (N := 512) (credit_eq s ⟨k, hk⟩)
      (u := k * 512) (D := deliv c X tab s) (by omega)) $$ [HB HO]
    · isplitl [HB]; · iexact HB
      iexact HO
    iintro ⟨HB, HO⟩
    iapply HK
    isplitl [HO]; · iexists _; iexact HO
    rw [Nat.succ_mul]
    iexact HB
  · rw [if_neg (Nat.not_lt.mpr h)]
    iintro ⟨⟨%W, HO⟩, HB⟩ HK
    iapply (Transfers.wp_waitBatchLast (countersEmb (U := Pipeline.UD sig nD τ)) Variants.none (c : Thread nD τ) none () (N := 512) (credit_eq s ⟨k, hk⟩) (by omega)
      (u := k * 512) (D := deliv c X tab s) (by omega)) $$ [HB HO]
    · isplitl [HB]; · iexact HB
      iexact HO
    iintro ⟨HD, HS, HO⟩
    iapply HK
    isplitl [HO]; · iexists _; iexact HO
    isplitl [HS]; · iexact HS
    iexact HD

/-- The row that trip `k` of the collecting loop waits for. -/
theorem off10_eq (i : grid0.Coords) (k : Fin k0_t3_loop.trips) : k0_off10 i k = ![(i 0).val % 2, k.val, 0] := by
  funext a; fin_cases a
  · exact congrFun (off9_eq i) 0
  · exact congrFun (k0_off5_eq k) 2
  · rfl

/-- One trip of the collecting loop collects one row. -/
theorem drain_step (X : S24576x4096.Idx → Elt F .f32) (tab : Fin 256 → BitVec 32) (i : grid0.Coords) (a1) (h1) (a2) (h2) (a3) (h3) (a4) (h4) (a6) (h6) (a7) (h7) (a8) (h8) (a9) (h9) (a10) (h10)
    (v10) (s : Fin 2) (hs : (s.val : ℕ) = (i 0).val % 2) (k : Fin k0_t3_loop.trips) (acc : Unit) :
    (drainAt c X tab s k.val () : sProp (MT nD τ sig Unit (Elt F) ℕ (Pipeline.UD sig nD τ) ℕ))
      ⊢ wp frame (wpE (defs₀ (F := F)) Variants.none (c : Thread nD τ) none) Set.univ
        (k0_t3_body (F := F) i a1 h1 a2 h2 a3 h3 a4 h4 xM (Memref.isWhole_whole _) a6 h6 a7 h7 a8 h8 a9 h9 a10 h10 scM (Memref.isWhole_whole _) cc0_scratch1 v10 k acc)
        (fun _ => drainAt c X tab s (k.val + 1) ()) := by
  have hk : k.val < 256 := k.isLt
  iintro HG
  unfold k0_t3_body
  iapply (collect c X tab s k.val hk (by rw [hs]; exact off9_eq i) (by rw [hs]; exact off10_eq i k)) $$ HG
  iintro HG
  simp only [ret_then]
  sl_step
  iexact HG

/-! ### Slots as rows -/

/-- The slot of an element of the scratch. -/
def slotOf (y : S2x256x4096.Idx) : Fin 2 := y 0
/-- Its row. -/
def rowIn (y : S2x256x4096.Idx) : Fin 256 := y 1

/-- An element lies in a row's rectangle when its slot and row are that row's. -/
theorem mem_rect (s : Fin 2) (r : Fin 256) (y : S2x256x4096.Idx) :
    y ∈ (Rect.unit (s := S2x256x4096) ![s.val, r.val, 0] S1x1x4096.size (row_inb s r)).set ↔ slotOf y = s ∧ rowIn y = r := by
  rw [Rect.mem_set_unit]
  have h2 : (y 2).val < 4096 := (y 2).isLt
  constructor
  · intro H
    have a0 : s.val ≤ (slotOf y).val ∧ (slotOf y).val < s.val + 1 := H 0
    have a1 : r.val ≤ (rowIn y).val ∧ (rowIn y).val < r.val + 1 := H 1
    exact ⟨Fin.ext (by omega), Fin.ext (by omega)⟩
  · rintro ⟨rfl, rfl⟩ a; fin_cases a
    · show (slotOf y).val ≤ (slotOf y).val ∧ (slotOf y).val < (slotOf y).val + 1; omega
    · show (rowIn y).val ≤ (rowIn y).val ∧ (rowIn y).val < (rowIn y).val + 1; omega
    · show 0 ≤ (y 2).val ∧ (y 2).val < 0 + 4096; omega

/-- The elements of row `r` of slot `s`, of slot `s`. -/
def rowset (s : Fin 2) (r : Fin 256) : Finset S2x256x4096.Idx := (rowM s r).view.set
/-- An element lies in a row when its slot and row are that row's. -/
theorem mem_rowset (s : Fin 2) (r : Fin 256) (y : S2x256x4096.Idx) : y ∈ rowset s r ↔ slotOf y = s ∧ rowIn y = r := by
  rw [show rowset s r = _ from rowset_eq s r]; exact mem_rect s r y
/-- The elements of a slot. -/
def slotset (s : Fin 2) : Finset S2x256x4096.Idx := Finset.univ.filter fun y => slotOf y = s
/-- An element lies in its slot. -/
theorem mem_slotset (s : Fin 2) (y : S2x256x4096.Idx) : y ∈ slotset s ↔ slotOf y = s :=
  ⟨fun h => (Finset.mem_filter.mp h).2, fun h => Finset.mem_filter.mpr ⟨Finset.mem_univ y, h⟩⟩

/-- A slot at its contents. -/
abbrev slotPt (s : Fin 2) (f : S2x256x4096.Idx → Elt F .f32) : sProp (MT nD τ sig Unit (Elt F) ℕ (Pipeline.UD sig nD τ) ℕ) := scM.view.loc (c : Thread nD τ) ↦[slotset s]{fullShare} f

/-- A slot is its rows. -/
theorem slotset_eq (s : Fin 2) : slotset s = Finset.univ.biUnion (rowset s) := by
  ext y
  rw [mem_slotset, Finset.mem_biUnion]
  constructor
  · intro h; exact ⟨rowIn y, Finset.mem_univ _, (mem_rowset s (rowIn y) y).mpr ⟨h, rfl⟩⟩
  · intro h; obtain ⟨r, -, h⟩ := h; exact ((mem_rowset s r y).mp h).1

/-- Different rows share no element. -/
theorem rowset_disjoint (s : Fin 2) (r r' : Fin 256) (h : r ≠ r') : Disjoint (rowset s r) (rowset s r') := by
  rw [Finset.disjoint_left]; intro y hy hy'
  exact h (((mem_rowset s r y).mp hy).2.symm.trans ((mem_rowset s r' y).mp hy').2)

/-- A slot's contents, row by row. -/
theorem slot_rows (s : Fin 2) (f : S2x256x4096.Idx → Elt F .f32) :
    (slotPt c s f : sProp (MT nD τ sig Unit (Elt F) ℕ (Pipeline.UD sig nD τ) ℕ)) = bigSep Finset.univ (fun r => rowPt c s r f) := by
  unfold slotPt
  rw [slotset_eq]
  exact pointsTo_biUnion (ℓ := scM.view.loc (c : Thread nD τ)) Finset.univ (rowset s) fun r _ r' _ h => rowset_disjoint s r r' h

/-- The scratch is its two slots. -/
theorem slotset_univ : (Finset.univ : Finset S2x256x4096.Idx) = slotset 0 ∪ slotset 1 := by
  ext y
  refine ⟨fun _ => ?_, fun _ => Finset.mem_univ y⟩
  rw [Finset.mem_union, mem_slotset, mem_slotset]
  have h2 : ∀ a : Fin 2, a = 0 ∨ a = 1 := by decide
  exact h2 (slotOf y)
/-- The two slots share no element. -/
theorem slotset_disjoint : Disjoint (slotset 0) (slotset 1) := by
  rw [Finset.disjoint_left]; intro y hy hy'
  rw [mem_slotset] at hy hy'
  rw [hy] at hy'; exact absurd hy' (by decide)

/-- The scratch at its contents is the two slots at theirs. -/
theorem whole_slots (f : S2x256x4096.Idx → Elt F .f32) :
    ((c : Thread nD τ).loc cc0_scratch0 ↦{fullShare} f : sProp (MT nD τ sig Unit (Elt F) ℕ (Pipeline.UD sig nD τ) ℕ)) ⊣⊢ iprop(slotPt c 0 f ∗ slotPt c 1 f) := by
  have := pointsTo_union (ℓ := (c : Thread nD τ).loc cc0_scratch0) (q := fullShare) (f := f) (Val := Elt F) (Name := ℕ) (U := Pipeline.UD sig nD τ) (Lvl := ℕ) (Ix := Unit) slotset_disjoint
  rw [← slotset_univ] at this
  exact this

/-- Two slots at contents of their own are the scratch at some contents. -/
theorem slots_whole (f g : S2x256x4096.Idx → Elt F .f32) :
    iprop(slotPt c 0 f ∗ slotPt c 1 g) ⊢ (iprop(∃ f, (c : Thread nD τ).loc cc0_scratch0 ↦{fullShare} f) : sProp (MT nD τ sig Unit (Elt F) ℕ (Pipeline.UD sig nD τ) ℕ)) := by
  have e0 : (slotPt c 0 f : sProp (MT nD τ sig Unit (Elt F) ℕ (Pipeline.UD sig nD τ) ℕ)) = slotPt c 0 (fun y : S2x256x4096.Idx => if slotOf y = 0 then f y else g y) :=
    pointsTo_congr fun y hy => (if_pos ((mem_slotset 0 y).mp hy)).symm
  have e1 : (slotPt c 1 g : sProp (MT nD τ sig Unit (Elt F) ℕ (Pipeline.UD sig nD τ) ℕ)) = slotPt c 1 (fun y : S2x256x4096.Idx => if slotOf y = 0 then f y else g y) :=
    pointsTo_congr fun y hy => (if_neg (by rw [(mem_slotset 1 y).mp hy]; decide)).symm
  rw [e0, e1]
  iintro H
  iexists (fun y : S2x256x4096.Idx => if slotOf y = 0 then f y else g y)
  iapply (whole_slots c _).2
  iexact H
end
end Cert.MoeIdeal.Hand
end
end
-- ==== Proof.Moe.Phases.lean ====
module

public import proofs.«01_k».proof.Proof.Moe.Drain

/-! The states of the two slots, and the body's phases that change them. -/

@[expose] public section

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD)

/-- The shares of the activations that slot `s`'s transfers read through. -/
def toks (X : S24576x4096.Idx → Elt F .f32) (s : Fin 2) : sProp (MT nD τ sig Unit (Elt F) ℕ (Pipeline.UD sig nD τ) ℕ) :=
  bigSep Finset.univ (fun r : Fin 256 => xTok c X (256 * s.val + r.val))
/-- What is left of those shares while a tile's rows are read. -/
def rems (X : S24576x4096.Idx → Elt F .f32) (tab : Fin 256 → BitVec 32) (s : Fin 2) : sProp (MT nD τ sig Unit (Elt F) ℕ (Pipeline.UD sig nD τ) ℕ) :=
  bigSep Finset.univ (fun r : Fin 256 => xRem c X (rowOf (tab r)) (256 * s.val + r.val))
/-- A slot with nothing in flight: its semaphore at zero, its rows at some contents. -/
def Idle (X : S24576x4096.Idx → Elt F .f32) (s : Fin 2) : sProp (MT nD τ sig Unit (Elt F) ℕ (Pipeline.UD sig nD τ) ℕ) :=
  iprop(semVal ((c : Thread nD τ), SemLoc.dma (cell s)) 0 ∗ (∃ f, slotPt c s f) ∗ toks c X s)
/-- A slot into which all rows that a table names are in flight. -/
def Flying (X : S24576x4096.Idx → Elt F .f32) (tab : Fin 256 → BitVec 32) (s : Fin 2) : sProp (MT nD τ sig Unit (Elt F) ℕ (Pipeline.UD sig nD τ) ℕ) :=
  iprop(batch c X tab s 256 0 ∗ rems c X tab s)
/-- A slot in which a tile's rows have landed. -/
def Full (X : S24576x4096.Idx → Elt F .f32) (tab : Fin 256 → BitVec 32) (s : Fin 2) : sProp (MT nD τ sig Unit (Elt F) ℕ (Pipeline.UD sig nD τ) ℕ) :=
  iprop(semVal ((c : Thread nD τ), SemLoc.dma (cell s)) 0 ∗ slotPt c s (landed X tab) ∗ toks c X s)

/-- A slot whose rows were read is idle again. -/
theorem full_idle (X : S24576x4096.Idx → Elt F .f32) (tab : Fin 256 → BitVec 32) (s : Fin 2) : (Full c X tab s : sProp (MT nD τ sig Unit (Elt F) ℕ (Pipeline.UD sig nD τ) ℕ)) ⊢ Idle c X s := by
  unfold Full Idle
  iintro ⟨H1, H2, H3⟩
  isplitl [H1]; · iexact H1
  isplitl [H2]; · iexists _; iexact H2
  iexact H3

/-- The contents of a buffer may be kept with a semaphore. -/
theorem pointsTo_storable' (ℓ : Loc nD τ sig) (I : Finset (ℓ.2.ty.shape.Idx)) (q : PosShare TreeShare) (f : Buf (Elt F) ℓ) :
    Storable (upEmb : UEmb _ (MT nD τ sig Unit (Elt F) ℕ (Pipeline.UD sig nD τ) ℕ)) (ℓ ↦[I]{q} f : sProp (MT nD τ sig Unit (Elt F) ℕ (Pipeline.UD sig nD τ) ℕ)) := inferInstance
/-- What a transfer delivers may be kept with its semaphore. -/
instance deliv_storable (X : S24576x4096.Idx → Elt F .f32) (tab : Fin 256 → BitVec 32) (s : Fin 2) (r : Fin 256) :
    Storable (upEmb : UEmb _ (MT nD τ sig Unit (Elt F) ℕ (Pipeline.UD sig nD τ) ℕ)) (deliv c X tab s r) :=
  @Storable.sep _ _ _ _ _ _ _ _ (pointsTo_storable' _ _ _ _) (pointsTo_storable' _ _ _ _)

/-- Rows at known contents are rows at some contents. -/
theorem rows_some (s : Fin 2) (f : S2x256x4096.Idx → Elt F .f32) :
    bigSep Finset.univ (fun r => rowPt c s r f) ⊢ (bigSep Finset.univ (fun r => iprop(∃ g, rowPt c s r g)) : sProp (MT nD τ sig Unit (Elt F) ℕ (Pipeline.UD sig nD τ) ℕ)) :=
  BI.bigSep_mono fun r _ => show (rowPt c s r f : sProp (MT nD τ sig Unit (Elt F) ℕ (Pipeline.UD sig nD τ) ℕ)) ⊢ iprop(∃ g, rowPt c s r g) from by
    iintro H; iexists _; iexact H

/-- An idle slot is a gather before its first trip. -/
theorem gather_start (X : S24576x4096.Idx → Elt F .f32) (tab : Fin 256 → BitVec 32) (s : Fin 2) :
    (Idle c X s : sProp (MT nD τ sig Unit (Elt F) ℕ (Pipeline.UD sig nD τ) ℕ)) ⊢ |={Set.univ}=> gatherAt c X tab s 0 := by
  unfold Idle gatherAt toks
  rw [Ring.rangeSet_univ, Ring.bigSep_rangeSet_empty (le_refl 0)]
  iintro ⟨H1, ⟨%f, H2⟩, H3⟩
  ihave H2' := (Entails.of_eq (slot_rows c s f)) $$ H2
  imod (Transfers.batch_alloc' (Lvl := ℕ) (countersEmb (U := Pipeline.UD sig nD τ)) (c : Thread nD τ) () 512 (deliv c X tab s) (sm := SemLoc.dma (cell s)) (E := Set.univ)) $$ H1 with HB
  imodintro
  isplitl [HB]; · iexact HB
  isplitl [H2']
  · iapply (rows_some c s f); iexact H2'
  isplitl [H3]; · iexact H3
  iempintro

/-- A gather after its last trip has every row in flight. -/
theorem gather_end (X : S24576x4096.Idx → Elt F .f32) (tab : Fin 256 → BitVec 32) (s : Fin 2) :
    (gatherAt c X tab s 256 : sProp (MT nD τ sig Unit (Elt F) ℕ (Pipeline.UD sig nD τ) ℕ)) ⊢ Flying c X tab s := by
  unfold gatherAt Flying rems
  rw [Ring.rangeSet_univ]
  iintro ⟨H1, -, -, H4⟩
  isplitl [H1]; · iexact H1
  iexact H4

/-- A landed tile: its rows, and the shares it was read through, whole again. -/
theorem drain_end (X : S24576x4096.Idx → Elt F .f32) (tab : Fin 256 → BitVec 32) (s : Fin 2) :
    iprop(drainAt c X tab s 256 () ∗ rems c X tab s) ⊢ (iprop((∃ W, owes (c : Thread nD τ) 0 W) ∗ Full c X tab s) : sProp (MT nD τ sig Unit (Elt F) ℕ (Pipeline.UD sig nD τ) ℕ)) := by
  unfold drainAt rems Full toks
  rw [if_neg (by omega), slot_rows,
    show bigSep Finset.univ (deliv c X tab s) = (iprop(bigSep Finset.univ (fun r => rowPt c s r (landed X tab)) ∗ bigSep Finset.univ (fun r : Fin 256 => srcTok c X (rowOf (tab r)) (256 * s.val + r.val))) : sProp (MT nD τ sig Unit (Elt F) ℕ (Pipeline.UD sig nD τ) ℕ)) from BI.bigSep_sep' _ _ _,
    show bigSep Finset.univ (fun r : Fin 256 => xTok c X (256 * s.val + r.val)) = (iprop(bigSep Finset.univ (fun r : Fin 256 => srcTok c X (rowOf (tab r)) (256 * s.val + r.val)) ∗ bigSep Finset.univ (fun r : Fin 256 => xRem c X (rowOf (tab r)) (256 * s.val + r.val))) : sProp (MT nD τ sig Unit (Elt F) ℕ (Pipeline.UD sig nD τ) ℕ))
      from (BI.bigSep_congr (fun r _ => xTok_split c X (rowOf (tab r)) (256 * s.val + r.val))).trans (BI.bigSep_sep' _ _ _)]
  iintro ⟨⟨H1, H2, H3, H4⟩, H5⟩
  isplitl [H1]; · iexact H1
  isplitl [H2]; · iexact H2
  isplitl [H3]; · iexact H3
  isplitl [H4]; · iexact H4
  iexact H5

/-- The first tile's rows sent for. -/
theorem gather1 (X : S24576x4096.Idx → Elt F .f32) (i : grid0.Coords) (a1) (h1) (a2) (h2) (a3 : Memref sig .tc .smem S1x1x256 .i32) (h3 : a3.IsWhole) (a4) (h4) (a6) (h6) (a7) (h7) (a8) (h8) (a9) (h9) (a10) (h10)
    (f : Buf (Elt F) (a3.view.loc (c : Thread nD τ))) (hw : k0_cond1 i = 1#1)
    (htab : ∀ r, (words (a3.view.read (Elt F) f) r).toNat < 24576) :
    iprop(Idle c X 0 ∗ a3.view.loc (c : Thread nD τ) ↦[a3.view.set]{fullShare} f)
      ⊢ wp frame (wpE (defs₀ (F := F)) Variants.none (c : Thread nD τ) none) Set.univ
        (Scf.Loop.for k0_t1_loop (k0_t1_ok i hw) ⟨⟩ (k0_t1_body (F := F) i a1 h1 a2 h2 a3 h3 a4 h4 xM (Memref.isWhole_whole _) a6 h6 a7 h7 a8 h8 a9 h9 a10 h10 scM (Memref.isWhole_whole _) cc0_scratch1 hw))
        (fun _ => iprop(Flying c X (words (a3.view.read (Elt F) f)) 0 ∗ a3.view.loc (c : Thread nD τ) ↦[a3.view.set]{fullShare} f)) := by
  iintro ⟨HI, HT⟩
  imod (gather_start c X (words (a3.view.read (Elt F) f)) 0) $$ HI with HG
  iapply (Scf.wp_for _ _ _ k0_t1_loop.lb k0_t1_loop.ub k0_t1_loop.st (k0_t1_ok i hw) _ _
    (fun k _ => iprop(gatherAt c X (words (a3.view.read (Elt F) f)) 0 k ∗ a3.view.loc (c : Thread nD τ) ↦[a3.view.set]{fullShare} f))
    (fun k acc => gather_step1 c X i a1 h1 a2 h2 a3 h3 a4 h4 a6 h6 a7 h7 a8 h8 a9 h9 a10 h10 f hw htab k acc))
  isplitl [HG HT]
  · isplitl [HG]; · iexact HG
    iexact HT
  iintro %acc ⟨HG, HT⟩
  isplitl [HG]; · iapply (gather_end c X (words (a3.view.read (Elt F) f)) 0); iexact HG
  iexact HT

/-- The next tile's rows sent for. -/
theorem gather2 (X : S24576x4096.Idx → Elt F .f32) (i : grid0.Coords) (a1) (h1) (a2) (h2) (a3) (h3) (a4 : Memref sig .tc .smem S1x1x256 .i32) (h4 : a4.IsWhole) (a6) (h6) (a7) (h7) (a8) (h8) (a9) (h9) (a10) (h10)
    (f : Buf (Elt F) (a4.view.loc (c : Thread nD τ))) (v0) (hw : k0_cond2 i v0 = 1#1) (s : Fin 2) (hs : (s.val : ℕ) = 1 - (i 0).val % 2)
    (htab : ∀ r, (words (a4.view.read (Elt F) f) r).toNat < 24576) :
    iprop(Idle c X s ∗ a4.view.loc (c : Thread nD τ) ↦[a4.view.set]{fullShare} f)
      ⊢ wp frame (wpE (defs₀ (F := F)) Variants.none (c : Thread nD τ) none) Set.univ
        (Scf.Loop.for k0_t2_loop k0_t2_ok ⟨⟩ (k0_t2_body (F := F) i a1 h1 a2 h2 a3 h3 a4 h4 xM (Memref.isWhole_whole _) a6 h6 a7 h7 a8 h8 a9 h9 a10 h10 scM (Memref.isWhole_whole _) cc0_scratch1 v0 hw))
        (fun _ => iprop(Flying c X (words (a4.view.read (Elt F) f)) s ∗ a4.view.loc (c : Thread nD τ) ↦[a4.view.set]{fullShare} f)) := by
  iintro ⟨HI, HT⟩
  imod (gather_start c X (words (a4.view.read (Elt F) f)) s) $$ HI with HG
  iapply (Scf.wp_for _ _ _ k0_t2_loop.lb k0_t2_loop.ub k0_t2_loop.st k0_t2_ok _ _
    (fun k _ => iprop(gatherAt c X (words (a4.view.read (Elt F) f)) s k ∗ a4.view.loc (c : Thread nD τ) ↦[a4.view.set]{fullShare} f))
    (fun k acc => gather_step2 c X i a1 h1 a2 h2 a3 h3 a4 h4 a6 h6 a7 h7 a8 h8 a9 h9 a10 h10 f v0 hw s hs htab k acc))
  isplitl [HG HT]
  · isplitl [HG]; · iexact HG
    iexact HT
  iintro %acc ⟨HG, HT⟩
  isplitl [HG]; · iapply (gather_end c X (words (a4.view.read (Elt F) f)) s); iexact HG
  iexact HT

/-- This tile's rows waited for. -/
theorem drain (X : S24576x4096.Idx → Elt F .f32) (tab : Fin 256 → BitVec 32) (i : grid0.Coords) (a1) (h1) (a2) (h2) (a3) (h3) (a4) (h4) (a6) (h6) (a7) (h7) (a8) (h8) (a9) (h9) (a10) (h10)
    (v10) (s : Fin 2) (hs : (s.val : ℕ) = (i 0).val % 2) :
    (iprop((∃ W, owes (c : Thread nD τ) 0 W) ∗ Flying c X tab s) : sProp (MT nD τ sig Unit (Elt F) ℕ (Pipeline.UD sig nD τ) ℕ))
      ⊢ wp frame (wpE (defs₀ (F := F)) Variants.none (c : Thread nD τ) none) Set.univ
        (Scf.Loop.for k0_t3_loop k0_t3_ok ⟨⟩ (k0_t3_body (F := F) i a1 h1 a2 h2 a3 h3 a4 h4 xM (Memref.isWhole_whole _) a6 h6 a7 h7 a8 h8 a9 h9 a10 h10 scM (Memref.isWhole_whole _) cc0_scratch1 v10))
        (fun _ => iprop((∃ W, owes (c : Thread nD τ) 0 W) ∗ Full c X tab s)) := by
  unfold Flying
  iintro ⟨HW, HB, HR⟩
  iapply (Scf.wp_for _ _ _ k0_t3_loop.lb k0_t3_loop.ub k0_t3_loop.st k0_t3_ok _ _
    (fun k a => drainAt c X tab s k a)
    (fun k acc => drain_step c X tab i a1 h1 a2 h2 a3 h3 a4 h4 a6 h6 a7 h7 a8 h8 a9 h9 a10 h10 v10 s hs k acc))
  isplitl [HW HB]
  · unfold drainAt
    rw [if_pos (by omega)]
    isplitl [HW]; · iexact HW
    iexact HB
  iintro %acc HD
  iapply (drain_end c X tab s)
  isplitl [HD]; · iexact HD
  iexact HR

/-- A conditional stretch of a program, its two ways ending at the same state. -/
theorem cond_step {p : Prop} [Decidable p] {α : Type} {A : p → Prog (TpuEff nD τ sig (Elt F) Λ₀ .tc) PUnit} {K : Prog (TpuEff nD τ sig (Elt F) Λ₀ .tc) α}
    {H R : sProp (MT nD τ sig Unit (Elt F) ℕ (Pipeline.UD sig nD τ) ℕ)} {Q : α → sProp (MT nD τ sig Unit (Elt F) ℕ (Pipeline.UD sig nD τ) ℕ)}
    (hpos : ∀ h, H ⊢ wp frame (wpE (defs₀ (F := F)) Variants.none (c : Thread nD τ) none) Set.univ (A h) (fun _ => R)) (hneg : ¬ p → H ⊢ R) :
    H ⊢ iprop((R -∗ wp frame (wpE (defs₀ (F := F)) Variants.none (c : Thread nD τ) none) Set.univ K Q)
      -∗ wp frame (wpE (defs₀ (F := F)) Variants.none (c : Thread nD τ) none) Set.univ (if h : p then (A h >>= fun _ => K) else K) Q) := by
  by_cases h : p
  · rw [dif_pos h, wp_bind]
    iintro H HK
    iapply (wp_wand_r _ _ _)
    isplitl [H]; · iapply (hpos h); iexact H
    iintro %a HR
    iapply HK; iexact HR
  · rw [dif_neg h]
    iintro H HK
    iapply HK
    iapply (hneg h); iexact H
end
end Cert.MoeIdeal.Hand
end
end
-- ==== Proof.Moe.Live.lean ====
module

public import proofs.«01_k».proof.Proof.Moe.Phases

/-! The first part of a live tile's arithmetic. -/

@[expose] public section

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD)

/-- The rows of the activations that a table names, as one tile. -/
def rowsOf (X : S24576x4096.Idx → Elt F .f32) (tab : Fin 256 → BitVec 32) : S1x256x4096.Idx → Elt F .f32 :=
  fun y => X (ValueIdx.ix2 (rowOf (tab (y 1))) (y 2))

/-- Reading a memory at the whole of its shape reads it. -/
theorem read_full {sp : CoreSpace} {s : Shape} {e : EltTy} (m : Memref sig .tc sp s e) (f : Buf (Elt F) (m.view.loc (c : Thread nD τ))) (o : Fin s.rank → ℕ) (ho : ∀ a, o a = 0) {hb} :
    m.view.readAt (Elt F) (Rect.unit (s := s) o s.size hb).toLoadRect f = m.view.read (Elt F) f := by
  funext y
  show m.view.read (Elt F) f ((Rect.unit (s := s) o s.size hb).emb y) = _
  congr 1
  funext a
  apply Fin.ext
  refine (ValueKit.rect_emb_unit_val (s := s) _ _ _ _ _).trans ?_
  rw [ho a]; exact Nat.zero_add _

/-- A full slot, read at this tile's offsets, is the tile. -/
theorem slot_read (X : S24576x4096.Idx → Elt F .f32) (tab : Fin 256 → BitVec 32) (i : grid0.Coords) {hb} :
    scM.view.readAt (Elt F) (Rect.unit (s := S2x256x4096) (k0_off11 i) S1x256x4096.size hb).toLoadRect (landed X tab) = rowsOf X tab := by
  funext y
  show landed X tab ((Rect.unit (s := S2x256x4096) (k0_off11 i) S1x256x4096.size hb).emb y) = _
  unfold landed rowsOf
  have e1 : (Rect.unit (s := S2x256x4096) (k0_off11 i) S1x256x4096.size hb).emb y 1 = y 1 := by
    apply Fin.ext
    refine (ValueKit.rect_emb_unit_val (s := S2x256x4096) _ _ _ _ _).trans ?_
    exact (congrArg (fun z : ℕ => z + (y 1).val) (congrFun (off11_eq i) 1)).trans (Nat.zero_add _)
  have e2 : (Rect.unit (s := S2x256x4096) (k0_off11 i) S1x256x4096.size hb).emb y 2 = y 2 := by
    apply Fin.ext
    refine (ValueKit.rect_emb_unit_val (s := S2x256x4096) _ _ _ _ _).trans ?_
    exact (congrArg (fun z : ℕ => z + (y 2).val) (congrFun (off11_eq i) 2)).trans (Nat.zero_add _)
  rw [e1, e2]

/-- The scratch as a whole keeps the elements it is asked for. -/
theorem setOn_whole (A : Finset S2x256x4096.Idx) : scM.view.setOn A = A := by
  ext y
  constructor
  · intro hy
    obtain ⟨x, hx, rfl⟩ := Finset.mem_map.mp hy
    exact hx
  · intro hy
    exact Finset.mem_map.mpr ⟨y, hy, rfl⟩

/-- This tile's rows lie in its slot. -/
theorem slot_sub (i : grid0.Coords) (s : Fin 2) (hs : (s.val : ℕ) = (i 0).val % 2) {hb} :
    scM.view.setOn (Rect.unit (s := S2x256x4096) (k0_off11 i) S1x256x4096.size hb).toLoadRect.set ⊆ slotset s := by
  intro y hy
  rw [show scM.view.setOn (Rect.unit (s := S2x256x4096) (k0_off11 i) S1x256x4096.size hb).toLoadRect.set = (Rect.unit (s := S2x256x4096) (k0_off11 i) S1x256x4096.size hb).set from setOn_whole _] at hy
  have H : k0_off11 i 0 ≤ (slotOf y).val ∧ (slotOf y).val < k0_off11 i 0 + 1 := Rect.mem_set_unit.mp hy 0
  rw [show k0_off11 i 0 = s.val from (congrFun (off11_eq i) 0).trans hs.symm] at H
  exact (mem_slotset s y).mpr (Fin.ext (by omega))

/-- A live tile's first part: its rows collected, normed, and taken through the gate, up and silu products. -/
theorem part1_run (X : S24576x4096.Idx → Elt F .f32) (tab : Fin 256 → BitVec 32) (i : grid0.Coords) (s : Fin 2) (hs : (s.val : ℕ) = (i 0).val % 2) (a1) (h1) (a2) (h2) (a3) (h3) (a4) (h4)
    (a6 : Memref sig .tc .vmem S1x4096 .f32) (h6 : a6.IsWhole) (a7 : Memref sig .tc .vmem S1x4096x1024 .bf16) (h7 : a7.IsWhole) (a8 : Memref sig .tc .vmem S1x4096x1024 .bf16) (h8 : a8.IsWhole) (a9) (h9) (a10) (h10)
    (v10) (d6 d7 d8) :
    (iprop((∃ W, owes (c : Thread nD τ) 0 W) ∗ Flying c X tab s ∗ owns (c : Thread nD τ) a6 fullShare d6 ∗ owns (c : Thread nD τ) a7 fullShare d7 ∗ owns (c : Thread nD τ) a8 fullShare d8) : sProp (MT nD τ sig Unit (Elt F) ℕ (Pipeline.UD sig nD τ) ℕ))
      ⊢ wp frame (wpE (defs₀ (F := F)) Variants.none (c : Thread nD τ) none) Set.univ
        (k0_part1 (F := F) i a1 h1 a2 h2 a3 h3 a4 h4 xM (Memref.isWhole_whole _) a6 h6 a7 h7 a8 h8 a9 h9 a10 h10 scM (Memref.isWhole_whole _) cc0_scratch1 v10)
        (fun v => iprop(⌜v = k0_pay6 (rowsOf X tab) d6 d7 d8⌝ ∗ (∃ W, owes (c : Thread nD τ) 0 W) ∗ Idle c X s ∗ owns (c : Thread nD τ) a6 fullShare d6 ∗ owns (c : Thread nD τ) a7 fullShare d7 ∗ owns (c : Thread nD τ) a8 fullShare d8)) := by
  rw [k0_part1_eq_skeleton]; unfold k0_part1_skel
  rw [wp_bind]
  iintro ⟨HW, HF, H6, H7, H8⟩
  iapply (wp_wand_r _ _ _)
  isplitl [HW HF]
  · iapply (drain c X tab i a1 h1 a2 h2 a3 h3 a4 h4 a6 h6 a7 h7 a8 h8 a9 h9 a10 h10 v10 s hs)
    isplitl [HW]; · iexact HW
    iexact HF
  unfold Full
  iintro %acc ⟨HW, HS, HP, HT⟩
  iapply (wp_load Variants.none (c : Thread nD τ) none Set.univ (slot_sub i s hs)) $$ HP
  rw [slot_read]
  iintro HP
  simp only [ret_then]
  unfold owns
  icases H6 with ⟨%f6, %e6, H6⟩
  icases H7 with ⟨%f7, %e7, H7⟩
  icases H8 with ⟨%f8, %e8, H8⟩
  subst e6 e7 e8
  sl_exec
  sl_step
  isplitr
  · ipureintro
    rw [read_full c a6 f6 ![0, 0] (by decide), read_full c a7 f7 ![0, 0, 0] (by decide), read_full c a8 f8 ![0, 0, 0] (by decide)]
  isplitl [HW]; · iexact HW
  isplitl [HS HP HT]
  · iapply (full_idle c X tab s)
    unfold Full
    isplitl [HS]; · iexact HS
    isplitl [HP]; · iexact HP
    iexact HT
  isplitl [H6]
  · iexists f6; isplitr; · ipureintro; rfl
    iexact H6
  isplitl [H7]
  · iexists f7; isplitr; · ipureintro; rfl
    iexact H7
  iexists f8; isplitr; · ipureintro; rfl
  iexact H8
end
end Cert.MoeIdeal.Hand
end
end
-- ==== Proof.Moe.Conds.lean ====
module

public import proofs.«01_k».proof.Proof.Moe.Phases

/-! When each phase of the body runs. -/

@[expose] public section

noncomputable section

namespace Cert.MoeIdeal.Hand

open Cert.MoeIdeal Cert.MoeIdeal.Gen
open Idealize.ShloMosaic Idealize.ShloMosaic.TcCoe Idealize.ShloMosaic.Tactic

/-- A signed comparison of two small numbers is the numbers'. -/
theorem slt_small {a b : ℕ} (ha : a < 1000) (hb : b < 1000) : (BitVec.ofNat 32 a).slt (BitVec.ofNat 32 b) = decide (a < b) := by
  have e : ∀ n, n < 1000 → (BitVec.ofNat 32 n).toInt = n := fun n hn => by
    rw [BitVec.toInt_eq_toNat_of_lt (by rw [BitVec.toNat_ofNat]; omega), BitVec.toNat_ofNat]; norm_cast; omega
  rw [BitVec.slt, e a ha, e b hb]
  exact decide_eq_decide.mpr (by omega)

/-- A condition word is one exactly when its comparison holds. -/
theorem flag (b : Bool) : (Scalar.cmpi .ne (Scalar.extui (BitVec.ofBool b) : BitVec 32) 0#32) = 1#1 ↔ b = true := by
  cases b <;> decide

/-- The first tile's gather runs at the first point. -/
theorem cond1_iff (i : grid0.Coords) : k0_cond1 i = 1#1 ↔ (i 0).val = 0 := by
  have h : ∀ i : grid0.Coords, k0_cond1 i = 1#1 ↔ (i 0).val = 0 := by decide +kernel
  exact h i
/-- The next tile's gather runs when the next tile is live. -/
theorem cond2_iff (i : grid0.Coords) (n : ℕ) (hn : n ≤ 208) : k0_cond2 i (BitVec.ofNat 32 n) = 1#1 ↔ (i 0).val + 1 < n := by
  have hi : (i 0).val < 208 := (i 0).isLt
  refine (flag ((BitVec.ofNat 32 (i 0).val + 1#32).slt (BitVec.ofNat 32 n))).trans ?_
  rw [show BitVec.ofNat 32 (i 0).val + 1#32 = BitVec.ofNat 32 ((i 0).val + 1) from (BitVec.ofNat_add ..).symm, slt_small (by omega) (by omega)]
  exact decide_eq_true_iff
/-- The arithmetic runs when the tile is live. -/
theorem cond4_iff (i : grid0.Coords) (n : ℕ) (hn : n ≤ 208) : k0_cond4 i (BitVec.ofNat 32 n) = 1#1 ↔ (i 0).val < n := by
  have hi : (i 0).val < 208 := (i 0).isLt
  refine (flag ((BitVec.ofNat 32 (i 0).val).slt (BitVec.ofNat 32 n))).trans ?_
  rw [slt_small (by omega) (by omega)]
  exact decide_eq_true_iff
/-- Zeros are stored when the tile is dead. -/
theorem cond3_iff (i : grid0.Coords) (n : ℕ) (hn : n ≤ 208) : k0_cond3 i (BitVec.ofNat 32 n) = 1#1 ↔ n ≤ (i 0).val := by
  have hi : (i 0).val < 208 := (i 0).isLt
  refine (flag ((BitVec.ofNat 32 n).sle (BitVec.ofNat 32 (i 0).val))).trans ?_
  have e : ∀ n, n < 1000 → (BitVec.ofNat 32 n).toInt = n := fun n hn => by
    rw [BitVec.toInt_eq_toNat_of_lt (by rw [BitVec.toNat_ofNat]; omega), BitVec.toNat_ofNat]; norm_cast; omega
  rw [BitVec.sle, e n (by omega), e _ (by omega), decide_eq_true_iff]
  omega

end Cert.MoeIdeal.Hand
end
end
-- ==== Proof.Moe.Split.lean ====
module

public import proofs.«01_k».proof.Proof.Moe.Live
public import proofs.«01_k».proof.Proof.Moe.Conds

/-! The body, as its phases in order. -/

@[expose] public section

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The body's last phase: a live tile's arithmetic and stores. -/
def phase4At (i : grid0.Coords) (arg1 : Memref sig .tc .smem S208 .i32) (harg1 : arg1.IsWhole) (arg2 : Memref sig .tc .smem S1 .i32) (harg2 : arg2.IsWhole) (arg3 : Memref sig .tc .smem S1x1x256 .i32) (harg3 : arg3.IsWhole) (arg4 : Memref sig .tc .smem S1x1x256 .i32) (harg4 : arg4.IsWhole) (arg5 : Memref sig .tc .hbm S24576x4096 .f32) (harg5 : arg5.IsWhole) (arg6 : Memref sig .tc .vmem S1x4096 .f32) (harg6 : arg6.IsWhole) (arg7 : Memref sig .tc .vmem S1x4096x1024 .bf16) (harg7 : arg7.IsWhole) (arg8 : Memref sig .tc .vmem S1x4096x1024 .bf16) (harg8 : arg8.IsWhole) (arg9 : Memref sig .tc .vmem S1x1024x4096 .bf16) (harg9 : arg9.IsWhole) (arg10 : Memref sig .tc .vmem S256x4096 .bf16) (harg10 : arg10.IsWhole) (arg11 : Memref sig .tc .vmem S2x256x4096 .f32) (harg11 : arg11.IsWhole) (arg12 : DmaSems sig S2) (v0 : Elt F .i32) (v10 : BitVec 32) :
    Prog (TpuEff nD τ sig (Elt F) Λ₀ .tc) PUnit :=
  if k0_h4 : k0_cond4 i v0 = 1#1 then do
    let v58 : FVec F S256x1024 .bf16 ← k0_part1 i arg1 harg1 arg2 harg2 arg3 harg3 arg4 harg4 arg5 harg5 arg6 harg6 arg7 harg7 arg8 harg8 arg9 harg9 arg10 harg10 arg11 harg11 arg12 v10
    let v59 : Vec F S1x1024x1024 .bf16 ← Prog.lift (.load arg9 (Rect.unit (s := S1x1024x4096) ![0, 0, 0] S1x1024x1024.size inb_S1x1024x4096_S1x1024x1024_0_0_0).toLoadRect (View.loadsAt_vmem h_S1x1024x1024))
    let v62 : Vec F S1x1024x1024 .bf16 ← Prog.lift (.load arg9 (Rect.unit (s := S1x1024x4096) ![0, 0, 2048] S1x1024x1024.size inb_S1x1024x4096_S1x1024x1024_0_0_2048).toLoadRect (View.loadsAt_vmem h_S1x1024x1024))
    let v66 : Vec F S256x1024 .bf16 ← Prog.lift (.load arg10 (Rect.unit (s := S256x4096) ![0, 0] S256x1024.size inb_S256x4096_S256x1024_0_0).toLoadRect (View.loadsAt_vmem h_S256x1024))
    Prog.lift (.store arg10 (Rect.unit (s := S256x4096) ![0, 0] S256x1024.size inb_S256x4096_S256x1024_0_0) (k0_pay2 v58 v59) Finset.univ (View.stores_vmem h_S256x1024 (harg10.storeExact_slice rfl _ packedbf16_S256x4096_S256x1024_0_0) (fun _ => rfl)) (.inl rfl))
    let v68 : Vec F S256x1024 .bf16 ← Prog.lift (.load arg10 (Rect.unit (s := S256x4096) ![0, 2048] S256x1024.size inb_S256x4096_S256x1024_0_2048).toLoadRect (View.loadsAt_vmem h_S256x1024))
    Prog.lift (.store arg10 (Rect.unit (s := S256x4096) ![0, 2048] S256x1024.size inb_S256x4096_S256x1024_0_2048) (k0_pay3 v58 v62) Finset.univ (View.stores_vmem h_S256x1024 (harg10.storeExact_slice rfl _ packedbf16_S256x4096_S256x1024_0_2048) (fun _ => rfl)) (.inl rfl))
    let v69 : Vec F S1x1024x1024 .bf16 ← Prog.lift (.load arg9 (Rect.unit (s := S1x1024x4096) ![0, 0, 1024] S1x1024x1024.size inb_S1x1024x4096_S1x1024x1024_0_0_1024).toLoadRect (View.loadsAt_vmem h_S1x1024x1024))
    let v72 : Vec F S1x1024x1024 .bf16 ← Prog.lift (.load arg9 (Rect.unit (s := S1x1024x4096) ![0, 0, 3072] S1x1024x1024.size inb_S1x1024x4096_S1x1024x1024_0_0_3072).toLoadRect (View.loadsAt_vmem h_S1x1024x1024))
    let v76 : Vec F S256x1024 .bf16 ← Prog.lift (.load arg10 (Rect.unit (s := S256x4096) ![0, 1024] S256x1024.size inb_S256x4096_S256x1024_0_1024).toLoadRect (View.loadsAt_vmem h_S256x1024))
    Prog.lift (.store arg10 (Rect.unit (s := S256x4096) ![0, 1024] S256x1024.size inb_S256x4096_S256x1024_0_1024) (k0_pay4 v58 v69) Finset.univ (View.stores_vmem h_S256x1024 (harg10.storeExact_slice rfl _ packedbf16_S256x4096_S256x1024_0_1024) (fun _ => rfl)) (.inl rfl))
    let v78 : Vec F S256x1024 .bf16 ← Prog.lift (.load arg10 (Rect.unit (s := S256x4096) ![0, 3072] S256x1024.size inb_S256x4096_S256x1024_0_3072).toLoadRect (View.loadsAt_vmem h_S256x1024))
    Prog.lift (.store arg10 (Rect.unit (s := S256x4096) ![0, 3072] S256x1024.size inb_S256x4096_S256x1024_0_3072) (k0_pay5 v58 v72) Finset.univ (View.stores_vmem h_S256x1024 (harg10.storeExact_slice rfl _ packedbf16_S256x4096_S256x1024_0_3072) (fun _ => rfl)) (.inl rfl))
    pure ⟨⟩
  else do
    pure ⟨⟩

/-- The body from its third phase: a dead tile's zeros. -/
def phase3At (i : grid0.Coords) (arg1 : Memref sig .tc .smem S208 .i32) (harg1 : arg1.IsWhole) (arg2 : Memref sig .tc .smem S1 .i32) (harg2 : arg2.IsWhole) (arg3 : Memref sig .tc .smem S1x1x256 .i32) (harg3 : arg3.IsWhole) (arg4 : Memref sig .tc .smem S1x1x256 .i32) (harg4 : arg4.IsWhole) (arg5 : Memref sig .tc .hbm S24576x4096 .f32) (harg5 : arg5.IsWhole) (arg6 : Memref sig .tc .vmem S1x4096 .f32) (harg6 : arg6.IsWhole) (arg7 : Memref sig .tc .vmem S1x4096x1024 .bf16) (harg7 : arg7.IsWhole) (arg8 : Memref sig .tc .vmem S1x4096x1024 .bf16) (harg8 : arg8.IsWhole) (arg9 : Memref sig .tc .vmem S1x1024x4096 .bf16) (harg9 : arg9.IsWhole) (arg10 : Memref sig .tc .vmem S256x4096 .bf16) (harg10 : arg10.IsWhole) (arg11 : Memref sig .tc .vmem S2x256x4096 .f32) (harg11 : arg11.IsWhole) (arg12 : DmaSems sig S2) (v0 : Elt F .i32) (v10 : BitVec 32) :
    Prog (TpuEff nD τ sig (Elt F) Λ₀ .tc) PUnit :=
  if k0_h3 : k0_cond3 i v0 = 1#1 then do
    let v25 : Vec F S256x4096 .bf16 ← Prog.lift (.load arg10 (Rect.unit (s := S256x4096) ![0, 0] S256x4096.size inb_S256x4096_S256x4096_0_0).toLoadRect (View.loadsAt_vmem h_S256x4096))
    Prog.lift (.store arg10 (Rect.unit (s := S256x4096) ![0, 0] S256x4096.size inb_S256x4096_S256x4096_0_0) (k0_pay1 (F := F)) Finset.univ (View.stores_vmem h_S256x4096 (harg10.storeExact_slice rfl _ packedbf16_S256x4096_S256x4096_0_0) (fun _ => rfl)) (.inl rfl))
    phase4At i arg1 harg1 arg2 harg2 arg3 harg3 arg4 harg4 arg5 harg5 arg6 harg6 arg7 harg7 arg8 harg8 arg9 harg9 arg10 harg10 arg11 harg11 arg12 v0 v10
  else do
    phase4At i arg1 harg1 arg2 harg2 arg3 harg3 arg4 harg4 arg5 harg5 arg6 harg6 arg7 harg7 arg8 harg8 arg9 harg9 arg10 harg10 arg11 harg11 arg12 v0 v10

/-- The body from its second phase: the next tile's rows. -/
def phase2At (i : grid0.Coords) (arg1 : Memref sig .tc .smem S208 .i32) (harg1 : arg1.IsWhole) (arg2 : Memref sig .tc .smem S1 .i32) (harg2 : arg2.IsWhole) (arg3 : Memref sig .tc .smem S1x1x256 .i32) (harg3 : arg3.IsWhole) (arg4 : Memref sig .tc .smem S1x1x256 .i32) (harg4 : arg4.IsWhole) (arg5 : Memref sig .tc .hbm S24576x4096 .f32) (harg5 : arg5.IsWhole) (arg6 : Memref sig .tc .vmem S1x4096 .f32) (harg6 : arg6.IsWhole) (arg7 : Memref sig .tc .vmem S1x4096x1024 .bf16) (harg7 : arg7.IsWhole) (arg8 : Memref sig .tc .vmem S1x4096x1024 .bf16) (harg8 : arg8.IsWhole) (arg9 : Memref sig .tc .vmem S1x1024x4096 .bf16) (harg9 : arg9.IsWhole) (arg10 : Memref sig .tc .vmem S256x4096 .bf16) (harg10 : arg10.IsWhole) (arg11 : Memref sig .tc .vmem S2x256x4096 .f32) (harg11 : arg11.IsWhole) (arg12 : DmaSems sig S2) (v0 : Elt F .i32) (v10 : BitVec 32) :
    Prog (TpuEff nD τ sig (Elt F) Λ₀ .tc) PUnit :=
  if k0_h2 : k0_cond2 i v0 = 1#1 then do
    Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 v0 k0_h2)
    phase3At i arg1 harg1 arg2 harg2 arg3 harg3 arg4 harg4 arg5 harg5 arg6 harg6 arg7 harg7 arg8 harg8 arg9 harg9 arg10 harg10 arg11 harg11 arg12 v0 v10
  else do
    phase3At i arg1 harg1 arg2 harg2 arg3 harg3 arg4 harg4 arg5 harg5 arg6 harg6 arg7 harg7 arg8 harg8 arg9 harg9 arg10 harg10 arg11 harg11 arg12 v0 v10

/-- The body after its first word is read: the first tile's rows, at the first point. -/
def phase1At (i : grid0.Coords) (arg1 : Memref sig .tc .smem S208 .i32) (harg1 : arg1.IsWhole) (arg2 : Memref sig .tc .smem S1 .i32) (harg2 : arg2.IsWhole) (arg3 : Memref sig .tc .smem S1x1x256 .i32) (harg3 : arg3.IsWhole) (arg4 : Memref sig .tc .smem S1x1x256 .i32) (harg4 : arg4.IsWhole) (arg5 : Memref sig .tc .hbm S24576x4096 .f32) (harg5 : arg5.IsWhole) (arg6 : Memref sig .tc .vmem S1x4096 .f32) (harg6 : arg6.IsWhole) (arg7 : Memref sig .tc .vmem S1x4096x1024 .bf16) (harg7 : arg7.IsWhole) (arg8 : Memref sig .tc .vmem S1x4096x1024 .bf16) (harg8 : arg8.IsWhole) (arg9 : Memref sig .tc .vmem S1x1024x4096 .bf16) (harg9 : arg9.IsWhole) (arg10 : Memref sig .tc .vmem S256x4096 .bf16) (harg10 : arg10.IsWhole) (arg11 : Memref sig .tc .vmem S2x256x4096 .f32) (harg11 : arg11.IsWhole) (arg12 : DmaSems sig S2) (v0 : Elt F .i32) (v10 : BitVec 32) :
    Prog (TpuEff nD τ sig (Elt F) Λ₀ .tc) PUnit :=
  if k0_h1 : k0_cond1 i = 1#1 then do
    Scf.Loop.for k0_t1_loop (k0_t1_ok i k0_h1) ⟨⟩ (k0_t1_body i arg1 harg1 arg2 harg2 arg3 harg3 arg4 harg4 arg5 harg5 arg6 harg6 arg7 harg7 arg8 harg8 arg9 harg9 arg10 harg10 arg11 harg11 arg12 k0_h1)
    phase2At i arg1 harg1 arg2 harg2 arg3 harg3 arg4 harg4 arg5 harg5 arg6 harg6 arg7 harg7 arg8 harg8 arg9 harg9 arg10 harg10 arg11 harg11 arg12 v0 v10
  else do
    phase2At i arg1 harg1 arg2 harg2 arg3 harg3 arg4 harg4 arg5 harg5 arg6 harg6 arg7 harg7 arg8 harg8 arg9 harg9 arg10 harg10 arg11 harg11 arg12 v0 v10

/-- The body, by its phases. -/
def bodyAt (i : grid0.Coords) (arg1 : Memref sig .tc .smem S208 .i32) (harg1 : arg1.IsWhole) (arg2 : Memref sig .tc .smem S1 .i32) (harg2 : arg2.IsWhole) (arg3 : Memref sig .tc .smem S1x1x256 .i32) (harg3 : arg3.IsWhole) (arg4 : Memref sig .tc .smem S1x1x256 .i32) (harg4 : arg4.IsWhole) (arg5 : Memref sig .tc .hbm S24576x4096 .f32) (harg5 : arg5.IsWhole) (arg6 : Memref sig .tc .vmem S1x4096 .f32) (harg6 : arg6.IsWhole) (arg7 : Memref sig .tc .vmem S1x4096x1024 .bf16) (harg7 : arg7.IsWhole) (arg8 : Memref sig .tc .vmem S1x4096x1024 .bf16) (harg8 : arg8.IsWhole) (arg9 : Memref sig .tc .vmem S1x1024x4096 .bf16) (harg9 : arg9.IsWhole) (arg10 : Memref sig .tc .vmem S256x4096 .bf16) (harg10 : arg10.IsWhole) (arg11 : Memref sig .tc .vmem S2x256x4096 .f32) (harg11 : arg11.IsWhole) (arg12 : DmaSems sig S2) :
    Prog (TpuEff nD τ sig (Elt F) Λ₀ .tc) PUnit := do
  let arg0 : BitVec 32 := BitVec.ofNat 32 (i 0).val
  let v0 : Elt F .i32 ← smemLoad arg2 (Rect.unit (s := S1) ![0] S1.size inb_S1_S1_0) numel1_S1 rfl
  let v1 : BitVec 1 := Scalar.cmpi .eq 2#32 0#32
  let v2 : BitVec 32 := Scalar.select v1 1#32 2#32
  let v3 : BitVec 32 := Scalar.remsi arg0 v2
  let v4 : BitVec 1 := Scalar.cmpi .ne v3 0#32
  let v5 : BitVec 1 := Scalar.cmpi .slt v3 0#32
  let v6 : BitVec 1 := Scalar.cmpi .slt v2 0#32
  let v7 : BitVec 1 := Scalar.xori v5 v6
  let v8 : BitVec 1 := Scalar.andi v7 v4
  let v9 : BitVec 32 := Scalar.addi v3 v2
  let v10 : BitVec 32 := Scalar.select v8 v9 v3
  phase1At i arg1 harg1 arg2 harg2 arg3 harg3 arg4 harg4 arg5 harg5 arg6 harg6 arg7 harg7 arg8 harg8 arg9 harg9 arg10 harg10 arg11 harg11 arg12 v0 v10

/-- The body is its phases in turn. -/
theorem body_eq : cc0_moe_experts (F := F) = bodyAt (F := F) := cc0_moe_experts_eq_skeleton.trans rfl

end Cert.MoeIdeal.Hand
end
end
-- ==== Proof.Moe.Body.lean ====
module

public import proofs.«01_k».proof.Proof.Moe.Split

/-! The body at a grid point: what it stores and how it leaves the slots. -/

@[expose] public section

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (c : Dev nD)

/-- A block of columns of the down projection. -/
def downAt (d9 : S1x1024x4096.Idx → Elt F .bf16) (o : Fin 3 → ℕ) (hb : ∀ a, o a + S1x1024x1024.size a ≤ S1x1024x4096.size a) : S1x1024x1024.Idx → Elt F .bf16 :=
  fun y => d9 ((Rect.unit (s := S1x1024x4096) o S1x1024x1024.size hb).emb y)

/-- The four stores of a live tile, the last first. -/
def livePieces (v : FVec F S256x1024 .bf16) (d9 : S1x1024x4096.Idx → Elt F .bf16) : List (View.Piece (Elt F) S256x4096 .bf16) :=
  [⟨Rect.unit (s := S256x4096) ![0, 3072] S256x1024.size inb_S256x4096_S256x1024_0_3072, k0_pay5 v (downAt d9 ![0, 0, 3072] inb_S1x1024x4096_S1x1024x1024_0_0_3072)⟩,
   ⟨Rect.unit (s := S256x4096) ![0, 1024] S256x1024.size inb_S256x4096_S256x1024_0_1024, k0_pay4 v (downAt d9 ![0, 0, 1024] inb_S1x1024x4096_S1x1024x1024_0_0_1024)⟩,
   ⟨Rect.unit (s := S256x4096) ![0, 2048] S256x1024.size inb_S256x4096_S256x1024_0_2048, k0_pay3 v (downAt d9 ![0, 0, 2048] inb_S1x1024x4096_S1x1024x1024_0_0_2048)⟩,
   ⟨Rect.unit (s := S256x4096) ![0, 0] S256x1024.size inb_S256x4096_S256x1024_0_0, k0_pay2 v (downAt d9 ![0, 0, 0] inb_S1x1024x4096_S1x1024x1024_0_0_0)⟩]

/-- The four stores cover the tile. -/
theorem livePieces_cover (v : FVec F S256x1024 .bf16) (d9 : S1x1024x4096.Idx → Elt F .bf16) (y : S256x4096.Idx) : ∃ p ∈ livePieces v d9, y ∈ p.1.set :=
  View.cover_of_tiledL (livePieces v d9) S256x1024.size (by sl_kernel_rfl) y

/-- The output's buffer, through which its contents are stated. -/
abbrev VO : View sig .tc .vmem S256x4096 .bf16 := (Memref.whole cc0_stg6_0 : Memref sig .tc .vmem S256x4096 .bf16).view

/-- What a live tile stores. -/
def live (v : FVec F S256x1024 .bf16) (d9 : S1x1024x4096.Idx → Elt F .bf16) : S256x4096.Idx → Elt F .bf16 :=
  VO.read (Elt F) (VO.writes (Elt F) VO.junk (livePieces v d9))

/-- The one store of a dead tile. -/
def zeroPieces : List (View.Piece (Elt F) S256x4096 .bf16) :=
  [⟨Rect.unit (s := S256x4096) ![0, 0] S256x4096.size inb_S256x4096_S256x4096_0_0, k0_pay1 (F := F)⟩]

/-- The one store of zeros covers the tile. -/
theorem zeroPieces_cover (y : S256x4096.Idx) : ∃ p ∈ zeroPieces (F := F), y ∈ p.1.set :=
  View.cover_of_tiledL (zeroPieces (F := F)) S256x4096.size (by sl_kernel_rfl) y

/-- What a dead tile stores. -/
def zeros : S256x4096.Idx → Elt F .bf16 :=
  VO.read (Elt F) (VO.writes (Elt F) VO.junk zeroPieces)

/-- The slots before tile `t`'s point, `n` tiles being live. -/
def Slots (X : S24576x4096.Idx → Elt F .f32) (tabs : ℕ → Fin 256 → BitVec 32) (n t : ℕ) : sProp (MT nD τ sig Unit (Elt F) ℕ (Pipeline.UD sig nD τ) ℕ) :=
  if 0 < t ∧ t < n then iprop(Flying c X (tabs t) (Fin.ofNat 2 t) ∗ Idle c X (Fin.ofNat 2 (t + 1))) else iprop(Idle c X 0 ∗ Idle c X 1)
/-- The slots once tile `t`'s rows are in flight. -/
def Slots1 (X : S24576x4096.Idx → Elt F .f32) (tabs : ℕ → Fin 256 → BitVec 32) (n t : ℕ) : sProp (MT nD τ sig Unit (Elt F) ℕ (Pipeline.UD sig nD τ) ℕ) :=
  if t < n then iprop(Flying c X (tabs t) (Fin.ofNat 2 t) ∗ Idle c X (Fin.ofNat 2 (t + 1))) else iprop(Idle c X 0 ∗ Idle c X 1)
/-- The slots once the next tile's rows are in flight too. -/
def Slots2 (X : S24576x4096.Idx → Elt F .f32) (tabs : ℕ → Fin 256 → BitVec 32) (n t : ℕ) : sProp (MT nD τ sig Unit (Elt F) ℕ (Pipeline.UD sig nD τ) ℕ) :=
  if t < n then iprop(Flying c X (tabs t) (Fin.ofNat 2 t) ∗ (if t + 1 < n then Flying c X (tabs (t + 1)) (Fin.ofNat 2 (t + 1)) else Idle c X (Fin.ofNat 2 (t + 1))))
  else iprop(Idle c X 0 ∗ Idle c X 1)

/-- The tables staged for the body. -/
def Tabs (a3 a4 : Memref sig .tc .smem S1x1x256 .i32) (d3 d4 : S1x1x256.Idx → Elt F .i32) : sProp (MT nD τ sig Unit (Elt F) ℕ (Pipeline.UD sig nD τ) ℕ) :=
  iprop(owns (c : Thread nD τ) a3 fullShare d3 ∗ owns (c : Thread nD τ) a4 fullShare d4)

/-- Two idle slots, in either order. -/
theorem idle_two (X : S24576x4096.Idx → Elt F .f32) (t : ℕ) :
    (iprop(Idle c X (Fin.ofNat 2 t) ∗ Idle c X (Fin.ofNat 2 (t + 1))) : sProp (MT nD τ sig Unit (Elt F) ℕ (Pipeline.UD sig nD τ) ℕ)) ⊢ iprop(Idle c X 0 ∗ Idle c X 1) := by
  rcases Nat.mod_two_eq_zero_or_one t with h | h
  · rw [show Fin.ofNat 2 t = 0 from Fin.ext h, show Fin.ofNat 2 (t + 1) = 1 from Fin.ext (show (t + 1) % 2 = 1 by omega)]
  · rw [show Fin.ofNat 2 t = 1 from Fin.ext h, show Fin.ofNat 2 (t + 1) = 0 from Fin.ext (show (t + 1) % 2 = 0 by omega)]
    iintro ⟨H1, H0⟩
    isplitl [H0]; · iexact H0
    iexact H1

/-- After a live tile the two slots are as the next tile finds them. -/
theorem slots_end (X : S24576x4096.Idx → Elt F .f32) (tabs : ℕ → Fin 256 → BitVec 32) (n t : ℕ) (h : t < n) :
    (iprop(Idle c X (Fin.ofNat 2 t) ∗ (if t + 1 < n then Flying c X (tabs (t + 1)) (Fin.ofNat 2 (t + 1)) else Idle c X (Fin.ofNat 2 (t + 1)))) : sProp (MT nD τ sig Unit (Elt F) ℕ (Pipeline.UD sig nD τ) ℕ)) ⊢ Slots c X tabs n (t + 1) := by
  unfold Slots
  by_cases h1 : t + 1 < n
  · rw [if_pos h1, if_pos ⟨Nat.succ_pos t, h1⟩, show Fin.ofNat 2 (t + 1 + 1) = Fin.ofNat 2 t from Fin.ext (show (t + 1 + 1) % 2 = t % 2 by omega)]
    iintro ⟨H0, H1⟩
    isplitl [H1]; · iexact H1
    iexact H0
  · rw [if_neg h1, if_neg (fun h' => h1 h'.2)]
    exact idle_two c X t

/-- From the second tile on, the first tile's gather changes nothing. -/
theorem slots1_of (X : S24576x4096.Idx → Elt F .f32) (tabs : ℕ → Fin 256 → BitVec 32) (n t : ℕ) (h : t ≠ 0) :
    (Slots c X tabs n t : sProp (MT nD τ sig Unit (Elt F) ℕ (Pipeline.UD sig nD τ) ℕ)) ⊢ Slots1 c X tabs n t := by
  unfold Slots Slots1
  by_cases h1 : t < n
  · rw [if_pos ⟨Nat.pos_of_ne_zero h, h1⟩, if_pos h1]
  · rw [if_neg (fun h' => h1 h'.2), if_neg h1]

/-- When no live tile follows, nothing is sent for. -/
theorem slots2_of (X : S24576x4096.Idx → Elt F .f32) (tabs : ℕ → Fin 256 → BitVec 32) (n t : ℕ) (h : ¬ t + 1 < n) :
    (Slots1 c X tabs n t : sProp (MT nD τ sig Unit (Elt F) ℕ (Pipeline.UD sig nD τ) ℕ)) ⊢ Slots2 c X tabs n t := by
  unfold Slots1 Slots2
  rw [if_neg h]

/-- The first phase: at the first point its own tile's rows are sent for. -/
theorem phase1 (X : S24576x4096.Idx → Elt F .f32) (tabs : ℕ → Fin 256 → BitVec 32) (n : ℕ) (hn : 1 ≤ n) (i : grid0.Coords) (a1) (h1) (a2) (h2) (a3 : Memref sig .tc .smem S1x1x256 .i32) (h3 : a3.IsWhole) (a4 : Memref sig .tc .smem S1x1x256 .i32) (h4) (a6) (h6) (a7) (h7) (a8) (h8) (a9) (h9) (a10) (h10)
    (d3 d4) (e3 : words d3 = tabs (i 0).val) (htab : ∀ r, (words d3 r).toNat < 24576) (hw : k0_cond1 i = 1#1) :
    (iprop(Slots c X tabs n (i 0).val ∗ Tabs c a3 a4 d3 d4) : sProp (MT nD τ sig Unit (Elt F) ℕ (Pipeline.UD sig nD τ) ℕ))
      ⊢ wp frame (wpE (defs₀ (F := F)) Variants.none (c : Thread nD τ) none) Set.univ
        (Scf.Loop.for k0_t1_loop (k0_t1_ok i hw) ⟨⟩ (k0_t1_body (F := F) i a1 h1 a2 h2 a3 h3 a4 h4 xM (Memref.isWhole_whole _) a6 h6 a7 h7 a8 h8 a9 h9 a10 h10 scM (Memref.isWhole_whole _) cc0_scratch1 hw))
        (fun _ => iprop(Slots1 c X tabs n (i 0).val ∗ Tabs c a3 a4 d3 d4)) := by
  have h0 : (i 0).val = 0 := (cond1_iff i).mp hw
  unfold Slots Slots1 Tabs owns
  rw [← e3, h0, if_neg (fun h => absurd h.1 (lt_irrefl 0)), if_pos (by omega)]
  iintro ⟨⟨HI, HI'⟩, ⟨%f3, %q3, H3⟩, H4⟩
  subst q3
  iapply (wp_wand_r _ _ _)
  isplitl [HI H3]
  · iapply (gather1 c X i a1 h1 a2 h2 a3 h3 a4 h4 a6 h6 a7 h7 a8 h8 a9 h9 a10 h10 f3 hw htab)
    isplitl [HI]; · iexact HI
    iexact H3
  iintro %acc ⟨HF, H3⟩
  isplitl [HF HI']
  · isplitl [HF]; · iexact HF
    iexact HI'
  isplitl [H3]
  · iexists f3; isplitr; · ipureintro; rfl
    iexact H3
  iexact H4

/-- The second phase: the next live tile's rows are sent for. -/
theorem phase2 (X : S24576x4096.Idx → Elt F .f32) (tabs : ℕ → Fin 256 → BitVec 32) (n : ℕ) (hn : n ≤ 208) (i : grid0.Coords) (a1) (h1) (a2) (h2) (a3 : Memref sig .tc .smem S1x1x256 .i32) (h3 : a3.IsWhole) (a4 : Memref sig .tc .smem S1x1x256 .i32) (h4) (a6) (h6) (a7) (h7) (a8) (h8) (a9) (h9) (a10) (h10)
    (d3 d4) (e4 : (i 0).val + 1 < n → words d4 = tabs ((i 0).val + 1)) (htab : ∀ r, (words d4 r).toNat < 24576) (hw : k0_cond2 i (BitVec.ofNat 32 n) = 1#1) :
    (iprop(Slots1 c X tabs n (i 0).val ∗ Tabs c a3 a4 d3 d4) : sProp (MT nD τ sig Unit (Elt F) ℕ (Pipeline.UD sig nD τ) ℕ))
      ⊢ wp frame (wpE (defs₀ (F := F)) Variants.none (c : Thread nD τ) none) Set.univ
        (Scf.Loop.for k0_t2_loop k0_t2_ok ⟨⟩ (k0_t2_body (F := F) i a1 h1 a2 h2 a3 h3 a4 h4 xM (Memref.isWhole_whole _) a6 h6 a7 h7 a8 h8 a9 h9 a10 h10 scM (Memref.isWhole_whole _) cc0_scratch1 (BitVec.ofNat 32 n) hw))
        (fun _ => iprop(Slots2 c X tabs n (i 0).val ∗ Tabs c a3 a4 d3 d4)) := by
  have hlt : (i 0).val + 1 < n := (cond2_iff i n hn).mp hw
  unfold Slots1 Slots2 Tabs owns
  rw [← e4 hlt, if_pos (by omega), if_pos (by omega), if_pos hlt]
  iintro ⟨⟨HF, HI⟩, H3, ⟨%f4, %q4, H4⟩⟩
  subst q4
  iapply (wp_wand_r _ _ _)
  isplitl [HI H4]
  · iapply (gather2 c X i a1 h1 a2 h2 a3 h3 a4 h4 a6 h6 a7 h7 a8 h8 a9 h9 a10 h10 f4 _ hw (Fin.ofNat 2 ((i 0).val + 1)) (show ((i 0).val + 1) % 2 = 1 - (i 0).val % 2 by omega) htab)
    isplitl [HI]; · iexact HI
    iexact H4
  iintro %acc ⟨HG, H4⟩
  isplitl [HF HG]
  · isplitl [HF]; · iexact HF
    iexact HG
  isplitl [H3]; · iexact H3
  iexists f4; isplitr; · ipureintro; rfl
  iexact H4

/-- What a tile's point leaves in the output's buffer. -/
def tileOut (X : S24576x4096.Idx → Elt F .f32) (tab : Fin 256 → BitVec 32) (n t : ℕ) (d6 : S1x4096.Idx → Elt F .f32) (d7 d8 : S1x4096x1024.Idx → Elt F .bf16) (d9 : S1x1024x4096.Idx → Elt F .bf16) : S256x4096.Idx → Elt F .bf16 :=
  if t < n then live (k0_pay6 (rowsOf X tab) d6 d7 d8) d9 else zeros

/-- The last phase of a live tile: the rows are collected, the arithmetic done, the output stored. -/
theorem live_run (X : S24576x4096.Idx → Elt F .f32) (tab : Fin 256 → BitVec 32) (i : grid0.Coords) (a1) (h1) (a3 : Memref sig .tc .smem S1x1x256 .i32) (h3 : a3.IsWhole) (a4 : Memref sig .tc .smem S1x1x256 .i32) (h4 : a4.IsWhole)
    (a6 : Memref sig .tc .vmem S1x4096 .f32) (h6 : a6.IsWhole) (a7 : Memref sig .tc .vmem S1x4096x1024 .bf16) (h7 : a7.IsWhole) (a8 : Memref sig .tc .vmem S1x4096x1024 .bf16) (h8 : a8.IsWhole) (a9 : Memref sig .tc .vmem S1x1024x4096 .bf16) (h9 : a9.IsWhole) (a10 : Memref sig .tc .vmem S256x4096 .bf16) (h10 : a10.IsWhole) (s : Fin 2) (hs : (s.val : ℕ) = (i 0).val % 2)
    (d6 : S1x4096.Idx → Elt F .f32) (d7 d8 : S1x4096x1024.Idx → Elt F .bf16) (d9 : S1x1024x4096.Idx → Elt F .bf16) (d10 : S256x4096.Idx → Elt F .bf16) (v0 : Elt F .i32) (v10 : BitVec 32) (hc : k0_cond4 i v0 = 1#1) :
    (iprop((∃ W, owes (c : Thread nD τ) 0 W) ∗ Flying c X tab s ∗ owns (c : Thread nD τ) a6 fullShare d6 ∗ owns (c : Thread nD τ) a7 fullShare d7 ∗ owns (c : Thread nD τ) a8 fullShare d8 ∗ owns (c : Thread nD τ) a9 fullShare d9 ∗ owns (c : Thread nD τ) a10 fullShare d10) : sProp (MT nD τ sig Unit (Elt F) ℕ (Pipeline.UD sig nD τ) ℕ))
      ⊢ wp frame (wpE (defs₀ (F := F)) Variants.none (c : Thread nD τ) none) Set.univ
        (phase4At (F := F) i a1 h1 (Memref.whole main_arg3) (Memref.isWhole_whole _) a3 h3 a4 h4 xM (Memref.isWhole_whole _) a6 h6 a7 h7 a8 h8 a9 h9 a10 h10 scM (Memref.isWhole_whole _) cc0_scratch1 v0 v10)
        (fun _ => iprop((∃ W, owes (c : Thread nD τ) 0 W) ∗ Idle c X s ∗ owns (c : Thread nD τ) a6 fullShare d6 ∗ owns (c : Thread nD τ) a7 fullShare d7 ∗ owns (c : Thread nD τ) a8 fullShare d8 ∗ owns (c : Thread nD τ) a9 fullShare d9 ∗ owns (c : Thread nD τ) a10 fullShare (live (k0_pay6 (rowsOf X tab) d6 d7 d8) d9))) := by
  unfold phase4At
  rw [dif_pos hc, wp_bind]
  iintro ⟨HW, HF, H6, H7, H8, H9, H10⟩
  iapply (wp_wand_r _ _ _)
  isplitl [HW HF H6 H7 H8]
  · iapply (part1_run c X tab i s hs a1 h1 (Memref.whole main_arg3) (Memref.isWhole_whole _) a3 h3 a4 h4 a6 h6 a7 h7 a8 h8 a9 h9 a10 h10 v10 d6 d7 d8)
    isplitl [HW]; · iexact HW
    isplitl [HF]; · iexact HF
    isplitl [H6]; · iexact H6
    isplitl [H7]; · iexact H7
    iexact H8
  iintro %v ⟨%ev, HW, HI, H6, H7, H8⟩
  subst ev
  unfold owns
  icases H9 with ⟨%f9, %e9, H9⟩
  icases H10 with ⟨%f10, %e10, H10⟩
  subst e9 e10
  sl_exec
  sl_step
  isplitl [HW]; · iexact HW
  isplitl [HI]; · iexact HI
  isplitl [H6]; · iexact H6
  isplitl [H7]; · iexact H7
  isplitl [H8]; · iexact H8
  isplitl [H9]
  · iexists f9; isplitr; · ipureintro; rfl
    iexact H9
  iexists _; isplitr; rotate_left; · iexact H10
  ipureintro
  exact View.read_writes_of_cover _ _ VO _ (livePieces (k0_pay6 (rowsOf X tab) d6 d7 d8) (a9.view.read (Elt F) f9)) (livePieces_cover _ _)

/-- A dead tile's last phases: zeros are stored. -/
theorem dead_run (i : grid0.Coords) (a1) (h1) (a3 : Memref sig .tc .smem S1x1x256 .i32) (h3 : a3.IsWhole) (a4 : Memref sig .tc .smem S1x1x256 .i32) (h4 : a4.IsWhole)
    (a6 : Memref sig .tc .vmem S1x4096 .f32) (h6 : a6.IsWhole) (a7 : Memref sig .tc .vmem S1x4096x1024 .bf16) (h7 : a7.IsWhole) (a8 : Memref sig .tc .vmem S1x4096x1024 .bf16) (h8 : a8.IsWhole) (a9 : Memref sig .tc .vmem S1x1024x4096 .bf16) (h9 : a9.IsWhole) (a10 : Memref sig .tc .vmem S256x4096 .bf16) (h10 : a10.IsWhole)
    (d10 : S256x4096.Idx → Elt F .bf16) (v0 : Elt F .i32) (v10 : BitVec 32) (hc3 : k0_cond3 i v0 = 1#1) (hc4 : ¬ k0_cond4 i v0 = 1#1) :
    (owns (c : Thread nD τ) a10 fullShare d10 : sProp (MT nD τ sig Unit (Elt F) ℕ (Pipeline.UD sig nD τ) ℕ))
      ⊢ wp frame (wpE (defs₀ (F := F)) Variants.none (c : Thread nD τ) none) Set.univ
        (phase3At (F := F) i a1 h1 (Memref.whole main_arg3) (Memref.isWhole_whole _) a3 h3 a4 h4 xM (Memref.isWhole_whole _) a6 h6 a7 h7 a8 h8 a9 h9 a10 h10 scM (Memref.isWhole_whole _) cc0_scratch1 v0 v10)
        (fun _ => owns (c : Thread nD τ) a10 fullShare zeros) := by
  unfold phase3At phase4At
  rw [dif_pos hc3, dif_neg hc4]
  unfold owns
  iintro ⟨%f10, %e10, H10⟩
  subst e10
  sl_exec
  sl_step
  iexists _; isplitr; rotate_left; · iexact H10
  ipureintro
  exact View.read_writes_of_cover _ _ VO _ zeroPieces zeroPieces_cover

/-- A dead tile leaves the slots idle. -/
theorem dead_end (X : S24576x4096.Idx → Elt F .f32) (tabs : ℕ → Fin 256 → BitVec 32) (n t : ℕ) (h : ¬ t < n) :
    (Slots2 c X tabs n t : sProp (MT nD τ sig Unit (Elt F) ℕ (Pipeline.UD sig nD τ) ℕ)) ⊢ Slots c X tabs n (t + 1) := by
  unfold Slots2 Slots
  rw [if_neg h, if_neg (fun h' => h (by omega))]

/-- The last two phases. -/
theorem phase3_run (X : S24576x4096.Idx → Elt F .f32) (tabs : ℕ → Fin 256 → BitVec 32) (n : ℕ) (hn : n ≤ 208) (i : grid0.Coords) (a1) (h1) (a3 : Memref sig .tc .smem S1x1x256 .i32) (h3 : a3.IsWhole) (a4 : Memref sig .tc .smem S1x1x256 .i32) (h4)
    (a6 : Memref sig .tc .vmem S1x4096 .f32) (h6) (a7 : Memref sig .tc .vmem S1x4096x1024 .bf16) (h7) (a8 : Memref sig .tc .vmem S1x4096x1024 .bf16) (h8) (a9 : Memref sig .tc .vmem S1x1024x4096 .bf16) (h9) (a10 : Memref sig .tc .vmem S256x4096 .bf16) (h10)
    (d6 : S1x4096.Idx → Elt F .f32) (d7 d8 : S1x4096x1024.Idx → Elt F .bf16) (d9 : S1x1024x4096.Idx → Elt F .bf16) (d10 : S256x4096.Idx → Elt F .bf16)
    (v10 : BitVec 32) :
    (iprop(Slots2 c X tabs n (i 0).val ∗ (∃ W, owes (c : Thread nD τ) 0 W) ∗ owns (c : Thread nD τ) a6 fullShare d6 ∗ owns (c : Thread nD τ) a7 fullShare d7 ∗ owns (c : Thread nD τ) a8 fullShare d8 ∗ owns (c : Thread nD τ) a9 fullShare d9 ∗ owns (c : Thread nD τ) a10 fullShare d10) : sProp (MT nD τ sig Unit (Elt F) ℕ (Pipeline.UD sig nD τ) ℕ))
      ⊢ wp frame (wpE (defs₀ (F := F)) Variants.none (c : Thread nD τ) none) Set.univ
        (phase3At (F := F) i a1 h1 (Memref.whole main_arg3) (Memref.isWhole_whole _) a3 h3 a4 h4 xM (Memref.isWhole_whole _) a6 h6 a7 h7 a8 h8 a9 h9 a10 h10 scM (Memref.isWhole_whole _) cc0_scratch1 (BitVec.ofNat 32 n) v10)
        (fun _ => iprop(Slots c X tabs n ((i 0).val + 1) ∗ (∃ W, owes (c : Thread nD τ) 0 W) ∗ owns (c : Thread nD τ) a6 fullShare d6 ∗ owns (c : Thread nD τ) a7 fullShare d7 ∗ owns (c : Thread nD τ) a8 fullShare d8 ∗ owns (c : Thread nD τ) a9 fullShare d9
          ∗ owns (c : Thread nD τ) a10 fullShare (tileOut X (tabs (i 0).val) n (i 0).val d6 d7 d8 d9))) := by
  unfold tileOut
  by_cases hl : (i 0).val < n
  · unfold phase3At
    rw [dif_neg (fun h => absurd ((cond3_iff i n hn).mp h) (by omega)), if_pos hl]
    unfold Slots2
    rw [if_pos hl]
    iintro ⟨⟨HF, HN⟩, HW, H6, H7, H8, H9, H10⟩
    iapply (wp_wand_r _ _ _)
    isplitl [HW HF H6 H7 H8 H9 H10]
    · iapply (live_run c X (tabs (i 0).val) i a1 h1 a3 h3 a4 h4 a6 h6 a7 h7 a8 h8 a9 h9 a10 h10 (Fin.ofNat 2 (i 0).val) rfl d6 d7 d8 d9 d10 (BitVec.ofNat 32 n) v10 ((cond4_iff i n hn).mpr hl))
      isplitl [HW]; · iexact HW
      isplitl [HF]; · iexact HF
      isplitl [H6]; · iexact H6
      isplitl [H7]; · iexact H7
      isplitl [H8]; · iexact H8
      isplitl [H9]; · iexact H9
      iexact H10
    iintro %_ ⟨HW, HI, H6, H7, H8, H9, H10⟩
    isplitl [HI HN]
    · iapply (slots_end c X tabs n (i 0).val hl)
      isplitl [HI]; · iexact HI
      iexact HN
    isplitl [HW]; · iexact HW
    isplitl [H6]; · iexact H6
    isplitl [H7]; · iexact H7
    isplitl [H8]; · iexact H8
    isplitl [H9]; · iexact H9
    iexact H10
  · rw [if_neg hl]
    iintro ⟨HS, HW, H6, H7, H8, H9, H10⟩
    iapply (wp_wand_r _ _ _)
    isplitl [H10]
    · iapply (dead_run c i a1 h1 a3 h3 a4 h4 a6 h6 a7 h7 a8 h8 a9 h9 a10 h10 d10 (BitVec.ofNat 32 n) v10 ((cond3_iff i n hn).mpr (by omega)) (fun h => hl ((cond4_iff i n hn).mp h)))
      iexact H10
    iintro %_ H10
    isplitl [HS]
    · iapply (dead_end c X tabs n (i 0).val hl); iexact HS
    isplitl [HW]; · iexact HW
    isplitl [H6]; · iexact H6
    isplitl [H7]; · iexact H7
    isplitl [H8]; · iexact H8
    isplitl [H9]; · iexact H9
    iexact H10

/-- The phases in turn. -/
theorem phases_run (X : S24576x4096.Idx → Elt F .f32) (tabs : ℕ → Fin 256 → BitVec 32) (n : ℕ) (hn1 : 1 ≤ n) (hn : n ≤ 208) (i : grid0.Coords) (a1) (h1) (a3 : Memref sig .tc .smem S1x1x256 .i32) (h3 : a3.IsWhole) (a4 : Memref sig .tc .smem S1x1x256 .i32) (h4)
    (a6 : Memref sig .tc .vmem S1x4096 .f32) (h6) (a7 : Memref sig .tc .vmem S1x4096x1024 .bf16) (h7) (a8 : Memref sig .tc .vmem S1x4096x1024 .bf16) (h8) (a9 : Memref sig .tc .vmem S1x1024x4096 .bf16) (h9) (a10 : Memref sig .tc .vmem S256x4096 .bf16) (h10)
    (d3 d4 : S1x1x256.Idx → Elt F .i32) (d6 : S1x4096.Idx → Elt F .f32) (d7 d8 : S1x4096x1024.Idx → Elt F .bf16) (d9 : S1x1024x4096.Idx → Elt F .bf16) (d10 : S256x4096.Idx → Elt F .bf16) (e3 : words d3 = tabs (i 0).val) (t3 : ∀ r, (words d3 r).toNat < 24576) (e4 : (i 0).val + 1 < n → words d4 = tabs ((i 0).val + 1)) (t4 : ∀ r, (words d4 r).toNat < 24576)
    (v10 : BitVec 32) :
    (iprop(Slots c X tabs n (i 0).val ∗ (∃ W, owes (c : Thread nD τ) 0 W) ∗ Tabs c a3 a4 d3 d4
        ∗ owns (c : Thread nD τ) a6 fullShare d6 ∗ owns (c : Thread nD τ) a7 fullShare d7 ∗ owns (c : Thread nD τ) a8 fullShare d8 ∗ owns (c : Thread nD τ) a9 fullShare d9 ∗ owns (c : Thread nD τ) a10 fullShare d10) : sProp (MT nD τ sig Unit (Elt F) ℕ (Pipeline.UD sig nD τ) ℕ))
      ⊢ wp frame (wpE (defs₀ (F := F)) Variants.none (c : Thread nD τ) none) Set.univ
        (phase1At (F := F) i a1 h1 (Memref.whole main_arg3) (Memref.isWhole_whole _) a3 h3 a4 h4 xM (Memref.isWhole_whole _) a6 h6 a7 h7 a8 h8 a9 h9 a10 h10 scM (Memref.isWhole_whole _) cc0_scratch1 (BitVec.ofNat 32 n) v10)
        (fun _ => iprop(Slots c X tabs n ((i 0).val + 1) ∗ (∃ W, owes (c : Thread nD τ) 0 W) ∗ Tabs c a3 a4 d3 d4
          ∗ owns (c : Thread nD τ) a6 fullShare d6 ∗ owns (c : Thread nD τ) a7 fullShare d7 ∗ owns (c : Thread nD τ) a8 fullShare d8 ∗ owns (c : Thread nD τ) a9 fullShare d9
          ∗ owns (c : Thread nD τ) a10 fullShare (tileOut X (tabs (i 0).val) n (i 0).val d6 d7 d8 d9))) := by
  unfold phase1At
  iintro ⟨HS, HW, HT, H6, H7, H8, H9, H10⟩
  ihave HST : iprop(Slots c X tabs n (i 0).val ∗ Tabs c a3 a4 d3 d4) $$ [HS HT]
  · isplitl [HS]; · iexact HS
    iexact HT
  iapply (cond_step c (R := iprop(Slots1 c X tabs n (i 0).val ∗ Tabs c a3 a4 d3 d4))
    (fun hw => phase1 c X tabs n hn1 i a1 h1 (Memref.whole main_arg3) (Memref.isWhole_whole _) a3 h3 a4 h4 a6 h6 a7 h7 a8 h8 a9 h9 a10 h10 d3 d4 e3 t3 hw)
    (fun hw => sep_mono_left (slots1_of c X tabs n _ (fun h => hw ((cond1_iff i).mpr h))))) $$ HST
  unfold phase2At
  iintro HST
  iapply (cond_step c (R := iprop(Slots2 c X tabs n (i 0).val ∗ Tabs c a3 a4 d3 d4))
    (fun hw => phase2 c X tabs n hn i a1 h1 (Memref.whole main_arg3) (Memref.isWhole_whole _) a3 h3 a4 h4 a6 h6 a7 h7 a8 h8 a9 h9 a10 h10 d3 d4 e4 t4 hw)
    (fun hw => sep_mono_left (slots2_of c X tabs n _ (fun h => hw ((cond2_iff i n hn).mpr h))))) $$ HST
  iintro ⟨HS, HT⟩
  iapply (wp_wand_r _ _ _)
  isplitl [HS HW H6 H7 H8 H9 H10]
  · iapply (phase3_run c X tabs n hn i a1 h1 a3 h3 a4 h4 a6 h6 a7 h7 a8 h8 a9 h9 a10 h10 d6 d7 d8 d9 d10 v10)
    isplitl [HS]; · iexact HS
    isplitl [HW]; · iexact HW
    isplitl [H6]; · iexact H6
    isplitl [H7]; · iexact H7
    isplitl [H8]; · iexact H8
    isplitl [H9]; · iexact H9
    iexact H10
  iintro %_ ⟨HS, HW, H6, H7, H8, H9, H10⟩
  isplitl [HS]; · iexact HS
  isplitl [HW]; · iexact HW
  isplitl [HT]; · iexact HT
  isplitl [H6]; · iexact H6
  isplitl [H7]; · iexact H7
  isplitl [H8]; · iexact H8
  isplitl [H9]; · iexact H9
  iexact H10

/-- The body at one point. -/
theorem body_run (X : S24576x4096.Idx → Elt F .f32) (tabs : ℕ → Fin 256 → BitVec 32) (n : ℕ) (hn1 : 1 ≤ n) (hn : n ≤ 208) (i : grid0.Coords) (a1) (h1) (a3 : Memref sig .tc .smem S1x1x256 .i32) (h3 : a3.IsWhole) (a4 : Memref sig .tc .smem S1x1x256 .i32) (h4)
    (a6 : Memref sig .tc .vmem S1x4096 .f32) (h6) (a7 : Memref sig .tc .vmem S1x4096x1024 .bf16) (h7) (a8 : Memref sig .tc .vmem S1x4096x1024 .bf16) (h8) (a9 : Memref sig .tc .vmem S1x1024x4096 .bf16) (h9) (a10 : Memref sig .tc .vmem S256x4096 .bf16) (h10)
    (d3 d4 : S1x1x256.Idx → Elt F .i32) (d6 : S1x4096.Idx → Elt F .f32) (d7 d8 : S1x4096x1024.Idx → Elt F .bf16) (d9 : S1x1024x4096.Idx → Elt F .bf16) (d10 : S256x4096.Idx → Elt F .bf16) (e3 : words d3 = tabs (i 0).val) (t3 : ∀ r, (words d3 r).toNat < 24576) (e4 : (i 0).val + 1 < n → words d4 = tabs ((i 0).val + 1)) (t4 : ∀ r, (words d4 r).toNat < 24576)
    (q : PosShare TreeShare) (nu : S1.Idx → Elt F .i32) (hnu : ∀ x, nu x = BitVec.ofNat 32 n) :
    (iprop(Slots c X tabs n (i 0).val ∗ (∃ W, owes (c : Thread nD τ) 0 W) ∗ ((c : Thread nD τ).loc main_arg3 ↦{q} nu) ∗ Tabs c a3 a4 d3 d4
        ∗ owns (c : Thread nD τ) a6 fullShare d6 ∗ owns (c : Thread nD τ) a7 fullShare d7 ∗ owns (c : Thread nD τ) a8 fullShare d8 ∗ owns (c : Thread nD τ) a9 fullShare d9 ∗ owns (c : Thread nD τ) a10 fullShare d10) : sProp (MT nD τ sig Unit (Elt F) ℕ (Pipeline.UD sig nD τ) ℕ))
      ⊢ wp frame (wpE (defs₀ (F := F)) Variants.none (c : Thread nD τ) none) Set.univ
        (cc0_moe_experts (F := F) i a1 h1 (Memref.whole main_arg3) (Memref.isWhole_whole _) a3 h3 a4 h4 xM (Memref.isWhole_whole _) a6 h6 a7 h7 a8 h8 a9 h9 a10 h10 scM (Memref.isWhole_whole _) cc0_scratch1)
        (fun _ => iprop(Slots c X tabs n ((i 0).val + 1) ∗ (∃ W, owes (c : Thread nD τ) 0 W) ∗ ((c : Thread nD τ).loc main_arg3 ↦{q} nu) ∗ Tabs c a3 a4 d3 d4
          ∗ owns (c : Thread nD τ) a6 fullShare d6 ∗ owns (c : Thread nD τ) a7 fullShare d7 ∗ owns (c : Thread nD τ) a8 fullShare d8 ∗ owns (c : Thread nD τ) a9 fullShare d9
          ∗ owns (c : Thread nD τ) a10 fullShare (tileOut X (tabs (i 0).val) n (i 0).val d6 d7 d8 d9))) := by
  rw [body_eq]; unfold bodyAt
  obtain rfl : nu = fun _ => BitVec.ofNat 32 n := funext hnu
  iintro ⟨HS, HW, HN, HT, H6, H7, H8, H9, H10⟩
  sl_exec
  iapply (wp_load (m := Memref.whole main_arg3) Variants.none (c : Thread nD τ) none Set.univ (Finset.subset_univ _)) $$ HN
  iintro HN
  sl_step
  iapply (wp_wand_r _ _ _)
  isplitl [HS HW HT H6 H7 H8 H9 H10]
  · iapply (phases_run c X tabs n hn1 hn i a1 h1 a3 h3 a4 h4 a6 h6 a7 h7 a8 h8 a9 h9 a10 h10 d3 d4 d6 d7 d8 d9 d10 e3 t3 e4 t4)
    isplitl [HS]; · iexact HS
    isplitl [HW]; · iexact HW
    isplitl [HT]; · iexact HT
    isplitl [H6]; · iexact H6
    isplitl [H7]; · iexact H7
    isplitl [H8]; · iexact H8
    isplitl [H9]; · iexact H9
    iexact H10
  iintro %_ ⟨HS, HW, HT, H6, H7, H8, H9, H10⟩
  isplitl [HS]; · iexact HS
  isplitl [HW]; · iexact HW
  isplitl [HN]; · iexact HN
  isplitl [HT]; · iexact HT
  isplitl [H6]; · iexact H6
  isplitl [H7]; · iexact H7
  isplitl [H8]; · iexact H8
  isplitl [H9]; · iexact H9
  iexact H10
end
end Cert.MoeIdeal.Hand
end
end
-- ==== Proof.Moe.Tables.lean ====
module

public import proofs.«01_k».proof.Proof.Moe.Body
public import proofs.«01_k».proof.Proof.Gen.MoeIdeal.Launch
public import Idealize.ShloMosaic.Lib.Pipeline.FrameBody

/-! The tables, and the blocks they choose. -/

@[expose] public section

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

section
variable (m : (ℓ : Loc nD τ sig) → Buf (Elt F) ℓ)

/-- A buffer's contents when the region starts. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations and its one region. -/
theorem hmain (𝒱₀ : Variants) : Pipeline.HMainP (Ix := Unit) (Name := ℕ) (U := Pipeline.UD sig nD τ) (Lvl := ℕ) (pcfgs (F := F)) 0 defs₀ 𝒱₀ m main (V m) :=
  Pipeline.hmainP_prefix (pcfgs (F := F)) 0 defs₀ 𝒱₀ m main hostOps0 hostOps0_sub hostOps0_fresh main_chain

/-- What no host operation writes is as it was. -/
theorem V_of (c : Dev nD) (b : Ref sig .tc) (h0 : main_v0 ≠ b) (h1 : main_v1 ≠ b) (h2 : main_v2 ≠ b) (h3 : main_v3 ≠ b) : V m c b = m ((c : Thread nD τ).loc b) :=
  StableHlo.after_of_forall_not_mem (b := Proc.devRef .tc b) _ _ (List.forall_iff_forall_mem.mp (by
    simp only [hostOps0, List.Forall, StableHlo.unary_writes, StableHlo.reshape_writes, Finset.mem_singleton]
    refine ⟨StableHlo.devRef_ne_of_ne h0.symm, StableHlo.devRef_ne_of_ne h1.symm, StableHlo.devRef_ne_of_ne h2.symm, StableHlo.devRef_ne_of_ne h3.symm⟩))

/-- The two tables the region reads before it starts. -/
def tbl : pre0.Contents (Elt F) := fun j => V m (0 : Dev nD) (pre0.ref j)
/-- A table, as the region finds it. -/
theorem V_pre (c : Dev nD) (j : Fin 2) : V m c (pre0.ref j) = tbl m j := by obtain rfl : c = 0 := Subsingleton.elim _ _; rfl

/-- What the tables must be: every tile's expert one of the sixteen, every row one of the rows, and the number of live
    tiles between one and all of them. -/
structure Good : Prop where
  expert : ∀ x : S208.Idx, (m (((0 : Dev nD) : Thread nD τ).loc main_arg2) x : BitVec 32).toNat < 16
  rows : ∀ x : S208x1x256.Idx, (m (((0 : Dev nD) : Thread nD τ).loc main_arg4) x : BitVec 32).toNat < 24576
  live : ∃ n : ℕ, 1 ≤ n ∧ n ≤ 208 ∧ ∀ x : S1.Idx, (m (((0 : Dev nD) : Thread nD τ).loc main_arg3) x : BitVec 32) = BitVec.ofNat 32 n

set_option maxRecDepth 20000 in
/-- The block of an expert's weights lies inside the array, and whole words of it move. -/
theorem expert_block (e : ℕ) (he : e < 16) : ∃ h : (∀ a, (![e, 0, 0] a + 1) * S1x4096x1024.size a ≤ S16x4096x1024.size a),
    EltTy.bits .bf16 = 32 ∨ (Rect.block (s := S16x4096x1024) S1x4096x1024.size ![e, 0, 0] h).WholeWords (EltTy.packing .bf16) :=
  ⟨fun a => by fin_cases a <;> simp <;> omega, .inr (.inr ⟨by decide, rfl, rfl, rfl⟩)⟩
/-- The same of an expert's down weights. -/
theorem expert_block' (e : ℕ) (he : e < 16) : ∃ h : (∀ a, (![e, 0, 0] a + 1) * S1x1024x4096.size a ≤ S16x1024x4096.size a),
    EltTy.bits .bf16 = 32 ∨ (Rect.block (s := S16x1024x4096) S1x1024x4096.size ![e, 0, 0] h).WholeWords (EltTy.packing .bf16) :=
  ⟨fun a => by fin_cases a <;> simp <;> omega, .inr (.inr ⟨by decide, rfl, rfl, rfl⟩)⟩

variable {m}

/-- A word of the table of experts. -/
theorem tbl_expert (hG : Good m) (x : S208.Idx) : (tbl m 0 x : BitVec 32).toNat < 16 := by
  have : tbl m 0 = m (((0 : Dev nD) : Thread nD τ).loc main_arg2) := V_of m 0 main_arg2 (by decide) (by decide) (by decide) (by decide)
  rw [this]; exact hG.expert x

/-- Good tables satisfy the region's side condition. -/
theorem ok_of (hG : Good m) : ok0 (F := F) (tbl m) :=
  ⟨fun i => expert_block _ (tbl_expert hG _), fun i => expert_block _ (tbl_expert hG _), fun i => expert_block' _ (tbl_expert hG _)⟩

variable (m)

/-- The tables as admissible contents. -/
abbrev adm (hG : Good m) : (pcfg0 (F := F)).Adm := ⟨tbl m, ok_of hG⟩
/-- The pipeline at them. -/
abbrev cfgM (hG : Good m) := cfg0 (adm m hG)

/-- A window's block at a point, read off the arrays the region finds. -/
def iblk (hG : Good m) (c : Dev nD) (w : Fin 7) (t : Fin grid0.N) : (spec0 w).block.Idx → Elt F (spec0 w).elt :=
  (((cfgM m hG).win w).blk t).view.read (Elt F) (V m c (Pipeline.arrRef spec0 w))

/-- The rows' table of tile `t`. -/
def tabs (t : ℕ) (r : Fin 256) : BitVec 32 :=
  m (((0 : Dev nD) : Thread nD τ).loc main_arg4) (ValueIdx.ix3 (⟨min t 207, by omega⟩ : Fin 208) (0 : Fin 1) r : S208x1x256.Idx)

/-- The number of live tiles. -/
def nOf : ℕ := (m (((0 : Dev nD) : Thread nD τ).loc main_arg3) (ValueIdx.ix1 (0 : Fin 1) : S1.Idx) : BitVec 32).toNat

/-- The number of live tiles lies between one and all of them. -/
theorem nOf_facts (hG : Good m) : 1 ≤ nOf m ∧ nOf m ≤ 208 ∧ ∀ x : S1.Idx, (m (((0 : Dev nD) : Thread nD τ).loc main_arg3) x : BitVec 32) = BitVec.ofNat 32 (nOf m) := by
  obtain ⟨n, h1, h2, h⟩ := hG.live
  have e : nOf m = n := by unfold nOf; rw [h, BitVec.toNat_ofNat]; omega
  rw [e]; exact ⟨h1, h2, h⟩

/-- A word of the row tables names a row. -/
theorem tabs_lt (hG : Good m) (t : ℕ) (r : Fin 256) : (tabs m t r).toNat < 24576 := hG.rows _

/-- The grid's one coordinate is the point. -/
theorem coords_val (t : Fin grid0.N) : (grid0.coords t 0).val = t.val := by
  have h : ∀ t : Fin grid0.N, (grid0.coords t 0).val = t.val := by decide +kernel
  exact h t

/-- This tile's row table. -/
theorem row_ix0 : ∀ t : Fin grid0.N, cc0_transform_0 (grid0.coords t) = ![t.val, 0, 0] := by decide +kernel
/-- The next tile's row table, the last tile's at the end. -/
theorem row_ix1 : ∀ t : Fin grid0.N, cc0_transform_1 (grid0.coords t) = ![min (t.val + 1) 207, 0, 0] := by decide +kernel

/-- This tile's rows, as staged. -/
theorem words0 (hG : Good m) (c : Dev nD) (t : Fin grid0.N) : words (iblk m hG c 0 t) = tabs m t.val := by
  obtain rfl : c = 0 := Subsingleton.elim _ _
  funext r
  unfold words iblk tabs
  have e : V m (0 : Dev nD) main_arg4 = m (((0 : Dev nD) : Thread nD τ).loc main_arg4) := V_of m 0 main_arg4 (by decide) (by decide) (by decide) (by decide)
  refine (congrFun e _).trans (congrArg (m (((0 : Dev nD) : Thread nD τ).loc main_arg4)) ?_)
  have ht : t.val < 208 := t.isLt
  funext a
  refine Fin.ext ?_
  have h := row_ix0 t
  fin_cases a
  · show cc0_transform_0 (grid0.coords t) 0 * 1 + 0 = min t.val 207
    rw [h]; show t.val * 1 + 0 = _; omega
  · show cc0_transform_0 (grid0.coords t) 1 * 1 + 0 = 0
    rw [h]; rfl
  · show cc0_transform_0 (grid0.coords t) 2 * 256 + 1 * r.val = r.val
    rw [h]; show 0 * 256 + 1 * r.val = _; omega

/-- The next tile's rows, as staged (the last tile's own, at the last point). -/
theorem words1 (hG : Good m) (c : Dev nD) (t : Fin grid0.N) : words (iblk m hG c 1 t) = tabs m (t.val + 1) := by
  obtain rfl : c = 0 := Subsingleton.elim _ _
  funext r
  unfold words iblk tabs
  have e : V m (0 : Dev nD) main_arg4 = m (((0 : Dev nD) : Thread nD τ).loc main_arg4) := V_of m 0 main_arg4 (by decide) (by decide) (by decide) (by decide)
  refine (congrFun e _).trans (congrArg (m (((0 : Dev nD) : Thread nD τ).loc main_arg4)) ?_)
  funext a
  refine Fin.ext ?_
  have h := row_ix1 t
  fin_cases a
  · show cc0_transform_1 (grid0.coords t) 0 * 1 + 0 = min (t.val + 1) 207
    rw [h]; show min (t.val + 1) 207 * 1 + 0 = _; omega
  · show cc0_transform_1 (grid0.coords t) 1 * 1 + 0 = 0
    rw [h]; rfl
  · show cc0_transform_1 (grid0.coords t) 2 * 256 + 1 * r.val = r.val
    rw [h]; show 0 * 256 + 1 * r.val = _; omega

end
end Cert.MoeIdeal.Hand

end
-- ==== Proof.Moe.Dats.lean ====
module

public import proofs.«01_k».proof.Proof.Moe.Tables

/-! What every window holds before and after each point. -/

@[expose] public section

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

section
variable (m : (ℓ : Loc nD τ sig) → Buf (Elt F) ℓ) (ρ : Dev nD → PrngReg) (hG : Good m)

/-- The rows' array as the region finds it. -/
abbrev xs (c : Dev nD) : S24576x4096.Idx → Elt F .f32 := V m c main_arg0

/-- The two semaphores of the row transfers. -/
abbrev osem0 : Fin 2 → SemLoc sig := ![SemLoc.dma 10, SemLoc.dma 11]
/-- The two semaphores are the body's own. -/
theorem ownSemFacts0 : Pipeline.OwnSemFacts spec0 osem0 := by decide
/-- The array the body reads by transfers of its own. -/
abbrev H0 : Finset (Ref sig .tc) := {main_arg0}
/-- That array is no window of the region. -/
theorem H0_sub : H0 ⊆ Pipeline.restRefsP sig pre0 spec0 := by decide

/-- What is left of the rows' array beside the shares the two slots' transfers read it at. -/
def xRest (c : Dev nD) : sProp (MT nD τ sig Unit (Elt F) ℕ (Pipeline.UD sig nD τ) ℕ) := iprop(xM.view.loc (c : Thread nD τ) ↦[Finset.univ]{Transfers.shareDrop fullShare 512} xs m c)

/-- A slot's shares, numbered from the slot's first. -/
theorem toks_range (c : Dev nD) (X : S24576x4096.Idx → Elt F .f32) (s : Fin 2) : toks c X s = (bigSep (Finset.range 256) (fun k => xTok c X (256 * s.val + k)) : sProp (MT nD τ sig Unit (Elt F) ℕ (Pipeline.UD sig nD τ) ℕ)) := by
  unfold toks
  rw [← Ring.rangeSet_univ, Ring.bigSep_rangeSet_eq_range (NB := 256) le_rfl (fun k => xTok c X (256 * s.val + k)) (fun k h => by simp only [Nat.zero_add])]

/-- Shares numbered below a sum are those below the first and the rest. -/
theorem range_two (A : ℕ → sProp (MT nD τ sig Unit (Elt F) ℕ (Pipeline.UD sig nD τ) ℕ)) (a : ℕ) : ∀ b : ℕ, bigSep (Finset.range (a + b)) A = iprop(bigSep (Finset.range a) A ∗ bigSep (Finset.range b) (fun k => A (a + k)))
  | 0 => by rw [Finset.range_zero, bigSep_empty, Nat.add_zero]; exact (Entails.antisymm sep_emp.1 sep_emp.2).symm
  | b + 1 => by
    rw [← Nat.add_assoc, Finset.range_add_one, Finset.range_add_one, bigSep_insert Finset.notMem_range_self, bigSep_insert Finset.notMem_range_self, range_two A a b]
    exact Entails.antisymm (sep_left_comm (PROP := sProp (MT nD τ sig Unit (Elt F) ℕ (Pipeline.UD sig nD τ) ℕ))).1 (sep_left_comm (PROP := sProp (MT nD τ sig Unit (Elt F) ℕ (Pipeline.UD sig nD τ) ℕ))).2

/-- The rows' array, dealt to the slots' transfers. -/
theorem x_deal (c : Dev nD) : (((c : Thread nD τ).loc main_arg0 ↦{fullShare} V m c main_arg0) : sProp (MT nD τ sig Unit (Elt F) ℕ (Pipeline.UD sig nD τ) ℕ)) = iprop(xRest m c ∗ toks c (xs m c) 0 ∗ toks c (xs m c) 1) := by
  have h := Transfers.pointsTo_toks_range (ℓ := xM.view.loc (c : Thread nD τ)) (S := Finset.univ) (f := xs m c) (Val := Elt F) (Name := ℕ) (U := Pipeline.UD sig nD τ) (Lvl := ℕ) (Ix := Unit) fullShare (256 + 256)
  refine (Entails.antisymm h.1 h.2).trans ?_
  rw [range_two, toks_range, toks_range]
  simp only [Fin.val_zero, Fin.val_one, Nat.mul_zero, Nat.zero_add, Nat.mul_one]
  rfl

/-- The invariant before a point: the slots as the point finds them, what is left of the rows' array, the random bits and
    the two tables' half shares. -/
def Inv (c : Dev nD) (p : ℕ) : sProp (MT nD τ sig Unit (Elt F) ℕ (Pipeline.UD sig nD τ) ℕ) :=
  iprop(Slots c (xs m c) (tabs m) (nOf m) p ∗ xRest m c ∗ (∃ r, prngReg c r)
    ∗ ((c : Thread nD τ).loc main_arg2 ↦{fullShare.right} tbl m 0) ∗ ((c : Thread nD τ).loc main_arg3 ↦{fullShare.right} tbl m 1))

/-- The proof data of the region. -/
def dats (_ : Fin 1) (c : Dev nD) : Dat τ (Elt F) Unit ℕ (Pipeline.UD sig nD τ) ℕ (cfgM m hG) c where
  A w := V m c (Pipeline.arrRef spec0 w)
  after w t := match w with
    | ⟨0, _⟩ => iblk m hG c 0 t
    | ⟨1, _⟩ => iblk m hG c 1 t
    | ⟨2, _⟩ => iblk m hG c 2 t
    | ⟨3, _⟩ => iblk m hG c 3 t
    | ⟨4, _⟩ => iblk m hG c 4 t
    | ⟨5, _⟩ => iblk m hG c 5 t
    | ⟨6, _⟩ => tileOut (xs m c) (tabs m t.val) (nOf m) t.val (iblk m hG c 2 t) (iblk m hG c 3 t) (iblk m hG c 4 t) (iblk m hG c 5 t)
  Φ t := Inv m c t.val
  q w := Pipeline.shareOf spec0 w
  owed _ := 0

/-- A window's array is what the region finds. -/
theorem A_eq (c : Dev nD) (w : Fin 7) : (dats m hG 0 c).A w = V m c (Pipeline.arrRef spec0 w) := by dsimp only [dats]
/-- A window that is only read is left as it was. -/
theorem after0 (c : Dev nD) (t : Fin grid0.N) : (dats m hG 0 c).after 0 t = iblk m hG c 0 t := by dsimp only [dats]; rfl
/-- A window that is only read is left as it was. -/
theorem after1 (c : Dev nD) (t : Fin grid0.N) : (dats m hG 0 c).after 1 t = iblk m hG c 1 t := by dsimp only [dats]; rfl
/-- A window that is only read is left as it was. -/
theorem after2 (c : Dev nD) (t : Fin grid0.N) : (dats m hG 0 c).after 2 t = iblk m hG c 2 t := by dsimp only [dats]; rfl
/-- A window that is only read is left as it was. -/
theorem after3 (c : Dev nD) (t : Fin grid0.N) : (dats m hG 0 c).after 3 t = iblk m hG c 3 t := by dsimp only [dats]; rfl
/-- A window that is only read is left as it was. -/
theorem after4 (c : Dev nD) (t : Fin grid0.N) : (dats m hG 0 c).after 4 t = iblk m hG c 4 t := by dsimp only [dats]; rfl
/-- A window that is only read is left as it was. -/
theorem after5 (c : Dev nD) (t : Fin grid0.N) : (dats m hG 0 c).after 5 t = iblk m hG c 5 t := by dsimp only [dats]; rfl
/-- The output's buffer holds the tile. -/
theorem after6 (c : Dev nD) (t : Fin grid0.N) : (dats m hG 0 c).after 6 t = tileOut (xs m c) (tabs m t.val) (nOf m) t.val (iblk m hG c 2 t) (iblk m hG c 3 t) (iblk m hG c 4 t) (iblk m hG c 5 t) := by dsimp only [dats]; rfl

/-- A window that is only read holds its block of the array. -/
theorem before0 (c : Dev nD) (t : Fin grid0.N) (d) : (dats m hG 0 c).before 0 t d = iblk m hG c 0 t :=
  ((dats m hG 0 c).before_in_eq_fetched 0 rfl (fun _ => rfl) (fun _ _ _ => rfl) (fun t => by rw [after0]; unfold Dat.blockOf iblk; rw [A_eq]; rfl) t d).trans (by unfold Dat.fetched Dat.blockOf iblk; rw [A_eq]; try rfl)
/-- A window that is only read holds its block of the array. -/
theorem before1 (c : Dev nD) (t : Fin grid0.N) (d) : (dats m hG 0 c).before 1 t d = iblk m hG c 1 t :=
  ((dats m hG 0 c).before_in_eq_fetched 1 rfl (fun _ => rfl) (fun _ _ _ => rfl) (fun t => by rw [after1]; unfold Dat.blockOf iblk; rw [A_eq]; rfl) t d).trans (by unfold Dat.fetched Dat.blockOf iblk; rw [A_eq]; try rfl)
/-- A window that is only read holds its block of the array. -/
theorem before2 (c : Dev nD) (t : Fin grid0.N) (d) : (dats m hG 0 c).before 2 t d = iblk m hG c 2 t :=
  ((dats m hG 0 c).before_in_eq_fetched 2 rfl (fun _ => rfl) (fun _ _ _ => rfl) (fun t => by rw [after2]; unfold Dat.blockOf iblk; rw [A_eq]; rfl) t d).trans (by unfold Dat.fetched Dat.blockOf iblk; rw [A_eq]; try rfl)
/-- A window that is only read holds its block of the array. -/
theorem before3 (c : Dev nD) (t : Fin grid0.N) (d) : (dats m hG 0 c).before 3 t d = iblk m hG c 3 t :=
  ((dats m hG 0 c).before_in_eq_fetched 3 rfl (fun _ => rfl) (fun _ _ _ => rfl) (fun t => by rw [after3]; unfold Dat.blockOf iblk; rw [A_eq]; rfl) t d).trans (by unfold Dat.fetched Dat.blockOf iblk; rw [A_eq]; try rfl)
/-- A window that is only read holds its block of the array. -/
theorem before4 (c : Dev nD) (t : Fin grid0.N) (d) : (dats m hG 0 c).before 4 t d = iblk m hG c 4 t :=
  ((dats m hG 0 c).before_in_eq_fetched 4 rfl (fun _ => rfl) (fun _ _ _ => rfl) (fun t => by rw [after4]; unfold Dat.blockOf iblk; rw [A_eq]; rfl) t d).trans (by unfold Dat.fetched Dat.blockOf iblk; rw [A_eq]; try rfl)
/-- A window that is only read holds its block of the array. -/
theorem before5 (c : Dev nD) (t : Fin grid0.N) (d) : (dats m hG 0 c).before 5 t d = iblk m hG c 5 t :=
  ((dats m hG 0 c).before_in_eq_fetched 5 rfl (fun _ => rfl) (fun _ _ _ => rfl) (fun t => by rw [after5]; unfold Dat.blockOf iblk; rw [A_eq]; rfl) t d).trans (by unfold Dat.fetched Dat.blockOf iblk; rw [A_eq]; try rfl)

/-- What the region starts from is the invariant before the first point. -/
theorem inv_start (c : Dev nD) : iprop(Pipeline.ΦD osem0 spec0 H0 (V m) c ∗ Pipeline.ΦT pre0 (tbl m) c) ⊢ Inv m c 0 := by
  rw [Pipeline.ΦD_eq, scopedRest0_eq, Pipeline.ownSems0_eq_of_list c osem0 [0, 1] (by decide) (by decide), BI.bigSep_eq_bigSepL_of_eq [main_arg0] (by decide) (by decide)]
  unfold Pipeline.ΦT Pipeline.prefHeld
  rw [show (Finset.univ : Finset (Fin 2)) = insert 0 {1} from by decide, bigSep_insert (by decide), bigSep_singleton]
  show iprop(((∃ f : Buf (Elt F) ((c : Thread nD τ).loc cc0_scratch0), ((c : Thread nD τ).loc cc0_scratch0) ↦{fullShare} f) ∗ (∃ r, prngReg c r)
      ∗ (semVal ((c : Thread nD τ), SemLoc.dma 10) 0 ∗ semVal ((c : Thread nD τ), SemLoc.dma 11) 0) ∗ ((c : Thread nD τ).loc main_arg0 ↦{fullShare} V m c main_arg0))
      ∗ ((c : Thread nD τ).loc main_arg2 ↦{fullShare.right} tbl m 0) ∗ ((c : Thread nD τ).loc main_arg3 ↦{fullShare.right} tbl m 1)) ⊢ _
  rw [x_deal]
  unfold Inv Slots Idle
  rw [if_neg (by omega)]
  iintro ⟨⟨⟨%f, HS⟩, Hg, ⟨Hq0, Hq1⟩, Hr, Ht0, Ht1⟩, H2, H3⟩
  icases (whole_slots c f).1 $$ HS with ⟨HS0, HS1⟩
  isplitl [HS0 HS1 Hq0 Hq1 Ht0 Ht1]
  · isplitl [HS0 Hq0 Ht0]
    · isplitl [Hq0]; · iexact Hq0
      isplitl [HS0]; · iexists f; iexact HS0
      iexact Ht0
    · isplitl [Hq1]; · iexact Hq1
      isplitl [HS1]; · iexists f; iexact HS1
      iexact Ht1
  isplitl [Hr]; · iexact Hr
  isplitl [Hg]; · iexact Hg
  isplitl [H2]; · iexact H2
  iexact H3

/-- The invariant after the last point holds what the region gives back. -/
theorem inv_end (hG : Good m) (c : Dev nD) : Inv m c 208 ⊢ Pipeline.ΦD osem0 spec0 H0 (V m) c := by
  rw [Pipeline.ΦD_eq, scopedRest0_eq, Pipeline.ownSems0_eq_of_list c osem0 [0, 1] (by decide) (by decide), BI.bigSep_eq_bigSepL_of_eq [main_arg0] (by decide) (by decide)]
  show _ ⊢ iprop((∃ f : Buf (Elt F) ((c : Thread nD τ).loc cc0_scratch0), ((c : Thread nD τ).loc cc0_scratch0) ↦{fullShare} f) ∗ (∃ r, prngReg c r)
      ∗ (semVal ((c : Thread nD τ), SemLoc.dma 10) 0 ∗ semVal ((c : Thread nD τ), SemLoc.dma 11) 0) ∗ ((c : Thread nD τ).loc main_arg0 ↦{fullShare} V m c main_arg0))
  rw [x_deal]
  unfold Inv Slots Idle
  rw [if_neg (by have := (nOf_facts m hG).2.1; omega)]
  iintro ⟨⟨⟨Hq0, ⟨%f, HS0⟩, Ht0⟩, Hq1, ⟨%g, HS1⟩, Ht1⟩, Hr, Hg, H2, H3⟩
  isplitl [HS0 HS1]
  · iapply (slots_whole c f g)
    isplitl [HS0]; · iexact HS0
    iexact HS1
  isplitl [Hg]; · iexact Hg
  isplitl [Hq0 Hq1]
  · isplitl [Hq0]; · iexact Hq0
    iexact Hq1
  isplitl [Hr]; · iexact Hr
  isplitl [Ht0]; · iexact Ht0
  iexact Ht1

end
end Cert.MoeIdeal.Hand
end
end
-- ==== Proof.Moe.Run.lean ====
module

public import proofs.«01_k».proof.Proof.Moe.Dats

/-! The body at every point of the region, and the region's run. -/

@[expose] public section

noncomputable section

namespace Cert.MoeIdeal.Hand

open Cert.MoeIdeal Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

section
variable (m : (ℓ : Loc nD τ sig) → Buf (Elt F) ℓ) (ρ : Dev nD → PrngReg) (hG : Good m)

/-- The staging buffer of a window at a point. -/
abbrev stg (w : Fin 7) (t : Fin grid0.N) := ((cfgM m hG).win w).stage ((cfgM m hG).slots t w)

/-- The body's call at a point. -/
def callAt (t : Fin grid0.N) : Prog (TpuEff nD τ sig (Elt F) Λ₀ .tc) PUnit :=
  cc0_moe_experts (F := F) (grid0.coords t) (Memref.whole main_arg2) (Memref.isWhole_whole _) (Memref.whole main_arg3) (Memref.isWhole_whole _)
    (stg m hG 0 t) (stage_whole0 0 _) (stg m hG 1 t) (stage_whole0 1 _) (Memref.whole main_arg0) (Memref.isWhole_whole _)
    (stg m hG 2 t) (stage_whole0 2 _) (stg m hG 3 t) (stage_whole0 3 _) (stg m hG 4 t) (stage_whole0 4 _) (stg m hG 5 t) (stage_whole0 5 _) (stg m hG 6 t) (stage_whole0 6 _)
    (Memref.whole cc0_scratch0) (Memref.isWhole_whole _) cc0_scratch1

/-- The region's body at a point is that call. -/
theorem defs₀_row (t : Fin grid0.N) : defs₀ (F := F) .tc (cfgM m hG).body ((cfgM m hG).bodyArgs t ((cfgM m hG).slots t)) = callAt m hG t := by
  unfold defs₀; rw [Defs.onTc_tc]; rfl

/-- No point leaves the result's block as it finds it. -/
theorem not_idle (t : Fin grid0.N) : (cfgM m hG).idle 6 (grid0.coords t) = false := by
  have hn := nOf_facts m hG
  have e : (tbl m : pre0.Contents (Elt F)).atD 1 ![0] = BitVec.ofNat 32 (nOf m) := by
    have e1 : tbl m 1 = m (((0 : Dev nD) : Thread nD τ).loc main_arg3) := V_of m 0 main_arg3 (by decide) (by decide) (by decide) (by decide)
    exact (congrFun e1 _).trans (hn.2.2 _)
  show (!(k0_cond3 (grid0.coords t) ((tbl m : pre0.Contents (Elt F)).atD 1 ![0]) == 1#1) && !(k0_cond4 (grid0.coords t) ((tbl m : pre0.Contents (Elt F)).atD 1 ![0]) == 1#1)) = false
  rw [e]
  rcases lt_or_ge (grid0.coords t 0).val (nOf m) with h | h
  · rw [(cond4_iff (grid0.coords t) (nOf m) hn.2.1).mpr h]; simp
  · rw [(cond3_iff (grid0.coords t) (nOf m) hn.2.1).mpr h]; simp

/-- The body at a point, as the region asks it. -/
theorem sound_body (c : Dev nD) (t : Fin grid0.N) :
    (iprop(Inv m c t.val ∗ (dats m hG 0 c).owesAt () t.castSucc
      ∗ (∃ d, owns (c : Thread nD τ) (stg m hG 0 t) fullShare ((dats m hG 0 c).before 0 t d)) ∗ (∃ d, owns (c : Thread nD τ) (stg m hG 1 t) fullShare ((dats m hG 0 c).before 1 t d))
      ∗ (∃ d, owns (c : Thread nD τ) (stg m hG 2 t) fullShare ((dats m hG 0 c).before 2 t d)) ∗ (∃ d, owns (c : Thread nD τ) (stg m hG 3 t) fullShare ((dats m hG 0 c).before 3 t d))
      ∗ (∃ d, owns (c : Thread nD τ) (stg m hG 4 t) fullShare ((dats m hG 0 c).before 4 t d)) ∗ (∃ d, owns (c : Thread nD τ) (stg m hG 5 t) fullShare ((dats m hG 0 c).before 5 t d))
      ∗ (∃ d, owns (c : Thread nD τ) (stg m hG 6 t) fullShare ((dats m hG 0 c).before 6 t d))) : sProp (MT nD τ sig Unit (Elt F) ℕ (Pipeline.UD sig nD τ) ℕ))
      ⊢ wp frame (wpE (defs₀ (F := F)) Variants.none (c : Thread nD τ) none) Set.univ (callAt m hG t)
        (fun _ => iprop(Inv m c (t.val + 1) ∗ (dats m hG 0 c).owesAt () t.succ
          ∗ owns (c : Thread nD τ) (stg m hG 0 t) fullShare ((dats m hG 0 c).after 0 t) ∗ owns (c : Thread nD τ) (stg m hG 1 t) fullShare ((dats m hG 0 c).after 1 t)
          ∗ owns (c : Thread nD τ) (stg m hG 2 t) fullShare ((dats m hG 0 c).after 2 t) ∗ owns (c : Thread nD τ) (stg m hG 3 t) fullShare ((dats m hG 0 c).after 3 t)
          ∗ owns (c : Thread nD τ) (stg m hG 4 t) fullShare ((dats m hG 0 c).after 4 t) ∗ owns (c : Thread nD τ) (stg m hG 5 t) fullShare ((dats m hG 0 c).after 5 t)
          ∗ owns (c : Thread nD τ) (stg m hG 6 t) fullShare ((dats m hG 0 c).after 6 t))) := by
  simp only [before0, before1, before2, before3, before4, before5, after0, after1, after2, after3, after4, after5, after6]
  have hn := nOf_facts m hG
  have e1 : tbl m 1 = m (((0 : Dev nD) : Thread nD τ).loc main_arg3) := V_of m 0 main_arg3 (by decide) (by decide) (by decide) (by decide)
  have hcv := coords_val t
  have hb := fun d10 => body_run c (xs m c) (tabs m) (nOf m) hn.1 hn.2.1 (grid0.coords t) (Memref.whole main_arg2) (Memref.isWhole_whole _)
    (stg m hG 0 t) (stage_whole0 0 _) (stg m hG 1 t) (stage_whole0 1 _)
    (stg m hG 2 t) (stage_whole0 2 _) (stg m hG 3 t) (stage_whole0 3 _) (stg m hG 4 t) (stage_whole0 4 _) (stg m hG 5 t) (stage_whole0 5 _) (stg m hG 6 t) (stage_whole0 6 _)
    (iblk m hG c 0 t) (iblk m hG c 1 t) (iblk m hG c 2 t) (iblk m hG c 3 t) (iblk m hG c 4 t) (iblk m hG c 5 t) d10
    (by rw [words0, hcv]) (fun r => by rw [words0]; exact tabs_lt m hG _ r) (fun _ => by rw [words1, hcv]) (fun r => by rw [words1]; exact tabs_lt m hG _ r)
    fullShare.right (tbl m 1) (fun x => (congrFun e1 x).trans (hn.2.2 x))
  simp only [hcv] at hb
  unfold Inv Dat.owesAt Pipeline.owesWithin callAt
  rw [show (dats m hG 0 c).owed t.castSucc = 0 from rfl, show (dats m hG 0 c).owed t.succ = 0 from rfl]
  unfold Tabs at hb
  iintro ⟨⟨HS, Hr, Hg, H2, H3⟩, ⟨%W, -, HW⟩, ⟨%d0, K0⟩, ⟨%d1, K1⟩, ⟨%d2, K2⟩, ⟨%d3, K3⟩, ⟨%d4, K4⟩, ⟨%d5, K5⟩, ⟨%d6, K6⟩⟩
  iapply (wp_wand_r _ _ _)
  isplitl [HS H3 HW K0 K1 K2 K3 K4 K5 K6]
  · iapply (hb _)
    isplitl [HS]; · iexact HS
    isplitl [HW]; · iexists W; iexact HW
    isplitl [H3]; · iexact H3
    isplitl [K0 K1]
    · isplitl [K0]; · iexact K0
      iexact K1
    isplitl [K2]; · iexact K2
    isplitl [K3]; · iexact K3
    isplitl [K4]; · iexact K4
    isplitl [K5]; · iexact K5
    iexact K6
  iintro %_ ⟨HS, ⟨%W', HW⟩, H3, ⟨K0, K1⟩, K2, K3, K4, K5, K6⟩
  isplitl [HS Hr Hg H2 H3]
  · isplitl [HS]; · iexact HS
    isplitl [Hr]; · iexact Hr
    isplitl [Hg]; · iexact Hg
    isplitl [H2]; · iexact H2
    iexact H3
  isplitl [HW]
  · iexists W'; isplitr; · ipureintro; exact fun _ _ => Or.inl trivial
    iexact HW
  isplitl [K0]; · iexact K0
  isplitl [K1]; · iexact K1
  isplitl [K2]; · iexact K2
  isplitl [K3]; · iexact K3
  isplitl [K4]; · iexact K4
  isplitl [K5]; · iexact K5
  iexact K6

/-- The region's obligation on its body. -/
theorem body_obligation (c : Dev nD) : BodyObligation (dats m hG 0 c) (defs₀ (F := F)) Variants.none () Set.univ := fun t => by
  rw [bigSep_W0, bigSep_W0, defs₀_row, not_idle]
  exact triple_restated (sound_body m hG c t) rfl .rfl fun _ => .rfl

set_option backward.isDefEq.respectTransparency.types false in
/-- The whole program ends with every window's array as the region's points leave it, every other buffer as the region
    found it, and every semaphore at zero. -/
theorem run_main : θ_run defs (onTc (τ := τ) (main (F := F))) (s₀ m ρ)
    (fun r => Pipeline.FramePost (Pipeline.pin (pcfgs (F := F)) fun _ => adm m hG) (dats m hG) 0 (V m) r ∧ r.2.sem = fun _ => 0) :=
  Pipeline.θ_run_frameP_dma_shared (Q' := _) (pcfgs (F := F)) (fun _ => adm m hG) (dats m hG) 0 launch₀0 osem0 defs₀ Variants.none ownSemFacts0 H0 H0_sub m ρ main
    (hbody := fun c => (body_obligation m hG c).loose) (hq := fun _ _ _ => rfl) (howed := fun _ _ => rfl) (V := V m) (hmain := hmain m Variants.none)
    (hA := A_eq m hG) (hpf := V_pre m) (hin := fun c => inv_start m c) (hout := fun c => inv_end m hG c)

end
end Cert.MoeIdeal.Hand
end
end
-- ==== Proof.Moe.Tests.lean ====
module

public import proofs.«01_k».proof.Proof.Gen.Pre_moe_tables
public import Idealize.ShloMosaic.Lib.ReduceAll
public import Idealize.ShloMosaic.Lib.StableHlo.Predicate
public import Idealize.ShloMosaic.Lib.ValueIdx

/-! What the precondition on the tables says of their words. -/

@[expose] public section

noncomputable section

namespace Cert.Pre_moe_tables.Hand

open Cert.Pre_moe_tables Idealize.ShloMosaic

variable {F : FTy → Type} [FloatOps F]

/-- A conjunction of two bits is one only of ones. -/
theorem and_one {a b : BitVec 1} (h : IntOp.andi a b = 1#1) : a = 1#1 ∧ b = 1#1 := by
  revert h; revert a b; decide

/-- A small number's word is the number. -/
theorem small_toInt {k : ℕ} (hk : k < 2147483648) : (BitVec.ofNat 32 k).toInt = k := by
  rw [BitVec.toInt_eq_toNat_cond, BitVec.toNat_ofNat]
  split <;> omega

/-- A word between two signed bounds that are small numbers is between them as a number. -/
theorem word_range {v : BitVec 32} {lo hi : ℕ} (hhi : hi < 2147483648) (hlo : lo < 2147483648)
    (h1 : (BitVec.ofNat 32 lo).toInt ≤ v.toInt) (h2 : v.toInt ≤ (BitVec.ofNat 32 hi).toInt) : lo ≤ v.toNat ∧ v.toNat ≤ hi := by
  rw [small_toInt hlo, BitVec.toInt_eq_toNat_cond] at h1
  rw [small_toInt hhi, BitVec.toInt_eq_toNat_cond] at h2
  have := v.isLt
  split at h1 <;> omega

/-- A word from zero up to a small number, signed, is below it as a number. -/
theorem word_below {v : BitVec 32} {hi : ℕ} (h0 : 0 < hi) (hhi : hi < 2147483648)
    (h1 : (BitVec.ofNat 32 0).toInt ≤ v.toInt) (h2 : v.toInt < (BitVec.ofNat 32 hi).toInt) : v.toNat < hi := by
  rw [small_toInt (by decide), BitVec.toInt_eq_toNat_cond] at h1
  rw [small_toInt hhi, BitVec.toInt_eq_toNat_cond] at h2
  have := v.isLt
  split at h1 <;> omega

/-- The precondition's three conditions, word by word. -/
theorem words (a0 : FVec F S24576x4096 .f32) (a1 : FVec F S4096 .f32) (a2 : IVec S208 32) (a3 : IVec S1 32) (a4 : IVec S208x1x256 32)
    (a5 a6 : FVec F S16x4096x1024 .f32) (a7 : FVec F S16x1024x4096 .f32) (h : fn (F := F) a0 a1 a2 a3 a4 a5 a6 a7 = fun _ => 1#1) :
    (∀ x, (a2 x).toNat < 16) ∧ (∀ x, (a4 x).toNat < 24576) ∧ ∃ n : ℕ, 1 ≤ n ∧ n ≤ 208 ∧ ∀ x : S1.Idx, a3 x = BitVec.ofNat 32 n := by
  have e := congrFun h (fun a => a.elim0)
  unfold fn fn_part1 at e
  obtain ⟨e12, e3⟩ := and_one e
  obtain ⟨e1, e2⟩ := and_one e12
  have : Subsingleton S_.Idx := ⟨fun a b => funext fun k => k.elim0⟩
  have f1 := Host.reduce_andi_all _ _ _ _ _ e1
  have f2 := Host.reduce_andi_all _ _ _ _ _ e2
  have f3 := Host.reduce_andi_all _ _ _ _ _ e3
  clear h e e12 e3 e1 e2
  refine ⟨fun x => ?_, fun x => ?_, (a3 (ValueIdx.ix1 (0 : Fin 1))).toNat, ?_, ?_, fun x => ?_⟩
  · obtain ⟨p, q⟩ := and_one (f1 x)
    exact word_below (hi := 16) (by decide) (by decide) (IntOp.cmpi_sge.1 p) (IntOp.cmpi_slt.1 q)
  · obtain ⟨p, q⟩ := and_one (f2 x)
    exact word_below (hi := 24576) (by decide) (by decide) (IntOp.cmpi_sge.1 p) (IntOp.cmpi_slt.1 q)
  · obtain ⟨p, q⟩ := and_one (f3 (ValueIdx.ix1 (0 : Fin 1)))
    have z := word_range (lo := 1) (hi := 208) (by decide) (by decide) (IntOp.cmpi_sge.1 p) (IntOp.cmpi_sle.1 q)
    exact z.left
  · obtain ⟨p, q⟩ := and_one (f3 (ValueIdx.ix1 (0 : Fin 1)))
    have z := word_range (lo := 1) (hi := 208) (by decide) (by decide) (IntOp.cmpi_sge.1 p) (IntOp.cmpi_sle.1 q)
    exact z.right
  · rw [show x = ValueIdx.ix1 (0 : Fin 1) from funext fun a => by
      fin_cases a
      exact Subsingleton.elim (α := Fin 1) _ _]
    exact (BitVec.ofNat_toNat 32 _ |>.trans (BitVec.setWidth_eq _)).symm

end Cert.Pre_moe_tables.Hand

end
end
-- ==== Proof.Moe.Frames.lean ====
module

public import proofs.«01_k».proof.Defs
public import proofs.«01_k».proof.Proof.Moe.Run
public import proofs.«01_k».proof.Proof.Moe.Tests
public import proofs.«01_k».proof.Proof.Gen.Moe.Launch
public import proofs.«01_k».proof.Proof.Gen.MoeRefIdeal.Run
public import Idealize.ShloMosaic.Init
public import Idealize.ShloMosaic.Adequacy

/-! The experts' call and its reference run and end quietly. -/

@[expose] public section

noncomputable section

namespace Cert.MoeIdeal.Hand

open Cert.MoeIdeal Cert.MoeIdeal.Gen
open Idealize.ShloMosaic Idealize.ShloMosaic.TcCoe
open Idealize.SL.Sem

section
variable {F : FTy → Type} [FloatOps F]
variable (m : (ℓ : Loc nD τ sig) → Buf (Elt F) ℓ) (ρ : Dev nD → PrngReg)

/-- The arguments a device's memory ends with are those it began with. -/
def Kept (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)

/-- What a run leaves where neither a host operation nor the region writes. -/
theorem rest_kept {hG : Good m} {r : PUnit × MemSt nD τ sig (Elt F)}
    (h : Pipeline.FramePost (Pipeline.pin (pcfgs (F := F)) fun _ => adm m hG) (dats m hG) 0 (V m) r) (c : Dev nD) (b : Ref sig .tc)
    (hs : b.isScoped = false) (ha : ∀ w, (spec0 w).arr.view.ref ≠ b)
    (h0 : main_v0 ≠ b) (h1 : main_v1 ≠ b) (h2 : main_v2 ≠ b) (h3 : main_v3 ≠ b) :
    r.2.mem ((c.tc : Thread nD τ).loc b) = m ((c.tc : Thread nD τ).loc b) :=
  ((h c).2 b (Pipeline.mem_restRefs_of b hs ha)).trans (V_of m c b h0 h1 h2 h3)

/-- The program keeps its arguments. -/
theorem kept_of {hG : Good m} {r : PUnit × MemSt nD τ sig (Elt F)}
    (h : Pipeline.FramePost (Pipeline.pin (pcfgs (F := F)) fun _ => adm m hG) (dats m hG) 0 (V m) r) : Kept m r := fun c =>
  ⟨rest_kept m h c main_arg0 rfl (by decide) (by decide) (by decide) (by decide) (by decide),
   rest_kept m h c main_arg1 rfl (by decide) (by decide) (by decide) (by decide) (by decide),
   rest_kept m h c main_arg2 rfl (by decide) (by decide) (by decide) (by decide) (by decide),
   rest_kept m h c main_arg3 rfl (by decide) (by decide) (by decide) (by decide) (by decide),
   ((h c).1 (0 : Fin 7)).trans (((dats m hG 0 c).arrAt_in 0 rfl _).trans ((A_eq m hG c 0).trans (V_of m c main_arg4 (by decide) (by decide) (by decide) (by decide)))),
   rest_kept m h c main_arg5 rfl (by decide) (by decide) (by decide) (by decide) (by decide),
   rest_kept m h c main_arg6 rfl (by decide) (by decide) (by decide) (by decide) (by decide),
   rest_kept m h c main_arg7 rfl (by decide) (by decide) (by decide) (by decide) (by decide)⟩

/-- The program ends with its arguments kept and every semaphore at zero. -/
theorem frame_of (hG : Good m) : θ_run defs (onTc (τ := τ) (main (F := F))) ⟨m, fun _ => 0, ρ⟩
    (fun r => Kept m r ∧ r.2.sem = fun _ => 0) :=
  (θ_run defs _ _).mono (fun r h => ⟨kept_of m h.1, h.2⟩) (run_main m ρ hG)

end

/-- The precondition makes the tables good, over the words. -/
theorem good_bits (m : (ℓ : Loc nD τ sig) → Buf (Elt Bits) ℓ) (h : Cert.Pre_Moe m) : Good m :=
  have w := Cert.Pre_moe_tables.Hand.words _ _ _ _ _ _ _ _ (h 0)
  ⟨w.1, w.2.1, w.2.2⟩

/-- The precondition makes the tables good, over the extended reals. -/
theorem good_ideal (m : (ℓ : Loc nD τ sig) → Buf (Elt Ideal) ℓ) (h : Cert.Pre_MoeIdeal m) : Good m :=
  have w := Cert.Pre_moe_tables.Hand.words _ _ _ _ _ _ _ _ (h 0)
  ⟨w.1, w.2.1, w.2.2⟩

/-- So does its idealization. -/
theorem frame_i : Cert.quiescent_MoeIdeal := fun m ρ h =>
  (θ_run Cert.MoeIdeal.defs _ _).mono (fun _ h => h) (frame_of (F := Ideal) m ρ (good_ideal m h))

/-- So does its reference's. -/
theorem frame_r : Cert.quiescent_MoeRefIdeal := fun m g _ =>
  (θ_run Cert.MoeRefIdeal.defs _ _).mono (fun r h => ⟨fun c => (h c).2, sem_eq_zero_of_no_sems (by decide) r.2⟩)
    (Cert.MoeRefIdeal.Value.run (F := Ideal) m g)

/-- So does its reference's under the precondition. -/
theorem frame_rp : Cert.quiescent_MoeRefIdeal_pre_moe_tables := fun m g _ => frame_r m g trivial

end Cert.MoeIdeal.Hand

end
end
-- ==== Proof.Moe.FrameK.lean ====
module

public import proofs.«01_k».proof.Proof.Moe.Frames

/-! The experts' call, as printed over the words, is the same program as its idealization's, so it runs as that one does. -/

@[expose] public section

set_option maxRecDepth 16384

namespace Cert.MoeIdeal.Hand

open Idealize.ShloMosaic Idealize.ShloMosaic.TcCoe Idealize.SL.Sem

/-- The two programs' bodies are the same. -/
theorem bodies_eq : @Cert.Moe.defs₀ Bits _ _ = @Cert.MoeIdeal.defs₀ Bits _ _ := by
  unfold Cert.Moe.defs₀ Cert.MoeIdeal.defs₀
  refine congrArg Defs.onTc (funext fun l => funext fun a => ?_)
  match l, a with
  | 0, (t, s) => rfl
  | ⟨_ + 1, h⟩, _ => exact absurd h (Nat.not_lt.2 (Nat.le_add_left _ _))

/-- The two programs' body tables are the same. -/
theorem defs_eq : @Cert.Moe.defs Bits _ _ = @Cert.MoeIdeal.defs Bits _ _ := by
  unfold Cert.Moe.defs Cert.MoeIdeal.defs
  exact congrArg (Pipeline.defs (Cert.MoeIdeal.pcfgs (F := Bits))) bodies_eq

set_option maxHeartbeats 4000000 in
/-- The two programs' main functions are the same. -/
theorem main_eq : @Cert.Moe.main Bits _ _ = @Cert.MoeIdeal.main Bits _ _ := by
  unfold Cert.Moe.main Cert.MoeIdeal.main
  refine funext fun c => ?_
  rfl

set_option maxHeartbeats 4000000 in
/-- The experts' call runs and ends quietly. -/
theorem frame_k : Cert.quiescent_Moe := fun m ρ h =>
  Eq.mpr (congrArg₂ (fun d p => θ_run d (onTc (τ := Cert.Moe.τ) p) ⟨m, fun _ => 0, ρ⟩ _) defs_eq main_eq)
    (frame_of (F := Bits) m ρ (good_bits m h))

end Cert.MoeIdeal.Hand

end
-- ==== Proof.Moe.Spec.lean ====
module
public import Idealize.ShloMosaic.Lib.Pointwise
public import Idealize.ShloMosaic.PureOps.Ideal.Laws

/-! What the experts' call is, row by row, free of any program. -/

@[expose] public section
noncomputable section
namespace Cert.Moe.Spec
open Idealize.ShloMosaic

/-- A row scaled to unit mean square and by the norm's weights. -/
def normed (x : Fin 4096 → EReal) (g : Fin 4096 → EReal) (d : Fin 4096) : EReal :=
  x d * Ideal.rsqrt (Ideal.div (∑ k, x k * x k) (Ideal.ofBits .f32 0x45800000#32) + Ideal.ofBits .f32 0x358637BD#32) * g d

/-- The gated hidden value of two dot products. -/
def gated (a u : EReal) : EReal := a * Ideal.div 1 (1 + Ideal.exp (-a)) * u

/-- A hidden entry of an expert at a row. -/
def hidden (x g : Fin 4096 → EReal) (wg wu : Fin 4096 → EReal) : EReal :=
  gated (∑ d, normed x g d * wg d) (∑ d, normed x g d * wu d)

/-- The row that a word names. -/
def rowAt (v : BitVec 32) : Fin 24576 := ⟨min v.toNat 24575, by omega⟩

/-- The expert that a word names. -/
def expertAt (v : BitVec 32) : Fin 16 := ⟨min v.toNat 15, by omega⟩

variable (x : (⟨2, ![24576, 4096]⟩ : Shape).Idx → EReal) (g : (⟨1, ![4096]⟩ : Shape).Idx → EReal) (te : (⟨1, ![208]⟩ : Shape).Idx → BitVec 32)
  (n : (⟨1, ![1]⟩ : Shape).Idx → BitVec 32) (rs : (⟨3, ![208, 1, 256]⟩ : Shape).Idx → BitVec 32)
  (wg wu : (⟨3, ![16, 4096, 1024]⟩ : Shape).Idx → EReal) (wd : (⟨3, ![16, 1024, 4096]⟩ : Shape).Idx → EReal)

/-- Row `r` of tile `t` at column `j`: the tile's expert at the row that the table names. -/
def tileRow (t : Fin 208) (r : Fin 256) (j : Fin 4096) : EReal :=
  ∑ f : Fin 1024, hidden (fun d => x (ix2 (rowAt (rs (ix3 t 0 r))) d)) (fun d => g (ix1 d))
    (fun d => wg (ix3 (expertAt (te (ix1 t))) d f)) (fun d => wu (ix3 (expertAt (te (ix1 t))) d f)) * wd (ix3 (expertAt (te (ix1 t))) f j)

/-- The call's result: the live tiles' rows, and zero in the dead tiles. -/
def total : (⟨2, ![53248, 4096]⟩ : Shape).Idx → EReal := fun i =>
  if (i 0).val / 256 < (n (ix1 0)).toNat then
    tileRow x g te rs wg wu wd ⟨(i 0).val / 256, by have h : (i 0).val < 53248 := (i 0).isLt; omega⟩ ⟨(i 0).val % 256, by omega⟩ (i 1)
  else 0

end Cert.Moe.Spec
end
end
-- ==== Proof.Moe.Entry.lean ====
module
public import proofs.«01_k».proof.Proof.Moe.Body
public import proofs.«01_k».proof.Proof.Moe.Spec
public import Idealize.ShloMosaic.Lib.Pipeline.ValueKit
public import Idealize.ShloMosaic.Lib.WritesUnit

/-! What a tile's point leaves in the output's buffer, entry by entry. -/

@[expose] public section
set_option maxRecDepth 16384
noncomputable section
namespace Cert.MoeIdeal.Hand
open Cert.MoeIdeal Cert.MoeIdeal.Gen Idealize.ShloMosaic Idealize.ShloMosaic.TcCoe Idealize.SL.Sem

/-- The hidden entries that the body computes of its blocks. -/
theorem pay6_at (x : Vec Ideal S1x256x4096 .f32) (g : Vec Ideal S1x4096 .f32) (wg wu : Vec Ideal S1x4096x1024 .bf16) (r : Fin 256) (f : Fin 1024) :
    k0_pay6 (F := Ideal) x g wg wu (ix2 r f)
      = Cert.Moe.Spec.hidden (fun d => x (ix3 0 r d)) (fun d => g (ix2 0 d)) (fun d => wg (ix3 0 d f)) (fun d => wu (ix3 0 d f)) := by
  pointwise [k0_pay6]
  simp only [zero_sub]
  unfold Cert.Moe.Spec.hidden Cert.Moe.Spec.gated Cert.Moe.Spec.normed
  rfl

/-- A product that the body stores, entry by entry. -/
theorem pay2_at (a : FVec Ideal S256x1024 .bf16) (w : Vec Ideal S1x1024x1024 .bf16) (r : Fin 256) (j : Fin 1024) :
    k0_pay2 (F := Ideal) a w (ix2 r j) = ∑ f : Fin 1024, a (ix2 r f) * w (ix3 0 f j) := by
  pointwise [k0_pay2]

/-- The other three products are the same function of their blocks. -/
theorem pay3_eq (a : FVec Ideal S256x1024 .bf16) (w : Vec Ideal S1x1024x1024 .bf16) : k0_pay3 (F := Ideal) a w = k0_pay2 a w := rfl
/-- The third product is the first, of its own block. -/
theorem pay4_eq (a : FVec Ideal S256x1024 .bf16) (w : Vec Ideal S1x1024x1024 .bf16) : k0_pay4 (F := Ideal) a w = k0_pay2 a w := rfl
/-- The fourth product is the first, of its own block. -/
theorem pay5_eq (a : FVec Ideal S256x1024 .bf16) (w : Vec Ideal S1x1024x1024 .bf16) : k0_pay5 (F := Ideal) a w = k0_pay2 a w := rfl

/-- A dead tile stores zero. -/
theorem zeros_at (y : S256x4096.Idx) : zeros (F := Ideal) y = 0 := by
  unfold zeros zeroPieces
  refine (View.read_writes_cons_unit_of_mem VO _ _ _ _ y y rfl fun a => ?_).trans ?_
  · fin_cases a <;> simp
  · show Ideal.ofBits .bf16 0x0000#16 = 0
    simp [Ideal.ofBits, Ideal.ieee]

/-- A product over a band of the down projection's columns. -/
theorem band_at (a : FVec Ideal S256x1024 .bf16) (w : Vec Ideal S1x1024x4096 .bf16) (o : Nat) (hb) (r : Fin 256) (x : Fin 1024) (j : Fin 4096)
    (hj : j.val = o + x.val) :
    k0_pay2 (F := Ideal) a (downAt w ![0, 0, o] hb) (ix2 r x) = ∑ f : Fin 1024, a (ix2 r f) * w (ix3 0 f j) := by
  rw [pay2_at]
  refine Finset.sum_congr rfl fun f _ => congrArg (a (ix2 r f) * ·) (congrArg w (funext fun b => Fin.ext ?_))
  match b with
  | ⟨0, _⟩ => rfl
  | ⟨1, _⟩ => show 0 + 1 * f.val = f.val; omega
  | ⟨2, _⟩ => show o + 1 * x.val = j.val; omega

/-- A live tile's store, entry by entry. -/
theorem live_at (a : FVec Ideal S256x1024 .bf16) (w : Vec Ideal S1x1024x4096 .bf16) (r : Fin 256) (j : Fin 4096) :
    live (F := Ideal) a w (ix2 r j) = ∑ f : Fin 1024, a (ix2 r f) * w (ix3 0 f j) := by
  unfold live livePieces
  have hj := j.isLt
  by_cases h3 : 3072 ≤ j.val
  · refine (View.read_writes_cons_unit_of_mem (off' := ![0, 3072]) VO _ _ _ _ _ (ix2 r (⟨j.val - 3072, by omega⟩ : Fin 1024)) rfl fun b => ?_).trans
      (band_at a w 3072 _ r _ j (by show j.val = 3072 + (j.val - 3072); omega))
    match b with
    | ⟨0, _⟩ => show r.val = 0 + r.val; omega
    | ⟨1, _⟩ => show j.val = 3072 + (j.val - 3072); omega
  refine (View.read_writes_cons_unit_of_not_mem (off' := ![0, 3072]) VO _ _ _ _ _ rfl 1 (Or.inl (by show j.val < 3072; omega))).trans ?_
  by_cases h1 : 1024 ≤ j.val ∧ j.val < 2048
  · refine (View.read_writes_cons_unit_of_mem (off' := ![0, 1024]) VO _ _ _ _ _ (ix2 r (⟨j.val - 1024, by omega⟩ : Fin 1024)) rfl fun b => ?_).trans
      (band_at a w 1024 _ r _ j (by show j.val = 1024 + (j.val - 1024); omega))
    match b with
    | ⟨0, _⟩ => show r.val = 0 + r.val; omega
    | ⟨1, _⟩ => show j.val = 1024 + (j.val - 1024); omega
  refine (View.read_writes_cons_unit_of_not_mem (off' := ![0, 1024]) VO _ _ _ _ _ rfl 1 (by show j.val < 1024 ∨ 1024 + 1024 ≤ j.val; omega)).trans ?_
  by_cases h2 : 2048 ≤ j.val
  · refine (View.read_writes_cons_unit_of_mem (off' := ![0, 2048]) VO _ _ _ _ _ (ix2 r (⟨j.val - 2048, by omega⟩ : Fin 1024)) rfl fun b => ?_).trans
      (band_at a w 2048 _ r _ j (by show j.val = 2048 + (j.val - 2048); omega))
    match b with
    | ⟨0, _⟩ => show r.val = 0 + r.val; omega
    | ⟨1, _⟩ => show j.val = 2048 + (j.val - 2048); omega
  refine (View.read_writes_cons_unit_of_not_mem (off' := ![0, 2048]) VO _ _ _ _ _ rfl 1 (Or.inl (by show j.val < 2048; omega))).trans ?_
  refine (View.read_writes_cons_unit_of_mem (off' := ![0, 0]) VO _ _ _ _ _ (ix2 r (⟨j.val, by omega⟩ : Fin 1024)) rfl fun b => ?_).trans
      (band_at a w 0 _ r _ j (by show j.val = 0 + j.val; omega))
  match b with
  | ⟨0, _⟩ => show r.val = 0 + r.val; omega
  | ⟨1, _⟩ => show j.val = 0 + j.val; omega

end Cert.MoeIdeal.Hand
end
end
-- ==== Proof.Moe.Blocks.lean ====
module
public import proofs.«01_k».proof.Proof.Moe.Entry
public import proofs.«01_k».proof.Proof.Moe.Frames
public import Idealize.ShloMosaic.Lib.Pipeline.ValueKit

/-! What the windows of the experts' call hold at a tile's point. -/

@[expose] public section
set_option maxRecDepth 16384
noncomputable section
namespace Cert.MoeIdeal.Hand
open Cert.MoeIdeal Cert.MoeIdeal.Gen Idealize.ShloMosaic Idealize.ShloMosaic.TcCoe Idealize.SL.Sem
open Cert.Moe.Spec

variable (m : (ℓ : Loc nD τ sig) → Buf (Elt Ideal) ℓ) (hG : Good m) (c : Dev nD)

/-- The norm's weights as a row. -/
theorem v3_at (d : Fin 4096) : V m c main_v3 (ix2 (0 : Fin 1) d : S1x4096.Idx) = (m ((c.tc : Thread nD τ).loc main_arg1) (ix1 d : S4096.Idx) : EReal) := by
  entry_read; pointwise []
/-- The gate's weights. -/
theorem v0_at (i : S16x4096x1024.Idx) : V m c main_v0 i = (m ((c.tc : Thread nD τ).loc main_arg5) i : EReal) := by
  entry_read; rfl
/-- The up projection's weights. -/
theorem v1_at (i : S16x4096x1024.Idx) : V m c main_v1 i = (m ((c.tc : Thread nD τ).loc main_arg6) i : EReal) := by
  entry_read; rfl
/-- The down projection's weights. -/
theorem v2_at (i : S16x1024x4096.Idx) : V m c main_v2 i = (m ((c.tc : Thread nD τ).loc main_arg7) i : EReal) := by
  entry_read; rfl

/-- The expert of tile `t`. -/
def expertOf (t : Fin 208) : Fin 16 := expertAt (m (((0 : Dev nD) : Thread nD τ).loc main_arg2) (ix1 t : S208.Idx))

include hG in
/-- The index map of the experts' windows, at a tile. -/
theorem expert_ix (t : Fin grid0.N) : cc0_transform_4 (F := Ideal) k0_off1_inb numel1_S1 (tbl m) (grid0.coords t) = ![(expertOf m t).val, 0, 0] := by
  have e : tbl m 0 = m (((0 : Dev nD) : Thread nD τ).loc main_arg2) := V_of m 0 main_arg2 (by decide) (by decide) (by decide) (by decide)
  have hoff : ∀ t : Fin grid0.N, k0_off1 (grid0.coords t) = ![t.val] := by decide +kernel
  have ht : t.val < 208 := t.isLt
  have e1 : (tbl m).at 0 (Rect.unit (s := S208) (k0_off1 (grid0.coords t)) S1.size (k0_off1_inb (grid0.coords t))) numel1_S1
      = (m (((0 : Dev nD) : Thread nD τ).loc main_arg2) (ix1 t : S208.Idx) : BitVec 32) := by
    refine (congrFun e _).trans (congrArg (m (((0 : Dev nD) : Thread nD τ).loc main_arg2)) (funext fun a => Fin.ext ?_))
    fin_cases a
    show k0_off1 (grid0.coords t) 0 + 1 * 0 = t.val
    rw [hoff]
    rfl
  have hx := hG.expert (ix1 t)
  show ![((tbl m).at 0 (Rect.unit (s := S208) (k0_off1 (grid0.coords t)) S1.size (k0_off1_inb (grid0.coords t))) numel1_S1 : BitVec 32).toNat, 0, 0] = _
  rw [e1]
  have e2 : (expertOf m t).val = (m (((0 : Dev nD) : Thread nD τ).loc main_arg2) (ix1 t : S208.Idx) : BitVec 32).toNat := by
    show min _ 15 = _
    exact Nat.min_eq_left (by omega)
  rw [e2]

/-- The gate's block at a tile. -/
theorem gate_block (t : Fin grid0.N) (d : Fin 4096) (f : Fin 1024) :
    iblk m hG c 3 t (ix3 (0 : Fin 1) d f : S1x4096x1024.Idx) = (m ((c.tc : Thread nD τ).loc main_arg5) (ix3 (expertOf m t) d f : S16x4096x1024.Idx) : EReal) := by
  unfold iblk
  refine (congrArg (V m c main_v0) (funext fun a => Fin.ext ?_)).trans (v0_at m c (ix3 (expertOf m t) d f))
  have h := expert_ix m hG t
  fin_cases a
  · show cc0_transform_4 (F := Ideal) k0_off1_inb numel1_S1 (tbl m) (grid0.coords t) 0 * 1 + 0 = (expertOf m t).val
    rw [h]; show (expertOf m t).val * 1 + 0 = _; omega
  · show cc0_transform_4 (F := Ideal) k0_off1_inb numel1_S1 (tbl m) (grid0.coords t) 1 * 4096 + 1 * d.val = d.val
    rw [h]; show 0 * 4096 + 1 * d.val = _; omega
  · show cc0_transform_4 (F := Ideal) k0_off1_inb numel1_S1 (tbl m) (grid0.coords t) 2 * 1024 + 1 * f.val = f.val
    rw [h]; show 0 * 1024 + 1 * f.val = _; omega

/-- The up projection's block at a tile. -/
theorem up_block (t : Fin grid0.N) (d : Fin 4096) (f : Fin 1024) :
    iblk m hG c 4 t (ix3 (0 : Fin 1) d f : S1x4096x1024.Idx) = (m ((c.tc : Thread nD τ).loc main_arg6) (ix3 (expertOf m t) d f : S16x4096x1024.Idx) : EReal) := by
  unfold iblk
  refine (congrArg (V m c main_v1) (funext fun a => Fin.ext ?_)).trans (v1_at m c (ix3 (expertOf m t) d f))
  have h := expert_ix m hG t
  fin_cases a
  · show cc0_transform_4 (F := Ideal) k0_off1_inb numel1_S1 (tbl m) (grid0.coords t) 0 * 1 + 0 = (expertOf m t).val
    rw [h]; show (expertOf m t).val * 1 + 0 = _; omega
  · show cc0_transform_4 (F := Ideal) k0_off1_inb numel1_S1 (tbl m) (grid0.coords t) 1 * 4096 + 1 * d.val = d.val
    rw [h]; show 0 * 4096 + 1 * d.val = _; omega
  · show cc0_transform_4 (F := Ideal) k0_off1_inb numel1_S1 (tbl m) (grid0.coords t) 2 * 1024 + 1 * f.val = f.val
    rw [h]; show 0 * 1024 + 1 * f.val = _; omega

/-- The down projection's block at a tile. -/
theorem down_block (t : Fin grid0.N) (f : Fin 1024) (j : Fin 4096) :
    iblk m hG c 5 t (ix3 (0 : Fin 1) f j : S1x1024x4096.Idx) = (m ((c.tc : Thread nD τ).loc main_arg7) (ix3 (expertOf m t) f j : S16x1024x4096.Idx) : EReal) := by
  unfold iblk
  refine (congrArg (V m c main_v2) (funext fun a => Fin.ext ?_)).trans (v2_at m c (ix3 (expertOf m t) f j))
  have h := expert_ix m hG t
  fin_cases a
  · show cc0_transform_4 (F := Ideal) k0_off1_inb numel1_S1 (tbl m) (grid0.coords t) 0 * 1 + 0 = (expertOf m t).val
    rw [h]; show (expertOf m t).val * 1 + 0 = _; omega
  · show cc0_transform_4 (F := Ideal) k0_off1_inb numel1_S1 (tbl m) (grid0.coords t) 1 * 1024 + 1 * f.val = f.val
    rw [h]; show 0 * 1024 + 1 * f.val = _; omega
  · show cc0_transform_4 (F := Ideal) k0_off1_inb numel1_S1 (tbl m) (grid0.coords t) 2 * 4096 + 1 * j.val = j.val
    rw [h]; show 0 * 4096 + 1 * j.val = _; omega

/-- The block of the norm's weights. -/
theorem norm_block (t : Fin grid0.N) (d : Fin 4096) :
    iblk m hG c 2 t (ix2 (0 : Fin 1) d : S1x4096.Idx) = (m ((c.tc : Thread nD τ).loc main_arg1) (ix1 d : S4096.Idx) : EReal) := by
  unfold iblk
  refine (congrArg (V m c main_v3) (funext fun a => Fin.ext ?_)).trans (v3_at m c d)
  fin_cases a
  · rfl
  · show 0 * 4096 + 1 * d.val = d.val
    omega

/-- What the result's buffer holds after a tile's point. -/
theorem tile_at (t : Fin grid0.N) (r : Fin 256) (j : Fin 4096) :
    (dats m hG 0 c).after 6 t (ix2 r j : S256x4096.Idx)
      = if t.val < (m ((c.tc : Thread nD τ).loc main_arg3) (ix1 (0 : Fin 1) : S1.Idx) : BitVec 32).toNat then
          tileRow (m ((c.tc : Thread nD τ).loc main_arg0)) (m ((c.tc : Thread nD τ).loc main_arg1)) (m ((c.tc : Thread nD τ).loc main_arg2)) (m ((c.tc : Thread nD τ).loc main_arg4))
            (m ((c.tc : Thread nD τ).loc main_arg5)) (m ((c.tc : Thread nD τ).loc main_arg6)) (m ((c.tc : Thread nD τ).loc main_arg7)) t r j
        else 0 := by
  obtain rfl : c = 0 := Subsingleton.elim _ _
  rw [after6]
  unfold tileOut
  show (if t.val < nOf m then _ else _ : S256x4096.Idx → EReal) (ix2 r j) = if t.val < nOf m then _ else _
  by_cases h : t.val < nOf m
  · rw [if_pos h, if_pos h, live_at]
    unfold tileRow
    refine Finset.sum_congr rfl fun f _ => ?_
    rw [pay6_at, down_block]
    simp only [norm_block, gate_block, up_block]
    refine congrArg (hidden · _ _ _ * _) (funext fun d => ?_)
    have e : xs m (0 : Dev nD) = m (((0 : Dev nD) : Thread nD τ).loc main_arg0) := V_of m 0 main_arg0 (by decide) (by decide) (by decide) (by decide)
    show xs m (0 : Dev nD) (ix2 (rowAt (tabs m t.val r)) d : S24576x4096.Idx) = _
    rw [e]
    have et : tabs m t.val r = m (((0 : Dev nD) : Thread nD τ).loc main_arg4) (ix3 t (0 : Fin 1) r : S208x1x256.Idx) :=
      congrArg (m (((0 : Dev nD) : Thread nD τ).loc main_arg4)) (congrArg (fun a : Fin 208 => (ix3 a (0 : Fin 1) r : S208x1x256.Idx))
        (Fin.ext (Nat.min_eq_left (by have ht : t.val < 208 := t.isLt; omega))))
    rw [et]
  · rw [if_neg h, if_neg h]
    exact zeros_at _

end Cert.MoeIdeal.Hand
end
end
-- ==== Proof.Moe.Ref.lean ====
module
public import proofs.«01_k».proof.Proof.Gen.MoeRefIdeal.Read
public import proofs.«01_k».proof.Proof.Moe.Spec
public import Idealize.ShloMosaic.Lib.StableHlo.Predicate

/-! What the experts' reference computes, entry by entry. -/

@[expose] public section
set_option maxRecDepth 16384
noncomputable section
namespace Cert.MoeRefIdeal.Hand
open Cert.MoeRefIdeal Cert.MoeRefIdeal.Gen Cert.MoeRefIdeal.Read Idealize.ShloMosaic Idealize.ShloMosaic.TcCoe Idealize.SL.Sem
open Cert.Moe.Spec

/-- The rows that a gather of rows reads. -/
theorem gather_rows (y : S24576x4096.Idx → EReal) (w : IVec S208x256x1 32) (t : Fin 208) (r : Fin 256) (d : Fin 4096) :
    Host.gather gather_S24576x4096_S208x256x1_S208x256x4096_2_0_n_n_0_2_14096 y w (ix3 t r d)
      = y (ix2 ⟨min (w (ix3 t r 0)).toInt.toNat 24575, by omega⟩ d) := by
  unfold Host.gather
  refine congrArg y (funext fun a => Fin.ext ?_)
  match a with
  | ⟨0, _⟩ =>
    show min (w (gather_S24576x4096_S208x256x1_S208x256x4096_2_0_n_n_0_2_14096.siIdx (ix3 t r d) ⟨0, by decide⟩)).toInt.toNat (24576 - 1) + 0 + 0 = min (w (ix3 t r 0)).toInt.toNat 24575
    rw [show gather_S24576x4096_S208x256x1_S208x256x4096_2_0_n_n_0_2_14096.siIdx (ix3 t r d) ⟨0, by decide⟩ = ix3 t r 0 from
      funext fun a => Fin.ext (by match a with | ⟨0, _⟩ => rfl | ⟨1, _⟩ => rfl | ⟨2, _⟩ => rfl)]
    rfl
  | ⟨1, _⟩ => exact (show 0 + 0 + d.val = d.val by omega)

/-- The matrices that a gather of the gate's or the up projection's weights reads. -/
theorem gather_up (y : S16x4096x1024.Idx → EReal) (w : IVec S208x1 32) (t : Fin 208) (d : Fin 4096) (f : Fin 1024) :
    Host.gather gather_S16x4096x1024_S208x1_S208x4096x1024_12_0_n_n_0_1_140961024 y w (ix3 t d f)
      = y (ix3 ⟨min (w (ix2 t 0)).toInt.toNat 15, by omega⟩ d f) := by
  unfold Host.gather
  refine congrArg y (funext fun a => Fin.ext ?_)
  match a with
  | ⟨0, _⟩ =>
    show min (w (gather_S16x4096x1024_S208x1_S208x4096x1024_12_0_n_n_0_1_140961024.siIdx (ix3 t d f) ⟨0, by decide⟩)).toInt.toNat (16 - 1) + 0 + 0 = min (w (ix2 t 0)).toInt.toNat 15
    rw [show gather_S16x4096x1024_S208x1_S208x4096x1024_12_0_n_n_0_1_140961024.siIdx (ix3 t d f) ⟨0, by decide⟩ = ix2 t 0 from
      funext fun a => Fin.ext (by match a with | ⟨0, _⟩ => rfl | ⟨1, _⟩ => rfl)]
    rfl
  | ⟨1, _⟩ => exact (show 0 + 0 + d.val = d.val by omega)
  | ⟨2, _⟩ => exact (show 0 + 0 + f.val = f.val by omega)

/-- The matrices that a gather of the down projection's weights reads. -/
theorem gather_down (y : S16x1024x4096.Idx → EReal) (w : IVec S208x1 32) (t : Fin 208) (f : Fin 1024) (j : Fin 4096) :
    Host.gather gather_S16x1024x4096_S208x1_S208x1024x4096_12_0_n_n_0_1_110244096 y w (ix3 t f j)
      = y (ix3 ⟨min (w (ix2 t 0)).toInt.toNat 15, by omega⟩ f j) := by
  unfold Host.gather
  refine congrArg y (funext fun a => Fin.ext ?_)
  match a with
  | ⟨0, _⟩ =>
    show min (w (gather_S16x1024x4096_S208x1_S208x1024x4096_12_0_n_n_0_1_110244096.siIdx (ix3 t f j) ⟨0, by decide⟩)).toInt.toNat (16 - 1) + 0 + 0 = min (w (ix2 t 0)).toInt.toNat 15
    rw [show gather_S16x1024x4096_S208x1_S208x1024x4096_12_0_n_n_0_1_110244096.siIdx (ix3 t f j) ⟨0, by decide⟩ = ix2 t 0 from
      funext fun a => Fin.ext (by match a with | ⟨0, _⟩ => rfl | ⟨1, _⟩ => rfl)]
    rfl
  | ⟨1, _⟩ => exact (show 0 + 0 + f.val = f.val by omega)
  | ⟨2, _⟩ => exact (show 0 + 0 + j.val = j.val by omega)

/-- A small word is its number, signed too. -/
theorem small_word {v : BitVec 32} (h : v.toNat < 2147483648) : v.toInt.toNat = v.toNat := by
  rw [BitVec.toInt_eq_toNat_cond]; split <;> omega

/-- The choice that wraps a negative index leaves a small word as it is. -/
theorem wrap_small {v w : BitVec 32} (h : v.toNat < 2147483648) : Scalar.select (IntOp.cmpi .slt v 0#32) w v = v := by
  have h1 : ¬ IntOp.cmpi .slt v 0#32 = 1#1 := fun e => by
    have e' : v.toInt < (0#32).toInt := IntOp.cmpi_slt.1 e
    rw [BitVec.toInt_eq_toNat_cond, if_pos (by omega)] at e'
    have : (0#32).toInt = 0 := by decide
    omega
  unfold Scalar.select
  exact if_neg h1

variable (x0 : S24576x4096.Idx → EReal) (x1 : S4096.Idx → EReal) (x2 : S208.Idx → BitVec 32) (x3 : S1.Idx → BitVec 32)
  (x4 : S208x1x256.Idx → BitVec 32) (x5 x6 : S16x4096x1024.Idx → EReal) (x7 : S16x1024x4096.Idx → EReal)

/-- The normed rows. -/
theorem ref_norm (n : Fin 24576) (d : Fin 4096) :
    val_main_v12 (F := Ideal) x0 x1 (ix2 n d) = normed (fun d => x0 (ix2 n d)) (fun d => x1 (ix1 d)) d := by
  unfold normed
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]

/-- The wrapped table of rows. -/
theorem ref_row (h : ∀ y, (x4 y).toNat < 24576) (t : Fin 208) (r : Fin 256) : val_main_v19 (F := Ideal) x4 (ix3 t r 0) = x4 (ix3 t 0 r) := by
  pointwise [val_main_v19, val_main_v18, val_main_v17, val_main_v16, val_main_v15, val_main_v14, val_main_v13, val_main_c, val_main_c_2]
  exact wrap_small (by have := h (ix3 t 0 r); omega)

/-- The wrapped tables of experts. -/
theorem ref_expert (h : ∀ y, (x2 y).toNat < 16) (t : Fin 208) : val_main_v26 (F := Ideal) x2 (ix2 t 0) = x2 (ix1 t) := by
  pointwise [val_main_v26, val_main_v25, val_main_v24, val_main_v23, val_main_v22, val_main_v21, val_main_c_3, val_main_c_4]
  exact wrap_small (by have := h (ix1 t); omega)
/-- The second table of experts is the first. -/
theorem ref_expert' : val_main_v34 (F := Ideal) x2 = val_main_v26 x2 := rfl
/-- The third table of experts is the first. -/
theorem ref_expert'' : val_main_v44 (F := Ideal) x2 = val_main_v26 x2 := rfl

/-- The gathered normed rows. -/
theorem ref_rows (h : ∀ y, (x4 y).toNat < 24576) (t : Fin 208) (r : Fin 256) (d : Fin 4096) : val_main_v20 (F := Ideal) x0 x1 x4 (ix3 t r d)
    = normed (fun d => x0 (ix2 (rowAt (x4 (ix3 t 0 r))) d)) (fun d => x1 (ix1 d)) d := by
  have e := h (ix3 t 0 r)
  unfold val_main_v20
  rw [gather_rows, ref_norm]
  simp only [ref_row x4 h, small_word (v := x4 (ix3 t 0 r)) (by omega), rowAt]

/-- The gathered weights. -/
theorem ref_gate (h : ∀ y, (x2 y).toNat < 16) (t : Fin 208) (d : Fin 4096) (f : Fin 1024) :
    val_main_v27 (F := Ideal) x2 x5 (ix3 t d f) = x5 (ix3 (expertAt (x2 (ix1 t))) d f) := by
  have e := h (ix1 t)
  unfold val_main_v27
  rw [gather_up]
  simp only [ref_expert x2 h, small_word (v := x2 (ix1 t)) (by omega), expertAt]
/-- The gathered up weights. -/
theorem ref_up (h : ∀ y, (x2 y).toNat < 16) (t : Fin 208) (d : Fin 4096) (f : Fin 1024) :
    val_main_v35 (F := Ideal) x2 x6 (ix3 t d f) = x6 (ix3 (expertAt (x2 (ix1 t))) d f) := ref_gate x2 x6 h t d f
/-- The gathered down weights. -/
theorem ref_down (h : ∀ y, (x2 y).toNat < 16) (t : Fin 208) (f : Fin 1024) (j : Fin 4096) :
    val_main_v45 (F := Ideal) x2 x7 (ix3 t f j) = x7 (ix3 (expertAt (x2 (ix1 t))) f j) := by
  have e := h (ix1 t)
  unfold val_main_v45
  rw [gather_down]
  simp only [ref_expert'', ref_expert x2 h, small_word (v := x2 (ix1 t)) (by omega), expertAt]

/-- The hidden entries. -/
theorem ref_hidden (h2 : ∀ y, (x2 y).toNat < 16) (h4 : ∀ y, (x4 y).toNat < 24576) (t : Fin 208) (r : Fin 256) (f : Fin 1024) :
    val_main_v38 (F := Ideal) x0 x1 x2 x4 x5 x6 (ix3 t r f)
      = hidden (fun d => x0 (ix2 (rowAt (x4 (ix3 t 0 r))) d)) (fun d => x1 (ix1 d))
        (fun d => x5 (ix3 (expertAt (x2 (ix1 t))) d f)) (fun d => x6 (ix3 (expertAt (x2 (ix1 t))) d f)) := by
  pointwise [val_main_v38, val_main_v37, val_main_call0_v5, val_main_call0_v4, val_main_call0_v3, val_main_call0_v2, val_main_call0_v1, val_main_call0_v0,
    val_main_v36, val_main_v28, val_main_call0_cst, val_main_call0_cst_0]
  simp only [ref_rows x0 x1 x4 h4, ref_gate x2 _ h2, ref_up x2 _ h2]
  rfl

/-- Which tiles the mask keeps. -/
theorem ref_live (hn : ∀ y, (x3 y).toNat ≤ 208) (t : Fin 208) (r : Fin 256) (j : Fin 4096) :
    val_main_call1_v1 (F := Ideal) x3 (ix3 t r j) = 1#1 ↔ t.val < (x3 (ix1 0)).toNat := by
  pointwise [val_main_call1_v1, val_main_v51, val_main_v50, val_main_v48, val_main_v47, val_main_v49]
  have h := hn (ix1 0)
  have h' := t.isLt
  rw [IntOp.cmpi_slt]
  have e : (BitVec.ofNat 32 t.val).toNat = t.val := by rw [BitVec.toNat_ofNat]; omega
  rw [BitVec.toInt_eq_toNat_cond, if_pos (by omega), BitVec.toInt_eq_toNat_cond, if_pos (by omega), e]
  exact Int.ofNat_lt

/-- The reference's result. -/
theorem ref_total (h2 : ∀ y, (x2 y).toNat < 16) (h4 : ∀ y, (x4 y).toNat < 24576) (hn : ∀ y, (x3 y).toNat ≤ 208) (a : Fin 53248) (j : Fin 4096) :
    val_main_v54 (F := Ideal) x0 x1 x2 x3 x4 x5 x6 x7 (ix2 a j) = total x0 x1 x2 x3 x4 x5 x6 x7 (ix2 a j) := by
  pointwise [val_main_v54, val_main_v53, val_main_v52, val_main_v46, val_main_call1_v2]
  simp only [ref_hidden x0 x1 x2 x4 x5 x6 h2 h4, ref_down x2 x7 h2]
  unfold Scalar.select total tileRow
  refine if_congr (ref_live x3 hn _ _ _) rfl ?_
  show Ideal.ofBits .f32 0x00000000#32 = 0
  simp [Ideal.ofBits, Ideal.ieee]

end Cert.MoeRefIdeal.Hand
end
end
-- ==== Proof.Moe.Value.lean ====
module
public import proofs.«01_k».proof.Proof.Moe.Blocks
public import proofs.«01_k».proof.Proof.Moe.Ref

/-! The experts' call and its reference compute the same array. -/

@[expose] public section
set_option maxRecDepth 16384
noncomputable section
namespace Cert.MoeIdeal.Hand
open Cert.MoeIdeal Cert.MoeIdeal.Gen Idealize.ShloMosaic Idealize.ShloMosaic.TcCoe Idealize.SL.Sem

variable (m : (ℓ : Loc nD τ sig) → Buf (Elt Ideal) ℓ) (hG : Good m) (c : Dev nD)

/-- The experts' rows of a device's arguments. -/
def wanted : S53248x4096.Idx → EReal :=
  Cert.Moe.Spec.total (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

/-- The result's block at a tile. -/
theorem out_ix : ∀ t : Fin grid0.N, cc0_transform_7 (grid0.coords t) = ![t.val, 0] := by decide +kernel

/-- A row of a tile, in the result. -/
def outRow (t : Fin 208) (r : Fin 256) : Fin 53248 := ⟨256 * t.val + r.val, by omega⟩

/-- The rows a tile's point leaves are the wanted ones. -/
theorem wanted_at (t : Fin grid0.N) (r : Fin 256) (j : Fin 4096) :
    (dats m hG 0 c).after 6 t (ix2 r j : S256x4096.Idx) = wanted m c (ix2 (outRow t r) j) := by
  rw [tile_at]
  have ht : t.val < 208 := t.isLt
  have hd : (256 * t.val + r.val) / 256 = t.val := by omega
  have hm : (256 * t.val + r.val) % 256 = r.val := by omega
  unfold wanted Cert.Moe.Spec.total
  show _ = if (256 * t.val + r.val) / 256 < _ then Cert.Moe.Spec.tileRow _ _ _ _ _ _ _ ⟨(256 * t.val + r.val) / 256, _⟩ ⟨(256 * t.val + r.val) % 256, _⟩ j else 0
  simp only [hd, hm]
  rfl

/-- The call's result array. -/
theorem result : (dats m hG 0 c).arrAt 6 (cfgM m hG).N = wanted m c := by
  refine (dats m hG 0 c).arrAt_eq_of_covers 6 _ (of_decide_eq_true (by sl_kernel_rfl)) fun t hf (y : S256x4096.Idx) => ?_
  blk_simp
  have y0 : (y 0).val < 256 := (y 0).isLt
  have y1 : (y 1).val < 4096 := (y 1).isLt
  have hy : y = (ix2 (⟨(y 0).val, y0⟩ : Fin 256) (⟨(y 1).val, y1⟩ : Fin 4096) : S256x4096.Idx) := by
    funext a
    fin_cases a <;> rfl
  have e : (((cfgM m hG).win 6).blk t).view.emb y = (ix2 (outRow t ⟨(y 0).val, y0⟩) ⟨(y 1).val, y1⟩ : S53248x4096.Idx) := by
    funext a
    refine Fin.ext ?_
    have h := out_ix t
    fin_cases a
    · show cc0_transform_7 (grid0.coords t) 0 * 256 + 1 * (y 0).val = 256 * t.val + (y 0).val
      rw [h]; show t.val * 256 + 1 * (y 0).val = _; omega
    · show cc0_transform_7 (grid0.coords t) 1 * 4096 + 1 * (y 1).val = (y 1).val
      rw [h]; show 0 * 4096 + 1 * (y 1).val = _; omega
  exact ((congrArg ((dats m hG 0 c).after 6 t) hy).trans (wanted_at m hG c t _ _)).trans (congrArg (wanted m c) e).symm

/-- The two idealizations compute the same array. -/
theorem algebraic : Cert.algebraic_MoeIdeal_MoeRefIdeal := by
  intro m g m' g' hpre hx
  have hG : Good m := good_ideal m hpre
  refine ⟨fun c => wanted m c, ?_, ?_⟩
  · refine (θ_run Cert.MoeIdeal.defs _ _).mono ?_ (run_main m g hG)
    intro r h c
    exact ⟨((h.1 c).1 (6 : Fin 7)).trans (result m hG c), kept_of m h.1 c⟩
  · refine (θ_run Cert.MoeRefIdeal.defs _ _).mono ?_ (Cert.MoeRefIdeal.Value.run (F := Ideal) m' g')
    intro r h c
    obtain ⟨x0, x1, x2, x3, x4, x5, x6, x7⟩ := hx c
    refine ⟨(h c).1.trans ?_, (h c).2⟩
    refine (Cert.MoeRefIdeal.Read.val_main_v54_eq _ _).trans ?_
    rw [x0, x1, x2, x3, x4, x5, x6, x7]
    obtain rfl : c = 0 := Subsingleton.elim _ _
    have hn := nOf_facts m hG
    funext i
    rw [show i = ix2 (i 0) (i 1) from by funext a; fin_cases a <;> rfl]
    exact Cert.MoeRefIdeal.Hand.ref_total _ _ _ _ _ _ _ _ hG.expert hG.rows
      (fun y => by rw [hn.2.2 y, BitVec.toNat_ofNat]; omega) _ _

end Cert.MoeIdeal.Hand
end
end
-- ==== Proof.AttnB.Spec.lean ====
module
public import proofs.«01_k».proof.Proof.Attn.Spec

/-! What the attention of the head group whose keys lie 4 positions apart is, row by row; a sequence here is one of the 16 residue classes. -/

@[expose] public section
set_option maxRecDepth 16384
noncomputable section
namespace Cert.Proof.AttnB
open Cert.Proof.Attn Idealize.ShloMosaic

/-- The bits of the slopes of the group's eight heads. -/
def slopeBits : Fin 8 → BitVec 32 :=
  ![0x3E000000#32, 0x3DCB2FF5#32, 0x3DA14518#32, 0x3D800000#32, 0x3D4B2FF5#32, 0x3D214518#32, 0x3D000000#32, 0x3CCB2FF5#32]

/-- The slope of a head. -/
def slope (h : Fin 8) : EReal := Ideal.ofBits .f32 (slopeBits h)

variable (x : (⟨2, ![8192, 3072]⟩ : Shape).Idx → EReal)

/-- Column `e` of head `h` in third `s` (queries, keys, values) of the row of place `t` in class `b`. -/
def part (s : Fin 3) (b : Fin 16) (t : Fin 512) (h : Fin 8) (e : Fin 128) : EReal :=
  x (ix2 ⟨b.val * 512 + t.val, by omega⟩ ⟨s.val * 1024 + (h.val * 128 + e.val), by omega⟩)

/-- The score of place `j` for the query at `t`: minus infinity outside the band. Neighbours in a class are 4 positions apart. -/
def row (b : Fin 16) (h : Fin 8) (t : Fin 512) (j : Fin 512) : EReal :=
  if Attn.dist t.val j.val ≤ 64 then
    (∑ e, part x 0 b t h e * part x 1 b j h e) * scale - slope h * ((((Attn.dist t.val j.val : ℕ) * 4 : ℕ) : ℝ) : EReal)
  else ⊥

/-- The attention's output. -/
def attn (b : Fin 16) (t : Fin 512) (h : Fin 8) (e : Fin 128) : EReal :=
  rowOut (row x b h t) fun j => part x 2 b j h e

/-- The logarithm of the attention's denominator. -/
def lse (b : Fin 16) (t : Fin 512) (h : Fin 8) : EReal := rowLse (row x b h t)

/-- The class `g` of sequence `b`. -/
def cl (b : Fin 4) (g : Fin 4) : Fin 16 := ⟨b.val * 4 + g.val, by omega⟩

/-- The distance in positions, as the body computes it. -/
theorem step_mul (d : ℕ) : ((d : ℝ) : EReal) * Ideal.ofBits .f32 0x40800000#32 = (((d * 4 : ℕ) : ℝ) : EReal) := by
  have h : Ideal.ofBits .f32 0x40800000#32 = ((4 : ℝ) : EReal) := by
    simp [Ideal.ofBits, Ideal.ieee]
    rw [← EReal.coe_mul]
    norm_num
  rw [h, ← EReal.coe_mul]
  push_cast
  rfl

end Cert.Proof.AttnB
-- ==== Proof.AttnB.Head.lean ====
module
public import proofs.«01_k».proof.Proof.Gen.AttnBIdeal.Value
public import Idealize.ShloMosaic.Lib.Pipeline.ValueKit
public import proofs.«01_k».proof.Proof.AttnB.Spec

/-! One head of the attention call, as a function of the head's query, key and value blocks. -/

@[expose] public section
set_option maxRecDepth 16384
noncomputable section
namespace Cert.Proof.AttnB
open Cert.Proof.Attn
open Cert.AttnBIdeal Cert.AttnBIdeal.Gen Cert.AttnBIdeal.Facts Idealize.ShloMosaic Idealize.ShloMosaic.TcCoe Idealize.SL.Sem

/-- The masked scores of a head whose slope has the bits `b`. -/
def sc (i : grid0.Coords) (b : BitVec 32) (q : Vec Ideal S1x128x128 .bf16) (k : Vec Ideal S1x256x128 .bf16) :
    FVec Ideal S128x256 .f32 :=
  select (k0_pay3 i)
    (subf (mulf (matmul dot_S128x128_S256x128_S128x256_1_1_0_0_n_n none (shapeCast S128x128 q shapeCasts_S1x128x128_S128x128 : FVec Ideal S128x128 .bf16)
        (shapeCast S256x128 k shapeCasts_S1x256x128_S256x128 : FVec Ideal S256x128 .bf16) (constant S128x256 .f32 0x00000000#32))
        (broadcast S128x256 (Scalar.ofBits .f32 0x3DB504F3#32)))
      (mulf (broadcast S128x256 (Scalar.ofBits .f32 b)) (k0_pay4 (F := Ideal) i)))
    (broadcast S128x256 (Named.named κ "mask" 0xF149F2CA#32))

/-- The row maxima of scores. -/
def mx (s : FVec Ideal S128x256 .f32) : FVec Ideal S128x1 .f32 :=
  shapeCast S128x1 (multiReduction .maximumf [1] S128 s 0xFF800000#32 reduces_S128x256_S128 (.inl rfl) rfl) shapeCasts_S128_S128x1

/-- The weights before division. -/
def ex (s : FVec Ideal S128x256 .f32) : FVec Ideal S128x256 .f32 :=
  exp (subf s (broadcastTo S128x256 (mx s) broadcasts_S128x1_S128x256))

/-- The row sums of the weights. -/
def dn (s : FVec Ideal S128x256 .f32) : FVec Ideal S128x1 .f32 :=
  shapeCast S128x1 (multiReduction .add [1] S128 (ex s) 0x00000000#32 reduces_S128x256_S128 (.inl rfl) rfl) shapeCasts_S128_S128x1

/-- The head's output block. -/
def ho (s : FVec Ideal S128x256 .f32) (v : Vec Ideal S1x256x128 .bf16) : FVec Ideal S1x128x128 .bf16 :=
  shapeCast S1x128x128 (truncf .bf16 (divf (matmul dot_S128x256_S256x128_S128x128_1_0_0_1_n_n none (truncf .bf16 (ex s) bitsLt_bf16_f32)
    (shapeCast S256x128 v shapeCasts_S1x256x128_S256x128 : FVec Ideal S256x128 .bf16) (constant S128x128 .f32 0x00000000#32))
    (broadcastTo S128x128 (dn s) broadcasts_S128x1_S128x128)) bitsLt_bf16_f32) shapeCasts_S128x128_S1x128x128

/-- One step of the log-sum-exp tile: lane `h` takes the head's column. -/
def ls (h : BitVec 32) (s : FVec Ideal S128x256 .f32) (prev : FVec Ideal S128x128 .f32) : FVec Ideal S128x128 .f32 :=
  select (cmpi .eq (iota Kind.tc S128x128 32 [1] iota_S128x128_d1_w32) (broadcast S128x128 h))
    (broadcastTo S128x128 (shapeCast S128x1 (addf (mx s) (log (dn s))) shapeCasts_S128x1_S128x1) broadcasts_S128x1_S128x128) prev

/-- Where a query block's key window starts. -/
def st (n : ℕ) : ℕ := min 256 (128 * n - 64)

/-- The start of the key window less that of the query block, as a word. -/
theorem startWord (n : ℕ) (h : n < 4) :
    Scalar.subi (Scalar.minsi 256#32 (Scalar.maxsi 0#32 (Scalar.subi (Scalar.muli (BitVec.ofNat 32 n) 128#32) 64#32)))
      (Scalar.muli (BitVec.ofNat 32 n) 128#32) = BitVec.ofInt 32 ((st n : ℤ) - 128 * n) := by
  interval_cases n <;> rfl

/-- A masked score: minus infinity outside the band. -/
theorem sc_apply (i : grid0.Coords) (b : BitVec 32) (q : Vec Ideal S1x128x128 .bf16) (k : Vec Ideal S1x256x128 .bf16) (r : Fin 128) (c : Fin 256) :
    sc i b q k (ix2 r c) = if Attn.dist (128 * (i 1).val + r.val) (st (i 1).val + c.val) ≤ 64 then
      (∑ e : Fin 128, q (ix3 0 r e) * k (ix3 0 c e)) * scale
        - Ideal.ofBits .f32 b * ((((Attn.dist (128 * (i 1).val + r.val) (st (i 1).val + c.val) : ℕ) * 4 : ℕ) : ℝ) : EReal) else ⊥ := by
  have hi : (i 1).val < 4 := (i 1).isLt
  have hs : st (i 1).val ≤ 256 := Nat.min_le_left _ _
  pointwise [sc, k0_pay3, k0_pay4, k0_pay2]
  have hk : (Named.named κ "mask" 4048155338#32 : Ideal .f32) = (⊥ : EReal) := IdealRules.named_const.ideal_named_scalar _ _ _ _ rfl
  rw [hk, startWord _ hi, natWord c.val, natWord r.val, wsub, wadd, show (64#32) = BitVec.ofInt 32 64 from rfl,
    wabs _ (by omega) (by omega)]
  rw [wdist (Attn.dist (128 * (i 1).val + r.val) (st (i 1).val + c.val)) (128 * (i 1).val + r.val) (st (i 1).val + c.val) _ (by push_cast; ring) rfl]
  have hd : Attn.dist (128 * (i 1).val + r.val) (st (i 1).val + c.val) < 4096 := by unfold Attn.dist; omega
  generalize Attn.dist (128 * (i 1).val + r.val) (st (i 1).val + c.val) = d at hd
  rw [wsle _ _ (by omega) (by omega), wfp _ (by omega) (by omega), sel]
  simp only [Int.cast_natCast, show ((d : ℤ) ≤ 64) ↔ d ≤ 64 by omega]
  rw [← step_mul]
  rfl

/-- A row's maximum, as the body computes it. -/
theorem mx_apply (s : FVec Ideal S128x256 .f32) (r : Fin 128) (z : Fin 1) :
    mx s (ix2 r z) = rowMax fun c : Fin 256 => s (ix2 r c) := by
  pointwise [mx]
  rw [show Ideal.ofBits .f32 4286578688#32 = ⊥ by simp [Ideal.ofBits, Ideal.ieee]]
  rfl

/-- A row's exponentials, as the body computes them. -/
theorem ex_apply (s : FVec Ideal S128x256 .f32) (r : Fin 128) (c : Fin 256) :
    ex s (ix2 r c) = Ideal.exp (s (ix2 r c) - rowMax fun c : Fin 256 => s (ix2 r c)) := by
  pointwise [ex]
  rw [mx_apply]

/-- A row's denominator, as the body computes it. -/
theorem dn_apply (s : FVec Ideal S128x256 .f32) (r : Fin 128) (z : Fin 1) :
    dn s (ix2 r z) = rowDen fun c : Fin 256 => s (ix2 r c) := by
  pointwise [dn]
  simp only [ex_apply]
  rfl

/-- A head's output is the row's weighted mean of the values. -/
theorem ho_apply (s : FVec Ideal S128x256 .f32) (v : Vec Ideal S1x256x128 .bf16) (z : Fin 1) (r : Fin 128) (e : Fin 128) :
    ho s v (ix3 z r e) = rowOut (fun c : Fin 256 => s (ix2 r c)) fun c => v (ix3 0 c e) := by
  pointwise [ho]
  simp only [ex_apply, dn_apply]
  rfl

/-- One step of the tile of log-sum-exps. -/
theorem ls_apply (h : Fin 8) (s : FVec Ideal S128x256 .f32) (prev : FVec Ideal S128x128 .f32) (r : Fin 128) (e : Fin 128) :
    ls (BitVec.ofNat 32 h.val) s prev (ix2 r e) = if e.val = h.val then rowLse (fun c : Fin 256 => s (ix2 r c)) else prev (ix2 r e) := by
  pointwise [ls]
  rw [mx_apply, dn_apply]
  have : IntOp.cmpi .eq (BitVec.ofNat 32 e.val) (BitVec.ofNat 32 h.val) = BitVec.ofBool (decide (e.val = h.val)) := by
    show BitVec.ofBool (BitVec.ofNat 32 e.val == BitVec.ofNat 32 h.val) = _
    congr 1
    rw [Bool.eq_iff_iff]
    simp only [beq_iff_eq, decide_eq_true_eq, ← BitVec.toNat_inj, BitVec.toNat_ofNat]
    omega
  rw [this, sel]
  rfl

/-- A head's row of scores is the attention's row read through the key window. -/
theorem headWindow (x : (⟨2, ![8192, 3072]⟩ : Shape).Idx → EReal) (i : grid0.Coords) (b : Fin 16) (h : Fin 8)
    (q : Vec Ideal S1x128x128 .bf16) (k : Vec Ideal S1x256x128 .bf16) (hi : (i 1).val < 4) (hs : st (i 1).val + 256 ≤ 512)
    (hq : ∀ (r e : Fin 128), q (ix3 0 r e) = part x 0 b ⟨128 * (i 1).val + r.val, by omega⟩ h e)
    (hk : ∀ (c : Fin 256) (e : Fin 128), k (ix3 0 c e) = part x 1 b ⟨st (i 1).val + c.val, by omega⟩ h e) (r : Fin 128) :
    Window (fun c : Fin 256 => Attn.dist (128 * (i 1).val + r.val) (st (i 1).val + c.val) ≤ 64)
      (fun c => (⟨st (i 1).val + c.val, by omega⟩ : Fin 512)) (fun c => sc i (slopeBits h) q k (ix2 r c))
      (row x b h ⟨128 * (i 1).val + r.val, by omega⟩) where
  on c hc := by
    rw [sc_apply, if_pos hc, row, if_pos hc]
    simp only [hq, hk]
    rfl
  off c hc := by rw [sc_apply, if_neg hc]
  inj a c _ _ hac := by
    have := congrArg Fin.val hac
    exact Fin.ext (by simpa using this)
  cov j hj := by
    have hd : Attn.dist (128 * (i 1).val + r.val) j.val ≤ 64 := by
      by_contra hn
      exact hj (by rw [row, if_neg hn])
    have hd' := hd
    unfold Attn.dist at hd'
    have hst : st (i 1).val = min 256 (128 * (i 1).val - 64) := rfl
    refine ⟨⟨j.val - st (i 1).val, by omega⟩, ?_, Fin.ext ?_⟩
    · show Attn.dist _ (st (i 1).val + (j.val - st (i 1).val)) ≤ 64
      rw [show st (i 1).val + (j.val - st (i 1).val) = j.val by omega]; exact hd
    · show st (i 1).val + (j.val - st (i 1).val) = j.val
      omega

end Cert.Proof.AttnB
-- ==== Proof.AttnB.Block.lean ====
module
public import proofs.«01_k».proof.Proof.AttnB.Head

/-! The blocks that a grid point of the attention call reads, and the two blocks that it writes. -/

@[expose] public section
set_option maxRecDepth 16384
noncomputable section
namespace Cert.Proof.AttnB
open Cert.Proof.Attn
open Cert.AttnBIdeal Cert.AttnBIdeal.Gen Cert.AttnBIdeal.Facts Idealize.ShloMosaic Idealize.ShloMosaic.TcCoe Idealize.SL.Sem
variable (m : (ℓ : Loc nD τ sig) → Buf (Elt Ideal) ℓ)

/-- The argument on a device. -/
abbrev argX (c : Dev nD) : (⟨2, ![8192, 3072]⟩ : Shape).Idx → EReal := m ((c : Thread nD τ).loc main_arg0)

/-- Where each window's block lies. -/
theorem idx : ∀ t : Fin cfg0.N, win0_0.index t = ![(grid0.coords t 0).val, (grid0.coords t 1).val, 0]
    ∧ win0_1.index t = ![(grid0.coords t 0).val, 0, 1] ∧ win0_2.index t = ![(grid0.coords t 0).val, 0, 2]
    ∧ win0_3.index t = ![(grid0.coords t 0).val, (grid0.coords t 1).val, 0]
    ∧ win0_4.index t = ![(grid0.coords t 0).val, (grid0.coords t 1).val, 0] := by decide +kernel

/-- The class of a grid point. -/
def sq (t : Fin cfg0.N) : Fin 16 := ⟨(grid0.coords t 0).val, (grid0.coords t 0).isLt⟩

/-- The blocks of queries of a class. -/
theorem c1_lt (t : Fin cfg0.N) : (grid0.coords t 1).val < 4 := (grid0.coords t 1).isLt

/-- The key window lies within the class. -/
theorem st_le (t : Fin cfg0.N) : st (grid0.coords t 1).val + 256 ≤ 512 := by
  have : st (grid0.coords t 1).val ≤ 256 := Nat.min_le_left _ _
  omega

/-- The reshaped argument at an index. -/
theorem V_at (c : Dev nD) (b : Fin 16) (t : Fin 512) (e : Fin 3072) :
    V m c main_v0 (ix3 b t e) = argX m c (ix2 ⟨b.val * 512 + t.val, by omega⟩ e) := by
  entry_read
  pointwise []

/-- The block of queries at a grid point. -/
theorem q_at (c : Dev nD) (t : Fin cfg0.N) (r : Fin 128) (h : Fin 8) (e : Fin 128) :
    iblk m c 0 t (ix3 0 r ⟨128 * h.val + e.val, by omega⟩)
      = part (argX m c) 0 (sq t) ⟨128 * (grid0.coords t 1).val + r.val, by have := c1_lt t; omega⟩ h e := by
  have h1 := c1_lt t
  blk_simp [iblk]
  have : (win0_0.blk t).view.emb (ix3 0 r ⟨128 * h.val + e.val, by omega⟩)
      = ix3 (sq t) ⟨128 * (grid0.coords t 1).val + r.val, by omega⟩ ⟨0 * 1024 + (h.val * 128 + e.val), by omega⟩ := by
    blk_ext [idx t, sq]
  rw [this, V_at]
  rfl

/-- The block of keys at a grid point: the whole class. -/
theorem k_at (c : Dev nD) (t : Fin cfg0.N) (j : Fin 512) (h : Fin 8) (e : Fin 128) :
    iblk m c 1 t (ix3 0 j ⟨128 * h.val + e.val, by omega⟩) = part (argX m c) 1 (sq t) j h e := by
  blk_simp [iblk]
  have : (win0_1.blk t).view.emb (ix3 0 j ⟨128 * h.val + e.val, by omega⟩)
      = ix3 (sq t) j ⟨1 * 1024 + (h.val * 128 + e.val), by omega⟩ := by
    blk_ext [idx t, sq]
  rw [this, V_at]
  rfl

/-- The block of values at a grid point: the whole class. -/
theorem v_at (c : Dev nD) (t : Fin cfg0.N) (j : Fin 512) (h : Fin 8) (e : Fin 128) :
    iblk m c 2 t (ix3 0 j ⟨128 * h.val + e.val, by omega⟩) = part (argX m c) 2 (sq t) j h e := by
  blk_simp [iblk]
  have : (win0_2.blk t).view.emb (ix3 0 j ⟨128 * h.val + e.val, by omega⟩)
      = ix3 (sq t) j ⟨2 * 1024 + (h.val * 128 + e.val), by omega⟩ := by
    blk_ext [idx t, sq]
  rw [this, V_at]
  rfl

/-- Where the key window of each head begins. -/
theorem offs : ∀ i : grid0.Coords, k0_off1 i = ![0, st (i 1).val, 128 * 0] ∧ k0_off2 i = ![0, st (i 1).val, 128 * 1]
    ∧ k0_off3 i = ![0, st (i 1).val, 128 * 2] ∧ k0_off4 i = ![0, st (i 1).val, 128 * 3] ∧ k0_off5 i = ![0, st (i 1).val, 128 * 4]
    ∧ k0_off6 i = ![0, st (i 1).val, 128 * 5] ∧ k0_off7 i = ![0, st (i 1).val, 128 * 6] ∧ k0_off8 i = ![0, st (i 1).val, 128 * 7] := by
  decide +kernel

/-- One head's columns of a block of queries. -/
theorem ld_q (f : S1x128x1024.Idx → EReal) (off : Fin 3 → ℕ) (o : ℕ) (hoff : off = ![0, 0, o]) (inb) (r e : Fin 128) (ho : o + 128 ≤ 1024) :
    View.ld (Val := Elt Ideal) (e' := .bf16) f (Rect.unit (s := S1x128x1024) off ![1, 128, 128] inb) (ix3 0 r e) = f (ix3 0 r ⟨o + e.val, by omega⟩) := by
  subst hoff
  rw [View.ld_apply]
  refine congrArg f (funext fun a => Fin.ext ?_)
  rw [Rect.idx_unit_val]
  match a with
  | ⟨0, _⟩ => rfl
  | ⟨1, _⟩ => exact Nat.zero_add _
  | ⟨2, _⟩ => rfl

/-- One head's columns of a window of keys or values. -/
theorem ld_kv (f : S1x512x1024.Idx → EReal) (off : Fin 3 → ℕ) (s o : ℕ) (hoff : off = ![0, s, o]) (inb) (r : Fin 256) (e : Fin 128)
    (hs : s + 256 ≤ 512) (ho : o + 128 ≤ 1024) :
    View.ld (Val := Elt Ideal) (e' := .bf16) f (Rect.unit (s := S1x512x1024) off ![1, 256, 128] inb) (ix3 0 r e)
      = f (ix3 0 ⟨s + r.val, by omega⟩ ⟨o + e.val, by omega⟩) := by
  subst hoff
  rw [View.ld_apply]
  refine congrArg f (funext fun a => Fin.ext ?_)
  rw [Rect.idx_unit_val]
  match a with
  | ⟨0, _⟩ => rfl
  | ⟨1, _⟩ => rfl
  | ⟨2, _⟩ => rfl

/-- The query, key and value blocks of head `h` at a grid point. -/
structure Loads (c : Dev nD) (t : Fin cfg0.N) (h : Fin 8) (q : Vec Ideal S1x128x128 .bf16) (k v : Vec Ideal S1x256x128 .bf16) : Prop where
  q : ∀ (r e : Fin 128), q (ix3 0 r e) = part (argX m c) 0 (sq t) ⟨128 * (grid0.coords t 1).val + r.val, by have := c1_lt t; omega⟩ h e
  k : ∀ (j : Fin 256) (e : Fin 128), k (ix3 0 j e) = part (argX m c) 1 (sq t) ⟨st (grid0.coords t 1).val + j.val, by have := st_le t; omega⟩ h e
  v : ∀ (j : Fin 256) (e : Fin 128), v (ix3 0 j e) = part (argX m c) 2 (sq t) ⟨st (grid0.coords t 1).val + j.val, by have := st_le t; omega⟩ h e

/-- The loads of head `h` are its blocks. -/
theorem loads (c : Dev nD) (t : Fin cfg0.N) (h : Fin 8) (oq ok : Fin 3 → ℕ) (hq : oq = ![0, 0, 128 * h.val])
    (hk : ok = ![0, st (grid0.coords t 1).val, 128 * h.val]) (iq ik iv) :
    Loads m c t h (View.ld (Val := Elt Ideal) (e' := .bf16) (iblk m c 0 t) (Rect.unit (s := S1x128x1024) oq ![1, 128, 128] iq))
      (View.ld (Val := Elt Ideal) (e' := .bf16) (iblk m c 1 t) (Rect.unit (s := S1x512x1024) ok ![1, 256, 128] ik))
      (View.ld (Val := Elt Ideal) (e' := .bf16) (iblk m c 2 t) (Rect.unit (s := S1x512x1024) ok ![1, 256, 128] iv)) where
  q r e := (ld_q (iblk m c 0 t) oq (128 * h.val) hq iq r e (by omega)).trans (q_at m c t r h e)
  k j e := (ld_kv (iblk m c 1 t) ok _ (128 * h.val) hk ik j e (st_le t) (by omega)).trans (k_at m c t _ h e)
  v j e := (ld_kv (iblk m c 2 t) ok _ (128 * h.val) hk iv j e (st_le t) (by omega)).trans (v_at m c t _ h e)

variable {m}

/-- A head's output block is the attention at the block's positions. -/
theorem Loads.out {c : Dev nD} {t : Fin cfg0.N} {h : Fin 8} {q : Vec Ideal S1x128x128 .bf16} {k v : Vec Ideal S1x256x128 .bf16}
    (L : Loads m c t h q k v) (z : Fin 1) (r e : Fin 128) :
    ho (sc (grid0.coords t) (slopeBits h) q k) v (ix3 z r e)
      = attn (argX m c) (sq t) ⟨128 * (grid0.coords t 1).val + r.val, by have := c1_lt t; omega⟩ h e := by
  rw [ho_apply]
  exact (headWindow _ _ _ h q k (c1_lt t) (st_le t) L.q L.k r).rowOut _ _ fun j _ => L.v j e

/-- A head's rows have the attention's log-sum-exp. -/
theorem Loads.lse {c : Dev nD} {t : Fin cfg0.N} {h : Fin 8} {q : Vec Ideal S1x128x128 .bf16} {k v : Vec Ideal S1x256x128 .bf16}
    (L : Loads m c t h q k v) (r : Fin 128) :
    rowLse (fun j : Fin 256 => sc (grid0.coords t) (slopeBits h) q k (ix2 r j))
      = AttnB.lse (argX m c) (sq t) ⟨128 * (grid0.coords t 1).val + r.val, by have := c1_lt t; omega⟩ h :=
  (headWindow _ _ _ h q k (c1_lt t) (st_le t) L.q L.k r).rowLse

/-- One of the eight stores of the output block. -/
theorem piece {c : Dev nD} {t : Fin cfg0.N} {h : Fin 8} {q : Vec Ideal S1x128x128 .bf16} {k v : Vec Ideal S1x256x128 .bf16}
    (L : Loads m c t h q k v) (P : FVec Ideal S1x128x128 .bf16) (hP : P = ho (sc (grid0.coords t) (slopeBits h) q k) v)
    (y : S1x128x128.Idx) (r : Fin 128) (col : Fin 1024) (hr : r.val = (y 1).val) (hc : col.val = 128 * h.val + (y 2).val) :
    P y = attn (argX m c) (sq t) ⟨128 * (grid0.coords t 1).val + r.val, by have := c1_lt t; omega⟩
      ⟨col.val / 128, by omega⟩ ⟨col.val % 128, by omega⟩ := by
  subst hP
  idx_vars y
  have e2 : (y2 : ℕ) < 128 := y2.isLt
  have hr' : r = y1 := Fin.ext hr
  have hc' : col.val = 128 * h.val + y2.val := hc
  subst hr'
  rw [L.out]
  congr 1
  · exact Fin.ext (by show h.val = col.val / 128; omega)
  · exact Fin.ext (by show y2.val = col.val % 128; omega)

variable (m)

/-- What a grid point writes to the output's block. -/
theorem out_block (c : Dev nD) (t : Fin cfg0.N) (z : Fin 1) (r : Fin 128) (col : Fin 1024) :
    (dats m 0 c).after 3 t (ix3 z r col) = attn (argX m c) (sq t) ⟨128 * (grid0.coords t 1).val + r.val, by have := c1_lt t; omega⟩
      ⟨col.val / 128, by omega⟩ ⟨col.val % 128, by omega⟩ := by
  obtain ⟨o1, o2, o3, o4, o5, o6, o7, o8⟩ := offs (grid0.coords t)
  rw [after0_3]
  simp only [outsAt0]
  frame_out
  canon_tiles y h
  case piece0 => exact piece (loads m c t 7 _ _ rfl o8 _ _ _) _ rfl y r col h1 h2
  case piece1 => exact piece (loads m c t 6 _ _ rfl o7 _ _ _) _ rfl y r col h1 h2
  case piece2 => exact piece (loads m c t 5 _ _ rfl o6 _ _ _) _ rfl y r col h1 h2
  case piece3 => exact piece (loads m c t 4 _ _ rfl o5 _ _ _) _ rfl y r col h1 h2
  case piece4 => exact piece (loads m c t 3 _ _ rfl o4 _ _ _) _ rfl y r col h1 h2
  case piece5 => exact piece (loads m c t 2 _ _ rfl o3 _ _ _) _ rfl y r col h1 h2
  case piece6 => exact piece (loads m c t 1 _ _ rfl o2 _ _ _) _ rfl y r col h1 h2
  case piece7 => exact piece (loads m c t 0 _ _ rfl o1 _ _ _) _ rfl y r col h1 (h2.trans (Nat.zero_add _).symm)

/-- A tile of log-sum-exps whose first `n` lanes are filled. -/
def Upto (c : Dev nD) (t : Fin cfg0.N) (n : ℕ) (T : FVec Ideal S128x128 .f32) : Prop :=
  ∀ (r : Fin 128) (col : Fin 128), T (ix2 r col) = if h : col.val < 8 ∧ col.val < n then
    AttnB.lse (argX m c) (sq t) ⟨128 * (grid0.coords t 1).val + r.val, by have := c1_lt t; omega⟩ ⟨col.val, h.1⟩ else 0

/-- The tile before the first head is zero. -/
theorem upto_zero (c : Dev nD) (t : Fin cfg0.N) : Upto m c t 0 (k0_pay5 (F := Ideal)) := by
  intro r col
  rw [dif_neg (by omega)]
  show Ideal.ofBits .f32 0x00000000#32 = 0
  simp [Ideal.ofBits, Ideal.ieee]

variable {m} in
/-- The next head fills its lane. -/
theorem Upto.step {c : Dev nD} {t : Fin cfg0.N} {n : ℕ} {T : FVec Ideal S128x128 .f32} (hT : Upto m c t n T) (h : Fin 8) (hn : h.val = n)
    {q : Vec Ideal S1x128x128 .bf16} {k v : Vec Ideal S1x256x128 .bf16} (L : Loads m c t h q k v) :
    Upto m c t (n + 1) (ls (BitVec.ofNat 32 h.val) (sc (grid0.coords t) (slopeBits h) q k) T) := by
  intro r col
  rw [ls_apply, L.lse, hT r col]
  by_cases hc : col.val = h.val
  · rw [if_pos hc, dif_pos ⟨by omega, by omega⟩]
    exact congrArg _ (Fin.ext hc.symm)
  · rw [if_neg hc]
    by_cases h' : col.val < 8 ∧ col.val < n
    · rw [dif_pos h', dif_pos ⟨h'.1, by omega⟩]
    · rw [dif_neg h', dif_neg (by omega)]

variable {m} in
theorem Upto.block {c : Dev nD} {t : Fin cfg0.N} {T : FVec Ideal S128x128 .f32} (hT : Upto m c t 8 T) (P : FVec Ideal S1x128x128 .f32)
    (hP : P = shapeCast S1x128x128 T shapeCasts_S128x128_S1x128x128) (z : Fin 1) (r : Fin 128) (col : Fin 128) :
    P (ix3 z r col) = if h : col.val < 8 then
      AttnB.lse (argX m c) (sq t) ⟨128 * (grid0.coords t 1).val + r.val, by have := c1_lt t; omega⟩ ⟨col.val, h⟩ else 0 := by
  subst hP
  pointwise []
  rw [hT r col]
  by_cases h' : col.val < 8
  · rw [dif_pos ⟨h', h'⟩, dif_pos h']
  · rw [dif_neg (fun h => h' h.1), dif_neg h']

/-- What a grid point writes to the block of log-sum-exps: lane `h` below 8 is head `h`, the other lanes are zero. -/
theorem lse_block (c : Dev nD) (t : Fin cfg0.N) (z : Fin 1) (r : Fin 128) (col : Fin 128) :
    (dats m 0 c).after 4 t (ix3 z r col) = if h : col.val < 8 then
      AttnB.lse (argX m c) (sq t) ⟨128 * (grid0.coords t 1).val + r.val, by have := c1_lt t; omega⟩ ⟨col.val, h⟩ else 0 := by
  obtain ⟨o1, o2, o3, o4, o5, o6, o7, o8⟩ := offs (grid0.coords t)
  have U := ((((((((upto_zero m c t).step 0 rfl
    (loads m c t 0 _ _ rfl o1 inb_S1x128x1024_S1x128x128_0_0_0 (k0_off1_inb _) (k0_off1_inb _))).step 1 rfl
    (loads m c t 1 _ _ rfl o2 inb_S1x128x1024_S1x128x128_0_0_128 (k0_off2_inb _) (k0_off2_inb _))).step 2 rfl
    (loads m c t 2 _ _ rfl o3 inb_S1x128x1024_S1x128x128_0_0_256 (k0_off3_inb _) (k0_off3_inb _))).step 3 rfl
    (loads m c t 3 _ _ rfl o4 inb_S1x128x1024_S1x128x128_0_0_384 (k0_off4_inb _) (k0_off4_inb _))).step 4 rfl
    (loads m c t 4 _ _ rfl o5 inb_S1x128x1024_S1x128x128_0_0_512 (k0_off5_inb _) (k0_off5_inb _))).step 5 rfl
    (loads m c t 5 _ _ rfl o6 inb_S1x128x1024_S1x128x128_0_0_640 (k0_off6_inb _) (k0_off6_inb _))).step 6 rfl
    (loads m c t 6 _ _ rfl o7 inb_S1x128x1024_S1x128x128_0_0_768 (k0_off7_inb _) (k0_off7_inb _))).step 7 rfl
    (loads m c t 7 _ _ rfl o8 inb_S1x128x1024_S1x128x128_0_0_896 (k0_off8_inb _) (k0_off8_inb _))
  rw [after0_4]
  simp only [outsAt0]
  frame_out
  exact U.block _ rfl z r col
end Cert.Proof.AttnB
-- ==== Proof.AttnB.Arrays.lean ====
module
public import proofs.«01_k».proof.Proof.AttnB.Block

/-! What the attention call's two result arrays hold after the run. -/

@[expose] public section
set_option maxRecDepth 16384
noncomputable section
namespace Cert.Proof.AttnB
open Cert.Proof.Attn
open Cert.AttnBIdeal Cert.AttnBIdeal.Gen Idealize.ShloMosaic Idealize.ShloMosaic.TcCoe Idealize.SL.Sem

/-- The attention's output as an array. -/
def outArr (x : (⟨2, ![8192, 3072]⟩ : Shape).Idx → EReal) : S16x512x1024.Idx → EReal := fun i =>
  attn x (i 0) (i 1) ⟨(i 2).val / 128, by have : (i 2).val < 1024 := (i 2).isLt; omega⟩ ⟨(i 2).val % 128, Nat.mod_lt _ (by norm_num)⟩

/-- The log-sum-exps as an array of 128 lanes, the first eight of which are heads. -/
def lseArr (x : (⟨2, ![8192, 3072]⟩ : Shape).Idx → EReal) : S16x512x128.Idx → EReal := fun i =>
  if h : (i 2).val < 8 then lse x (i 0) (i 1) ⟨(i 2).val, h⟩ else 0

variable (m : (ℓ : Loc nD τ sig) → Buf (Elt Ideal) ℓ)

/-- The call's first result array. -/
theorem arr3 (c : Dev nD) : (dats m 0 c).arrAt 3 cfg0.N = outArr (argX m c) := by
  refine (dats m 0 c).arrAt_eq_of_covers 3 _ (by decide +kernel) fun t hf y => ?_
  blk_simp
  have h1 : (y 1).val < 128 := (y 1).isLt
  have h2 : (y 2).val < 1024 := (y 2).isLt
  have hy : y = (ix3 (0 : Fin 1) (⟨(y 1).val, h1⟩ : Fin 128) (⟨(y 2).val, h2⟩ : Fin 1024) : (cfg0.win 3).block.Idx) := by
    have h0 : (y 0).val < 1 := (y 0).isLt
    funext a
    fin_cases a
    · exact Fin.ext (by simpa using h0)
    · rfl
    · rfl
  have e : ((cfg0.win 3).blk t).view.emb y
      = (ix3 (sq t) ⟨128 * (grid0.coords t 1).val + (y 1).val, by have := c1_lt t; omega⟩ (⟨(y 2).val, h2⟩ : Fin 1024) : S16x512x1024.Idx) := by
    blk_ext [idx t, sq]
  exact ((congrArg ((dats m 0 c).after 3 t) hy).trans (out_block m c t _ _ _)).trans (congrArg (outArr (argX m c)) e).symm

/-- The call's second result array. -/
theorem arr4 (c : Dev nD) : (dats m 0 c).arrAt 4 cfg0.N = lseArr (argX m c) := by
  refine (dats m 0 c).arrAt_eq_of_covers 4 _ (by decide +kernel) fun t hf y => ?_
  blk_simp
  have h1 : (y 1).val < 128 := (y 1).isLt
  have h2 : (y 2).val < 128 := (y 2).isLt
  have hy : y = (ix3 (0 : Fin 1) (⟨(y 1).val, h1⟩ : Fin 128) (⟨(y 2).val, h2⟩ : Fin 128) : (cfg0.win 4).block.Idx) := by
    have h0 : (y 0).val < 1 := (y 0).isLt
    funext a
    fin_cases a
    · exact Fin.ext (by simpa using h0)
    · rfl
    · rfl
  have e : ((cfg0.win 4).blk t).view.emb y
      = (ix3 (sq t) ⟨128 * (grid0.coords t 1).val + (y 1).val, by have := c1_lt t; omega⟩ (⟨(y 2).val, h2⟩ : Fin 128) : S16x512x128.Idx) := by
    blk_ext [idx t, sq]
  exact ((congrArg ((dats m 0 c).after 4 t) hy).trans (lse_block m c t _ _ _)).trans (congrArg (lseArr (argX m c)) e).symm

end Cert.Proof.AttnB
-- ==== Proof.AttnB.RefMask.lean ====
module
public import proofs.«01_k».proof.Proof.Gen.AttnBRefIdeal.Read
public import proofs.«01_k».proof.Proof.AttnB.Spec
public import Idealize.ShloMosaic.PureOps.Ideal.Laws
@[expose] public section
set_option maxRecDepth 16384
noncomputable section
namespace Cert.Proof.AttnB
open Cert.Proof.Attn
open Cert.AttnBRefIdeal Cert.AttnBRefIdeal.Read Idealize.ShloMosaic Idealize.ShloMosaic.TcCoe Idealize.SL.Sem
variable (x : (⟨S8192x3072, .bf16⟩ : BufTy).Contents (Elt Ideal))

/-- The reference's slopes. -/
theorem ref_slope (h : Fin 8) : val_main_v38 (F := Ideal) (ix1 h) = slope h := by
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20,
    val_main_v19, val_main_v18, val_main_v17, val_main_v16, val_main_v15, val_main_v14, val_main_v13,
    val_main_call0_v0, val_main_call1_v0, val_main_call2_v0, val_main_call3_v0, val_main_call4_v0, val_main_call5_v0, val_main_call6_v0, val_main_call7_v0,
    val_main_c, val_main_c_1, val_main_c_3, val_main_c_5, val_main_c_7, val_main_c_9, val_main_c_11, val_main_c_13,
    val_main_cst, val_main_cst_0, val_main_cst_2, val_main_cst_4, val_main_cst_6, val_main_cst_8, val_main_cst_10, val_main_cst_12, val_main_cst_14]
  fin_cases h <;> rfl

/-- The reference's mask. -/
theorem ref_mask (n : Fin 8) (q : Fin 64) (k : Fin 192) : val_main_v98 (F := Ideal) (ix3 n q k) =
    BitVec.ofBool (decide (Attn.dist (n.val * 64 + q.val) (n.val * 64 + k.val - 64) ≤ 64 ∧ 64 ≤ n.val * 64 + k.val ∧ n.val * 64 + k.val - 64 < 512)) := by
  pointwise [val_main_v98, val_main_v97, val_main_v96, val_main_v95, val_main_v94, val_main_v93, val_main_v92, val_main_v91, val_main_v90, val_main_v89, val_main_v88, val_main_v87,
   val_main_v86, val_main_v85, val_main_v84, val_main_v83, val_main_v82, val_main_v81, val_main_v80, val_main_v79, val_main_v78, val_main_v77, val_main_v76, val_main_v75, val_main_v56, val_main_v55,
   val_main_v54, val_main_v53, val_main_v52, val_main_v51, val_main_v50, val_main_v49, val_main_v48, val_main_c_18, val_main_c_24, val_main_c_25, val_main_c_26, val_main_c_27, val_main_c_28]
  simp only [natWord, show (64#32) = BitVec.ofInt 32 64 from rfl, show (0#32) = BitVec.ofInt 32 0 from rfl, show (512#32) = BitVec.ofInt 32 512 from rfl, wsub, wadd, wmul]
  rw [wabs _ (by omega) (by omega), wsle _ _ ⟨by have := abs_nonneg ((k.val : ℤ) - 64 - q.val); omega, by rw [abs_lt]; omega⟩ (by omega), wsge _ _ (by omega) (by omega), wslt _ _ (by omega) (by omega)]
  have h1 : (|(k.val : ℤ) - 64 - q.val| ≤ 64) ↔ (k.val ≤ q.val + 128 ∧ q.val ≤ k.val) := by rw [abs_le]; omega
  have h2 : (Attn.dist (n.val * 64 + q.val) (n.val * 64 + k.val - 64) ≤ 64 ∧ 64 ≤ n.val * 64 + k.val ∧ n.val * 64 + k.val - 64 < 512)
      ↔ ((k.val ≤ q.val + 128 ∧ q.val ≤ k.val) ∧ (0 : ℤ) ≤ (n.val : ℤ) * 64 + k.val - 64 ∧ (n.val : ℤ) * 64 + k.val - 64 < 512) := by unfold Attn.dist; omega
  unfold IntOp.andi
  simp only [h1, h2, Bool.decide_and, BitVec.ofBool_and_ofBool]

/-- The reference's bias. -/
theorem ref_alibi (h : Fin 8) (q : Fin 64) (k : Fin 192) : val_main_v108 (F := Ideal) (ix3 h q k) = -slope h * (((|(k.val : ℤ) - 64 - q.val| * 4 : ℤ) : ℝ) : EReal) := by
  pointwise [val_main_v108,val_main_v107,val_main_v106, val_main_v105,val_main_v104,val_main_v103,val_main_v102,val_main_v101,val_main_v100,val_main_v99,
    val_main_v83, val_main_v82, val_main_v81, val_main_v80, val_main_v79, val_main_v78, val_main_v77, val_main_v76, val_main_v75, val_main_c_24, val_main_c_29]
  rw [ref_slope]
  simp only [natWord, show (64#32) = BitVec.ofInt 32 64 from rfl, show (4#32) = BitVec.ofInt 32 4 from rfl, wsub, wadd]
  rw [wabs _ (by omega) (by omega), wmul, wfp _ (by have := abs_nonneg ((k.val : ℤ) - 64 - q.val); omega) (by have h1 : |(k.val : ℤ) - 64 - q.val| < 1024 := abs_lt.mpr ⟨by omega, by omega⟩; omega)]
end Cert.Proof.AttnB
-- ==== Proof.AttnB.RefGather.lean ====
module
public import proofs.«01_k».proof.Proof.Gen.AttnBRefIdeal.Read
public import proofs.«01_k».proof.Proof.AttnB.Spec
public import Idealize.ShloMosaic.PureOps.Ideal.Laws
@[expose] public section
set_option maxRecDepth 16384
noncomputable section
namespace Cert.Proof.AttnB
open Cert.Proof.Attn
open Cert.AttnBRefIdeal Cert.AttnBRefIdeal.Read Idealize.ShloMosaic Idealize.ShloMosaic.TcCoe Idealize.SL.Sem
variable (x : (⟨S8192x3072, .bf16⟩ : BufTy).Contents (Elt Ideal))

/-- The position that the gather of the values reads. -/
theorem ref_idx (n : Fin 8) (k : Fin 192) : val_main_v69 (F := Ideal) (ix3 n k 0) = BitVec.ofInt 32 ((n.val * 64 + k.val : ℕ) : ℤ) := by
  pointwise [val_main_v69, val_main_v68, val_main_v67, val_main_v66, val_main_v65, val_main_v64, val_main_v56, val_main_v55,
   val_main_v54, val_main_v53, val_main_v52, val_main_v51, val_main_v50, val_main_v49, val_main_v48, val_main_c_18,val_main_c_21,val_main_c_22]
  simp only [natWord, show (64#32) = BitVec.ofInt 32 64 from rfl, show (0#32) = BitVec.ofInt 32 0 from rfl, show (640#32) = BitVec.ofInt 32 640 from rfl, wadd, wmul]
  rw [wslt _ _ (by omega) (by omega), show decide ((n.val : ℤ) * 64 + k.val < 0) = false from decide_eq_false (by omega)]
  simp [Scalar.select]

/-- The keys are gathered at the same positions. -/
theorem ref_idx' : val_main_v62 (F := Ideal) = val_main_v69 (F := Ideal) := rfl

/-- What a gather of padded keys or values reads. -/
theorem gather_at (y : S4x4x640x8x128.Idx → EReal) (b : Fin 4) (g : Fin 4) (n : Fin 8) (k : Fin 192) (h : Fin 8) (e : Fin 128) :
    Host.gather gather_S4x4x640x8x128_S8x192x1_S4x4x8x192x8x128_0145_2_n_n_2_2_4418128 y (val_main_v69 (F := Ideal)) (ix6 b g n k h e)
      = y (ix5 b g ⟨n.val * 64 + k.val, by omega⟩ h e) := by
  have hi := ref_idx n k
  generalize val_main_v69 (F := Ideal) = w at hi
  unfold Host.gather
  refine congrArg y (funext fun a => Fin.ext ?_)
  match a with
  | ⟨0, _⟩ => exact (show 0 + 0 + b.val = b.val by omega)
  | ⟨1, _⟩ => exact (show 0 + 0 + g.val = g.val by omega)
  | ⟨2, _⟩ =>
    show min (w (gather_S4x4x640x8x128_S8x192x1_S4x4x8x192x8x128_0145_2_n_n_2_2_4418128.siIdx (ix6 b g n k h e) ⟨0, by decide⟩)).toInt.toNat (640 - 1) + 0 + 0 = n.val * 64 + k.val
    rw [show gather_S4x4x640x8x128_S8x192x1_S4x4x8x192x8x128_0145_2_n_n_2_2_4418128.siIdx (ix6 b g n k h e) ⟨0, by decide⟩ = ix3 n k 0 from
      funext fun a => Fin.ext (by match a with | ⟨0, _⟩ => rfl | ⟨1, _⟩ => rfl | ⟨2, _⟩ => rfl), hi, wInt _ (by omega) (by omega)]
    omega
  | ⟨3, _⟩ => exact (show 0 + 0 + h.val = h.val by omega)
  | ⟨4, _⟩ => exact (show 0 + 0 + e.val = e.val by omega)
end Cert.Proof.AttnB
-- ==== Proof.AttnB.RefParts.lean ====
module
public import proofs.«01_k».proof.Proof.Gen.AttnBRefIdeal.Read
public import proofs.«01_k».proof.Proof.AttnB.Spec
public import Idealize.ShloMosaic.PureOps.Ideal.Laws
@[expose] public section
set_option maxRecDepth 16384
noncomputable section
namespace Cert.Proof.AttnB
open Cert.Proof.Attn
open Cert.AttnBRefIdeal Cert.AttnBRefIdeal.Read Idealize.ShloMosaic Idealize.ShloMosaic.TcCoe Idealize.SL.Sem
variable (x : (⟨S8192x3072, .bf16⟩ : BufTy).Contents (Elt Ideal))

/-- The reference's queries by block. -/
theorem ref_q (b : Fin 4) (g : Fin 4) (n : Fin 8) (q : Fin 64) (h : Fin 8) (e : Fin 128) :
    val_main_v71 x (ix6 b g n q h e) = part x 0 (cl b g) ⟨n.val * 64 + q.val, by omega⟩ h e := by
  pointwise [val_main_v71, val_main_v41, val_main_v40, val_main_v39, val_main_v6, val_main_v5, val_main_v4, val_main_v1, val_main_v0]
  rw [dif_pos (by omega)]
  refine congrArg x (congrArg₂ ix2 (Fin.ext ?_) (Fin.ext ?_)) <;> simp [cl] <;> omega

/-- The reference's padded keys. -/
theorem ref_kc (b : Fin 4) (g : Fin 4) (j : Fin 640) (h : Fin 8) (e : Fin 128) (h1 : 64 ≤ j.val) (h2 : j.val - 64 < 512) :
    val_main_v44 x (ix5 b g j h e) = part x 1 (cl b g) ⟨j.val - 64, h2⟩ h e := by
  pointwise [val_main_v44, val_main_v43, val_main_v42, val_main_v9, val_main_v8, val_main_v7, val_main_v2, val_main_v0]
  rw [dif_pos ⟨h1, h2⟩]
  refine congrArg x (congrArg₂ ix2 (Fin.ext ?_) (Fin.ext ?_)) <;> simp [cl] <;> omega

/-- The reference's padded values. -/
theorem ref_vc (b : Fin 4) (g : Fin 4) (j : Fin 640) (h : Fin 8) (e : Fin 128) (h1 : 64 ≤ j.val) (h2 : j.val - 64 < 512) :
    val_main_v47 x (ix5 b g j h e) = part x 2 (cl b g) ⟨j.val - 64, h2⟩ h e := by
  pointwise [val_main_v47, val_main_v46, val_main_v45, val_main_v12, val_main_v11, val_main_v10, val_main_v3, val_main_v0]
  rw [dif_pos ⟨h1, h2⟩]
  refine congrArg x (congrArg₂ ix2 (Fin.ext ?_) (Fin.ext ?_)) <;> simp [cl] <;> omega
end Cert.Proof.AttnB
-- ==== Proof.AttnB.RefRow.lean ====
module
public import proofs.«01_k».proof.Proof.Gen.AttnBRefIdeal.Read
public import proofs.«01_k».proof.Proof.AttnB.Spec
public import Idealize.ShloMosaic.PureOps.Ideal.Laws
@[expose] public section
set_option maxRecDepth 16384
noncomputable section
namespace Cert.Proof.AttnB
open Cert.Proof.Attn
open Cert.AttnBRefIdeal Cert.AttnBRefIdeal.Read Idealize.ShloMosaic Idealize.ShloMosaic.TcCoe Idealize.SL.Sem
variable (x : (⟨S8192x3072, .bf16⟩ : BufTy).Contents (Elt Ideal))

/-- The reference's masked score. -/
theorem ref_s (b : Fin 4) (g : Fin 4) (n : Fin 8) (q : Fin 64) (k : Fin 192) (h : Fin 8) : val_main_v113 x (ix6 b g n h q k) =
   Scalar.select (val_main_v98 (F := Ideal) (ix3 n q k))
      ((∑ e, val_main_v71 x (ix6 b g n q h e) * val_main_v63 x (ix6 b g n k h e)) * scale + val_main_v108 (F := Ideal) (ix3 h q k)) ⊥ := by
  pointwise [val_main_v113, val_main_v112, val_main_v111, val_main_v110, val_main_v109, val_main_v74, val_main_v73, val_main_v72, val_main_call11_v0, val_main_call11_v1, val_main_call11_v2, val_main_cst_30, val_main_cst_23]
  have : (id (constant (F := Ideal) S_ FTy.f32 4286578688#32) ix0 : Ideal .f32) = (⊥ : EReal) := by
    show Ideal.ofBits .f32 0xFF800000#32 = ⊥
    simp [Ideal.ofBits, Ideal.ieee]
  rw [this]; rfl

/-- The maximum of the reference's row. -/
theorem ref_m (b : Fin 4) (g : Fin 4) (n : Fin 8) (q : Fin 64) (h : Fin 8) : val_main_v114 x (ix5 b g n h q) = rowMax fun k : Fin 192 => val_main_v113 x (ix6 b g n h q k) := by
  unfold val_main_v114
  generalize val_main_v113 x = y
  rw [show (FloatOps.maximumf : Ideal .f32 → Ideal .f32 → Ideal .f32) = (max : EReal → EReal → EReal) from rfl,
    Host.reduce_eq_fold_single (max : EReal → EReal → EReal) y _ Gen.reducesTo_S4x4x8x8x64x192_S4x4x8x8x64_d5 (by decide)]
  have : (val_main_cst_31 (F := Ideal) (Shape.Idx.first Gen.h_S_) : EReal) = ⊥ := by
    show Ideal.ofBits .f32 0xFF800000#32 = ⊥
    simp [Ideal.ofBits, Ideal.ieee]
  rw [this]
  unfold rowMax Finset.sup
  refine Finset.fold_congr fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The exponentials of the reference's row. -/
theorem ref_e (b : Fin 4) (g : Fin 4) (n : Fin 8) (q : Fin 64) (h : Fin 8) (k : Fin 192): val_main_v118 x (ix6 b g n h q k) =
    Ideal.exp (val_main_v113 x (ix6 b g n h q k) - rowMax fun k : Fin 192 => val_main_v113 x (ix6 b g n h q k)) := by
  rw [← ref_m]
  pointwise [val_main_v118, val_main_v117, val_main_v116, val_main_v115]

/-- The denominator of the reference's row. -/
theorem ref_d (b : Fin 4) (g : Fin 4) (n : Fin 8) (q : Fin 64) (h : Fin 8) : val_main_v119 x (ix5 b g n h q) = rowDen fun k : Fin 192 => val_main_v113 x (ix6 b g n h q k) := by
  rw [val_main_v119_apply]
  have : (val_main_cst_32 (F := Ideal) (Shape.Idx.first Gen.h_S_) : EReal) = 0 := by
    show Ideal.ofBits .f32 0x00000000#32 = 0
    simp [Ideal.ofBits, Ideal.ieee]
  rw [this, zero_add]
  unfold rowDen
  refine Finset.sum_congr rfl fun k _ => ?_
  rw [← ref_e]
  exact congrArg _ (funext fun a => Fin.ext (by match a with | ⟨0, _⟩ => rfl | ⟨1, _⟩ => rfl | ⟨2, _⟩ => rfl | ⟨3, _⟩ => rfl | ⟨4, _⟩ => rfl | ⟨5, _⟩ => rfl))

/-- The weights of the reference's row. -/
theorem ref_p (b : Fin 4) (g : Fin 4) (n : Fin 8) (q : Fin 64) (h : Fin 8) (k : Fin 192): val_main_v122 x (ix6 b g n h q k) =
    Ideal.div (Ideal.exp (val_main_v113 x (ix6 b g n h q k) - rowMax fun k : Fin 192 => val_main_v113 x (ix6 b g n h q k))) (rowDen fun k : Fin 192 => val_main_v113 x (ix6 b g n h q k)) := by
  rw [← ref_e, ← ref_d]
  pointwise [val_main_v122, val_main_v121, val_main_v120]
end Cert.Proof.AttnB
-- ==== Proof.AttnB.RefOut.lean ====
module
public import proofs.«01_k».proof.Proof.Gen.AttnBRefIdeal.Read
public import proofs.«01_k».proof.Proof.AttnB.Spec
public import Idealize.ShloMosaic.PureOps.Ideal.Laws
@[expose] public section
set_option maxRecDepth 16384
noncomputable section
namespace Cert.Proof.AttnB
open Cert.Proof.Attn
open Cert.AttnBRefIdeal Cert.AttnBRefIdeal.Read Idealize.ShloMosaic Idealize.ShloMosaic.TcCoe Idealize.SL.Sem
variable (x : (⟨S8192x3072, .bf16⟩ : BufTy).Contents (Elt Ideal))

/-- The reference's output, by class and place. -/
theorem ref_140 (a : Fin 16) (t : Fin 512) (c : Fin 1024) : val_main_v140 x (ix3 a t c) =
    val_main_v135 x (ix4 ⟨a.val / 4, by omega⟩ t ⟨a.val % 4, by omega⟩ c) := by
  rw [val_main_v140_apply, val_main_v139_apply, val_main_v136_apply]
  generalize val_main_v135 x = y
  show y (idx_main_v136 (idx_main_v139 (ix3 a t c))) = _
  refine congrArg y (funext fun k => Fin.ext ?_)
  match k with
  | ⟨0, _⟩ => show ((a.val * 512 + t.val) * 1024 + c.val) / 2097152 = a.val / 4; omega
  | ⟨1, _⟩ => show ((a.val * 512 + t.val) * 1024 + c.val) / 1024 % 512 = t.val; omega
  | ⟨2, _⟩ => show ((a.val * 512 + t.val) * 1024 + c.val) / 524288 % 4 = a.val % 4; omega
  | ⟨3, _⟩ => show ((a.val * 512 + t.val) * 1024 + c.val) % 1024 = c.val; omega

/-- The reference's output, by position. -/
theorem ref_135 (b : Fin 4) (t : Fin 512) (g : Fin 4) (c : Fin 1024) : val_main_v135 x (ix4 b t g c) =
    val_main_v129 x (ix5 b t g ⟨c.val / 128, by omega⟩ ⟨c.val % 128, by omega⟩) := by
  unfold val_main_v135 val_main_v130
  generalize val_main_v129 x = y
  pointwise []

/-- The reference's output, by block of queries. -/
theorem ref_129 (b : Fin 4) (t : Fin 512) (g : Fin 4) (h : Fin 8) (e : Fin 128) : val_main_v129 x (ix5 b t g h e) =
    ∑ k, val_main_v70 x (ix6 b g ⟨t.val / 64, by omega⟩ k h e) * val_main_v122 x (ix6 b g ⟨t.val / 64, by omega⟩ h ⟨t.val % 64, by omega⟩ k) := by
  unfold val_main_v129 val_main_v128 val_main_v124 val_main_v123
  generalize val_main_v70 x = y
  generalize val_main_v122 x = z
  pointwise []

/-- The reference's output. -/
theorem ref_out (a : Fin 16) (t : Fin 512) (c : Fin 1024) : val_main_v140 x (ix3 a t c) =
    ∑ k, val_main_v70 x (ix6 ⟨a.val / 4, by omega⟩ ⟨a.val % 4, by omega⟩ ⟨t.val / 64, by omega⟩ k ⟨c.val / 128, by omega⟩ ⟨c.val % 128, by omega⟩) *
      val_main_v122 x (ix6 ⟨a.val / 4, by omega⟩ ⟨a.val % 4, by omega⟩ ⟨t.val / 64, by omega⟩ ⟨c.val / 128, by omega⟩ ⟨t.val % 64, by omega⟩ k) := by
  rw [ref_140, ref_135, ref_129]
end Cert.Proof.AttnB
-- ==== Proof.AttnB.RefLse.lean ====
module
public import proofs.«01_k».proof.Proof.Gen.AttnBRefIdeal.Read
public import proofs.«01_k».proof.Proof.AttnB.Spec
public import Idealize.ShloMosaic.PureOps.Ideal.Laws
@[expose] public section
set_option maxRecDepth 16384
noncomputable section
namespace Cert.Proof.AttnB
open Cert.Proof.Attn
open Cert.AttnBRefIdeal Cert.AttnBRefIdeal.Read Idealize.ShloMosaic Idealize.ShloMosaic.TcCoe Idealize.SL.Sem
variable (x : (⟨S8192x3072, .bf16⟩ : BufTy).Contents (Elt Ideal))

/-- The reference's padded logarithms. -/
theorem ref_pad (a : Fin 16) (t : Fin 512) (c : Fin 128) : val_main_v142 x (ix3 a t c) =
    if h : c.val < 8 then val_main_v141 x (ix3 a t ⟨c.val, h⟩) else 0 := by
  have h0 : (val_main_call12_v0 (F := Ideal) (Shape.Idx.first Gen.h_S_) : EReal) = 0 := by
    show (((0#32).toInt : ℝ) : EReal) = 0
    simp
  unfold val_main_v142
  generalize val_main_v141 x = y
  pointwise []
  rw [h0]

/-- The reference's logarithms, by sequence, class and place. -/
theorem ref_141a (a : Fin 16) (t : Fin 512) (h : Fin 8) : val_main_v141 x (ix3 a t h) =
    val_main_v137 x (ix4 ⟨a.val / 4, by omega⟩ t ⟨a.val % 4, by omega⟩ h) := by
  unfold val_main_v141 val_main_v138
  generalize val_main_v137 x = y
  pointwise []

/-- The reference's logarithms, by position. -/
theorem ref_137 (b : Fin 4) (t : Fin 512) (g : Fin 4) (h : Fin 8) : val_main_v137 x (ix4 b t g h) = val_main_v133 x (ix4 b t g h) := by
  unfold val_main_v137 val_main_v134
  generalize val_main_v133 x = y
  pointwise []

/-- The reference's logarithms, by class. -/
theorem ref_133 (b : Fin 4) (t : Fin 512) (g : Fin 4) (h : Fin 8) : val_main_v133 x (ix4 b t g h) =
    val_main_v127 x (ix5 b g ⟨t.val / 64, by omega⟩ h ⟨t.val % 64, by omega⟩) := by
  unfold val_main_v133 val_main_v132 val_main_v131
  generalize val_main_v127 x = y
  pointwise []

/-- The reference's logarithms by class and block. -/
theorem ref_141 (a : Fin 16) (t : Fin 512) (h : Fin 8) : val_main_v141 x (ix3 a t h) =
    val_main_v127 x (ix5 ⟨a.val / 4, by omega⟩ ⟨a.val % 4, by omega⟩ ⟨t.val / 64, by omega⟩ h ⟨t.val % 64, by omega⟩) := by
  rw [ref_141a, ref_137, ref_133]

/-- The reference's logarithms by block of queries. -/
theorem ref_127 (b : Fin 4) (g : Fin 4) (n : Fin 8) (h : Fin 8) (q : Fin 64) : val_main_v127 x (ix5 b g n h q) =
    val_main_v126 x (ix6 b g n h q 0) := by
  unfold val_main_v127
  generalize val_main_v126 x = y
  pointwise []
/-- The logarithm of a row of the blocks. -/
theorem ref_126 (b : Fin 4) (g : Fin 4) (n : Fin 8) (h : Fin 8) (q : Fin 64) : val_main_v126 x (ix6 b g n h q 0) =
    val_main_v114 x (ix5 b g n h q) + Ideal.log (val_main_v119 x (ix5 b g n h q)) := by
  rw [val_main_v126_apply, val_main_v125_apply, val_main_v115_apply, val_main_v120_apply]
  generalize val_main_v114 x = y
  generalize val_main_v119 x = z
  have h1 : idx_main_v115 (ix6 b g n h q 0) = ix5 b g n h q :=
    funext fun a => Fin.ext (by match a with | ⟨0, _⟩ => rfl | ⟨1, _⟩ => rfl | ⟨2, _⟩ => rfl | ⟨3, _⟩ => rfl | ⟨4, _⟩ => rfl)
  have h2 : idx_main_v120 (ix6 b g n h q 0) = ix5 b g n h q :=
    funext fun a => Fin.ext (by match a with | ⟨0, _⟩ => rfl | ⟨1, _⟩ => rfl | ⟨2, _⟩ => rfl | ⟨3, _⟩ => rfl | ⟨4, _⟩ => rfl)
  rw [h1, h2]
  rfl
end Cert.Proof.AttnB
-- ==== Proof.AttnB.RefValue.lean ====
module
public import proofs.«01_k».proof.Proof.Attn.RefValue
public import proofs.«01_k».proof.Proof.AttnB.RefMask
public import proofs.«01_k».proof.Proof.AttnB.RefGather
public import proofs.«01_k».proof.Proof.AttnB.RefParts
public import proofs.«01_k».proof.Proof.AttnB.RefRow
public import proofs.«01_k».proof.Proof.AttnB.RefOut
public import proofs.«01_k».proof.Proof.AttnB.RefLse

/-! The host's attention of the group, over blocks of queries and padded keys, is the attention row by row. -/

@[expose] public section
set_option maxRecDepth 16384
noncomputable section
namespace Cert.Proof.AttnB
open Cert.Proof.Attn
open Cert.AttnBRefIdeal Cert.AttnBRefIdeal.Read Idealize.ShloMosaic Idealize.ShloMosaic.TcCoe Idealize.SL.Sem
variable (x : (⟨S8192x3072, .bf16⟩ : BufTy).Contents (Elt Ideal))

/-- The key a block's query and its padded key stand for is in the band. -/
def near (n : Fin 8) (q : Fin 64) (k : Fin 192) : Prop :=
  Attn.dist (n.val * 64 + q.val) (n.val * 64 + k.val - 64) ≤ 64 ∧ 64 ≤ n.val * 64 + k.val ∧ n.val * 64 + k.val - 64 < 512

/-- The position of a block's padded key. -/
def pos (n : Fin 8) (k : Fin 192) : Fin 512 := ⟨min (n.val * 64 + k.val - 64) 511, by omega⟩

/-- The position of a key in the band is not clipped. -/
theorem pos_eq {n : Fin 8} {q : Fin 64} {k : Fin 192} (h : near n q k) :
    pos n k = ⟨n.val * 64 + k.val - 64, h.2.2⟩ := by
  have := h.2.2
  exact Fin.ext (by
    show min (n.val * 64 + k.val - 64) 511 = n.val * 64 + k.val - 64
    omega)

/-- The gathered keys. -/
theorem ref_k {n : Fin 8} {q : Fin 64} {k : Fin 192} (hn : near n q k) (b : Fin 4) (g : Fin 4) (h : Fin 8) (e : Fin 128) :
    val_main_v63 x (ix6 b g n k h e) = part x 1 (cl b g) (pos n k) h e := by
  unfold val_main_v63
  rw [ref_idx', gather_at, ref_kc x b g ⟨n.val * 64 + k.val, by omega⟩ h e hn.2.1 hn.2.2, pos_eq hn]

/-- The gathered values. -/
theorem ref_v {n : Fin 8} {q : Fin 64} {k : Fin 192} (hn : near n q k) (b : Fin 4) (g : Fin 4) (h : Fin 8) (e : Fin 128) :
    val_main_v70 x (ix6 b g n k h e) = part x 2 (cl b g) (pos n k) h e := by
  unfold val_main_v70
  rw [gather_at, ref_vc x b g ⟨n.val * 64 + k.val, by omega⟩ h e hn.2.1 hn.2.2, pos_eq hn]

/-- The host's row of scores is the attention's row read through the block's keys. -/
theorem refWindow (b : Fin 4) (g : Fin 4) (n : Fin 8) (q : Fin 64) (h : Fin 8) :
    Window (near n q) (pos n) (fun k => val_main_v113 x (ix6 b g n h q k)) (row x (cl b g) h ⟨n.val * 64 + q.val, by omega⟩) where
  on k hk := by
    show val_main_v113 x (ix6 b g n h q k) = _
    have hd := hk.1
    rw [ref_s, ref_mask, sel, if_pos (show _ ∧ _ ∧ _ from hk), ref_alibi, row, pos_eq hk, if_pos hd]
    simp only [ref_q, ref_k x hk, pos_eq hk]
    rw [sub_eq_add_neg, EReal.neg_mul]
    congr 4
    rw [wdist (Attn.dist (n.val * 64 + q.val) (n.val * 64 + k.val - 64)) (n.val * 64 + q.val) (n.val * 64 + k.val - 64) _
      (by have := hk.2.1; omega) rfl]
    simp
  off k hk := by
    show val_main_v113 x (ix6 b g n h q k) = _
    rw [ref_s, ref_mask, sel, if_neg (show ¬ (_ ∧ _ ∧ _) from hk)]
  inj a c ha hc hac := by
    have := congrArg Fin.val hac
    rw [pos_eq ha, pos_eq hc] at this
    have h1 := ha.2.1
    have h2 := hc.2.1
    exact Fin.ext (by simp only at this; omega)
  cov j hj := by
    have hd : Attn.dist (n.val * 64 + q.val) j.val ≤ 64 := by
      by_contra hn
      exact hj (by rw [row, if_neg hn])
    have hd' := hd
    unfold Attn.dist at hd'
    have hk : near n q ⟨j.val + 64 - n.val * 64, by omega⟩ := by
      refine ⟨?_, ?_, ?_⟩ <;> simp only
      · rw [show n.val * 64 + (j.val + 64 - n.val * 64) - 64 = j.val by omega]; exact hd
      · omega
      · omega
    exact ⟨_, hk, by rw [pos_eq hk]; exact Fin.ext (by simp only; omega)⟩

/-- A slope is a real number. -/
theorem slope_real (h : Fin 8) : ∃ r : ℝ, slope h = (r : EReal) := by
  unfold slope slopeBits
  fin_cases h <;> simp [Ideal.ofBits, Ideal.ieee] <;> exact ⟨_, (EReal.coe_mul _ _).symm⟩

/-- A score inside the band is a real number. -/
theorem row_real (hx : Finite x) (b : Fin 16) (h : Fin 8) (t j : Fin 512) (hd : Attn.dist t.val j.val ≤ 64) :
    ∃ r : ℝ, row x b h t j = (r : EReal) := by
  obtain ⟨s, hs⟩ := slope_real h
  obtain ⟨a, ha⟩ := scale_real
  obtain ⟨d, hd'⟩ := sum_mul_finite (fun e => part x 0 b t h e) (fun e => part x 1 b j h e)
    (fun e => hx _ _ (by show 0 * 1024 + _ < _; omega)) (fun e => hx _ _ (by show 1 * 1024 + _ < _; omega))
  refine ⟨d * a - s * ((Attn.dist t.val j.val * 4 : ℕ) : ℝ), ?_⟩
  rw [row, if_pos hd, hd', hs, ha]
  push_cast
  rfl

/-- A row of scores of finite queries and keys is real or minus infinity. -/
theorem row_real' (hx : Finite x) (b : Fin 16) (h : Fin 8) (t : Fin 512) : Real' (row x b h t) where
  top j hj := by
    by_cases hd : Attn.dist t.val j.val ≤ 64
    · obtain ⟨r, hr⟩ := row_real x hx b h t j hd
      exact EReal.coe_ne_top r (hr.symm.trans hj)
    · rw [row, if_neg hd] at hj; exact absurd hj bot_ne_top
  one := ⟨t, by
    obtain ⟨r, hr⟩ := row_real x hx b h t t (by unfold Attn.dist; omega)
    rw [hr]; exact EReal.coe_ne_bot r⟩

/-- The host's output at a block's query. -/
theorem ref_out_block (hx : Finite x) (b : Fin 4) (g : Fin 4) (n : Fin 8) (q : Fin 64) (h : Fin 8) (e : Fin 128) :
    ∑ k, val_main_v70 x (ix6 b g n k h e) * val_main_v122 x (ix6 b g n h q k) = attn x (cl b g) ⟨n.val * 64 + q.val, by omega⟩ h e := by
  have w := refWindow x b g n q h
  unfold attn
  rw [← w.rowOut (fun k => val_main_v70 x (ix6 b g n k h e)) _ (fun k hk => ref_v x hk b g h e),
    ← (w.real' (row_real' x hx (cl b g) h _)).outW]
  unfold rowOutW
  refine Finset.sum_congr rfl fun k _ => ?_
  rw [ref_p]
  exact mul_comm _ _

/-- The class of a class number. -/
theorem cl_div (a : Fin 16) : cl ⟨a.val / 4, by omega⟩ ⟨a.val % 4, by omega⟩ = a := Fin.ext (by show a.val / 4 * 4 + a.val % 4 = a.val; omega)

/-- The host's output. -/
theorem ref_value (hx : Finite x) (a : Fin 16) (t : Fin 512) (c : Fin 1024) :
    val_main_v140 x (ix3 a t c) = attn x a t ⟨c.val / 128, by omega⟩ ⟨c.val % 128, Nat.mod_lt _ (by norm_num)⟩ := by
  rw [ref_out]
  refine (ref_out_block x hx _ _ _ _ _ _).trans ?_
  rw [cl_div]
  congr 1
  exact Fin.ext (by show t.val / 64 * 64 + t.val % 64 = t.val; omega)

/-- The host's log-sum-exp. -/
theorem ref_lse (a : Fin 16) (t : Fin 512) (c : Fin 128) :
    val_main_v142 x (ix3 a t c) = if h : c.val < 8 then lse x a t ⟨c.val, h⟩ else 0 := by
  rw [ref_pad]
  split
  · rename_i h
    rw [ref_141, ref_127, ref_126, ref_m, ref_d]
    refine ((refWindow x _ _ _ _ _).rowLse).trans ?_
    rw [cl_div]
    unfold lse
    congr 2
    exact Fin.ext (by show t.val / 64 * 64 + t.val % 64 = t.val; omega)
  · rfl
end Cert.Proof.AttnB
-- ==== Proof.AttnB.Claims.lean ====
module
public import proofs.«01_k».proof.Defs
public import proofs.«01_k».proof.Proof.Gen.AttnB.Frame
public import proofs.«01_k».proof.Proof.Gen.AttnBIdeal.Value
public import proofs.«01_k».proof.Proof.Gen.AttnBRefIdeal.Run
public import proofs.«01_k».proof.Proof.Attn.Claims
public import proofs.«01_k».proof.Proof.AttnB.Arrays
public import proofs.«01_k».proof.Proof.AttnB.RefValue
public import Idealize.ShloMosaic.Init
public import Idealize.ShloMosaic.Adequacy

/-! The claims about the attention call. -/

@[expose] public section
set_option maxRecDepth 16384
noncomputable section
namespace Cert.Proof.AttnB
open Cert.Proof.Attn
open Idealize.ShloMosaic Idealize.ShloMosaic.TcCoe Idealize.SL.Sem

attribute [local instance] facts Cert.AttnB.Gen.facts Cert.AttnBIdeal.Gen.facts Cert.AttnBRefIdeal.Gen.facts

/-- The kernel runs and ends quietly. -/
theorem frame_k : Cert.quiescent_AttnB := fun m g _ => Cert.AttnB.Gen.frame m g

/-- So does its idealization. -/
theorem frame_i : Cert.quiescent_AttnBIdeal := fun m g _ => Cert.AttnBIdeal.Gen.frame m g

/-- So does its idealization under the precondition. -/
theorem frame_ip : Cert.quiescent_AttnBIdeal_pre_finite_queries_keys := fun m g _ => Cert.AttnBIdeal.Gen.frame m g

/-- So does the reference's. -/
theorem frame_r : Cert.quiescent_AttnBRefIdeal := fun m g _ =>
  (θ_run Cert.AttnBRefIdeal.defs _ _).mono (fun r h => ⟨fun c => (h c).2.2, sem_eq_zero_of_no_sems (by decide) r.2⟩)
    (Cert.AttnBRefIdeal.Value.run (F := Ideal) m g)

/-- So does the reference's under the precondition. -/
theorem frame_rp : Cert.quiescent_AttnBRefIdeal_pre_finite_queries_keys := fun m g _ => frame_r m g trivial

/-- The mask constant's idealization. -/
theorem named : Cert.preserves_AttnB_AttnBIdeal :=
  IdealRules.named_const.statement Cert.AttnBIdeal.κ "mask" .f32 0xF149F2CA#32 ⊥ rfl

/-- The two idealizations compute the same two arrays. -/
theorem algebraic : Cert.algebraic_AttnBIdeal_AttnBRefIdeal_pre_finite_queries_keys := by
  intro m g m' g' hpre hx
  refine ⟨fun c => outArr (argX m c), fun c => lseArr (argX m c), ?_, ?_⟩
  · refine (θ_run _ _ _).mono ?_ (Cert.AttnBIdeal.Value.run_blocks m g)
    intro r h c
    obtain ⟨h0, h1, h2⟩ := h c
    exact ⟨h0.trans (arr3 m c), h1.trans (arr4 m c), h2⟩
  · refine (θ_run _ _ _).mono ?_ (Cert.AttnBRefIdeal.Value.run (F := Ideal) m' g')
    intro r h c
    obtain ⟨h0, h1, h2⟩ := h c
    have hf : Finite (argX m c) := finite_of_pre _ (hpre c)
    refine ⟨h0.trans ?_, h1.trans ?_, h2⟩
    · refine (Cert.AttnBRefIdeal.Read.val_main_v140_eq (StableHlo.launchContents m' c)).trans ?_
      rw [StableHlo.launchContents_devRef, hx c]
      funext i
      rw [show i = ix3 (i 0) (i 1) (i 2) from by funext a; fin_cases a <;> rfl]
      exact ref_value _ hf _ _ _
    · refine (Cert.AttnBRefIdeal.Read.val_main_v142_eq (StableHlo.launchContents m' c)).trans ?_
      rw [StableHlo.launchContents_devRef, hx c]
      funext i
      rw [show i = ix3 (i 0) (i 1) (i 2) from by funext a; fin_cases a <;> rfl]
      exact ref_lse _ _ _ _
end Cert.Proof.AttnB
-- ==== Proof.AttnC.Spec.lean ====
module
public import proofs.«01_k».proof.Proof.Attn.Spec

/-! What the attention of the head group whose keys lie 16 positions apart is, row by row; a sequence here is one of the 64 residue classes. -/

@[expose] public section
set_option maxRecDepth 16384
noncomputable section
namespace Cert.Proof.AttnC
open Cert.Proof.Attn Idealize.ShloMosaic

/-- The bits of the slopes of the group's eight heads. -/
def slopeBits : Fin 8 → BitVec 32 :=
  ![0x3CA14518#32, 0x3C800000#32, 0x3C4B2FF5#32, 0x3C214518#32, 0x3C000000#32, 0x3BCB2FF5#32, 0x3BA14518#32, 0x3B800000#32]

/-- The slope of a head. -/
def slope (h : Fin 8) : EReal := Ideal.ofBits .f32 (slopeBits h)

variable (x : (⟨2, ![8192, 3072]⟩ : Shape).Idx → EReal)

/-- Column `e` of head `h` in third `s` (queries, keys, values) of the row of place `t` in class `b`. -/
def part (s : Fin 3) (b : Fin 64) (t : Fin 128) (h : Fin 8) (e : Fin 128) : EReal :=
  x (ix2 ⟨b.val * 128 + t.val, by omega⟩ ⟨s.val * 1024 + (h.val * 128 + e.val), by omega⟩)

/-- The score of place `j` for the query at `t`: minus infinity outside the band. Neighbours in a class are 16 positions apart. -/
def row (b : Fin 64) (h : Fin 8) (t : Fin 128) (j : Fin 128) : EReal :=
  if Attn.dist t.val j.val ≤ 64 then
    (∑ e, part x 0 b t h e * part x 1 b j h e) * scale - slope h * ((((Attn.dist t.val j.val : ℕ) * 16 : ℕ) : ℝ) : EReal)
  else ⊥

/-- The attention's output. -/
def attn (b : Fin 64) (t : Fin 128) (h : Fin 8) (e : Fin 128) : EReal :=
  rowOut (row x b h t) fun j => part x 2 b j h e

/-- The logarithm of the attention's denominator. -/
def lse (b : Fin 64) (t : Fin 128) (h : Fin 8) : EReal := rowLse (row x b h t)

/-- The class `g` of sequence `b`. -/
def cl (b : Fin 4) (g : Fin 16) : Fin 64 := ⟨b.val * 16 + g.val, by omega⟩

/-- The distance in positions, as the body computes it. -/
theorem step_mul (d : ℕ) : ((d : ℝ) : EReal) * Ideal.ofBits .f32 0x41800000#32 = (((d * 16 : ℕ) : ℝ) : EReal) := by
  have h : Ideal.ofBits .f32 0x41800000#32 = ((16 : ℝ) : EReal) := by
    simp [Ideal.ofBits, Ideal.ieee]
    rw [← EReal.coe_mul]
    norm_num
  rw [h, ← EReal.coe_mul]
  push_cast
  rfl

end Cert.Proof.AttnC
-- ==== Proof.AttnC.Head.lean ====
module
public import proofs.«01_k».proof.Proof.Gen.AttnCIdeal.Value
public import Idealize.ShloMosaic.Lib.Pipeline.ValueKit
public import proofs.«01_k».proof.Proof.AttnC.Spec

/-! One head of the attention call, as a function of the head's query, key and value blocks. -/

@[expose] public section
set_option maxRecDepth 16384
noncomputable section
namespace Cert.Proof.AttnC
open Cert.Proof.Attn
open Cert.AttnCIdeal Cert.AttnCIdeal.Gen Cert.AttnCIdeal.Facts Idealize.ShloMosaic Idealize.ShloMosaic.TcCoe Idealize.SL.Sem

/-- The masked scores of a head whose slope has the bits `b`. -/
def sc (i : grid0.Coords) (b : BitVec 32) (q : Vec Ideal S1x128x128 .bf16) (k : Vec Ideal S1x128x128 .bf16) :
    FVec Ideal S128x128 .f32 :=
  select (k0_pay3 i)
    (subf (mulf (matmul dot_S128x128_S128x128_S128x128_1_1_0_0_n_n none (shapeCast S128x128 q shapeCasts_S1x128x128_S128x128 : FVec Ideal S128x128 .bf16)
        (shapeCast S128x128 k shapeCasts_S1x128x128_S128x128 : FVec Ideal S128x128 .bf16) (constant S128x128 .f32 0x00000000#32))
        (broadcast S128x128 (Scalar.ofBits .f32 0x3DB504F3#32)))
      (mulf (broadcast S128x128 (Scalar.ofBits .f32 b)) (k0_pay4 (F := Ideal) i)))
    (broadcast S128x128 (Named.named κ "mask" 0xF149F2CA#32))

/-- The row maxima of scores. -/
def mx (s : FVec Ideal S128x128 .f32) : FVec Ideal S128x1 .f32 :=
  shapeCast S128x1 (multiReduction .maximumf [1] S128 s 0xFF800000#32 reduces_S128x128_S128 (.inl rfl) rfl) shapeCasts_S128_S128x1

/-- The weights before division. -/
def ex (s : FVec Ideal S128x128 .f32) : FVec Ideal S128x128 .f32 :=
  exp (subf s (broadcastTo S128x128 (mx s) broadcasts_S128x1_S128x128))

/-- The row sums of the weights. -/
def dn (s : FVec Ideal S128x128 .f32) : FVec Ideal S128x1 .f32 :=
  shapeCast S128x1 (multiReduction .add [1] S128 (ex s) 0x00000000#32 reduces_S128x128_S128 (.inl rfl) rfl) shapeCasts_S128_S128x1

/-- The head's output block. -/
def ho (s : FVec Ideal S128x128 .f32) (v : Vec Ideal S1x128x128 .bf16) : FVec Ideal S1x128x128 .bf16 :=
  shapeCast S1x128x128 (truncf .bf16 (divf (matmul dot_S128x128_S128x128_S128x128_1_0_0_1_n_n none (truncf .bf16 (ex s) bitsLt_bf16_f32)
    (shapeCast S128x128 v shapeCasts_S1x128x128_S128x128 : FVec Ideal S128x128 .bf16) (constant S128x128 .f32 0x00000000#32))
    (broadcastTo S128x128 (dn s) broadcasts_S128x1_S128x128)) bitsLt_bf16_f32) shapeCasts_S128x128_S1x128x128

/-- One step of the log-sum-exp tile: lane `h` takes the head's column. -/
def ls (h : BitVec 32) (s : FVec Ideal S128x128 .f32) (prev : FVec Ideal S128x128 .f32) : FVec Ideal S128x128 .f32 :=
  select (cmpi .eq (iota Kind.tc S128x128 32 [1] iota_S128x128_d1_w32) (broadcast S128x128 h))
    (broadcastTo S128x128 (shapeCast S128x1 (addf (mx s) (log (dn s))) shapeCasts_S128x1_S128x1) broadcasts_S128x1_S128x128) prev

/-- Where a query block's key window starts: it is the whole class. -/
def st (_ : ℕ) : ℕ := 0

/-- A masked score: minus infinity outside the band. -/
theorem sc_apply (i : grid0.Coords) (b : BitVec 32) (q : Vec Ideal S1x128x128 .bf16) (k : Vec Ideal S1x128x128 .bf16) (r : Fin 128) (c : Fin 128) :
    sc i b q k (ix2 r c) = if Attn.dist (128 * (i 1).val + r.val) (st (i 1).val + c.val) ≤ 64 then
      (∑ e : Fin 128, q (ix3 0 r e) * k (ix3 0 c e)) * scale
        - Ideal.ofBits .f32 b * ((((Attn.dist (128 * (i 1).val + r.val) (st (i 1).val + c.val) : ℕ) * 16 : ℕ) : ℝ) : EReal) else ⊥ := by
  pointwise [sc, k0_pay3, k0_pay4, k0_pay2]
  have hk : (Named.named κ "mask" 4048155338#32 : Ideal .f32) = (⊥ : EReal) := IdealRules.named_const.ideal_named_scalar _ _ _ _ rfl
  rw [hk, show Scalar.subi (0#32) (Scalar.muli 0#32 128#32) = BitVec.ofInt 32 0 from rfl, natWord c.val, natWord r.val, wsub, wadd,
    show (64#32) = BitVec.ofInt 32 64 from rfl, wabs _ (by omega) (by omega)]
  rw [wdist (Attn.dist r.val (st 0 + c.val)) r.val (st 0 + c.val) _ (by rw [show st 0 = 0 from rfl]; push_cast; ring) rfl]
  have hd : Attn.dist r.val (st 0 + c.val) < 4096 := by rw [show st 0 = 0 from rfl]; unfold Attn.dist; omega
  generalize Attn.dist r.val (st 0 + c.val) = d at hd
  rw [wsle _ _ (by omega) (by omega), wfp _ (by omega) (by omega), sel]
  simp only [Int.cast_natCast, show ((d : ℤ) ≤ 64) ↔ d ≤ 64 by omega]
  rw [← step_mul]
  rfl

/-- A row's maximum, as the body computes it. -/
theorem mx_apply (s : FVec Ideal S128x128 .f32) (r : Fin 128) (z : Fin 1) :
    mx s (ix2 r z) = rowMax fun c : Fin 128 => s (ix2 r c) := by
  pointwise [mx]
  rw [show Ideal.ofBits .f32 4286578688#32 = ⊥ by simp [Ideal.ofBits, Ideal.ieee]]
  rfl

/-- A row's exponentials, as the body computes them. -/
theorem ex_apply (s : FVec Ideal S128x128 .f32) (r : Fin 128) (c : Fin 128) :
    ex s (ix2 r c) = Ideal.exp (s (ix2 r c) - rowMax fun c : Fin 128 => s (ix2 r c)) := by
  pointwise [ex]
  rw [mx_apply]

/-- A row's denominator, as the body computes it. -/
theorem dn_apply (s : FVec Ideal S128x128 .f32) (r : Fin 128) (z : Fin 1) :
    dn s (ix2 r z) = rowDen fun c : Fin 128 => s (ix2 r c) := by
  pointwise [dn]
  simp only [ex_apply]
  rfl

/-- A head's output is the row's weighted mean of the values. -/
theorem ho_apply (s : FVec Ideal S128x128 .f32) (v : Vec Ideal S1x128x128 .bf16) (z : Fin 1) (r : Fin 128) (e : Fin 128) :
    ho s v (ix3 z r e) = rowOut (fun c : Fin 128 => s (ix2 r c)) fun c => v (ix3 0 c e) := by
  pointwise [ho]
  simp only [ex_apply, dn_apply]
  rfl

/-- One step of the tile of log-sum-exps. -/
theorem ls_apply (h : Fin 8) (s : FVec Ideal S128x128 .f32) (prev : FVec Ideal S128x128 .f32) (r : Fin 128) (e : Fin 128) :
    ls (BitVec.ofNat 32 h.val) s prev (ix2 r e) = if e.val = h.val then rowLse (fun c : Fin 128 => s (ix2 r c)) else prev (ix2 r e) := by
  pointwise [ls]
  rw [mx_apply, dn_apply]
  have : IntOp.cmpi .eq (BitVec.ofNat 32 e.val) (BitVec.ofNat 32 h.val) = BitVec.ofBool (decide (e.val = h.val)) := by
    show BitVec.ofBool (BitVec.ofNat 32 e.val == BitVec.ofNat 32 h.val) = _
    congr 1
    rw [Bool.eq_iff_iff]
    simp only [beq_iff_eq, decide_eq_true_eq, ← BitVec.toNat_inj, BitVec.toNat_ofNat]
    omega
  rw [this, sel]
  rfl

/-- A head's row of scores is the attention's row read through the key window. -/
theorem headWindow (x : (⟨2, ![8192, 3072]⟩ : Shape).Idx → EReal) (i : grid0.Coords) (b : Fin 64) (h : Fin 8)
    (q : Vec Ideal S1x128x128 .bf16) (k : Vec Ideal S1x128x128 .bf16) (hi : (i 1).val < 1) (hs : st (i 1).val + 128 ≤ 128)
    (hq : ∀ (r e : Fin 128), q (ix3 0 r e) = part x 0 b ⟨128 * (i 1).val + r.val, by omega⟩ h e)
    (hk : ∀ (c : Fin 128) (e : Fin 128), k (ix3 0 c e) = part x 1 b ⟨st (i 1).val + c.val, by omega⟩ h e) (r : Fin 128) :
    Window (fun c : Fin 128 => Attn.dist (128 * (i 1).val + r.val) (st (i 1).val + c.val) ≤ 64)
      (fun c => (⟨st (i 1).val + c.val, by omega⟩ : Fin 128)) (fun c => sc i (slopeBits h) q k (ix2 r c))
      (row x b h ⟨128 * (i 1).val + r.val, by omega⟩) where
  on c hc := by
    rw [sc_apply, if_pos hc, row, if_pos hc]
    simp only [hq, hk]
    rfl
  off c hc := by rw [sc_apply, if_neg hc]
  inj a c _ _ hac := by
    have := congrArg Fin.val hac
    exact Fin.ext (by simpa using this)
  cov j hj := by
    have hd : Attn.dist (128 * (i 1).val + r.val) j.val ≤ 64 := by
      by_contra hn
      exact hj (by rw [row, if_neg hn])
    have hd' := hd
    unfold Attn.dist at hd'
    have hst : st (i 1).val = 0 := rfl
    refine ⟨⟨j.val - st (i 1).val, by omega⟩, ?_, Fin.ext ?_⟩
    · show Attn.dist _ (st (i 1).val + (j.val - st (i 1).val)) ≤ 64
      rw [show st (i 1).val + (j.val - st (i 1).val) = j.val by omega]; exact hd
    · show st (i 1).val + (j.val - st (i 1).val) = j.val
      omega

end Cert.Proof.AttnC
-- ==== Proof.AttnC.Block.lean ====
module
public import proofs.«01_k».proof.Proof.AttnC.Head

/-! The blocks that a grid point of the attention call reads, and the two blocks that it writes. -/

@[expose] public section
set_option maxRecDepth 16384
noncomputable section
namespace Cert.Proof.AttnC
open Cert.Proof.Attn
open Cert.AttnCIdeal Cert.AttnCIdeal.Gen Cert.AttnCIdeal.Facts Idealize.ShloMosaic Idealize.ShloMosaic.TcCoe Idealize.SL.Sem
variable (m : (ℓ : Loc nD τ sig) → Buf (Elt Ideal) ℓ)

/-- The argument on a device. -/
abbrev argX (c : Dev nD) : (⟨2, ![8192, 3072]⟩ : Shape).Idx → EReal := m ((c : Thread nD τ).loc main_arg0)

/-- Where each window's block lies. -/
theorem idx : ∀ t : Fin cfg0.N, win0_0.index t = ![(grid0.coords t 0).val, (grid0.coords t 1).val, 0]
    ∧ win0_1.index t = ![(grid0.coords t 0).val, 0, 1] ∧ win0_2.index t = ![(grid0.coords t 0).val, 0, 2]
    ∧ win0_3.index t = ![(grid0.coords t 0).val, (grid0.coords t 1).val, 0]
    ∧ win0_4.index t = ![(grid0.coords t 0).val, (grid0.coords t 1).val, 0] := by decide +kernel

/-- The class of a grid point. -/
def sq (t : Fin cfg0.N) : Fin 64 := ⟨(grid0.coords t 0).val, (grid0.coords t 0).isLt⟩

/-- The blocks of queries of a class. -/
theorem c1_lt (t : Fin cfg0.N) : (grid0.coords t 1).val < 1 := (grid0.coords t 1).isLt

/-- The key window lies within the class. -/
theorem st_le (t : Fin cfg0.N) : st (grid0.coords t 1).val + 128 ≤ 128 := by
  have : st (grid0.coords t 1).val ≤ 0 := le_refl _
  omega

/-- The reshaped argument at an index. -/
theorem V_at (c : Dev nD) (b : Fin 64) (t : Fin 128) (e : Fin 3072) :
    V m c main_v0 (ix3 b t e) = argX m c (ix2 ⟨b.val * 128 + t.val, by omega⟩ e) := by
  entry_read
  pointwise []

/-- The block of queries at a grid point. -/
theorem q_at (c : Dev nD) (t : Fin cfg0.N) (r : Fin 128) (h : Fin 8) (e : Fin 128) :
    iblk m c 0 t (ix3 0 r ⟨128 * h.val + e.val, by omega⟩)
      = part (argX m c) 0 (sq t) ⟨128 * (grid0.coords t 1).val + r.val, by have := c1_lt t; omega⟩ h e := by
  have h1 := c1_lt t
  blk_simp [iblk]
  have : (win0_0.blk t).view.emb (ix3 0 r ⟨128 * h.val + e.val, by omega⟩)
      = ix3 (sq t) ⟨128 * (grid0.coords t 1).val + r.val, by omega⟩ ⟨0 * 1024 + (h.val * 128 + e.val), by omega⟩ := by
    blk_ext [idx t, sq]
  rw [this, V_at]
  refine congrArg (argX m c) (congrArg (fun z => ix2 z _) (Fin.ext ?_))
  show (sq t).val * 128 + (128 * (grid0.coords t 1).val + r.val) = (sq t).val * 128 + (128 * 0 + r.val)
  omega

/-- The block of keys at a grid point: the whole class. -/
theorem k_at (c : Dev nD) (t : Fin cfg0.N) (j : Fin 128) (h : Fin 8) (e : Fin 128) :
    iblk m c 1 t (ix3 0 j ⟨128 * h.val + e.val, by omega⟩) = part (argX m c) 1 (sq t) j h e := by
  blk_simp [iblk]
  have : (win0_1.blk t).view.emb (ix3 0 j ⟨128 * h.val + e.val, by omega⟩)
      = ix3 (sq t) j ⟨1 * 1024 + (h.val * 128 + e.val), by omega⟩ := by
    blk_ext [idx t, sq]
  rw [this, V_at]
  rfl

/-- The block of values at a grid point: the whole class. -/
theorem v_at (c : Dev nD) (t : Fin cfg0.N) (j : Fin 128) (h : Fin 8) (e : Fin 128) :
    iblk m c 2 t (ix3 0 j ⟨128 * h.val + e.val, by omega⟩) = part (argX m c) 2 (sq t) j h e := by
  blk_simp [iblk]
  have : (win0_2.blk t).view.emb (ix3 0 j ⟨128 * h.val + e.val, by omega⟩)
      = ix3 (sq t) j ⟨2 * 1024 + (h.val * 128 + e.val), by omega⟩ := by
    blk_ext [idx t, sq]
  rw [this, V_at]
  rfl

/-- One head's columns of a block of queries. -/
theorem ld_q (f : S1x128x1024.Idx → EReal) (off : Fin 3 → ℕ) (o : ℕ) (hoff : off = ![0, 0, o]) (inb) (r e : Fin 128) (ho : o + 128 ≤ 1024) :
    View.ld (Val := Elt Ideal) (e' := .bf16) f (Rect.unit (s := S1x128x1024) off ![1, 128, 128] inb) (ix3 0 r e) = f (ix3 0 r ⟨o + e.val, by omega⟩) := by
  subst hoff
  rw [View.ld_apply]
  refine congrArg f (funext fun a => Fin.ext ?_)
  rw [Rect.idx_unit_val]
  match a with
  | ⟨0, _⟩ => rfl
  | ⟨1, _⟩ => exact Nat.zero_add _
  | ⟨2, _⟩ => rfl

/-- One head's columns of a window of keys or values. -/
theorem ld_kv (f : S1x128x1024.Idx → EReal) (off : Fin 3 → ℕ) (s o : ℕ) (hoff : off = ![0, s, o]) (inb) (r : Fin 128) (e : Fin 128)
    (hs : s + 128 ≤ 128) (ho : o + 128 ≤ 1024) :
    View.ld (Val := Elt Ideal) (e' := .bf16) f (Rect.unit (s := S1x128x1024) off ![1, 128, 128] inb) (ix3 0 r e)
      = f (ix3 0 ⟨s + r.val, by omega⟩ ⟨o + e.val, by omega⟩) := by
  subst hoff
  rw [View.ld_apply]
  refine congrArg f (funext fun a => Fin.ext ?_)
  rw [Rect.idx_unit_val]
  match a with
  | ⟨0, _⟩ => rfl
  | ⟨1, _⟩ => rfl
  | ⟨2, _⟩ => rfl

/-- The query, key and value blocks of head `h` at a grid point. -/
structure Loads (c : Dev nD) (t : Fin cfg0.N) (h : Fin 8) (q : Vec Ideal S1x128x128 .bf16) (k v : Vec Ideal S1x128x128 .bf16) : Prop where
  q : ∀ (r e : Fin 128), q (ix3 0 r e) = part (argX m c) 0 (sq t) ⟨128 * (grid0.coords t 1).val + r.val, by have := c1_lt t; omega⟩ h e
  k : ∀ (j : Fin 128) (e : Fin 128), k (ix3 0 j e) = part (argX m c) 1 (sq t) ⟨st (grid0.coords t 1).val + j.val, by have := st_le t; omega⟩ h e
  v : ∀ (j : Fin 128) (e : Fin 128), v (ix3 0 j e) = part (argX m c) 2 (sq t) ⟨st (grid0.coords t 1).val + j.val, by have := st_le t; omega⟩ h e

/-- The loads of head `h` are its blocks. -/
theorem loads (c : Dev nD) (t : Fin cfg0.N) (h : Fin 8) (oq ok : Fin 3 → ℕ) (hq : oq = ![0, 0, 128 * h.val])
    (hk : ok = ![0, st (grid0.coords t 1).val, 128 * h.val]) (iq ik iv) :
    Loads m c t h (View.ld (Val := Elt Ideal) (e' := .bf16) (iblk m c 0 t) (Rect.unit (s := S1x128x1024) oq ![1, 128, 128] iq))
      (View.ld (Val := Elt Ideal) (e' := .bf16) (iblk m c 1 t) (Rect.unit (s := S1x128x1024) ok ![1, 128, 128] ik))
      (View.ld (Val := Elt Ideal) (e' := .bf16) (iblk m c 2 t) (Rect.unit (s := S1x128x1024) ok ![1, 128, 128] iv)) where
  q r e := (ld_q (iblk m c 0 t) oq (128 * h.val) hq iq r e (by omega)).trans (q_at m c t r h e)
  k j e := (ld_kv (iblk m c 1 t) ok _ (128 * h.val) hk ik j e (st_le t) (by omega)).trans (k_at m c t _ h e)
  v j e := (ld_kv (iblk m c 2 t) ok _ (128 * h.val) hk iv j e (st_le t) (by omega)).trans (v_at m c t _ h e)

variable {m}

/-- A head's output block is the attention at the block's positions. -/
theorem Loads.out {c : Dev nD} {t : Fin cfg0.N} {h : Fin 8} {q : Vec Ideal S1x128x128 .bf16} {k v : Vec Ideal S1x128x128 .bf16}
    (L : Loads m c t h q k v) (z : Fin 1) (r e : Fin 128) :
    ho (sc (grid0.coords t) (slopeBits h) q k) v (ix3 z r e)
      = attn (argX m c) (sq t) ⟨128 * (grid0.coords t 1).val + r.val, by have := c1_lt t; omega⟩ h e := by
  rw [ho_apply]
  exact (headWindow _ _ _ h q k (c1_lt t) (st_le t) L.q L.k r).rowOut _ _ fun j _ => L.v j e

/-- A head's rows have the attention's log-sum-exp. -/
theorem Loads.lse {c : Dev nD} {t : Fin cfg0.N} {h : Fin 8} {q : Vec Ideal S1x128x128 .bf16} {k v : Vec Ideal S1x128x128 .bf16}
    (L : Loads m c t h q k v) (r : Fin 128) :
    rowLse (fun j : Fin 128 => sc (grid0.coords t) (slopeBits h) q k (ix2 r j))
      = AttnC.lse (argX m c) (sq t) ⟨128 * (grid0.coords t 1).val + r.val, by have := c1_lt t; omega⟩ h :=
  (headWindow _ _ _ h q k (c1_lt t) (st_le t) L.q L.k r).rowLse

/-- One of the eight stores of the output block. -/
theorem piece {c : Dev nD} {t : Fin cfg0.N} {h : Fin 8} {q : Vec Ideal S1x128x128 .bf16} {k v : Vec Ideal S1x128x128 .bf16}
    (L : Loads m c t h q k v) (P : FVec Ideal S1x128x128 .bf16) (hP : P = ho (sc (grid0.coords t) (slopeBits h) q k) v)
    (y : S1x128x128.Idx) (r : Fin 128) (col : Fin 1024) (hr : r.val = (y 1).val) (hc : col.val = 128 * h.val + (y 2).val) :
    P y = attn (argX m c) (sq t) ⟨128 * (grid0.coords t 1).val + r.val, by have := c1_lt t; omega⟩
      ⟨col.val / 128, by omega⟩ ⟨col.val % 128, by omega⟩ := by
  subst hP
  idx_vars y
  have e2 : (y2 : ℕ) < 128 := y2.isLt
  have hr' : r = y1 := Fin.ext hr
  have hc' : col.val = 128 * h.val + y2.val := hc
  subst hr'
  rw [L.out]
  congr 1
  · exact Fin.ext (by show h.val = col.val / 128; omega)
  · exact Fin.ext (by show y2.val = col.val % 128; omega)

variable (m)

/-- What a grid point writes to the output's block. -/
theorem out_block (c : Dev nD) (t : Fin cfg0.N) (z : Fin 1) (r : Fin 128) (col : Fin 1024) :
    (dats m 0 c).after 3 t (ix3 z r col) = attn (argX m c) (sq t) ⟨128 * (grid0.coords t 1).val + r.val, by have := c1_lt t; omega⟩
      ⟨col.val / 128, by omega⟩ ⟨col.val % 128, by omega⟩ := by
  rw [after0_3]
  unfold out0_3
  canon_tiles y h
  case piece0 => exact piece (loads m c t 7 _ _ rfl rfl _ _ _) _ rfl y r col h1 h2
  case piece1 => exact piece (loads m c t 6 _ _ rfl rfl _ _ _) _ rfl y r col h1 h2
  case piece2 => exact piece (loads m c t 5 _ _ rfl rfl _ _ _) _ rfl y r col h1 h2
  case piece3 => exact piece (loads m c t 4 _ _ rfl rfl _ _ _) _ rfl y r col h1 h2
  case piece4 => exact piece (loads m c t 3 _ _ rfl rfl _ _ _) _ rfl y r col h1 h2
  case piece5 => exact piece (loads m c t 2 _ _ rfl rfl _ _ _) _ rfl y r col h1 h2
  case piece6 => exact piece (loads m c t 1 _ _ rfl rfl _ _ _) _ rfl y r col h1 h2
  case piece7 => exact piece (loads m c t 0 _ _ rfl rfl _ _ _) _ rfl y r col h1 (h2.trans (Nat.zero_add _).symm)

/-- A tile of log-sum-exps whose first `n` lanes are filled. -/
def Upto (c : Dev nD) (t : Fin cfg0.N) (n : ℕ) (T : FVec Ideal S128x128 .f32) : Prop :=
  ∀ (r : Fin 128) (col : Fin 128), T (ix2 r col) = if h : col.val < 8 ∧ col.val < n then
    AttnC.lse (argX m c) (sq t) ⟨128 * (grid0.coords t 1).val + r.val, by have := c1_lt t; omega⟩ ⟨col.val, h.1⟩ else 0

/-- The tile before the first head is zero. -/
theorem upto_zero (c : Dev nD) (t : Fin cfg0.N) : Upto m c t 0 (k0_pay5 (F := Ideal)) := by
  intro r col
  rw [dif_neg (by omega)]
  show Ideal.ofBits .f32 0x00000000#32 = 0
  simp [Ideal.ofBits, Ideal.ieee]

variable {m} in
/-- The next head fills its lane. -/
theorem Upto.step {c : Dev nD} {t : Fin cfg0.N} {n : ℕ} {T : FVec Ideal S128x128 .f32} (hT : Upto m c t n T) (h : Fin 8) (hn : h.val = n)
    {q : Vec Ideal S1x128x128 .bf16} {k v : Vec Ideal S1x128x128 .bf16} (L : Loads m c t h q k v) :
    Upto m c t (n + 1) (ls (BitVec.ofNat 32 h.val) (sc (grid0.coords t) (slopeBits h) q k) T) := by
  intro r col
  rw [ls_apply, L.lse, hT r col]
  by_cases hc : col.val = h.val
  · rw [if_pos hc, dif_pos ⟨by omega, by omega⟩]
    exact congrArg _ (Fin.ext hc.symm)
  · rw [if_neg hc]
    by_cases h' : col.val < 8 ∧ col.val < n
    · rw [dif_pos h', dif_pos ⟨h'.1, by omega⟩]
    · rw [dif_neg h', dif_neg (by omega)]

variable {m} in
theorem Upto.block {c : Dev nD} {t : Fin cfg0.N} {T : FVec Ideal S128x128 .f32} (hT : Upto m c t 8 T) (P : FVec Ideal S1x128x128 .f32)
    (hP : P = shapeCast S1x128x128 T shapeCasts_S128x128_S1x128x128) (z : Fin 1) (r : Fin 128) (col : Fin 128) :
    P (ix3 z r col) = if h : col.val < 8 then
      AttnC.lse (argX m c) (sq t) ⟨128 * (grid0.coords t 1).val + r.val, by have := c1_lt t; omega⟩ ⟨col.val, h⟩ else 0 := by
  subst hP
  pointwise []
  rw [hT r col]
  by_cases h' : col.val < 8
  · rw [dif_pos ⟨h', h'⟩, dif_pos h']
    exact congrArg (fun z => lse (argX m c) (sq t) z _) (Fin.ext (by have := c1_lt t; show 128 * (grid0.coords t 1).val + r.val = r.val; omega))
  · rw [dif_neg (fun h => h' h.1), dif_neg h']

/-- What a grid point writes to the block of log-sum-exps: lane `h` below 8 is head `h`, the other lanes are zero. -/
theorem lse_block (c : Dev nD) (t : Fin cfg0.N) (z : Fin 1) (r : Fin 128) (col : Fin 128) :
    (dats m 0 c).after 4 t (ix3 z r col) = if h : col.val < 8 then
      AttnC.lse (argX m c) (sq t) ⟨128 * (grid0.coords t 1).val + r.val, by have := c1_lt t; omega⟩ ⟨col.val, h⟩ else 0 := by
  have U := ((((((((upto_zero m c t).step 0 rfl
    (loads m c t 0 _ _ rfl rfl inb_S1x128x1024_S1x128x128_0_0_0 inb_S1x128x1024_S1x128x128_0_0_0 inb_S1x128x1024_S1x128x128_0_0_0)).step 1 rfl
    (loads m c t 1 _ _ rfl rfl inb_S1x128x1024_S1x128x128_0_0_128 inb_S1x128x1024_S1x128x128_0_0_128 inb_S1x128x1024_S1x128x128_0_0_128)).step 2 rfl
    (loads m c t 2 _ _ rfl rfl inb_S1x128x1024_S1x128x128_0_0_256 inb_S1x128x1024_S1x128x128_0_0_256 inb_S1x128x1024_S1x128x128_0_0_256)).step 3 rfl
    (loads m c t 3 _ _ rfl rfl inb_S1x128x1024_S1x128x128_0_0_384 inb_S1x128x1024_S1x128x128_0_0_384 inb_S1x128x1024_S1x128x128_0_0_384)).step 4 rfl
    (loads m c t 4 _ _ rfl rfl inb_S1x128x1024_S1x128x128_0_0_512 inb_S1x128x1024_S1x128x128_0_0_512 inb_S1x128x1024_S1x128x128_0_0_512)).step 5 rfl
    (loads m c t 5 _ _ rfl rfl inb_S1x128x1024_S1x128x128_0_0_640 inb_S1x128x1024_S1x128x128_0_0_640 inb_S1x128x1024_S1x128x128_0_0_640)).step 6 rfl
    (loads m c t 6 _ _ rfl rfl inb_S1x128x1024_S1x128x128_0_0_768 inb_S1x128x1024_S1x128x128_0_0_768 inb_S1x128x1024_S1x128x128_0_0_768)).step 7 rfl
    (loads m c t 7 _ _ rfl rfl inb_S1x128x1024_S1x128x128_0_0_896 inb_S1x128x1024_S1x128x128_0_0_896 inb_S1x128x1024_S1x128x128_0_0_896)
  rw [after0_4]
  frame_out
  exact U.block _ rfl z r col
end Cert.Proof.AttnC
-- ==== Proof.AttnC.Arrays.lean ====
module
public import proofs.«01_k».proof.Proof.AttnC.Block

/-! What the attention call's two result arrays hold after the run. -/

@[expose] public section
set_option maxRecDepth 16384
noncomputable section
namespace Cert.Proof.AttnC
open Cert.Proof.Attn
open Cert.AttnCIdeal Cert.AttnCIdeal.Gen Idealize.ShloMosaic Idealize.ShloMosaic.TcCoe Idealize.SL.Sem

/-- The attention's output as an array. -/
def outArr (x : (⟨2, ![8192, 3072]⟩ : Shape).Idx → EReal) : S64x128x1024.Idx → EReal := fun i =>
  attn x (i 0) (i 1) ⟨(i 2).val / 128, by have : (i 2).val < 1024 := (i 2).isLt; omega⟩ ⟨(i 2).val % 128, Nat.mod_lt _ (by norm_num)⟩

/-- The log-sum-exps as an array of 128 lanes, the first eight of which are heads. -/
def lseArr (x : (⟨2, ![8192, 3072]⟩ : Shape).Idx → EReal) : S64x128x128.Idx → EReal := fun i =>
  if h : (i 2).val < 8 then lse x (i 0) (i 1) ⟨(i 2).val, h⟩ else 0

variable (m : (ℓ : Loc nD τ sig) → Buf (Elt Ideal) ℓ)

/-- The call's first result array. -/
theorem arr3 (c : Dev nD) : (dats m 0 c).arrAt 3 cfg0.N = outArr (argX m c) := by
  refine (dats m 0 c).arrAt_eq_of_covers 3 _ (by decide +kernel) fun t hf y => ?_
  blk_simp
  have h1 : (y 1).val < 128 := (y 1).isLt
  have h2 : (y 2).val < 1024 := (y 2).isLt
  have hy : y = (ix3 (0 : Fin 1) (⟨(y 1).val, h1⟩ : Fin 128) (⟨(y 2).val, h2⟩ : Fin 1024) : (cfg0.win 3).block.Idx) := by
    have h0 : (y 0).val < 1 := (y 0).isLt
    funext a
    fin_cases a
    · exact Fin.ext (by simpa using h0)
    · rfl
    · rfl
  have e : ((cfg0.win 3).blk t).view.emb y
      = (ix3 (sq t) ⟨128 * (grid0.coords t 1).val + (y 1).val, by have := c1_lt t; omega⟩ (⟨(y 2).val, h2⟩ : Fin 1024) : S64x128x1024.Idx) := by
    blk_ext [idx t, sq]
  exact ((congrArg ((dats m 0 c).after 3 t) hy).trans (out_block m c t _ _ _)).trans (congrArg (outArr (argX m c)) e).symm

/-- The call's second result array. -/
theorem arr4 (c : Dev nD) : (dats m 0 c).arrAt 4 cfg0.N = lseArr (argX m c) := by
  refine (dats m 0 c).arrAt_eq_of_covers 4 _ (by decide +kernel) fun t hf y => ?_
  blk_simp
  have h1 : (y 1).val < 128 := (y 1).isLt
  have h2 : (y 2).val < 128 := (y 2).isLt
  have hy : y = (ix3 (0 : Fin 1) (⟨(y 1).val, h1⟩ : Fin 128) (⟨(y 2).val, h2⟩ : Fin 128) : (cfg0.win 4).block.Idx) := by
    have h0 : (y 0).val < 1 := (y 0).isLt
    funext a
    fin_cases a
    · exact Fin.ext (by simpa using h0)
    · rfl
    · rfl
  have e : ((cfg0.win 4).blk t).view.emb y
      = (ix3 (sq t) ⟨128 * (grid0.coords t 1).val + (y 1).val, by have := c1_lt t; omega⟩ (⟨(y 2).val, h2⟩ : Fin 128) : S64x128x128.Idx) := by
    blk_ext [idx t, sq]
  exact ((congrArg ((dats m 0 c).after 4 t) hy).trans (lse_block m c t _ _ _)).trans (congrArg (lseArr (argX m c)) e).symm

end Cert.Proof.AttnC
-- ==== Proof.AttnC.RefMask.lean ====
module
public import proofs.«01_k».proof.Proof.Gen.AttnCRefIdeal.Read
public import proofs.«01_k».proof.Proof.AttnC.Spec
public import Idealize.ShloMosaic.PureOps.Ideal.Laws
@[expose] public section
set_option maxRecDepth 16384
noncomputable section
namespace Cert.Proof.AttnC
open Cert.Proof.Attn
open Cert.AttnCRefIdeal Cert.AttnCRefIdeal.Read Idealize.ShloMosaic Idealize.ShloMosaic.TcCoe Idealize.SL.Sem
variable (x : (⟨S8192x3072, .bf16⟩ : BufTy).Contents (Elt Ideal))

/-- The reference's slopes. -/
theorem ref_slope (h : Fin 8) : val_main_v38 (F := Ideal) (ix1 h) = slope h := by
  pointwise [val_main_v38, val_main_v37, val_main_v36, val_main_v35, val_main_v34, val_main_v33, val_main_v32, val_main_v31, val_main_v30,
    val_main_v29, val_main_v28, val_main_v27, val_main_v26, val_main_v25, val_main_v24, val_main_v23, val_main_v22, val_main_v21, val_main_v20,
    val_main_v19, val_main_v18, val_main_v17, val_main_v16, val_main_v15, val_main_v14, val_main_v13,
    val_main_call0_v0, val_main_call1_v0, val_main_call2_v0, val_main_call3_v0, val_main_call4_v0, val_main_call5_v0, val_main_call6_v0, val_main_call7_v0,
    val_main_c, val_main_c_1, val_main_c_3, val_main_c_5, val_main_c_7, val_main_c_9, val_main_c_11, val_main_c_13,
    val_main_cst, val_main_cst_0, val_main_cst_2, val_main_cst_4, val_main_cst_6, val_main_cst_8, val_main_cst_10, val_main_cst_12, val_main_cst_14]
  fin_cases h <;> rfl

/-- The reference's mask. -/
theorem ref_mask (n : Fin 2) (q : Fin 64) (k : Fin 192) : val_main_v98 (F := Ideal) (ix3 n q k) =
    BitVec.ofBool (decide (Attn.dist (n.val * 64 + q.val) (n.val * 64 + k.val - 64) ≤ 64 ∧ 64 ≤ n.val * 64 + k.val ∧ n.val * 64 + k.val - 64 < 128)) := by
  pointwise [val_main_v98, val_main_v97, val_main_v96, val_main_v95, val_main_v94, val_main_v93, val_main_v92, val_main_v91, val_main_v90, val_main_v89, val_main_v88, val_main_v87,
   val_main_v86, val_main_v85, val_main_v84, val_main_v83, val_main_v82, val_main_v81, val_main_v80, val_main_v79, val_main_v78, val_main_v77, val_main_v76, val_main_v75, val_main_v56, val_main_v55,
   val_main_v54, val_main_v53, val_main_v52, val_main_v51, val_main_v50, val_main_v49, val_main_v48, val_main_c_18, val_main_c_24, val_main_c_25, val_main_c_26, val_main_c_27, val_main_c_28]
  simp only [natWord, show (64#32) = BitVec.ofInt 32 64 from rfl, show (0#32) = BitVec.ofInt 32 0 from rfl, show (128#32) = BitVec.ofInt 32 128 from rfl, wsub, wadd, wmul]
  rw [wabs _ (by omega) (by omega), wsle _ _ ⟨by have := abs_nonneg ((k.val : ℤ) - 64 - q.val); omega, by rw [abs_lt]; omega⟩ (by omega), wsge _ _ (by omega) (by omega), wslt _ _ (by omega) (by omega)]
  have h1 : (|(k.val : ℤ) - 64 - q.val| ≤ 64) ↔ (k.val ≤ q.val + 128 ∧ q.val ≤ k.val) := by rw [abs_le]; omega
  have h2 : (Attn.dist (n.val * 64 + q.val) (n.val * 64 + k.val - 64) ≤ 64 ∧ 64 ≤ n.val * 64 + k.val ∧ n.val * 64 + k.val - 64 < 128)
      ↔ ((k.val ≤ q.val + 128 ∧ q.val ≤ k.val) ∧ (0 : ℤ) ≤ (n.val : ℤ) * 64 + k.val - 64 ∧ (n.val : ℤ) * 64 + k.val - 64 < 128) := by unfold Attn.dist; omega
  unfold IntOp.andi
  simp only [h1, h2, Bool.decide_and, BitVec.ofBool_and_ofBool]

/-- The reference's bias. -/
theorem ref_alibi (h : Fin 8) (q : Fin 64) (k : Fin 192) : val_main_v108 (F := Ideal) (ix3 h q k) = -slope h * (((|(k.val : ℤ) - 64 - q.val| * 16 : ℤ) : ℝ) : EReal) := by
  pointwise [val_main_v108,val_main_v107,val_main_v106, val_main_v105,val_main_v104,val_main_v103,val_main_v102,val_main_v101,val_main_v100,val_main_v99,
    val_main_v83, val_main_v82, val_main_v81, val_main_v80, val_main_v79, val_main_v78, val_main_v77, val_main_v76, val_main_v75, val_main_c_24, val_main_c_29]
  rw [ref_slope]
  simp only [natWord, show (64#32) = BitVec.ofInt 32 64 from rfl, show (16#32) = BitVec.ofInt 32 16 from rfl, wsub, wadd]
  rw [wabs _ (by omega) (by omega), wmul, wfp _ (by have := abs_nonneg ((k.val : ℤ) - 64 - q.val); omega) (by have h1 : |(k.val : ℤ) - 64 - q.val| < 1024 := abs_lt.mpr ⟨by omega, by omega⟩; omega)]
end Cert.Proof.AttnC
-- ==== Proof.AttnC.RefGather.lean ====
module
public import proofs.«01_k».proof.Proof.Gen.AttnCRefIdeal.Read
public import proofs.«01_k».proof.Proof.AttnC.Spec
public import Idealize.ShloMosaic.PureOps.Ideal.Laws
@[expose] public section
set_option maxRecDepth 16384
noncomputable section
namespace Cert.Proof.AttnC
open Cert.Proof.Attn
open Cert.AttnCRefIdeal Cert.AttnCRefIdeal.Read Idealize.ShloMosaic Idealize.ShloMosaic.TcCoe Idealize.SL.Sem
variable (x : (⟨S8192x3072, .bf16⟩ : BufTy).Contents (Elt Ideal))

/-- The position that the gather of the values reads. -/
theorem ref_idx (n : Fin 2) (k : Fin 192) : val_main_v69 (F := Ideal) (ix3 n k 0) = BitVec.ofInt 32 ((n.val * 64 + k.val : ℕ) : ℤ) := by
  pointwise [val_main_v69, val_main_v68, val_main_v67, val_main_v66, val_main_v65, val_main_v64, val_main_v56, val_main_v55,
   val_main_v54, val_main_v53, val_main_v52, val_main_v51, val_main_v50, val_main_v49, val_main_v48, val_main_c_18,val_main_c_21,val_main_c_22]
  simp only [natWord, show (64#32) = BitVec.ofInt 32 64 from rfl, show (0#32) = BitVec.ofInt 32 0 from rfl, show (256#32) = BitVec.ofInt 32 256 from rfl, wadd, wmul]
  rw [wslt _ _ (by omega) (by omega), show decide ((n.val : ℤ) * 64 + k.val < 0) = false from decide_eq_false (by omega)]
  simp [Scalar.select]

/-- The keys are gathered at the same positions. -/
theorem ref_idx' : val_main_v62 (F := Ideal) = val_main_v69 (F := Ideal) := rfl

/-- What a gather of padded keys or values reads. -/
theorem gather_at (y : S4x16x256x8x128.Idx → EReal) (b : Fin 4) (g : Fin 16) (n : Fin 2) (k : Fin 192) (h : Fin 8) (e : Fin 128) :
    Host.gather gather_S4x16x256x8x128_S2x192x1_S4x16x2x192x8x128_0145_2_n_n_2_2_41618128 y (val_main_v69 (F := Ideal)) (ix6 b g n k h e)
      = y (ix5 b g ⟨n.val * 64 + k.val, by omega⟩ h e) := by
  have hi := ref_idx n k
  generalize val_main_v69 (F := Ideal) = w at hi
  unfold Host.gather
  refine congrArg y (funext fun a => Fin.ext ?_)
  match a with
  | ⟨0, _⟩ => exact (show 0 + 0 + b.val = b.val by omega)
  | ⟨1, _⟩ => exact (show 0 + 0 + g.val = g.val by omega)
  | ⟨2, _⟩ =>
    show min (w (gather_S4x16x256x8x128_S2x192x1_S4x16x2x192x8x128_0145_2_n_n_2_2_41618128.siIdx (ix6 b g n k h e) ⟨0, by decide⟩)).toInt.toNat (256 - 1) + 0 + 0 = n.val * 64 + k.val
    rw [show gather_S4x16x256x8x128_S2x192x1_S4x16x2x192x8x128_0145_2_n_n_2_2_41618128.siIdx (ix6 b g n k h e) ⟨0, by decide⟩ = ix3 n k 0 from
      funext fun a => Fin.ext (by match a with | ⟨0, _⟩ => rfl | ⟨1, _⟩ => rfl | ⟨2, _⟩ => rfl), hi, wInt _ (by omega) (by omega)]
    omega
  | ⟨3, _⟩ => exact (show 0 + 0 + h.val = h.val by omega)
  | ⟨4, _⟩ => exact (show 0 + 0 + e.val = e.val by omega)
end Cert.Proof.AttnC
-- ==== Proof.AttnC.RefParts.lean ====
module
public import proofs.«01_k».proof.Proof.Gen.AttnCRefIdeal.Read
public import proofs.«01_k».proof.Proof.AttnC.Spec
public import Idealize.ShloMosaic.PureOps.Ideal.Laws
@[expose] public section
set_option maxRecDepth 16384
noncomputable section
namespace Cert.Proof.AttnC
open Cert.Proof.Attn
open Cert.AttnCRefIdeal Cert.AttnCRefIdeal.Read Idealize.ShloMosaic Idealize.ShloMosaic.TcCoe Idealize.SL.Sem
variable (x : (⟨S8192x3072, .bf16⟩ : BufTy).Contents (Elt Ideal))

/-- The reference's queries by block. -/
theorem ref_q (b : Fin 4) (g : Fin 16) (n : Fin 2) (q : Fin 64) (h : Fin 8) (e : Fin 128) :
    val_main_v71 x (ix6 b g n q h e) = part x 0 (cl b g) ⟨n.val * 64 + q.val, by omega⟩ h e := by
  pointwise [val_main_v71, val_main_v41, val_main_v40, val_main_v39, val_main_v6, val_main_v5, val_main_v4, val_main_v1, val_main_v0]
  rw [dif_pos (by omega)]
  refine congrArg x (congrArg₂ ix2 (Fin.ext ?_) (Fin.ext ?_)) <;> simp [cl] <;> omega

/-- The reference's padded keys. -/
theorem ref_kc (b : Fin 4) (g : Fin 16) (j : Fin 256) (h : Fin 8) (e : Fin 128) (h1 : 64 ≤ j.val) (h2 : j.val - 64 < 128) :
    val_main_v44 x (ix5 b g j h e) = part x 1 (cl b g) ⟨j.val - 64, h2⟩ h e := by
  pointwise [val_main_v44, val_main_v43, val_main_v42, val_main_v9, val_main_v8, val_main_v7, val_main_v2, val_main_v0]
  rw [dif_pos ⟨h1, h2⟩]
  refine congrArg x (congrArg₂ ix2 (Fin.ext ?_) (Fin.ext ?_)) <;> simp [cl] <;> omega

/-- The reference's padded values. -/
theorem ref_vc (b : Fin 4) (g : Fin 16) (j : Fin 256) (h : Fin 8) (e : Fin 128) (h1 : 64 ≤ j.val) (h2 : j.val - 64 < 128) :
    val_main_v47 x (ix5 b g j h e) = part x 2 (cl b g) ⟨j.val - 64, h2⟩ h e := by
  pointwise [val_main_v47, val_main_v46, val_main_v45, val_main_v12, val_main_v11, val_main_v10, val_main_v3, val_main_v0]
  rw [dif_pos ⟨h1, h2⟩]
  refine congrArg x (congrArg₂ ix2 (Fin.ext ?_) (Fin.ext ?_)) <;> simp [cl] <;> omega
end Cert.Proof.AttnC
-- ==== Proof.AttnC.RefRow.lean ====
module
public import proofs.«01_k».proof.Proof.Gen.AttnCRefIdeal.Read
public import proofs.«01_k».proof.Proof.AttnC.Spec
public import Idealize.ShloMosaic.PureOps.Ideal.Laws
@[expose] public section
set_option maxRecDepth 16384
noncomputable section
namespace Cert.Proof.AttnC
open Cert.Proof.Attn
open Cert.AttnCRefIdeal Cert.AttnCRefIdeal.Read Idealize.ShloMosaic Idealize.ShloMosaic.TcCoe Idealize.SL.Sem
variable (x : (⟨S8192x3072, .bf16⟩ : BufTy).Contents (Elt Ideal))

/-- The reference's masked score. -/
theorem ref_s (b : Fin 4) (g : Fin 16) (n : Fin 2) (q : Fin 64) (k : Fin 192) (h : Fin 8) : val_main_v113 x (ix6 b g n h q k) =
   Scalar.select (val_main_v98 (F := Ideal) (ix3 n q k))
      ((∑ e, val_main_v71 x (ix6 b g n q h e) * val_main_v63 x (ix6 b g n k h e)) * scale + val_main_v108 (F := Ideal) (ix3 h q k)) ⊥ := by
  pointwise [val_main_v113, val_main_v112, val_main_v111, val_main_v110, val_main_v109, val_main_v74, val_main_v73, val_main_v72, val_main_call11_v0, val_main_call11_v1, val_main_call11_v2, val_main_cst_30, val_main_cst_23]
  have : (id (constant (F := Ideal) S_ FTy.f32 4286578688#32) ix0 : Ideal .f32) = (⊥ : EReal) := by
    show Ideal.ofBits .f32 0xFF800000#32 = ⊥
    simp [Ideal.ofBits, Ideal.ieee]
  rw [this]; rfl

/-- The maximum of the reference's row. -/
theorem ref_m (b : Fin 4) (g : Fin 16) (n : Fin 2) (q : Fin 64) (h : Fin 8) : val_main_v114 x (ix5 b g n h q) = rowMax fun k : Fin 192 => val_main_v113 x (ix6 b g n h q k) := by
  unfold val_main_v114
  generalize val_main_v113 x = y
  rw [show (FloatOps.maximumf : Ideal .f32 → Ideal .f32 → Ideal .f32) = (max : EReal → EReal → EReal) from rfl,
    Host.reduce_eq_fold_single (max : EReal → EReal → EReal) y _ Gen.reducesTo_S4x16x2x8x64x192_S4x16x2x8x64_d5 (by decide)]
  have : (val_main_cst_31 (F := Ideal) (Shape.Idx.first Gen.h_S_) : EReal) = ⊥ := by
    show Ideal.ofBits .f32 0xFF800000#32 = ⊥
    simp [Ideal.ofBits, Ideal.ieee]
  rw [this]
  unfold rowMax Finset.sup
  refine Finset.fold_congr fun k _ => ?_
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The exponentials of the reference's row. -/
theorem ref_e (b : Fin 4) (g : Fin 16) (n : Fin 2) (q : Fin 64) (h : Fin 8) (k : Fin 192): val_main_v118 x (ix6 b g n h q k) =
    Ideal.exp (val_main_v113 x (ix6 b g n h q k) - rowMax fun k : Fin 192 => val_main_v113 x (ix6 b g n h q k)) := by
  rw [← ref_m]
  pointwise [val_main_v118, val_main_v117, val_main_v116, val_main_v115]

/-- The denominator of the reference's row. -/
theorem ref_d (b : Fin 4) (g : Fin 16) (n : Fin 2) (q : Fin 64) (h : Fin 8) : val_main_v119 x (ix5 b g n h q) = rowDen fun k : Fin 192 => val_main_v113 x (ix6 b g n h q k) := by
  rw [val_main_v119_apply]
  have : (val_main_cst_32 (F := Ideal) (Shape.Idx.first Gen.h_S_) : EReal) = 0 := by
    show Ideal.ofBits .f32 0x00000000#32 = 0
    simp [Ideal.ofBits, Ideal.ieee]
  rw [this, zero_add]
  unfold rowDen
  refine Finset.sum_congr rfl fun k _ => ?_
  rw [← ref_e]
  exact congrArg _ (funext fun a => Fin.ext (by match a with | ⟨0, _⟩ => rfl | ⟨1, _⟩ => rfl | ⟨2, _⟩ => rfl | ⟨3, _⟩ => rfl | ⟨4, _⟩ => rfl | ⟨5, _⟩ => rfl))

/-- The weights of the reference's row. -/
theorem ref_p (b : Fin 4) (g : Fin 16) (n : Fin 2) (q : Fin 64) (h : Fin 8) (k : Fin 192): val_main_v122 x (ix6 b g n h q k) =
    Ideal.div (Ideal.exp (val_main_v113 x (ix6 b g n h q k) - rowMax fun k : Fin 192 => val_main_v113 x (ix6 b g n h q k))) (rowDen fun k : Fin 192 => val_main_v113 x (ix6 b g n h q k)) := by
  rw [← ref_e, ← ref_d]
  pointwise [val_main_v122, val_main_v121, val_main_v120]
end Cert.Proof.AttnC
-- ==== Proof.AttnC.RefOut.lean ====
module
public import proofs.«01_k».proof.Proof.Gen.AttnCRefIdeal.Read
public import proofs.«01_k».proof.Proof.AttnC.Spec
public import Idealize.ShloMosaic.PureOps.Ideal.Laws
@[expose] public section
set_option maxRecDepth 16384
noncomputable section
namespace Cert.Proof.AttnC
open Cert.Proof.Attn
open Cert.AttnCRefIdeal Cert.AttnCRefIdeal.Read Idealize.ShloMosaic Idealize.ShloMosaic.TcCoe Idealize.SL.Sem
variable (x : (⟨S8192x3072, .bf16⟩ : BufTy).Contents (Elt Ideal))

/-- The reference's output, by class and place. -/
theorem ref_140 (a : Fin 64) (t : Fin 128) (c : Fin 1024) : val_main_v140 x (ix3 a t c) =
    val_main_v135 x (ix4 ⟨a.val / 16, by omega⟩ t ⟨a.val % 16, by omega⟩ c) := by
  rw [val_main_v140_apply, val_main_v139_apply, val_main_v136_apply]
  generalize val_main_v135 x = y
  show y (idx_main_v136 (idx_main_v139 (ix3 a t c))) = _
  refine congrArg y (funext fun k => Fin.ext ?_)
  match k with
  | ⟨0, _⟩ => show ((a.val * 128 + t.val) * 1024 + c.val) / 2097152 = a.val / 16; omega
  | ⟨1, _⟩ => show ((a.val * 128 + t.val) * 1024 + c.val) / 1024 % 128 = t.val; omega
  | ⟨2, _⟩ => show ((a.val * 128 + t.val) * 1024 + c.val) / 131072 % 16 = a.val % 16; omega
  | ⟨3, _⟩ => show ((a.val * 128 + t.val) * 1024 + c.val) % 1024 = c.val; omega

/-- The reference's output, by position. -/
theorem ref_135 (b : Fin 4) (t : Fin 128) (g : Fin 16) (c : Fin 1024) : val_main_v135 x (ix4 b t g c) =
    val_main_v129 x (ix5 b t g ⟨c.val / 128, by omega⟩ ⟨c.val % 128, by omega⟩) := by
  unfold val_main_v135 val_main_v130
  generalize val_main_v129 x = y
  pointwise []

/-- The reference's output, by block of queries. -/
theorem ref_129 (b : Fin 4) (t : Fin 128) (g : Fin 16) (h : Fin 8) (e : Fin 128) : val_main_v129 x (ix5 b t g h e) =
    ∑ k, val_main_v70 x (ix6 b g ⟨t.val / 64, by omega⟩ k h e) * val_main_v122 x (ix6 b g ⟨t.val / 64, by omega⟩ h ⟨t.val % 64, by omega⟩ k) := by
  unfold val_main_v129 val_main_v128 val_main_v124 val_main_v123
  generalize val_main_v70 x = y
  generalize val_main_v122 x = z
  pointwise []

/-- The reference's output. -/
theorem ref_out (a : Fin 64) (t : Fin 128) (c : Fin 1024) : val_main_v140 x (ix3 a t c) =
    ∑ k, val_main_v70 x (ix6 ⟨a.val / 16, by omega⟩ ⟨a.val % 16, by omega⟩ ⟨t.val / 64, by omega⟩ k ⟨c.val / 128, by omega⟩ ⟨c.val % 128, by omega⟩) *
      val_main_v122 x (ix6 ⟨a.val / 16, by omega⟩ ⟨a.val % 16, by omega⟩ ⟨t.val / 64, by omega⟩ ⟨c.val / 128, by omega⟩ ⟨t.val % 64, by omega⟩ k) := by
  rw [ref_140, ref_135, ref_129]
end Cert.Proof.AttnC
-- ==== Proof.AttnC.RefLse.lean ====
module
public import proofs.«01_k».proof.Proof.Gen.AttnCRefIdeal.Read
public import proofs.«01_k».proof.Proof.AttnC.Spec
public import Idealize.ShloMosaic.PureOps.Ideal.Laws
@[expose] public section
set_option maxRecDepth 16384
noncomputable section
namespace Cert.Proof.AttnC
open Cert.Proof.Attn
open Cert.AttnCRefIdeal Cert.AttnCRefIdeal.Read Idealize.ShloMosaic Idealize.ShloMosaic.TcCoe Idealize.SL.Sem
variable (x : (⟨S8192x3072, .bf16⟩ : BufTy).Contents (Elt Ideal))

/-- The reference's padded logarithms. -/
theorem ref_pad (a : Fin 64) (t : Fin 128) (c : Fin 128) : val_main_v142 x (ix3 a t c) =
    if h : c.val < 8 then val_main_v141 x (ix3 a t ⟨c.val, h⟩) else 0 := by
  have h0 : (val_main_call12_v0 (F := Ideal) (Shape.Idx.first Gen.h_S_) : EReal) = 0 := by
    show (((0#32).toInt : ℝ) : EReal) = 0
    simp
  unfold val_main_v142
  generalize val_main_v141 x = y
  pointwise []
  rw [h0]

/-- The reference's logarithms, by sequence, class and place. -/
theorem ref_141a (a : Fin 64) (t : Fin 128) (h : Fin 8) : val_main_v141 x (ix3 a t h) =
    val_main_v137 x (ix4 ⟨a.val / 16, by omega⟩ t ⟨a.val % 16, by omega⟩ h) := by
  unfold val_main_v141 val_main_v138
  generalize val_main_v137 x = y
  pointwise []

/-- The reference's logarithms, by position. -/
theorem ref_137 (b : Fin 4) (t : Fin 128) (g : Fin 16) (h : Fin 8) : val_main_v137 x (ix4 b t g h) = val_main_v133 x (ix4 b t g h) := by
  unfold val_main_v137 val_main_v134
  generalize val_main_v133 x = y
  pointwise []

/-- The reference's logarithms, by class. -/
theorem ref_133 (b : Fin 4) (t : Fin 128) (g : Fin 16) (h : Fin 8) : val_main_v133 x (ix4 b t g h) =
    val_main_v127 x (ix5 b g ⟨t.val / 64, by omega⟩ h ⟨t.val % 64, by omega⟩) := by
  unfold val_main_v133 val_main_v132 val_main_v131
  generalize val_main_v127 x = y
  pointwise []

/-- The reference's logarithms by class and block. -/
theorem ref_141 (a : Fin 64) (t : Fin 128) (h : Fin 8) : val_main_v141 x (ix3 a t h) =
    val_main_v127 x (ix5 ⟨a.val / 16, by omega⟩ ⟨a.val % 16, by omega⟩ ⟨t.val / 64, by omega⟩ h ⟨t.val % 64, by omega⟩) := by
  rw [ref_141a, ref_137, ref_133]

/-- The reference's logarithms by block of queries. -/
theorem ref_127 (b : Fin 4) (g : Fin 16) (n : Fin 2) (h : Fin 8) (q : Fin 64) : val_main_v127 x (ix5 b g n h q) =
    val_main_v126 x (ix6 b g n h q 0) := by
  unfold val_main_v127
  generalize val_main_v126 x = y
  pointwise []
/-- The logarithm of a row of the blocks. -/
theorem ref_126 (b : Fin 4) (g : Fin 16) (n : Fin 2) (h : Fin 8) (q : Fin 64) : val_main_v126 x (ix6 b g n h q 0) =
    val_main_v114 x (ix5 b g n h q) + Ideal.log (val_main_v119 x (ix5 b g n h q)) := by
  rw [val_main_v126_apply, val_main_v125_apply, val_main_v115_apply, val_main_v120_apply]
  generalize val_main_v114 x = y
  generalize val_main_v119 x = z
  have h1 : idx_main_v115 (ix6 b g n h q 0) = ix5 b g n h q :=
    funext fun a => Fin.ext (by match a with | ⟨0, _⟩ => rfl | ⟨1, _⟩ => rfl | ⟨2, _⟩ => rfl | ⟨3, _⟩ => rfl | ⟨4, _⟩ => rfl)
  have h2 : idx_main_v120 (ix6 b g n h q 0) = ix5 b g n h q :=
    funext fun a => Fin.ext (by match a with | ⟨0, _⟩ => rfl | ⟨1, _⟩ => rfl | ⟨2, _⟩ => rfl | ⟨3, _⟩ => rfl | ⟨4, _⟩ => rfl)
  rw [h1, h2]
  rfl
end Cert.Proof.AttnC
-- ==== Proof.AttnC.RefValue.lean ====
module
public import proofs.«01_k».proof.Proof.Attn.RefValue
public import proofs.«01_k».proof.Proof.AttnC.RefMask
public import proofs.«01_k».proof.Proof.AttnC.RefGather
public import proofs.«01_k».proof.Proof.AttnC.RefParts
public import proofs.«01_k».proof.Proof.AttnC.RefRow
public import proofs.«01_k».proof.Proof.AttnC.RefOut
public import proofs.«01_k».proof.Proof.AttnC.RefLse

/-! The host's attention of the group, over blocks of queries and padded keys, is the attention row by row. -/

@[expose] public section
set_option maxRecDepth 16384
noncomputable section
namespace Cert.Proof.AttnC
open Cert.Proof.Attn
open Cert.AttnCRefIdeal Cert.AttnCRefIdeal.Read Idealize.ShloMosaic Idealize.ShloMosaic.TcCoe Idealize.SL.Sem
variable (x : (⟨S8192x3072, .bf16⟩ : BufTy).Contents (Elt Ideal))

/-- The key a block's query and its padded key stand for is in the band. -/
def near (n : Fin 2) (q : Fin 64) (k : Fin 192) : Prop :=
  Attn.dist (n.val * 64 + q.val) (n.val * 64 + k.val - 64) ≤ 64 ∧ 64 ≤ n.val * 64 + k.val ∧ n.val * 64 + k.val - 64 < 128

/-- The position of a block's padded key. -/
def pos (n : Fin 2) (k : Fin 192) : Fin 128 := ⟨min (n.val * 64 + k.val - 64) 127, by omega⟩

/-- The position of a key in the band is not clipped. -/
theorem pos_eq {n : Fin 2} {q : Fin 64} {k : Fin 192} (h : near n q k) :
    pos n k = ⟨n.val * 64 + k.val - 64, h.2.2⟩ := by
  have := h.2.2
  exact Fin.ext (by
    show min (n.val * 64 + k.val - 64) 127 = n.val * 64 + k.val - 64
    omega)

/-- The gathered keys. -/
theorem ref_k {n : Fin 2} {q : Fin 64} {k : Fin 192} (hn : near n q k) (b : Fin 4) (g : Fin 16) (h : Fin 8) (e : Fin 128) :
    val_main_v63 x (ix6 b g n k h e) = part x 1 (cl b g) (pos n k) h e := by
  unfold val_main_v63
  rw [ref_idx', gather_at, ref_kc x b g ⟨n.val * 64 + k.val, by omega⟩ h e hn.2.1 hn.2.2, pos_eq hn]

/-- The gathered values. -/
theorem ref_v {n : Fin 2} {q : Fin 64} {k : Fin 192} (hn : near n q k) (b : Fin 4) (g : Fin 16) (h : Fin 8) (e : Fin 128) :
    val_main_v70 x (ix6 b g n k h e) = part x 2 (cl b g) (pos n k) h e := by
  unfold val_main_v70
  rw [gather_at, ref_vc x b g ⟨n.val * 64 + k.val, by omega⟩ h e hn.2.1 hn.2.2, pos_eq hn]

/-- The host's row of scores is the attention's row read through the block's keys. -/
theorem refWindow (b : Fin 4) (g : Fin 16) (n : Fin 2) (q : Fin 64) (h : Fin 8) :
    Window (near n q) (pos n) (fun k => val_main_v113 x (ix6 b g n h q k)) (row x (cl b g) h ⟨n.val * 64 + q.val, by omega⟩) where
  on k hk := by
    show val_main_v113 x (ix6 b g n h q k) = _
    have hd := hk.1
    rw [ref_s, ref_mask, sel, if_pos (show _ ∧ _ ∧ _ from hk), ref_alibi, row, pos_eq hk, if_pos hd]
    simp only [ref_q, ref_k x hk, pos_eq hk]
    rw [sub_eq_add_neg, EReal.neg_mul]
    congr 4
    rw [wdist (Attn.dist (n.val * 64 + q.val) (n.val * 64 + k.val - 64)) (n.val * 64 + q.val) (n.val * 64 + k.val - 64) _
      (by have := hk.2.1; omega) rfl]
    simp
  off k hk := by
    show val_main_v113 x (ix6 b g n h q k) = _
    rw [ref_s, ref_mask, sel, if_neg (show ¬ (_ ∧ _ ∧ _) from hk)]
  inj a c ha hc hac := by
    have := congrArg Fin.val hac
    rw [pos_eq ha, pos_eq hc] at this
    have h1 := ha.2.1
    have h2 := hc.2.1
    exact Fin.ext (by simp only at this; omega)
  cov j hj := by
    have hd : Attn.dist (n.val * 64 + q.val) j.val ≤ 64 := by
      by_contra hn
      exact hj (by rw [row, if_neg hn])
    have hd' := hd
    unfold Attn.dist at hd'
    have hk : near n q ⟨j.val + 64 - n.val * 64, by omega⟩ := by
      refine ⟨?_, ?_, ?_⟩ <;> simp only
      · rw [show n.val * 64 + (j.val + 64 - n.val * 64) - 64 = j.val by omega]; exact hd
      · omega
      · omega
    exact ⟨_, hk, by rw [pos_eq hk]; exact Fin.ext (by simp only; omega)⟩

/-- A slope is a real number. -/
theorem slope_real (h : Fin 8) : ∃ r : ℝ, slope h = (r : EReal) := by
  unfold slope slopeBits
  fin_cases h <;> simp [Ideal.ofBits, Ideal.ieee] <;> exact ⟨_, (EReal.coe_mul _ _).symm⟩

/-- A score inside the band is a real number. -/
theorem row_real (hx : Finite x) (b : Fin 64) (h : Fin 8) (t j : Fin 128) (hd : Attn.dist t.val j.val ≤ 64) :
    ∃ r : ℝ, row x b h t j = (r : EReal) := by
  obtain ⟨s, hs⟩ := slope_real h
  obtain ⟨a, ha⟩ := scale_real
  obtain ⟨d, hd'⟩ := sum_mul_finite (fun e => part x 0 b t h e) (fun e => part x 1 b j h e)
    (fun e => hx _ _ (by show 0 * 1024 + _ < _; omega)) (fun e => hx _ _ (by show 1 * 1024 + _ < _; omega))
  refine ⟨d * a - s * ((Attn.dist t.val j.val * 16 : ℕ) : ℝ), ?_⟩
  rw [row, if_pos hd, hd', hs, ha]
  push_cast
  rfl

/-- A row of scores of finite queries and keys is real or minus infinity. -/
theorem row_real' (hx : Finite x) (b : Fin 64) (h : Fin 8) (t : Fin 128) : Real' (row x b h t) where
  top j hj := by
    by_cases hd : Attn.dist t.val j.val ≤ 64
    · obtain ⟨r, hr⟩ := row_real x hx b h t j hd
      exact EReal.coe_ne_top r (hr.symm.trans hj)
    · rw [row, if_neg hd] at hj; exact absurd hj bot_ne_top
  one := ⟨t, by
    obtain ⟨r, hr⟩ := row_real x hx b h t t (by unfold Attn.dist; omega)
    rw [hr]; exact EReal.coe_ne_bot r⟩

/-- The host's output at a block's query. -/
theorem ref_out_block (hx : Finite x) (b : Fin 4) (g : Fin 16) (n : Fin 2) (q : Fin 64) (h : Fin 8) (e : Fin 128) :
    ∑ k, val_main_v70 x (ix6 b g n k h e) * val_main_v122 x (ix6 b g n h q k) = attn x (cl b g) ⟨n.val * 64 + q.val, by omega⟩ h e := by
  have w := refWindow x b g n q h
  unfold attn
  rw [← w.rowOut (fun k => val_main_v70 x (ix6 b g n k h e)) _ (fun k hk => ref_v x hk b g h e),
    ← (w.real' (row_real' x hx (cl b g) h _)).outW]
  unfold rowOutW
  refine Finset.sum_congr rfl fun k _ => ?_
  rw [ref_p]
  exact mul_comm _ _

/-- The class of a class number. -/
theorem cl_div (a : Fin 64) : cl ⟨a.val / 16, by omega⟩ ⟨a.val % 16, by omega⟩ = a := Fin.ext (by show a.val / 16 * 16 + a.val % 16 = a.val; omega)

/-- The host's output. -/
theorem ref_value (hx : Finite x) (a : Fin 64) (t : Fin 128) (c : Fin 1024) :
    val_main_v140 x (ix3 a t c) = attn x a t ⟨c.val / 128, by omega⟩ ⟨c.val % 128, Nat.mod_lt _ (by norm_num)⟩ := by
  rw [ref_out]
  refine (ref_out_block x hx _ _ _ _ _ _).trans ?_
  rw [cl_div]
  congr 1
  exact Fin.ext (by show t.val / 64 * 64 + t.val % 64 = t.val; omega)

/-- The host's log-sum-exp. -/
theorem ref_lse (a : Fin 64) (t : Fin 128) (c : Fin 128) :
    val_main_v142 x (ix3 a t c) = if h : c.val < 8 then lse x a t ⟨c.val, h⟩ else 0 := by
  rw [ref_pad]
  split
  · rename_i h
    rw [ref_141, ref_127, ref_126, ref_m, ref_d]
    refine ((refWindow x _ _ _ _ _).rowLse).trans ?_
    rw [cl_div]
    unfold lse
    congr 2
    exact Fin.ext (by show t.val / 64 * 64 + t.val % 64 = t.val; omega)
  · rfl
end Cert.Proof.AttnC
-- ==== Proof.AttnC.Claims.lean ====
module
public import proofs.«01_k».proof.Defs
public import proofs.«01_k».proof.Proof.Gen.AttnC.Frame
public import proofs.«01_k».proof.Proof.Gen.AttnCIdeal.Value
public import proofs.«01_k».proof.Proof.Gen.AttnCRefIdeal.Run
public import proofs.«01_k».proof.Proof.Attn.Claims
public import proofs.«01_k».proof.Proof.AttnC.Arrays
public import proofs.«01_k».proof.Proof.AttnC.RefValue
public import Idealize.ShloMosaic.Init
public import Idealize.ShloMosaic.Adequacy

/-! The claims about the attention call. -/

@[expose] public section
set_option maxRecDepth 16384
noncomputable section
namespace Cert.Proof.AttnC
open Cert.Proof.Attn
open Idealize.ShloMosaic Idealize.ShloMosaic.TcCoe Idealize.SL.Sem

attribute [local instance] facts Cert.AttnC.Gen.facts Cert.AttnCIdeal.Gen.facts Cert.AttnCRefIdeal.Gen.facts

/-- The kernel runs and ends quietly. -/
theorem frame_k : Cert.quiescent_AttnC := fun m g _ => Cert.AttnC.Gen.frame m g

/-- So does its idealization. -/
theorem frame_i : Cert.quiescent_AttnCIdeal := fun m g _ => Cert.AttnCIdeal.Gen.frame m g

/-- So does its idealization under the precondition. -/
theorem frame_ip : Cert.quiescent_AttnCIdeal_pre_finite_queries_keys := fun m g _ => Cert.AttnCIdeal.Gen.frame m g

/-- So does the reference's. -/
theorem frame_r : Cert.quiescent_AttnCRefIdeal := fun m g _ =>
  (θ_run Cert.AttnCRefIdeal.defs _ _).mono (fun r h => ⟨fun c => (h c).2.2, sem_eq_zero_of_no_sems (by decide) r.2⟩)
    (Cert.AttnCRefIdeal.Value.run (F := Ideal) m g)

/-- So does the reference's under the precondition. -/
theorem frame_rp : Cert.quiescent_AttnCRefIdeal_pre_finite_queries_keys := fun m g _ => frame_r m g trivial

/-- The mask constant's idealization. -/
theorem named : Cert.preserves_AttnC_AttnCIdeal :=
  IdealRules.named_const.statement Cert.AttnCIdeal.κ "mask" .f32 0xF149F2CA#32 ⊥ rfl

/-- The two idealizations compute the same two arrays. -/
theorem algebraic : Cert.algebraic_AttnCIdeal_AttnCRefIdeal_pre_finite_queries_keys := by
  intro m g m' g' hpre hx
  refine ⟨fun c => outArr (argX m c), fun c => lseArr (argX m c), ?_, ?_⟩
  · refine (θ_run _ _ _).mono ?_ (Cert.AttnCIdeal.Value.run_blocks m g)
    intro r h c
    obtain ⟨h0, h1, h2⟩ := h c
    exact ⟨h0.trans (arr3 m c), h1.trans (arr4 m c), h2⟩
  · refine (θ_run _ _ _).mono ?_ (Cert.AttnCRefIdeal.Value.run (F := Ideal) m' g')
    intro r h c
    obtain ⟨h0, h1, h2⟩ := h c
    have hf : Finite (argX m c) := finite_of_pre _ (hpre c)
    refine ⟨h0.trans ?_, h1.trans ?_, h2⟩
    · refine (Cert.AttnCRefIdeal.Read.val_main_v140_eq (StableHlo.launchContents m' c)).trans ?_
      rw [StableHlo.launchContents_devRef, hx c]
      funext i
      rw [show i = ix3 (i 0) (i 1) (i 2) from by funext a; fin_cases a <;> rfl]
      exact ref_value _ hf _ _ _
    · refine (Cert.AttnCRefIdeal.Read.val_main_v142_eq (StableHlo.launchContents m' c)).trans ?_
      rw [StableHlo.launchContents_devRef, hx c]
      funext i
      rw [show i = ix3 (i 0) (i 1) (i 2) from by funext a; fin_cases a <;> rfl]
      exact ref_lse _ _ _ _
end Cert.Proof.AttnC
-- ==== Proof.lean ====
/- The proof of the certificate's claim, put together from the modules beside it. -/
module

public import proofs.«01_k».proof.Defs
public import proofs.«01_k».proof.Proof.Attn.Claims
public import proofs.«01_k».proof.Proof.Proj.Gates
public import proofs.«01_k».proof.Proof.Proj.Qkv
public import proofs.«01_k».proof.Proof.Proj.Merge
public import proofs.«01_k».proof.Proof.Proj.Out
public import proofs.«01_k».proof.Proof.Proj.QkvB
public import proofs.«01_k».proof.Proof.Proj.QkvC
public import proofs.«01_k».proof.Proof.Proj.Fourier
public import proofs.«01_k».proof.Proof.Moe.FrameK
public import proofs.«01_k».proof.Proof.Moe.Value
public import proofs.«01_k».proof.Proof.AttnB.Claims
public import proofs.«01_k».proof.Proof.AttnC.Claims

@[expose] public section

noncomputable section

namespace Cert.Proof

/-- Everything the certificate claims. -/
theorem claim : Cert.Claim := ⟨Cert.Kernel.Gen.facts, Cert.KernelIdeal.Gen.facts, Cert.ReferenceIdeal.Gen.facts,
  Cert.Gates.Gen.facts, Cert.GatesIdeal.Gen.facts, Cert.GatesRefIdeal.Gen.facts,
  Cert.Qkv.Gen.facts, Cert.QkvIdeal.Gen.facts, Cert.QkvRefIdeal.Gen.facts,
  Cert.Merge.Gen.facts, Cert.MergeIdeal.Gen.facts, Cert.MergeRefIdeal.Gen.facts,
  Cert.Out.Gen.facts, Cert.OutIdeal.Gen.facts, Cert.OutRefIdeal.Gen.facts,
  Cert.QkvB.Gen.facts, Cert.QkvBIdeal.Gen.facts, Cert.QkvBRefIdeal.Gen.facts,
  Cert.QkvC.Gen.facts, Cert.QkvCIdeal.Gen.facts, Cert.QkvCRefIdeal.Gen.facts,
  Cert.Fourier.Gen.facts, Cert.FourierIdeal.Gen.facts, Cert.FourierRefIdeal.Gen.facts,
  Cert.Moe.Gen.facts, Cert.MoeIdeal.Gen.facts, Cert.MoeRefIdeal.Gen.facts,
  Cert.AttnB.Gen.facts, Cert.AttnBIdeal.Gen.facts, Cert.AttnBRefIdeal.Gen.facts,
  Cert.AttnC.Gen.facts, Cert.AttnCIdeal.Gen.facts, Cert.AttnCRefIdeal.Gen.facts,
  Attn.facts, Cert.Pre_moe_tables.Gen.facts,
  Attn.frame_k, Attn.frame_i, Attn.frame_ip, Attn.frame_r, Attn.frame_rp,
  Proj.Gates.frame_k, Proj.Gates.frame_i, Proj.Gates.frame_r,
  Proj.Qkv.frame_k, Proj.Qkv.frame_i, Proj.Qkv.frame_r,
  Proj.Merge.frame_k, Proj.Merge.frame_i, Proj.Merge.frame_r,
  Proj.Out.frame_k, Proj.Out.frame_i, Proj.Out.frame_r,
  Proj.QkvB.frame_k, Proj.QkvB.frame_i, Proj.QkvB.frame_r,
  Proj.QkvC.frame_k, Proj.QkvC.frame_i, Proj.QkvC.frame_r,
  Proj.Fourier.frame_k, Proj.Fourier.frame_i, Proj.Fourier.frame_r,
  Cert.MoeIdeal.Hand.frame_k, Cert.MoeIdeal.Hand.frame_i, Cert.MoeIdeal.Hand.frame_r, Cert.MoeIdeal.Hand.frame_rp,
  AttnB.frame_k, AttnB.frame_i, AttnB.frame_ip, AttnB.frame_r, AttnB.frame_rp,
  AttnC.frame_k, AttnC.frame_i, AttnC.frame_ip, AttnC.frame_r, AttnC.frame_rp,
  Attn.named, Attn.algebraic,
  trivial, Proj.Gates.algebraic,
  trivial, Proj.Qkv.algebraic,
  trivial, Proj.Merge.algebraic,
  trivial, Proj.Out.algebraic,
  trivial, Proj.QkvB.algebraic,
  trivial, Proj.QkvC.algebraic,
  trivial, Proj.Fourier.algebraic,
  trivial, Cert.MoeIdeal.Hand.algebraic,
  AttnB.named, AttnB.algebraic,
  AttnC.named, AttnC.algebraic⟩

end Cert.Proof

end
